-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Kernel22Ideal_finite_ln [hPre_finite_ln : Cert.Pre_finite_ln.Facts] (m : (ℓ : Loc Cert.Kernel22Ideal.nD Cert.Kernel22Ideal.τ Cert.Kernel22Ideal.sig) → Buf (Elt Ideal) ℓ) : Prop :=
  ∀ c : Dev Cert.Kernel22Ideal.nD,
    (Cert.Pre_finite_ln.fn (F := Ideal) (m ((c.tc : Thread Cert.Kernel22Ideal.nD Cert.Kernel22Ideal.τ).loc Cert.Kernel22Ideal.main_arg0)) (m ((c.tc : Thread Cert.Kernel22Ideal.nD Cert.Kernel22Ideal.τ).loc Cert.Kernel22Ideal.main_arg1)) (m ((c.tc : Thread Cert.Kernel22Ideal.nD Cert.Kernel22Ideal.τ).loc Cert.Kernel22Ideal.main_arg2)) (m ((c.tc : Thread Cert.Kernel22Ideal.nD Cert.Kernel22Ideal.τ).loc Cert.Kernel22Ideal.main_arg3))) = (fun _ => 1#1)

def Pre_Reference22Ideal (m : (ℓ : Loc Cert.Reference22Ideal.nD Cert.Reference22Ideal.τ Cert.Reference22Ideal.sig) → Buf (Elt Ideal) ℓ) : Prop :=
  True

def Pre_Reference22Ideal_finite_ln [hPre_finite_ln : Cert.Pre_finite_ln.Facts] (m : (ℓ : Loc Cert.Reference22Ideal.nD Cert.Reference22Ideal.τ Cert.Reference22Ideal.sig) → Buf (Elt Ideal) ℓ) : Prop :=
  ∀ c : Dev Cert.Reference22Ideal.nD,
    (Cert.Pre_finite_ln.fn (F := Ideal) (m ((c.tc : Thread Cert.Reference22Ideal.nD Cert.Reference22Ideal.τ).loc Cert.Reference22Ideal.main_arg0)) (m ((c.tc : Thread Cert.Reference22Ideal.nD Cert.Reference22Ideal.τ).loc Cert.Reference22Ideal.main_arg1)) (m ((c.tc : Thread Cert.Reference22Ideal.nD Cert.Reference22Ideal.τ).loc Cert.Reference22Ideal.main_arg2)) (m ((c.tc : Thread Cert.Reference22Ideal.nD Cert.Reference22Ideal.τ).loc Cert.Reference22Ideal.main_arg3))) = (fun _ => 1#1)

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Kernel22Ideal_pre_finite_ln [hKernel22Ideal : Cert.Kernel22Ideal.Facts] [hPre_finite_ln : Cert.Pre_finite_ln.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal_finite_ln m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Reference22Ideal_pre_finite_ln [hReference22Ideal : Cert.Reference22Ideal.Facts] [hPre_finite_ln : Cert.Pre_finite_ln.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal_finite_ln m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_v44) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_v44) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)) (v5 : (c : Dev Cert.Kernel9Ideal.nD) → Buf (Elt Ideal) ((c.tc : Thread Cert.Kernel9Ideal.nD Cert.Kernel9Ideal.τ).loc Cert.Kernel9Ideal.main_v0_5)) (v6 : (c : Dev Cert.Kernel9Ideal.nD) → Buf (Elt Ideal) ((c.tc : Thread Cert.Kernel9Ideal.nD Cert.Kernel9Ideal.τ).loc Cert.Kernel9Ideal.main_v1)) (v7 : (c : Dev Cert.Kernel9Ideal.nD) → Buf (Elt Ideal) ((c.tc : Thread Cert.Kernel9Ideal.nD Cert.Kernel9Ideal.τ).loc Cert.Kernel9Ideal.main_v0_7)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_v0_5) = v5 c
          ∧ r.2.mem ((c.tc : Thread Cert.Kernel9Ideal.nD Cert.Kernel9Ideal.τ).loc Cert.Kernel9Ideal.main_v1) = v6 c
          ∧ r.2.mem ((c.tc : Thread Cert.Kernel9Ideal.nD Cert.Kernel9Ideal.τ).loc Cert.Kernel9Ideal.main_v0_7) = v7 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v65) = v0 c
          ∧ r.2.mem ((c.tc : Thread Cert.Reference9Ideal.nD Cert.Reference9Ideal.τ).loc Cert.Reference9Ideal.main_v66) = v1 c
          ∧ r.2.mem ((c.tc : Thread Cert.Reference9Ideal.nD Cert.Reference9Ideal.τ).loc Cert.Reference9Ideal.main_v67) = v2 c
          ∧ r.2.mem ((c.tc : Thread Cert.Reference9Ideal.nD Cert.Reference9Ideal.τ).loc Cert.Reference9Ideal.main_v68) = v3 c
          ∧ r.2.mem ((c.tc : Thread Cert.Reference9Ideal.nD Cert.Reference9Ideal.τ).loc Cert.Reference9Ideal.main_v69) = v4 c
          ∧ r.2.mem ((c.tc : Thread Cert.Reference9Ideal.nD Cert.Reference9Ideal.τ).loc Cert.Reference9Ideal.main_v70) = v5 c
          ∧ r.2.mem ((c.tc : Thread Cert.Reference9Ideal.nD Cert.Reference9Ideal.τ).loc Cert.Reference9Ideal.main_v71) = v6 c
          ∧ r.2.mem ((c.tc : Thread Cert.Reference9Ideal.nD Cert.Reference9Ideal.τ).loc Cert.Reference9Ideal.main_v72) = v7 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_v43) = v2 c
          ∧ r.2.mem ((c.tc : Thread Cert.Reference10Ideal.nD Cert.Reference10Ideal.τ).loc Cert.Reference10Ideal.main_v44) = v3 c
          ∧ r.2.mem ((c.tc : Thread Cert.Reference10Ideal.nD Cert.Reference10Ideal.τ).loc Cert.Reference10Ideal.main_v40) = v4 c
          ∧ r.2.mem ((c.tc : Thread Cert.Reference10Ideal.nD Cert.Reference10Ideal.τ).loc Cert.Reference10Ideal.main_v59) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v18) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v25) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v28) = v1 c
          ∧ r.2.mem ((c.tc : Thread Cert.Reference15Ideal.nD Cert.Reference15Ideal.τ).loc Cert.Reference15Ideal.main_v9) = v2 c
          ∧ r.2.mem ((c.tc : Thread Cert.Reference15Ideal.nD Cert.Reference15Ideal.τ).loc Cert.Reference15Ideal.main_v15) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v9) = v2 c
          ∧ r.2.mem ((c.tc : Thread Cert.Reference16Ideal.nD Cert.Reference16Ideal.τ).loc Cert.Reference16Ideal.main_v15) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_v29) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_v16) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_v28) = v1 c
          ∧ r.2.mem ((c.tc : Thread Cert.Reference18Ideal.nD Cert.Reference18Ideal.τ).loc Cert.Reference18Ideal.main_v9) = v2 c
          ∧ r.2.mem ((c.tc : Thread Cert.Reference18Ideal.nD Cert.Reference18Ideal.τ).loc Cert.Reference18Ideal.main_v15) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_v28) = v1 c
          ∧ r.2.mem ((c.tc : Thread Cert.Reference19Ideal.nD Cert.Reference19Ideal.τ).loc Cert.Reference19Ideal.main_v9) = v2 c
          ∧ r.2.mem ((c.tc : Thread Cert.Reference19Ideal.nD Cert.Reference19Ideal.τ).loc Cert.Reference19Ideal.main_v15) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v3)) (v1 : (c : Dev Cert.Kernel21Ideal.nD) → Buf (Elt Ideal) ((c.tc : Thread Cert.Kernel21Ideal.nD Cert.Kernel21Ideal.τ).loc Cert.Kernel21Ideal.main_v0_0)) (v2 : (c : Dev Cert.Kernel21Ideal.nD) → Buf (Elt Ideal) ((c.tc : Thread Cert.Kernel21Ideal.nD Cert.Kernel21Ideal.τ).loc Cert.Kernel21Ideal.main_v0_1)) (v3 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_v0_0) = v1 c
          ∧ r.2.mem ((c.tc : Thread Cert.Kernel21Ideal.nD Cert.Kernel21Ideal.τ).loc Cert.Kernel21Ideal.main_v0_1) = v2 c
          ∧ r.2.mem ((c.tc : Thread Cert.Kernel21Ideal.nD Cert.Kernel21Ideal.τ).loc Cert.Kernel21Ideal.main_v4) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v25) = v0 c
          ∧ r.2.mem ((c.tc : Thread Cert.Reference21Ideal.nD Cert.Reference21Ideal.τ).loc Cert.Reference21Ideal.main_v51) = v1 c
          ∧ r.2.mem ((c.tc : Thread Cert.Reference21Ideal.nD Cert.Reference21Ideal.τ).loc Cert.Reference21Ideal.main_v53) = v2 c
          ∧ r.2.mem ((c.tc : Thread Cert.Reference21Ideal.nD Cert.Reference21Ideal.τ).loc Cert.Reference21Ideal.main_v52) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal_pre_finite_ln [hKernel22Ideal : Cert.Kernel22Ideal.Facts] [hReference22Ideal : Cert.Reference22Ideal.Facts] [hPre_finite_ln : Cert.Pre_finite_ln.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal_finite_ln m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v70) = v0 c
          ∧ r.2.mem ((c.tc : Thread Cert.Reference22Ideal.nD Cert.Reference22Ideal.τ).loc Cert.Reference22Ideal.main_v74) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite_qk : Cert.Pre_finite_qk.Facts) (hPre_finite_ln : Cert.Pre_finite_ln.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Kernel22Ideal_pre_finite_ln (hKernel22Ideal := hKernel22Ideal) (hPre_finite_ln := hPre_finite_ln)
    ∧ quiescent_Reference22Ideal (hReference22Ideal := hReference22Ideal)
    ∧ quiescent_Reference22Ideal_pre_finite_ln (hReference22Ideal := hReference22Ideal) (hPre_finite_ln := hPre_finite_ln)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal_pre_finite_ln (hKernel22Ideal := hKernel22Ideal) (hReference22Ideal := hReference22Ideal) (hPre_finite_ln := hPre_finite_ln)
    ∧ preserves_Kernel23_Kernel23Ideal
    ∧ algebraic_Kernel23Ideal_Reference23Ideal (hKernel23Ideal := hKernel23Ideal) (hReference23Ideal := hReference23Ideal)
-- ==== Pre_finite_ln.lean ====
abbrev S4096x1024 : Shape := ⟨2, ![4096, 1024]⟩
abbrev S1x1024 : Shape := ⟨2, ![1, 1024]⟩
abbrev S4097x1024 : Shape := ⟨2, ![4097, 1024]⟩
abbrev S_ : Shape := ⟨0, ![]⟩

class Facts : Prop where
  bitsLt_bf16_f32 : FTy.bits .bf16 < FTy.bits .f32
  concatenates_S4096x1024_S1x1024_S4097x1024_d0 : Shape.Concatenates [S4096x1024, S1x1024] S4097x1024 0
  bcast_S_S4097x1024 : S_.BroadcastsInDim S4097x1024 (![] : Fin 0 → Fin S4097x1024.rank)

variable [Facts]

def fn {F : FTy → Type} [FloatOps F] (main_arg0 : FVec F S4096x1024 .bf16) (main_arg1 : FVec F S4096x1024 .bf16) (main_arg2 : FVec F S1x1024 .f32) (main_arg3 : FVec F S1x1024 .f32) : IVec S4097x1024 1 :=
  let main_v0 : FVec F S4096x1024 .f32 := (extf .f32 · bitsLt_bf16_f32) main_arg1
  let main_v1 : FVec F S4097x1024 .f32 := (fun a b => concatenate S4097x1024 0 [⟨S4096x1024, a⟩, ⟨S1x1024, b⟩] concatenates_S4096x1024_S1x1024_S4097x1024_d0) main_v0 main_arg2
  let main_v2 : FVec F S4097x1024 .f32 := Host.absf main_v1
  let main_cst : FVec F S_ .f32 := constant S_ .f32 0x7F800000#32
  let main_v3 : FVec F S4097x1024 .f32 := broadcastInDim S4097x1024 ![] bcast_S_S4097x1024 main_cst
  let main_v4 : IVec S4097x1024 1 := cmpf .olt main_v2 main_v3
  main_v4
-- ==== Pre_finite_qk.lean ====
abbrev S4096x9216 : Shape := ⟨2, ![4096, 9216]⟩
abbrev S256x2048 : Shape := ⟨2, ![256, 2048]⟩
abbrev S4096x1024 : Shape := ⟨2, ![4096, 1024]⟩
abbrev S256x1024 : Shape := ⟨2, ![256, 1024]⟩
abbrev S4352x1024 : Shape := ⟨2, ![4352, 1024]⟩
abbrev S_ : Shape := ⟨0, ![]⟩

class Facts : Prop where
  slices_S4096x9216_S4096x1024_0_5120 : S4096x9216.Slices ![0, 5120] S4096x1024
  slices_S256x2048_S256x1024_0_0 : S256x2048.Slices ![0, 0] S256x1024
  concatenates_S4096x1024_S256x1024_S4352x1024_d0 : Shape.Concatenates [S4096x1024, S256x1024] S4352x1024 0
  bitsLt_bf16_f32 : FTy.bits .bf16 < FTy.bits .f32
  bcast_S_S4352x1024 : S_.BroadcastsInDim S4352x1024 (![] : Fin 0 → Fin S4352x1024.rank)

variable [Facts]

def fn {F : FTy → Type} [FloatOps F] (main_arg0 : FVec F S4096x9216 .bf16) (main_arg1 : FVec F S256x2048 .bf16) (main_arg2 : FVec F S4096x1024 .bf16) : IVec S4352x1024 1 :=
  let main_v0 : FVec F S4096x1024 .bf16 := (extractStridedSlice S4096x1024 ![0, 5120] · slices_S4096x9216_S4096x1024_0_5120) main_arg0
  let main_v1 : FVec F S256x1024 .bf16 := (extractStridedSlice S256x1024 ![0, 0] · slices_S256x2048_S256x1024_0_0) main_arg1
  let main_v2 : FVec F S4352x1024 .bf16 := (fun a b => concatenate S4352x1024 0 [⟨S4096x1024, a⟩, ⟨S256x1024, b⟩] concatenates_S4096x1024_S256x1024_S4352x1024_d0) main_v0 main_v1
  let main_v3 : FVec F S4352x1024 .f32 := (extf .f32 · bitsLt_bf16_f32) main_v2
  let main_v4 : FVec F S4352x1024 .f32 := Host.absf main_v3
  let main_cst : FVec F S_ .f32 := constant S_ .f32 0x7F800000#32
  let main_v5 : FVec F S4352x1024 .f32 := broadcastInDim S4352x1024 ![] bcast_S_S4352x1024 main_cst
  let main_v6 : IVec S4352x1024 1 := cmpf .olt main_v4 main_v5
  main_v6
-- ==== Kernel.lean ====
abbrev S4096x9216 : Shape := ⟨2, ![4096, 9216]⟩
abbrev S256x2048 : Shape := ⟨2, ![256, 2048]⟩
abbrev S4096x1024 : Shape := ⟨2, ![4096, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x9216, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x1024, .f32⟩
  | .hbm, ⟨5, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x1024, .f32⟩
  | .local _ .vmem, ⟨8, _⟩ => ⟨S256x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4096x9216 : Shape := ⟨2, ![4096, 9216]⟩
abbrev S256x2048 : Shape := ⟨2, ![256, 2048]⟩
abbrev S4096x1024 : Shape := ⟨2, ![4096, 1024]⟩
abbrev S256x1024 : Shape := ⟨2, ![256, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩
abbrev S1x4x256x256 : Shape := ⟨4, ![1, 4, 256, 256]⟩
abbrev S4x4096 : Shape := ⟨2, ![4, 4096]⟩

abbrev nBuf : Space → Nat
  | .hbm => 88
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S256x2048, .f32⟩
  | .hbm, ⟨6, _⟩ => ⟨S256x1024, .f32⟩
  | .hbm, ⟨7, _⟩ => ⟨S256x1024, .f32⟩
  | .hbm, ⟨8, _⟩ => ⟨S1x4096x4x256, .f32⟩
  | .hbm, ⟨9, _⟩ => ⟨S1x256x4x256, .f32⟩
  | .hbm, ⟨10, _⟩ => ⟨S1x256x4x256, .f32⟩
  | .hbm, ⟨11, _⟩ => ⟨S1x4x4096x256, .f32⟩
  | .hbm, ⟨12, _⟩ => ⟨S_, .f32⟩
  | .hbm, ⟨13, _⟩ => ⟨S1x4x4096x256, .f32⟩
  | .hbm, ⟨14, _⟩ => ⟨S1x4x4096x256, .f32⟩
  | .hbm, ⟨15, _⟩ => ⟨S_, .f32⟩
  | .hbm, ⟨16, _⟩ => ⟨S1x4x4096, .f32⟩
  | .hbm, ⟨17, _⟩ => ⟨S1x4x4096x1, .f32⟩
  | .hbm, ⟨18, _⟩ => ⟨S1x4x4096x256, .f32⟩
  | .hbm, ⟨19, _⟩ => ⟨S1x4x4096x256, .i1⟩
  | .hbm, ⟨20, _⟩ => ⟨S1x4x4096x256, .f32⟩
  | .hbm, ⟨21, _⟩ => ⟨S_, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .f32⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S1x4x4096, .i1⟩
  | .hbm, ⟨32, _⟩ => ⟨S_, .f32⟩
  | .hbm, ⟨33, _⟩ => ⟨S1x4x4096, .f32⟩
  | .hbm, ⟨34, _⟩ => ⟨S_, .f32⟩
  | .hbm, ⟨35, _⟩ => ⟨S1x4x4096, .f32⟩
  | .hbm, ⟨36, _⟩ => ⟨S_, .f32⟩
  | .hbm, ⟨37, _⟩ => ⟨S1x4x4096, .f32⟩
  | .hbm, ⟨38, _⟩ => ⟨S1x4x4096, .f32⟩
  | .hbm, ⟨39, _⟩ => ⟨S1x4x4096, .f32⟩
  | .hbm, ⟨40, _⟩ => ⟨S1x4x4096x1, .f32⟩
  | .hbm, ⟨41, _⟩ => ⟨S1x4x4096x256, .f32⟩
  | .hbm, ⟨42, _⟩ => ⟨S1x4x4096x256, .f32⟩
  | .hbm, ⟨43, _⟩ => ⟨S1x4x4096x256, .f32⟩
  | .hbm, ⟨44, _⟩ => ⟨S_, .f32⟩
  | .hbm, ⟨45, _⟩ => ⟨S1x4x4096, .f32⟩
  | .hbm, ⟨46, _⟩ => ⟨S1x4x4096x1, .f32⟩
  | .hbm, ⟨47, _⟩ => ⟨S1x4x4096x256, .f32⟩
  | .hbm, ⟨48, _⟩ => ⟨S1x4x4096x256, .f32⟩
  | .hbm, ⟨49, _⟩ => ⟨S1x4x4096x1, .f32⟩
  | .hbm, ⟨50, _⟩ => ⟨S_, .f32⟩
  | .hbm, ⟨51, _⟩ => ⟨S1x4x4096x1, .f32⟩
  | .hbm, ⟨52, _⟩ => ⟨S1x4x4096x1, .f32⟩
  | .hbm, ⟨53, _⟩ => ⟨S1x4x256x4096, .f32⟩
  | .hbm, ⟨54, _⟩ => ⟨S1x4096x4x256, .f32⟩
  | .hbm, ⟨55, _⟩ => ⟨S4096x1024, .f32⟩
  | .hbm, ⟨56, _⟩ => ⟨S4096x1024, .f32⟩
  | .hbm, ⟨57, _⟩ => ⟨S1x4096x4x256, .f32⟩
  | .hbm, ⟨58, _⟩ => ⟨S1x4x256x4096, .f32⟩
  | .hbm, ⟨59, _⟩ => ⟨S1x4x4096x256, .f32⟩
  | .hbm, ⟨60, _⟩ => ⟨S1x4x256x256, .f32⟩
  | .hbm, ⟨61, _⟩ => ⟨S1x256x4x256, .f32⟩
  | .hbm, ⟨62, _⟩ => ⟨S1x4x4096x256, .f32⟩
  | .hbm, ⟨63, _⟩ => ⟨S1x4x4096x256, .f32⟩
  | .hbm, ⟨64, _⟩ => ⟨S1x4x4096x256, .f32⟩
  | .hbm, ⟨65, _⟩ => ⟨S_, .f32⟩
  | .hbm, ⟨66, _⟩ => ⟨S1x4x4096, .f32⟩
  | .hbm, ⟨67, _⟩ => ⟨S1x4x4096x1, .f32⟩
  | .hbm, ⟨68, _⟩ => ⟨S1x4x4096x1, .f32⟩
  | .hbm, ⟨69, _⟩ => ⟨S1x4x4096x256, .f32⟩
  | .hbm, ⟨70, _⟩ => ⟨S1x4x4096x256, .f32⟩
  | .hbm, ⟨71, _⟩ => ⟨S_, .f32⟩
  | .hbm, ⟨72, _⟩ => ⟨S4x4096, .f32⟩
  | .hbm, ⟨73, _⟩ => ⟨S1x4x4096, .f32⟩
  | .hbm, ⟨74, _⟩ => ⟨S1x4x4096x256, .f32⟩
  | .hbm, ⟨75, _⟩ => ⟨S1x4x4096x256, .f32⟩
  | .hbm, ⟨76, _⟩ => ⟨S1x4x4096x256, .f32⟩
  | .hbm, ⟨77, _⟩ => ⟨S_, .f32⟩
  | .hbm, ⟨78, _⟩ => ⟨S1x4x4096x256, .f32⟩
  | .hbm, ⟨79, _⟩ => ⟨S1x4x4096x256, .f32⟩
  | .hbm, ⟨80, _⟩ => ⟨S1x4x256x256, .f32⟩
  | .hbm, ⟨81, _⟩ => ⟨S1x256x4x256, .f32⟩
  | .hbm, ⟨82, _⟩ => ⟨S1x4x4096x256, .f32⟩
  | .hbm, ⟨83, _⟩ => ⟨S1x4096x4x256, .f32⟩
  | .hbm, ⟨84, _⟩ => ⟨S256x1024, .f32⟩
  | .hbm, ⟨85, _⟩ => ⟨S256x1024, .f32⟩
  | .hbm, ⟨86, _⟩ => ⟨S4096x1024, .f32⟩
  | .hbm, ⟨87, _⟩ => ⟨S4096x1024, .bf16⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_12 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩

abbrev nD : Nat := 1
abbrev τ : Topo := Topo.v7x

variable {F : FTy → Type} [FloatOps F]
-- ==== Kernel2.lean ====
abbrev S4096x9216 : Shape := ⟨2, ![4096, 9216]⟩
abbrev S1024x9216 : Shape := ⟨2, ![1024, 9216]⟩
abbrev S4096x1024 : Shape := ⟨2, ![4096, 1024]⟩
abbrev S1x1024 : Shape := ⟨2, ![1, 1024]⟩
abbrev S8x1024 : Shape := ⟨2, ![8, 1024]⟩
abbrev S512x4608 : Shape := ⟨2, ![512, 4608]⟩
abbrev S1024x4608 : Shape := ⟨2, ![1024, 4608]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 15
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S1024x4608, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S8x1024, .f32⟩
  | .local _ .vmem, ⟨14, _⟩ => ⟨S512x1024, .f32⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![8, 2], ![false, false]⟩

def k0_cond4 (i : grid0.Coords) : BitVec 1 :=
  let arg1 : BitVec 32 := BitVec.ofNat 32 (i 1).val
  let c1_i32 : BitVec 32 := 1#32
  let v14 : BitVec 1 := Scalar.cmpi .eq arg1 c1_i32
  let v15 : BitVec 32 := Scalar.extui v14
  let c0_i32_9 : BitVec 32 := 0#32
  let v16 : BitVec 1 := Scalar.cmpi .ne v15 c0_i32_9
  v16

def k0_cond3 (i : grid0.Coords) : BitVec 1 :=
  let arg0 : BitVec 32 := BitVec.ofNat 32 (i 0).val
  let c0_i32_6 : BitVec 32 := 0#32
  let v9 : BitVec 1 := Scalar.cmpi .eq arg0 c0_i32_6
  let arg1 : BitVec 32 := BitVec.ofNat 32 (i 1).val
  let c0_i32_7 : BitVec 32 := 0#32
  let v10 : BitVec 1 := Scalar.cmpi .eq arg1 c0_i32_7
  let v11 : BitVec 1 := Scalar.andi v9 v10
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x4608 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S4096x9216 : Shape := ⟨2, ![4096, 9216]⟩
abbrev S1024x9216 : Shape := ⟨2, ![1024, 9216]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S1024x9216, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x9216, .f32⟩
  | .hbm, ⟨27, _⟩ => ⟨S4096x9216, .f32⟩
  | .hbm, ⟨28, _⟩ => ⟨S4096x9216, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .bf16⟩
  | .hbm, ⟨58, _⟩ => ⟨S_, .i32⟩
  | .hbm, ⟨59, _⟩ => ⟨S_, .f32⟩
  | .hbm, ⟨60, _⟩ => ⟨S8x1024, .f32⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel3.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S8x1024 : Shape := ⟨2, ![8, 1024]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S8x1024, .f32⟩
  | .local _ .vmem, ⟨0, _⟩ => ⟨S512x6144, .bf16⟩
  | .local _ .vmem, ⟨1, _⟩ => ⟨S512x6144, .bf16⟩
  | .local _ .vmem, ⟨2, _⟩ => ⟨S1024x6144, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_5 : BitVec 32 := 0#32
  let v8 : BitVec 1 := Scalar.cmpi .eq arg1 c0_i32_5
  let v9 : BitVec 32 := Scalar.extui v8
  let c0_i32_6 : BitVec 32 := 0#32
  let v10 : BitVec 1 := Scalar.cmpi .ne v9 c0_i32_6
  v10

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_3 : BitVec 32 := 0#32
  let v4 : BitVec 1 := Scalar.cmpi .eq arg1 c0_i32_3
  let v5 : BitVec 1 := Scalar.andi v3 v4
  let v6 : BitVec 32 := Scalar.extui v5
  let c0_i32_4 : BitVec 32 := 0#32
  let v7 : BitVec 1 := Scalar.cmpi .ne v6 c0_i32_4
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x6144 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference4Ideal.lean ====
abbrev S4096x6144 : Shape := ⟨2, ![4096, 6144]⟩
abbrev S1024x6144 : Shape := ⟨2, ![1024, 6144]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S1024x6144, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x6144, .f32⟩
  | .hbm, ⟨27, _⟩ => ⟨S4096x6144, .f32⟩
  | .hbm, ⟨28, _⟩ => ⟨S4096x6144, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .bf16⟩
  | .hbm, ⟨58, _⟩ => ⟨S_, .i32⟩
  | .hbm, ⟨59, _⟩ => ⟨S_, .f32⟩
  | .hbm, ⟨60, _⟩ => ⟨S8x1024, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_c : Ref sig .tc := ⟨.hbm, 58, rfl⟩
abbrev main_call0_v0 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Kernel5.lean ====
abbrev S4096x1024 : Shape := ⟨2, ![4096, 1024]⟩
abbrev S4096x9216 : Shape := ⟨2, ![4096, 9216]⟩
abbrev S1024x9216 : Shape := ⟨2, ![1024, 9216]⟩
abbrev S4096x768 : Shape := ⟨2, ![4096, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S1024x9216, .bf16⟩
  | .local _ .vmem, ⟨0, _⟩ => ⟨S4096x1024, .bf16⟩
  | .local _ .vmem, ⟨1, _⟩ => ⟨S4096x768, .bf16⟩
  | .local _ .vmem, ⟨2, _⟩ => ⟨S4096x768, .bf16⟩
  | .local _ .vmem, ⟨3, _⟩ => ⟨S1024x768, .bf16⟩
  | .local _ .vmem, ⟨4, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x9216 : Shape := ⟨2, ![4096, 9216]⟩
abbrev S9216x1024 : Shape := ⟨2, ![9216, 1024]⟩
abbrev S1024x9216 : Shape := ⟨2, ![1024, 9216]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x9216, .bf16⟩
  | .hbm, ⟨2, _⟩ => ⟨S4096x1024, .f32⟩
  | .hbm, ⟨3, _⟩ => ⟨S4096x9216, .f32⟩
  | .hbm, ⟨4, _⟩ => ⟨S9216x1024, .f32⟩
  | .hbm, ⟨5, _⟩ => ⟨S1024x9216, .f32⟩
  | .hbm, ⟨6, _⟩ => ⟨S1024x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel6.lean ====
abbrev S4096x6144 : Shape := ⟨2, ![4096, 6144]⟩
abbrev S4096x1024 : Shape := ⟨2, ![4096, 1024]⟩
abbrev S6144x1024 : Shape := ⟨2, ![6144, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S6144x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x6144 : Shape := ⟨2, ![4096, 6144]⟩
abbrev S4096x1024 : Shape := ⟨2, ![4096, 1024]⟩
abbrev S6144x1024 : Shape := ⟨2, ![6144, 1024]⟩
abbrev S1024x6144 : Shape := ⟨2, ![1024, 6144]⟩

abbrev nBuf : Space → Nat
  | .hbm => 8
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S4096x1024, .bf16⟩
  | .hbm, ⟨2, _⟩ => ⟨S4096x1024, .f32⟩
  | .hbm, ⟨3, _⟩ => ⟨S4096x6144, .f32⟩
  | .hbm, ⟨4, _⟩ => ⟨S6144x1024, .f32⟩
  | .hbm, ⟨5, _⟩ => ⟨S1024x6144, .f32⟩
  | .hbm, ⟨6, _⟩ => ⟨S6144x1024, .f32⟩
  | .hbm, ⟨7, _⟩ => ⟨S6144x1024, .bf16⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel7.lean ====
abbrev S4096x3072 : Shape := ⟨2, ![4096, 3072]⟩
abbrev S4096x1024 : Shape := ⟨2, ![4096, 1024]⟩
abbrev S3072x1024 : Shape := ⟨2, ![3072, 1024]⟩
abbrev S4096x768 : Shape := ⟨2, ![4096, 768]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S3072x1024, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S768x1024, .bf16⟩
  | .local _ .vmem, ⟨4, _⟩ => ⟨S768x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3072 : Shape := ⟨2, ![4096, 3072]⟩
abbrev S4096x1024 : Shape := ⟨2, ![4096, 1024]⟩
abbrev S1024x3072 : Shape := ⟨2, ![1024, 3072]⟩
abbrev S3072x1024 : Shape := ⟨2, ![3072, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S4096x1024, .bf16⟩
  | .hbm, ⟨2, _⟩ => ⟨S4096x3072, .f32⟩
  | .hbm, ⟨3, _⟩ => ⟨S4096x1024, .f32⟩
  | .hbm, ⟨4, _⟩ => ⟨S1024x3072, .f32⟩
  | .hbm, ⟨5, _⟩ => ⟨S3072x1024, .f32⟩
  | .hbm, ⟨6, _⟩ => ⟨S3072x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S4096x1024 : Shape := ⟨2, ![4096, 1024]⟩
abbrev S3072x1024 : Shape := ⟨2, ![3072, 1024]⟩
abbrev S4096x3072 : Shape := ⟨2, ![4096, 3072]⟩
abbrev S1024x1024 : Shape := ⟨2, ![1024, 1024]⟩
abbrev S768x1024 : Shape := ⟨2, ![768, 1024]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S4096x3072, .bf16⟩
  | .local _ .vmem, ⟨0, _⟩ => ⟨S1024x1024, .bf16⟩
  | .local _ .vmem, ⟨1, _⟩ => ⟨S1024x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x768, .bf16⟩
  | .local _ .vmem, ⟨5, _⟩ => ⟨S1024x768, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x1024 : Shape := ⟨2, ![4096, 1024]⟩
abbrev S3072x1024 : Shape := ⟨2, ![3072, 1024]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S3072x1024, .bf16⟩
  | .hbm, ⟨2, _⟩ => ⟨S3072x1024, .f32⟩
  | .hbm, ⟨3, _⟩ => ⟨S4096x1024, .f32⟩
  | .hbm, ⟨4, _⟩ => ⟨S4096x3072, .f32⟩
  | .hbm, ⟨5, _⟩ => ⟨S4096x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x1024 : Shape := ⟨2, ![4096, 1024]⟩
abbrev S4096x9216 : Shape := ⟨2, ![4096, 9216]⟩
abbrev S4x1024x1024 : Shape := ⟨3, ![4, 1024, 1024]⟩
abbrev S1x3072 : Shape := ⟨2, ![1, 3072]⟩
abbrev S8x3072 : Shape := ⟨2, ![8, 3072]⟩
abbrev S512x1024 : Shape := ⟨2, ![512, 1024]⟩
abbrev S512x3072 : Shape := ⟨2, ![512, 3072]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S4096x3072 : Shape := ⟨2, ![4096, 3072]⟩

abbrev nBuf : Space → Nat
  | .hbm => 16
  | .vmem => 27
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x9216, .bf16⟩
  | .hbm, ⟨5, _⟩ => ⟨S4x1024x1024, .bf16⟩
  | .hbm, ⟨6, _⟩ => ⟨S1x3072, .f32⟩
  | .hbm, ⟨7, _⟩ => ⟨S4096x1024, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x9216, .bf16⟩
  | .hbm, ⟨14, _⟩ => ⟨S8x3072, .f32⟩
  | .hbm, ⟨15, _⟩ => ⟨S4096x3072, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S4x1024x1024, .bf16⟩
  | .local _ .vmem, ⟨11, _⟩ => ⟨S1x3072, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x3072, .bf16⟩
  | .local _ .vmem, ⟨25, _⟩ => ⟨S512x3072, .bf16⟩
  | .local _ .vmem, ⟨26, _⟩ => ⟨S8x3072, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev main_v1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S8x3072 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference9Ideal.lean ====
abbrev S4096x1024 : Shape := ⟨2, ![4096, 1024]⟩
abbrev S4096x9216 : Shape := ⟨2, ![4096, 9216]⟩
abbrev S4x1024x1024 : Shape := ⟨3, ![4, 1024, 1024]⟩
abbrev S1x3072 : Shape := ⟨2, ![1, 3072]⟩
abbrev S4096x3072 : Shape := ⟨2, ![4096, 3072]⟩
abbrev S3072 : Shape := ⟨1, ![3072]⟩
abbrev S1x1024x1024 : Shape := ⟨3, ![1, 1024, 1024]⟩
abbrev S1024x1024 : Shape := ⟨2, ![1024, 1024]⟩
abbrev S4096x3x1024 : Shape := ⟨3, ![4096, 3, 1024]⟩
abbrev S_ : Shape := ⟨0, ![]⟩
abbrev S4096x1x1024 : Shape := ⟨3, ![4096, 1, 1024]⟩
abbrev S8x3072 : Shape := ⟨2, ![8, 3072]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x9216, .bf16⟩
  | .hbm, ⟨5, _⟩ => ⟨S4x1024x1024, .bf16⟩
  | .hbm, ⟨6, _⟩ => ⟨S1x3072, .f32⟩
  | .hbm, ⟨7, _⟩ => ⟨S4x1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x3072, .bf16⟩
  | .hbm, ⟨12, _⟩ => ⟨S4096x3072, .f32⟩
  | .hbm, ⟨13, _⟩ => ⟨S3072, .f32⟩
  | .hbm, ⟨14, _⟩ => ⟨S1x1024x1024, .f32⟩
  | .hbm, ⟨15, _⟩ => ⟨S1024x1024, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S4096x3x1024, .f32⟩
  | .hbm, ⟨20, _⟩ => ⟨S4096x3x1024, .f32⟩
  | .hbm, ⟨21, _⟩ => ⟨S4096x3x1024, .f32⟩
  | .hbm, ⟨22, _⟩ => ⟨S_, .f32⟩
  | .hbm, ⟨23, _⟩ => ⟨S4096x3x1024, .f32⟩
  | .hbm, ⟨24, _⟩ => ⟨S4096x3x1024, .f32⟩
  | .hbm, ⟨25, _⟩ => ⟨S_, .f32⟩
  | .hbm, ⟨26, _⟩ => ⟨S4096x3x1024, .f32⟩
  | .hbm, ⟨27, _⟩ => ⟨S4096x3x1024, .f32⟩
  | .hbm, ⟨28, _⟩ => ⟨S_, .f32⟩
  | .hbm, ⟨29, _⟩ => ⟨S4096x3x1024, .f32⟩
  | .hbm, ⟨30, _⟩ => ⟨S4096x3x1024, .f32⟩
  | .hbm, ⟨31, _⟩ => ⟨S4096x3x1024, .f32⟩
  | .hbm, ⟨32, _⟩ => ⟨S4096x1x1024, .f32⟩
  | .hbm, ⟨33, _⟩ => ⟨S4096x1024, .f32⟩
  | .hbm, ⟨34, _⟩ => ⟨S4096x1024, .f32⟩
  | .hbm, ⟨35, _⟩ => ⟨S4096x1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1x1024, .f32⟩
  | .hbm, ⟨49, _⟩ => ⟨S_, .f32⟩
  | .hbm, ⟨50, _⟩ => ⟨S4096x3x1024, .f32⟩
  | .hbm, ⟨51, _⟩ => ⟨S4096x1024, .f32⟩
  | .hbm, ⟨52, _⟩ => ⟨S4096x1024, .f32⟩
  | .hbm, ⟨53, _⟩ => ⟨S4096x1x1024, .f32⟩
  | .hbm, ⟨54, _⟩ => ⟨S_, .f32⟩
  | .hbm, ⟨55, _⟩ => ⟨S4096x3x1024, .f32⟩
  | .hbm, ⟨56, _⟩ => ⟨S4096x3x1024, .f32⟩
  | .hbm, ⟨57, _⟩ => ⟨S4096x1024, .f32⟩
  | .hbm, ⟨58, _⟩ => ⟨S4096x1024, .f32⟩
  | .hbm, ⟨59, _⟩ => ⟨S4096x1x1024, .f32⟩
  | .hbm, ⟨60, _⟩ => ⟨S_, .f32⟩
  | .hbm, ⟨61, _⟩ => ⟨S4096x3x1024, .f32⟩
  | .hbm, ⟨62, _⟩ => ⟨S4096x3x1024, .f32⟩
  | .hbm, ⟨63, _⟩ => ⟨S4096x3x1024, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S1x1024x1024, .f32⟩
  | .hbm, ⟨72, _⟩ => ⟨S1024x1024, .f32⟩
  | .hbm, ⟨73, _⟩ => ⟨S4096x1024, .f32⟩
  | .hbm, ⟨74, _⟩ => ⟨S1x1024x1024, .f32⟩
  | .hbm, ⟨75, _⟩ => ⟨S1024x1024, .f32⟩
  | .hbm, ⟨76, _⟩ => ⟨S4096x1024, .f32⟩
  | .hbm, ⟨77, _⟩ => ⟨S1x1024x1024, .f32⟩
  | .hbm, ⟨78, _⟩ => ⟨S1024x1024, .f32⟩
  | .hbm, ⟨79, _⟩ => ⟨S4096x1024, .f32⟩
  | .hbm, ⟨80, _⟩ => ⟨S4096x1024, .bf16⟩
  | .hbm, ⟨81, _⟩ => ⟨S4096x1024, .bf16⟩
  | .hbm, ⟨82, _⟩ => ⟨S4096x1024, .bf16⟩
  | .hbm, ⟨83, _⟩ => ⟨S4096x1024, .bf16⟩
  | .hbm, ⟨84, _⟩ => ⟨S4096x1024, .bf16⟩
  | .hbm, ⟨85, _⟩ => ⟨S4096x1024, .bf16⟩
  | .hbm, ⟨86, _⟩ => ⟨S4096x3072, .bf16⟩
  | .hbm, ⟨87, _⟩ => ⟨S_, .i32⟩
  | .hbm, ⟨88, _⟩ => ⟨S_, .f32⟩
  | .hbm, ⟨89, _⟩ => ⟨S8x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_2 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_3 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_c : Ref sig .tc := ⟨.hbm, 87, rfl⟩
abbrev main_call0_v0 : Ref sig .tc := ⟨.hbm, 88, rfl⟩
abbrev main_v72 : Ref sig .tc := ⟨.hbm, 89, rfl⟩

abbrev nD : Nat := 1
abbrev τ : Topo := Topo.v7x

variable {F : FTy → Type} [FloatOps F]
-- ==== Kernel10.lean ====
abbrev S4096x1024 : Shape := ⟨2, ![4096, 1024]⟩
abbrev S4096x9216 : Shape := ⟨2, ![4096, 9216]⟩
abbrev S4x1024x1024 : Shape := ⟨3, ![4, 1024, 1024]⟩
abbrev S1x3072 : Shape := ⟨2, ![1, 3072]⟩
abbrev S1x1024 : Shape := ⟨2, ![1, 1024]⟩
abbrev S512x1024 : Shape := ⟨2, ![512, 1024]⟩
abbrev S512x3072 : Shape := ⟨2, ![512, 3072]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 14
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x9216, .bf16⟩
  | .hbm, ⟨5, _⟩ => ⟨S4x1024x1024, .bf16⟩
  | .hbm, ⟨6, _⟩ => ⟨S1x3072, .f32⟩
  | .hbm, ⟨7, _⟩ => ⟨S1x1024, .f32⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x1024, .bf16⟩
  | .hbm, ⟨12, _⟩ => ⟨S4096x1024, .f32⟩
  | .hbm, ⟨13, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x3072, .bf16⟩
  | .local _ .vmem, ⟨9, _⟩ => ⟨S512x3072, .bf16⟩
  | .local _ .vmem, ⟨10, _⟩ => ⟨S4x1024x1024, .bf16⟩
  | .local _ .vmem, ⟨11, _⟩ => ⟨S1x3072, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S4096x1024 : Shape := ⟨2, ![4096, 1024]⟩
abbrev S4096x9216 : Shape := ⟨2, ![4096, 9216]⟩
abbrev S4x1024x1024 : Shape := ⟨3, ![4, 1024, 1024]⟩
abbrev S1x3072 : Shape := ⟨2, ![1, 3072]⟩
abbrev S1x1024 : Shape := ⟨2, ![1, 1024]⟩
abbrev S1x1024x1024 : Shape := ⟨3, ![1, 1024, 1024]⟩
abbrev S1024x1024 : Shape := ⟨2, ![1024, 1024]⟩
abbrev S4096x3072 : Shape := ⟨2, ![4096, 3072]⟩
abbrev S3072 : Shape := ⟨1, ![3072]⟩
abbrev S4096x3x1024 : Shape := ⟨3, ![4096, 3, 1024]⟩
abbrev S_ : Shape := ⟨0, ![]⟩
abbrev S4096x1x1024 : Shape := ⟨3, ![4096, 1, 1024]⟩
abbrev S1024 : Shape := ⟨1, ![1024]⟩
abbrev S4096 : Shape := ⟨1, ![4096]⟩
abbrev S4096x1 : Shape := ⟨2, ![4096, 1]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x9216, .bf16⟩
  | .hbm, ⟨5, _⟩ => ⟨S4x1024x1024, .bf16⟩
  | .hbm, ⟨6, _⟩ => ⟨S1x3072, .f32⟩
  | .hbm, ⟨7, _⟩ => ⟨S1x1024, .f32⟩
  | .hbm, ⟨8, _⟩ => ⟨S4x1024x1024, .f32⟩
  | .hbm, ⟨9, _⟩ => ⟨S4096x1024, .f32⟩
  | .hbm, ⟨10, _⟩ => ⟨S1x1024x1024, .f32⟩
  | .hbm, ⟨11, _⟩ => ⟨S1024x1024, .f32⟩
  | .hbm, ⟨12, _⟩ => ⟨S4096x1024, .f32⟩
  | .hbm, ⟨13, _⟩ => ⟨S4096x1024, .f32⟩
  | .hbm, ⟨14, _⟩ => ⟨S1x1024x1024, .f32⟩
  | .hbm, ⟨15, _⟩ => ⟨S1024x1024, .f32⟩
  | .hbm, ⟨16, _⟩ => ⟨S4096x1024, .f32⟩
  | .hbm, ⟨17, _⟩ => ⟨S4096x1024, .f32⟩
  | .hbm, ⟨18, _⟩ => ⟨S1x1024x1024, .f32⟩
  | .hbm, ⟨19, _⟩ => ⟨S1024x1024, .f32⟩
  | .hbm, ⟨20, _⟩ => ⟨S4096x1024, .f32⟩
  | .hbm, ⟨21, _⟩ => ⟨S4096x3072, .bf16⟩
  | .hbm, ⟨22, _⟩ => ⟨S4096x3072, .f32⟩
  | .hbm, ⟨23, _⟩ => ⟨S3072, .f32⟩
  | .hbm, ⟨24, _⟩ => ⟨S1x3072, .f32⟩
  | .hbm, ⟨25, _⟩ => ⟨S4096x3072, .f32⟩
  | .hbm, ⟨26, _⟩ => ⟨S4096x3072, .f32⟩
  | .hbm, ⟨27, _⟩ => ⟨S4096x3x1024, .f32⟩
  | .hbm, ⟨28, _⟩ => ⟨S4096x3x1024, .f32⟩
  | .hbm, ⟨29, _⟩ => ⟨S4096x3x1024, .f32⟩
  | .hbm, ⟨30, _⟩ => ⟨S_, .f32⟩
  | .hbm, ⟨31, _⟩ => ⟨S4096x3x1024, .f32⟩
  | .hbm, ⟨32, _⟩ => ⟨S4096x3x1024, .f32⟩
  | .hbm, ⟨33, _⟩ => ⟨S_, .f32⟩
  | .hbm, ⟨34, _⟩ => ⟨S4096x3x1024, .f32⟩
  | .hbm, ⟨35, _⟩ => ⟨S4096x3x1024, .f32⟩
  | .hbm, ⟨36, _⟩ => ⟨S4096x1x1024, .f32⟩
  | .hbm, ⟨37, _⟩ => ⟨S4096x1024, .f32⟩
  | .hbm, ⟨38, _⟩ => ⟨S4096x1024, .f32⟩
  | .hbm, ⟨39, _⟩ => ⟨S4096x1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S1x1024x1024, .f32⟩
  | .hbm, ⟨48, _⟩ => ⟨S1024x1024, .f32⟩
  | .hbm, ⟨49, _⟩ => ⟨S4096x1024, .f32⟩
  | .hbm, ⟨50, _⟩ => ⟨S4096x1024, .f32⟩
  | .hbm, ⟨51, _⟩ => ⟨S4096x1024, .bf16⟩
  | .hbm, ⟨52, _⟩ => ⟨S4096x1024, .bf16⟩
  | .hbm, ⟨53, _⟩ => ⟨S4096x1024, .bf16⟩
  | .hbm, ⟨54, _⟩ => ⟨S4096x1024, .bf16⟩
  | .hbm, ⟨55, _⟩ => ⟨S1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1024, .f32⟩
  | .hbm, ⟨68, _⟩ => ⟨S4096x1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_1 : Ref sig .tc := ⟨.hbm, 57, rfl⟩
abbrev main_v47 : Ref sig .tc := ⟨.hbm, 58, rfl⟩
abbrev main_v48 : Ref sig .tc := ⟨.hbm, 59, rfl⟩
abbrev main_cst_2 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩

abbrev nD : Nat := 1
abbrev τ : Topo := Topo.v7x

variable {F : FTy → Type} [FloatOps F]
-- ==== Kernel11.lean ====
abbrev S4096x1024 : Shape := ⟨2, ![4096, 1024]⟩
abbrev S1024x9216 : Shape := ⟨2, ![1024, 9216]⟩
abbrev S4096x9216 : Shape := ⟨2, ![4096, 9216]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x9216, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x9216 : Shape := ⟨2, ![1024, 9216]⟩
abbrev S4096x9216 : Shape := ⟨2, ![4096, 9216]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x9216, .bf16⟩
  | .hbm, ⟨2, _⟩ => ⟨S4096x1024, .f32⟩
  | .hbm, ⟨3, _⟩ => ⟨S1024x9216, .f32⟩
  | .hbm, ⟨4, _⟩ => ⟨S4096x9216, .f32⟩
  | .hbm, ⟨5, _⟩ => ⟨S4096x9216, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x6144, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .bf16⟩
  | .local _ .vmem, ⟨5, _⟩ => ⟨S1024x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x6144 : Shape := ⟨2, ![1024, 6144]⟩
abbrev S4096x6144 : Shape := ⟨2, ![4096, 6144]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x6144, .bf16⟩
  | .hbm, ⟨2, _⟩ => ⟨S4096x1024, .f32⟩
  | .hbm, ⟨3, _⟩ => ⟨S1024x6144, .f32⟩
  | .hbm, ⟨4, _⟩ => ⟨S4096x6144, .f32⟩
  | .hbm, ⟨5, _⟩ => ⟨S4096x6144, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x3072, .bf16⟩
  | .local _ .vmem, ⟨1, _⟩ => ⟨S512x3072, .bf16⟩
  | .local _ .vmem, ⟨2, _⟩ => ⟨S3072x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4096x3072 : Shape := ⟨2, ![4096, 3072]⟩
abbrev S3072x1024 : Shape := ⟨2, ![3072, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S3072x1024, .bf16⟩
  | .hbm, ⟨2, _⟩ => ⟨S4096x1024, .f32⟩
  | .hbm, ⟨3, _⟩ => ⟨S1x1024, .f32⟩
  | .hbm, ⟨4, _⟩ => ⟨S4096x3072, .f32⟩
  | .hbm, ⟨5, _⟩ => ⟨S3072x1024, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel14.lean ====
abbrev S4096x9216 : Shape := ⟨2, ![4096, 9216]⟩
abbrev S256x2048 : Shape := ⟨2, ![256, 2048]⟩
abbrev S4096x1024 : Shape := ⟨2, ![4096, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x9216, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference14Ideal.lean ====
abbrev S4096x9216 : Shape := ⟨2, ![4096, 9216]⟩
abbrev S256x2048 : Shape := ⟨2, ![256, 2048]⟩
abbrev S256x1024 : Shape := ⟨2, ![256, 1024]⟩
abbrev S4096x1024 : Shape := ⟨2, ![4096, 1024]⟩
abbrev S1x4096x4x256 : Shape := ⟨4, ![1, 4096, 4, 256]⟩
abbrev S1x256x4x256 : Shape := ⟨4, ![1, 256, 4, 256]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x256x4096 : Shape := ⟨4, ![1, 4, 256, 4096]⟩

abbrev nBuf : Space → Nat
  | .hbm => 32
  | .vmem => 0
  | .smem => 0
  | _ => 0

abbrev bufTy : (tb : Table) → Fin (tcTables nBuf tb) → BufTy
  | .hbm, ⟨0, _⟩ => ⟨S4096x9216, .bf16⟩
  | .hbm, ⟨1, _⟩ => ⟨S256x2048, .bf16⟩
  | .hbm, ⟨2, _⟩ => ⟨S256x2048, .f32⟩
  | .hbm, ⟨3, _⟩ => ⟨S256x1024, .f32⟩
  | .hbm, ⟨4, _⟩ => ⟨S256x1024, .f32⟩
  | .hbm, ⟨5, _⟩ => ⟨S4096x1024, .bf16⟩
  | .hbm, ⟨6, _⟩ => ⟨S4096x1024, .f32⟩
  | .hbm, ⟨7, _⟩ => ⟨S1x4096x4x256, .f32⟩
  | .hbm, ⟨8, _⟩ => ⟨S1x256x4x256, .f32⟩
  | .hbm, ⟨9, _⟩ => ⟨S1x256x4x256, .f32⟩
  | .hbm, ⟨10, _⟩ => ⟨S1x4x4096x256, .f32⟩
  | .hbm, ⟨11, _⟩ => ⟨S_, .f32⟩
  | .hbm, ⟨12, _⟩ => ⟨S1x4x4096x256, .f32⟩
  | .hbm, ⟨13, _⟩ => ⟨S1x4x4096x256, .f32⟩
  | .hbm, ⟨14, _⟩ => ⟨S_, .f32⟩
  | .hbm, ⟨15, _⟩ => ⟨S1x4x4096, .f32⟩
  | .hbm, ⟨16, _⟩ => ⟨S_, .f32⟩
  | .hbm, ⟨17, _⟩ => ⟨S1x4x4096, .f32⟩
  | .hbm, ⟨18, _⟩ => ⟨S1x4x4096, .f32⟩
  | .hbm, ⟨19, _⟩ => ⟨S1x4x4096x1, .f32⟩
  | .hbm, ⟨20, _⟩ => ⟨S1x4x4096x256, .f32⟩
  | .hbm, ⟨21, _⟩ => ⟨S1x4x4096x256, .f32⟩
  | .hbm, ⟨22, _⟩ => ⟨S1x4x4096x256, .f32⟩
  | .hbm, ⟨23, _⟩ => ⟨S_, .f32⟩
  | .hbm, ⟨24, _⟩ => ⟨S1x4x4096, .f32⟩
  | .hbm, ⟨25, _⟩ => ⟨S1x4x4096x1, .f32⟩
  | .hbm, ⟨26, _⟩ => ⟨S1x4x4096x256, .f32⟩
  | .hbm, ⟨27, _⟩ => ⟨S1x4x4096x256, .f32⟩
  | .hbm, ⟨28, _⟩ => ⟨S1x4x256x4096, .f32⟩
  | .hbm, ⟨29, _⟩ => ⟨S1x4096x4x256, .f32⟩
  | .hbm, ⟨30, _⟩ => ⟨S4096x1024, .f32⟩
  | .hbm, ⟨31, _⟩ => ⟨S4096x1024, .bf16⟩
  | _, _ => ⟨S4096x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel15.lean ====
abbrev S8x1024x1152 : Shape := ⟨3, ![8, 1024, 1152]⟩
abbrev S2x1024x1152 : Shape := ⟨3, ![2, 1024, 1152]⟩
abbrev S8x128x1152 : Shape := ⟨3, ![8, 128, 1152]⟩
abbrev S1x128x1152 : Shape := ⟨3, ![1, 128, 1152]⟩
abbrev S128x1152 : Shape := ⟨2, ![128, 1152]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1152, .f32⟩
  | .hbm, ⟨3, _⟩ => ⟨S2x1024x1152, .f32⟩
  | .hbm, ⟨4, _⟩ => ⟨S2x1024x1152, .f32⟩
  | .hbm, ⟨5, _⟩ => ⟨S2x1024x1152, .f32⟩
  | .hbm, ⟨6, _⟩ => ⟨S2x1024x1152, .f32⟩
  | .hbm, ⟨7, _⟩ => ⟨S2x1024x1152, .f32⟩
  | .hbm, ⟨8, _⟩ => ⟨S2x1024x1152, .f32⟩
  | .local _ .vmem, ⟨0, _⟩ => ⟨S8x128x1152, .bf16⟩
  | .local _ .vmem, ⟨1, _⟩ => ⟨S8x128x1152, .bf16⟩
  | .local _ .vmem, ⟨2, _⟩ => ⟨S8x128x1152, .bf16⟩
  | .local _ .vmem, ⟨3, _⟩ => ⟨S8x128x1152, .bf16⟩
  | .local _ .vmem, ⟨4, _⟩ => ⟨S1x128x1152, .f32⟩
  | .local _ .vmem, ⟨5, _⟩ => ⟨S1x128x1152, .f32⟩
  | .local _ .vmem, ⟨6, _⟩ => ⟨S1x128x1152, .f32⟩
  | .local _ .vmem, ⟨7, _⟩ => ⟨S1x128x1152, .f32⟩
  | .local _ .vmem, ⟨8, _⟩ => ⟨S1x128x1152, .f32⟩
  | .local _ .vmem, ⟨9, _⟩ => ⟨S1x128x1152, .f32⟩
  | .local _ .vmem, ⟨10, _⟩ => ⟨S1x128x1152, .f32⟩
  | .local _ .vmem, ⟨11, _⟩ => ⟨S1x128x1152, .f32⟩
  | .local _ .vmem, ⟨12, _⟩ => ⟨S1x128x1152, .f32⟩
  | .local _ .vmem, ⟨13, _⟩ => ⟨S1x128x1152, .f32⟩
  | .local _ .vmem, ⟨14, _⟩ => ⟨S1x128x1152, .f32⟩
  | .local _ .vmem, ⟨15, _⟩ => ⟨S1x128x1152, .f32⟩
  | .local _ .vmem, ⟨16, _⟩ => ⟨S1x128x1152, .f32⟩
  | .local _ .vmem, ⟨17, _⟩ => ⟨S1x128x1152, .f32⟩
  | _, _ => ⟨S8x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference15Ideal.lean ====
abbrev S8x1024x1152 : Shape := ⟨3, ![8, 1024, 1152]⟩
abbrev S2x1024x1152 : Shape := ⟨3, ![2, 1024, 1152]⟩
abbrev S1x8x1024x1152 : Shape := ⟨4, ![1, 8, 1024, 1152]⟩
abbrev S2x8x1024x1152 : Shape := ⟨4, ![2, 8, 1024, 1152]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x1152, .bf16⟩
  | .hbm, ⟨1, _⟩ => ⟨S8x1024x1152, .bf16⟩
  | .hbm, ⟨2, _⟩ => ⟨S2x1024x1152, .f32⟩
  | .hbm, ⟨3, _⟩ => ⟨S2x1024x1152, .f32⟩
  | .hbm, ⟨4, _⟩ => ⟨S2x1024x1152, .f32⟩
  | .hbm, ⟨5, _⟩ => ⟨S1x8x1024x1152, .bf16⟩
  | .hbm, ⟨6, _⟩ => ⟨S1x8x1024x1152, .bf16⟩
  | .hbm, ⟨7, _⟩ => ⟨S2x8x1024x1152, .bf16⟩
  | .hbm, ⟨8, _⟩ => ⟨S2x8x1024x1152, .f32⟩
  | .hbm, ⟨9, _⟩ => ⟨S_, .f32⟩
  | .hbm, ⟨10, _⟩ => ⟨S2x1024x1152, .f32⟩
  | .hbm, ⟨11, _⟩ => ⟨S_, .f32⟩
  | .hbm, ⟨12, _⟩ => ⟨S2x1024x1152, .f32⟩
  | .hbm, ⟨13, _⟩ => ⟨S2x1024x1152, .f32⟩
  | .hbm, ⟨14, _⟩ => ⟨S_, .f32⟩
  | .hbm, ⟨15, _⟩ => ⟨S2x1024x1152, .f32⟩
  | .hbm, ⟨16, _⟩ => ⟨S2x1024x1152, .f32⟩
  | .hbm, ⟨17, _⟩ => ⟨S2x1024x1152, .f32⟩
  | .hbm, ⟨18, _⟩ => ⟨S_, .f32⟩
  | .hbm, ⟨19, _⟩ => ⟨S2x1024x1152, .f32⟩
  | .hbm, ⟨20, _⟩ => ⟨S2x1024x1152, .f32⟩
  | .hbm, ⟨21, _⟩ => ⟨S2x1024x1152, .f32⟩
  | .hbm, ⟨22, _⟩ => ⟨S_, .f32⟩
  | .hbm, ⟨23, _⟩ => ⟨S2x1024x1152, .f32⟩
  | .hbm, ⟨24, _⟩ => ⟨S2x1024x1152, .f32⟩
  | .hbm, ⟨25, _⟩ => ⟨S2x1024x1152, .f32⟩
  | .hbm, ⟨26, _⟩ => ⟨S_, .f32⟩
  | .hbm, ⟨27, _⟩ => ⟨S2x1024x1152, .f32⟩
  | .hbm, ⟨28, _⟩ => ⟨S2x1024x1152, .f32⟩
  | .hbm, ⟨29, _⟩ => ⟨S_, .f32⟩
  | .hbm, ⟨30, _⟩ => ⟨S2x1024x1152, .f32⟩
  | .hbm, ⟨31, _⟩ => ⟨S2x1024x1152, .f32⟩
  | .hbm, ⟨32, _⟩ => ⟨S2x1024x1152, .f32⟩
  | .hbm, ⟨33, _⟩ => ⟨S_, .f32⟩
  | .hbm, ⟨34, _⟩ => ⟨S2x1024x1152, .f32⟩
  | .hbm, ⟨35, _⟩ => ⟨S2x1024x1152, .f32⟩
  | .hbm, ⟨36, _⟩ => ⟨S2x1024x1152, .f32⟩
  | .hbm, ⟨37, _⟩ => ⟨S_, .f32⟩
  | .hbm, ⟨38, _⟩ => ⟨S2x1024x1152, .f32⟩
  | .hbm, ⟨39, _⟩ => ⟨S2x1024x1152, .f32⟩
  | .hbm, ⟨40, _⟩ => ⟨S2x1024x1152, .f32⟩
  | .hbm, ⟨41, _⟩ => ⟨S_, .f32⟩
  | .hbm, ⟨42, _⟩ => ⟨S2x1024x1152, .f32⟩
  | .hbm, ⟨43, _⟩ => ⟨S2x1024x1152, .f32⟩
  | _, _ => ⟨S8x1024x1152, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel16.lean ====
abbrev S8x512x1024 : Shape := ⟨3, ![8, 512, 1024]⟩
abbrev S2x512x1024 : Shape := ⟨3, ![2, 512, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference16Ideal.lean ====
abbrev S8x512x1024 : Shape := ⟨3, ![8, 512, 1024]⟩
abbrev S2x512x1024 : Shape := ⟨3, ![2, 512, 1024]⟩
abbrev S1x8x512x1024 : Shape := ⟨4, ![1, 8, 512, 1024]⟩
abbrev S2x8x512x1024 : Shape := ⟨4, ![2, 8, 512, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .bf16⟩
  | .hbm, ⟨2, _⟩ => ⟨S2x512x1024, .f32⟩
  | .hbm, ⟨3, _⟩ => ⟨S2x512x1024, .f32⟩
  | .hbm, ⟨4, _⟩ => ⟨S2x512x1024, .f32⟩
  | .hbm, ⟨5, _⟩ => ⟨S1x8x512x1024, .bf16⟩
  | .hbm, ⟨6, _⟩ => ⟨S1x8x512x1024, .bf16⟩
  | .hbm, ⟨7, _⟩ => ⟨S2x8x512x1024, .bf16⟩
  | .hbm, ⟨8, _⟩ => ⟨S2x8x512x1024, .f32⟩
  | .hbm, ⟨9, _⟩ => ⟨S_, .f32⟩
  | .hbm, ⟨10, _⟩ => ⟨S2x512x1024, .f32⟩
  | .hbm, ⟨11, _⟩ => ⟨S_, .f32⟩
  | .hbm, ⟨12, _⟩ => ⟨S2x512x1024, .f32⟩
  | .hbm, ⟨13, _⟩ => ⟨S2x512x1024, .f32⟩
  | .hbm, ⟨14, _⟩ => ⟨S_, .f32⟩
  | .hbm, ⟨15, _⟩ => ⟨S2x512x1024, .f32⟩
  | .hbm, ⟨16, _⟩ => ⟨S2x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S2x512x1024, .f32⟩
  | .hbm, ⟨22, _⟩ => ⟨S_, .f32⟩
  | .hbm, ⟨23, _⟩ => ⟨S2x512x1024, .f32⟩
  | .hbm, ⟨24, _⟩ => ⟨S2x512x1024, .f32⟩
  | .hbm, ⟨25, _⟩ => ⟨S2x512x1024, .f32⟩
  | .hbm, ⟨26, _⟩ => ⟨S_, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S2x512x1024, .f32⟩
  | .hbm, ⟨37, _⟩ => ⟨S_, .f32⟩
  | .hbm, ⟨38, _⟩ => ⟨S2x512x1024, .f32⟩
  | .hbm, ⟨39, _⟩ => ⟨S2x512x1024, .f32⟩
  | .hbm, ⟨40, _⟩ => ⟨S2x512x1024, .f32⟩
  | .hbm, ⟨41, _⟩ => ⟨S_, .f32⟩
  | .hbm, ⟨42, _⟩ => ⟨S2x512x1024, .f32⟩
  | .hbm, ⟨43, _⟩ => ⟨S2x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel17.lean ====
abbrev S8x768x1024 : Shape := ⟨3, ![8, 768, 1024]⟩
abbrev S2x704x1024 : Shape := ⟨3, ![2, 704, 1024]⟩
abbrev S8x64x1024 : Shape := ⟨3, ![8, 64, 1024]⟩
abbrev S1x64x1024 : Shape := ⟨3, ![1, 64, 1024]⟩
abbrev S64x1024 : Shape := ⟨2, ![64, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x768x1024, .bf16⟩
  | .hbm, ⟨1, _⟩ => ⟨S8x768x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S8x64x1024, .bf16⟩
  | .local _ .vmem, ⟨3, _⟩ => ⟨S8x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | _, _ => ⟨S8x768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S8x768x1024 : Shape := ⟨3, ![8, 768, 1024]⟩
abbrev S2x704x1024 : Shape := ⟨3, ![2, 704, 1024]⟩
abbrev S1x8x768x1024 : Shape := ⟨4, ![1, 8, 768, 1024]⟩
abbrev S2x8x768x1024 : Shape := ⟨4, ![2, 8, 768, 1024]⟩
abbrev S_ : Shape := ⟨0, ![]⟩
abbrev S2x768x1024 : Shape := ⟨3, ![2, 768, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x768x1024, .bf16⟩
  | .hbm, ⟨1, _⟩ => ⟨S8x768x1024, .bf16⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S1x8x768x1024, .bf16⟩
  | .hbm, ⟨6, _⟩ => ⟨S1x8x768x1024, .bf16⟩
  | .hbm, ⟨7, _⟩ => ⟨S2x8x768x1024, .bf16⟩
  | .hbm, ⟨8, _⟩ => ⟨S2x8x768x1024, .f32⟩
  | .hbm, ⟨9, _⟩ => ⟨S_, .f32⟩
  | .hbm, ⟨10, _⟩ => ⟨S2x768x1024, .f32⟩
  | .hbm, ⟨11, _⟩ => ⟨S2x704x1024, .f32⟩
  | .hbm, ⟨12, _⟩ => ⟨S_, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S2x704x1024, .f32⟩
  | .hbm, ⟨23, _⟩ => ⟨S_, .f32⟩
  | .hbm, ⟨24, _⟩ => ⟨S2x704x1024, .f32⟩
  | .hbm, ⟨25, _⟩ => ⟨S2x704x1024, .f32⟩
  | .hbm, ⟨26, _⟩ => ⟨S2x704x1024, .f32⟩
  | .hbm, ⟨27, _⟩ => ⟨S_, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | .hbm, ⟨37, _⟩ => ⟨S2x704x1024, .f32⟩
  | .hbm, ⟨38, _⟩ => ⟨S_, .f32⟩
  | .hbm, ⟨39, _⟩ => ⟨S2x704x1024, .f32⟩
  | .hbm, ⟨40, _⟩ => ⟨S2x704x1024, .f32⟩
  | .hbm, ⟨41, _⟩ => ⟨S2x704x1024, .f32⟩
  | .hbm, ⟨42, _⟩ => ⟨S_, .f32⟩
  | .hbm, ⟨43, _⟩ => ⟨S2x704x1024, .f32⟩
  | .hbm, ⟨44, _⟩ => ⟨S2x704x1024, .f32⟩
  | _, _ => ⟨S8x768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel18.lean ====
abbrev S8x352x1024 : Shape := ⟨3, ![8, 352, 1024]⟩
abbrev S2x352x1024 : Shape := ⟨3, ![2, 352, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x32x1024, .bf16⟩
  | .local _ .vmem, ⟨1, _⟩ => ⟨S8x32x1024, .bf16⟩
  | .local _ .vmem, ⟨2, _⟩ => ⟨S8x32x1024, .bf16⟩
  | .local _ .vmem, ⟨3, _⟩ => ⟨S8x32x1024, .bf16⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | .local _ .vmem, ⟨16, _⟩ => ⟨S1x32x1024, .f32⟩
  | .local _ .vmem, ⟨17, _⟩ => ⟨S1x32x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 11], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c10_i32 : BitVec 32 := 10#32
  let v1 : BitVec 32 := Scalar.select v0 arg1 c10_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference18Ideal.lean ====
abbrev S8x352x1024 : Shape := ⟨3, ![8, 352, 1024]⟩
abbrev S2x352x1024 : Shape := ⟨3, ![2, 352, 1024]⟩
abbrev S1x8x352x1024 : Shape := ⟨4, ![1, 8, 352, 1024]⟩
abbrev S2x8x352x1024 : Shape := ⟨4, ![2, 8, 352, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S1x8x352x1024, .bf16⟩
  | .hbm, ⟨6, _⟩ => ⟨S1x8x352x1024, .bf16⟩
  | .hbm, ⟨7, _⟩ => ⟨S2x8x352x1024, .bf16⟩
  | .hbm, ⟨8, _⟩ => ⟨S2x8x352x1024, .f32⟩
  | .hbm, ⟨9, _⟩ => ⟨S_, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S2x352x1024, .f32⟩
  | .hbm, ⟨18, _⟩ => ⟨S_, .f32⟩
  | .hbm, ⟨19, _⟩ => ⟨S2x352x1024, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S2x352x1024, .f32⟩
  | .hbm, ⟨33, _⟩ => ⟨S_, .f32⟩
  | .hbm, ⟨34, _⟩ => ⟨S2x352x1024, .f32⟩
  | .hbm, ⟨35, _⟩ => ⟨S2x352x1024, .f32⟩
  | .hbm, ⟨36, _⟩ => ⟨S2x352x1024, .f32⟩
  | .hbm, ⟨37, _⟩ => ⟨S_, .f32⟩
  | .hbm, ⟨38, _⟩ => ⟨S2x352x1024, .f32⟩
  | .hbm, ⟨39, _⟩ => ⟨S2x352x1024, .f32⟩
  | .hbm, ⟨40, _⟩ => ⟨S2x352x1024, .f32⟩
  | .hbm, ⟨41, _⟩ => ⟨S_, .f32⟩
  | .hbm, ⟨42, _⟩ => ⟨S2x352x1024, .f32⟩
  | .hbm, ⟨43, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel19.lean ====
abbrev S8x1024x256 : Shape := ⟨3, ![8, 1024, 256]⟩
abbrev S2x1024x256 : Shape := ⟨3, ![2, 1024, 256]⟩
abbrev S8x128x256 : Shape := ⟨3, ![8, 128, 256]⟩
abbrev S1x128x256 : Shape := ⟨3, ![1, 128, 256]⟩
abbrev S128x256 : Shape := ⟨2, ![128, 256]⟩

abbrev nBuf : Space → Nat
  | .hbm => 9
  | .vmem => 18
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S2x1024x256, .f32⟩
  | .hbm, ⟨6, _⟩ => ⟨S2x1024x256, .f32⟩
  | .hbm, ⟨7, _⟩ => ⟨S2x1024x256, .f32⟩
  | .hbm, ⟨8, _⟩ => ⟨S2x1024x256, .f32⟩
  | .local _ .vmem, ⟨0, _⟩ => ⟨S8x128x256, .bf16⟩
  | .local _ .vmem, ⟨1, _⟩ => ⟨S8x128x256, .bf16⟩
  | .local _ .vmem, ⟨2, _⟩ => ⟨S8x128x256, .bf16⟩
  | .local _ .vmem, ⟨3, _⟩ => ⟨S8x128x256, .bf16⟩
  | .local _ .vmem, ⟨4, _⟩ => ⟨S1x128x256, .f32⟩
  | .local _ .vmem, ⟨5, _⟩ => ⟨S1x128x256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x256, .f32⟩
  | .local _ .vmem, ⟨11, _⟩ => ⟨S1x128x256, .f32⟩
  | .local _ .vmem, ⟨12, _⟩ => ⟨S1x128x256, .f32⟩
  | .local _ .vmem, ⟨13, _⟩ => ⟨S1x128x256, .f32⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  ![c0_i32_0.toNat, v1.toNat, c0_i32_1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8x1024x256 : Shape := ⟨3, ![8, 1024, 256]⟩
abbrev S2x1024x256 : Shape := ⟨3, ![2, 1024, 256]⟩
abbrev S1x8x1024x256 : Shape := ⟨4, ![1, 8, 1024, 256]⟩
abbrev S2x8x1024x256 : Shape := ⟨4, ![2, 8, 1024, 256]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S8x1024x256, .bf16⟩
  | .hbm, ⟨2, _⟩ => ⟨S2x1024x256, .f32⟩
  | .hbm, ⟨3, _⟩ => ⟨S2x1024x256, .f32⟩
  | .hbm, ⟨4, _⟩ => ⟨S2x1024x256, .f32⟩
  | .hbm, ⟨5, _⟩ => ⟨S1x8x1024x256, .bf16⟩
  | .hbm, ⟨6, _⟩ => ⟨S1x8x1024x256, .bf16⟩
  | .hbm, ⟨7, _⟩ => ⟨S2x8x1024x256, .bf16⟩
  | .hbm, ⟨8, _⟩ => ⟨S2x8x1024x256, .f32⟩
  | .hbm, ⟨9, _⟩ => ⟨S_, .f32⟩
  | .hbm, ⟨10, _⟩ => ⟨S2x1024x256, .f32⟩
  | .hbm, ⟨11, _⟩ => ⟨S_, .f32⟩
  | .hbm, ⟨12, _⟩ => ⟨S2x1024x256, .f32⟩
  | .hbm, ⟨13, _⟩ => ⟨S2x1024x256, .f32⟩
  | .hbm, ⟨14, _⟩ => ⟨S_, .f32⟩
  | .hbm, ⟨15, _⟩ => ⟨S2x1024x256, .f32⟩
  | .hbm, ⟨16, _⟩ => ⟨S2x1024x256, .f32⟩
  | .hbm, ⟨17, _⟩ => ⟨S2x1024x256, .f32⟩
  | .hbm, ⟨18, _⟩ => ⟨S_, .f32⟩
  | .hbm, ⟨19, _⟩ => ⟨S2x1024x256, .f32⟩
  | .hbm, ⟨20, _⟩ => ⟨S2x1024x256, .f32⟩
  | .hbm, ⟨21, _⟩ => ⟨S2x1024x256, .f32⟩
  | .hbm, ⟨22, _⟩ => ⟨S_, .f32⟩
  | .hbm, ⟨23, _⟩ => ⟨S2x1024x256, .f32⟩
  | .hbm, ⟨24, _⟩ => ⟨S2x1024x256, .f32⟩
  | .hbm, ⟨25, _⟩ => ⟨S2x1024x256, .f32⟩
  | .hbm, ⟨26, _⟩ => ⟨S_, .f32⟩
  | .hbm, ⟨27, _⟩ => ⟨S2x1024x256, .f32⟩
  | .hbm, ⟨28, _⟩ => ⟨S2x1024x256, .f32⟩
  | .hbm, ⟨29, _⟩ => ⟨S_, .f32⟩
  | .hbm, ⟨30, _⟩ => ⟨S2x1024x256, .f32⟩
  | .hbm, ⟨31, _⟩ => ⟨S2x1024x256, .f32⟩
  | .hbm, ⟨32, _⟩ => ⟨S2x1024x256, .f32⟩
  | .hbm, ⟨33, _⟩ => ⟨S_, .f32⟩
  | .hbm, ⟨34, _⟩ => ⟨S2x1024x256, .f32⟩
  | .hbm, ⟨35, _⟩ => ⟨S2x1024x256, .f32⟩
  | .hbm, ⟨36, _⟩ => ⟨S2x1024x256, .f32⟩
  | .hbm, ⟨37, _⟩ => ⟨S_, .f32⟩
  | .hbm, ⟨38, _⟩ => ⟨S2x1024x256, .f32⟩
  | .hbm, ⟨39, _⟩ => ⟨S2x1024x256, .f32⟩
  | .hbm, ⟨40, _⟩ => ⟨S2x1024x256, .f32⟩
  | .hbm, ⟨41, _⟩ => ⟨S_, .f32⟩
  | .hbm, ⟨42, _⟩ => ⟨S2x1024x256, .f32⟩
  | .hbm, ⟨43, _⟩ => ⟨S2x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Kernel20.lean ====
abbrev S32x1024 : Shape := ⟨2, ![32, 1024]⟩

abbrev nBuf : Space → Nat
  | .hbm => 7
  | .vmem => 7
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S32x1024, .f32⟩
  | .hbm, ⟨5, _⟩ => ⟨S32x1024, .f32⟩
  | .hbm, ⟨6, _⟩ => ⟨S32x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference20Ideal.lean ====
abbrev S32x1024 : Shape := ⟨2, ![32, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x1024, .f32⟩
  | .hbm, ⟨2, _⟩ => ⟨S32x1024, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024, .f32⟩
  | .hbm, ⟨11, _⟩ => ⟨S_, .f32⟩
  | .hbm, ⟨12, _⟩ => ⟨S32x1024, .f32⟩
  | .hbm, ⟨13, _⟩ => ⟨S32x1024, .f32⟩
  | .hbm, ⟨14, _⟩ => ⟨S32x1024, .f32⟩
  | .hbm, ⟨15, _⟩ => ⟨S_, .f32⟩
  | .hbm, ⟨16, _⟩ => ⟨S32x1024, .f32⟩
  | .hbm, ⟨17, _⟩ => ⟨S32x1024, .f32⟩
  | .hbm, ⟨18, _⟩ => ⟨S32x1024, .f32⟩
  | .hbm, ⟨19, _⟩ => ⟨S_, .f32⟩
  | .hbm, ⟨20, _⟩ => ⟨S32x1024, .f32⟩
  | .hbm, ⟨21, _⟩ => ⟨S32x1024, .f32⟩
  | .hbm, ⟨22, _⟩ => ⟨S_, .f32⟩
  | .hbm, ⟨23, _⟩ => ⟨S32x1024, .f32⟩
  | .hbm, ⟨24, _⟩ => ⟨S32x1024, .f32⟩
  | .hbm, ⟨25, _⟩ => ⟨S32x1024, .f32⟩
  | .hbm, ⟨26, _⟩ => ⟨S_, .f32⟩
  | .hbm, ⟨27, _⟩ => ⟨S32x1024, .f32⟩
  | .hbm, ⟨28, _⟩ => ⟨S32x1024, .f32⟩
  | .hbm, ⟨29, _⟩ => ⟨S32x1024, .f32⟩
  | .hbm, ⟨30, _⟩ => ⟨S_, .f32⟩
  | .hbm, ⟨31, _⟩ => ⟨S32x1024, .f32⟩
  | .hbm, ⟨32, _⟩ => ⟨S32x1024, .f32⟩
  | .hbm, ⟨33, _⟩ => ⟨S32x1024, .f32⟩
  | .hbm, ⟨34, _⟩ => ⟨S_, .f32⟩
  | .hbm, ⟨35, _⟩ => ⟨S32x1024, .f32⟩
  | .hbm, ⟨36, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 12
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S4096x1024, .bf16⟩
  | .hbm, ⟨5, _⟩ => ⟨S8x1024, .f32⟩
  | .hbm, ⟨6, _⟩ => ⟨S1x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .bf16⟩
  | .local _ .vmem, ⟨8, _⟩ => ⟨S512x1024, .bf16⟩
  | .local _ .vmem, ⟨9, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference21Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S4096x1024, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x1024, .f32⟩
  | .hbm, ⟨60, _⟩ => ⟨S4096x1024, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S1x1024, .f32⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel22.lean ====
abbrev S4096x1024 : Shape := ⟨2, ![4096, 1024]⟩
abbrev S1x1024 : Shape := ⟨2, ![1, 1024]⟩
abbrev S8x1024 : Shape := ⟨2, ![8, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .bf16⟩
  | .hbm, ⟨5, _⟩ => ⟨S8x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S8x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference22Ideal.lean ====
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S5x1024 : Shape := ⟨2, ![5, 1024]⟩
abbrev S8x1024 : Shape := ⟨2, ![8, 1024]⟩

abbrev nBuf : Space → Nat
  | .hbm => 114
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S1024, .f32⟩
  | .hbm, ⟨66, _⟩ => ⟨S4096x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S4096x1024, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x1024, .f32⟩
  | .hbm, ⟨79, _⟩ => ⟨S4096x1024, .f32⟩
  | .hbm, ⟨80, _⟩ => ⟨S4096x1, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096, .f32⟩
  | .hbm, ⟨95, _⟩ => ⟨S4096x1, .f32⟩
  | .hbm, ⟨96, _⟩ => ⟨S4096x1024, .f32⟩
  | .hbm, ⟨97, _⟩ => ⟨S4096x1, .f32⟩
  | .hbm, ⟨98, _⟩ => ⟨S_, .f32⟩
  | .hbm, ⟨99, _⟩ => ⟨S4096x1, .f32⟩
  | .hbm, ⟨100, _⟩ => ⟨S4096x1, .f32⟩
  | .hbm, ⟨101, _⟩ => ⟨S_, .f32⟩
  | .hbm, ⟨102, _⟩ => ⟨S4096, .f32⟩
  | .hbm, ⟨103, _⟩ => ⟨S4096x1024, .f32⟩
  | .hbm, ⟨104, _⟩ => ⟨S4096x1024, .f32⟩
  | .hbm, ⟨105, _⟩ => ⟨S1x1024, .f32⟩
  | .hbm, ⟨106, _⟩ => ⟨S1x1024, .f32⟩
  | .hbm, ⟨107, _⟩ => ⟨S4096x1024, .bf16⟩
  | .hbm, ⟨108, _⟩ => ⟨S_, .f32⟩
  | .hbm, ⟨109, _⟩ => ⟨S1024, .f32⟩
  | .hbm, ⟨110, _⟩ => ⟨S1x1024, .f32⟩
  | .hbm, ⟨111, _⟩ => ⟨S_, .f32⟩
  | .hbm, ⟨112, _⟩ => ⟨S5x1024, .f32⟩
  | .hbm, ⟨113, _⟩ => ⟨S8x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v32_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v32_1 : Ref sig .tc := ⟨.hbm, 54, rfl⟩
abbrev main_v32_0 : Ref sig .tc := ⟨.hbm, 55, rfl⟩
abbrev main_v33 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_cst_8 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_cst_10 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_11 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_14 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_15 : Ref sig .tc := ⟨.hbm, 98, rfl⟩
abbrev main_v63 : Ref sig .tc := ⟨.hbm, 99, rfl⟩
abbrev main_v64 : Ref sig .tc := ⟨.hbm, 100, rfl⟩
abbrev main_cst_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_17 : Ref sig .tc := ⟨.hbm, 108, rfl⟩
abbrev main_v71 : Ref sig .tc := ⟨.hbm, 109, rfl⟩
abbrev main_v72 : Ref sig .tc := ⟨.hbm, 110, rfl⟩
abbrev main_cst_18 : Ref sig .tc := ⟨.hbm, 111, rfl⟩
abbrev main_v73 : Ref sig .tc := ⟨.hbm, 112, rfl⟩
abbrev main_v74 : Ref sig .tc := ⟨.hbm, 113, rfl⟩

abbrev nD : Nat := 1
abbrev τ : Topo := Topo.v7x

variable {F : FTy → Type} [FloatOps F]
-- ==== Kernel23.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .local _ .vmem, ⟨0, _⟩ => ⟨S8x128x1024, .f32⟩
  | .local _ .vmem, ⟨1, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference23Ideal.lean ====
abbrev S8x128x1024 : Shape := ⟨3, ![8, 128, 1024]⟩
abbrev S_ : Shape := ⟨0, ![]⟩
abbrev S128x1024 : Shape := ⟨2, ![128, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S_, .f32⟩
  | .hbm, ⟨2, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Core.lean ====
/-
  THE SOFTMAX'S GRADIENT OVER THE EXTENDED REALS. One row of one head: scores `s`, the exponentials shifted by the row's maximum, the
  probabilities, and the gradient of the scores from the gradient `dp` of the probabilities, in the kernel's form (`softGrad`) and in
  the form that differentiating `e / Σ e` gives (`softVjp`). They agree at real scores, whatever `dp` is (`softVjp_eq`).
-/
module

public import Idealize.ShloMosaic.Lib.Pipeline.ValueKit
public import Mathlib.Data.Finset.Fold

@[expose] public section

set_option maxRecDepth 16384

noncomputable section

namespace Cert.Grad

open Idealize.ShloMosaic

/-- A sum times a nonnegative real, distributed. -/
theorem sum_mul_real {n : ℕ} (f : Fin n → EReal) (a : ℝ) (ha : 0 ≤ a) : (∑ k, f k) * (a : EReal) = ∑ k, f k * (a : EReal) := by
  have key : ∀ t : Finset (Fin n), (∑ k ∈ t, f k) * (a : EReal) = ∑ k ∈ t, f k * (a : EReal) := by
    intro t
    induction t using Finset.induction_on with
    | empty => simp
    | insert k t hk ih =>
      rw [Finset.sum_insert hk, Finset.sum_insert hk, EReal.right_distrib_of_nonneg_of_ne_top (EReal.coe_nonneg.mpr ha) (EReal.coe_ne_top a), ih]
  exact key Finset.univ

/-- A sum of reals, coerced. -/
theorem coe_sum {n : ℕ} (f : Fin n → ℝ) : ((∑ k, f k : ℝ) : EReal) = ∑ k, (f k : EReal) := by
  have key : ∀ t : Finset (Fin n), ((∑ k ∈ t, f k : ℝ) : EReal) = ∑ k ∈ t, (f k : EReal) := by
    intro t
    induction t using Finset.induction_on with
    | empty => simp
    | insert k t hk ih => rw [Finset.sum_insert hk, Finset.sum_insert hk, EReal.coe_add, ih]
  exact key Finset.univ

/-- A sum of products of reals is real. -/
theorem real_sum_mul {n : ℕ} (f g : Fin n → EReal) (hf : ∀ k, ∃ a : ℝ, f k = a) (hg : ∀ k, ∃ a : ℝ, g k = a) : ∃ a : ℝ, ∑ k, f k * g k = a := by
  choose a ha using hf
  choose b hb using hg
  refine ⟨∑ k, a k * b k, ?_⟩
  rw [coe_sum]
  exact Finset.sum_congr rfl fun k _ => by rw [ha, hb, EReal.coe_mul]

/-- The row's maximum, as both programs fold it. -/
def rowMax {n : ℕ} (s : Fin n → EReal) : EReal := Finset.univ.fold max (Ideal.ofBits .f32 0xFF800000#32) s

/-- The exponential shifted by the row's maximum. -/
def ex {n : ℕ} (s : Fin n → EReal) (m : Fin n) : EReal := Ideal.exp (s m - rowMax s)

/-- The probability. -/
def prob {n : ℕ} (s : Fin n → EReal) (m : Fin n) : EReal := Ideal.div (ex s m) (∑ k, ex s k)

/-- The gradient of the scaled score, as the kernel forms it from the probability. -/
def softGrad {n : ℕ} (s dp : Fin n → EReal) (m : Fin n) : EReal := prob s m * (dp m - ∑ k, dp k * prob s k)

/-- The gradient of the scaled score, as differentiating the quotient `e / Σ e` gives it. -/
def softVjp {n : ℕ} (s dp : Fin n → EReal) (m : Fin n) : EReal :=
  (Ideal.div (dp m) (∑ k, ex s k) + -(∑ k, dp k * Ideal.div 1 ((∑ k, ex s k) * ∑ k, ex s k) * ex s k)) * ex s m

theorem negInf_bits : Ideal.ofBits .f32 0xFF800000#32 = ⊥ := by
  simp [Ideal.ofBits, Ideal.ieee]

theorem le_rowMax {n : ℕ} (s : Fin n → EReal) (m : Fin n) : s m ≤ rowMax s := by
  unfold rowMax
  exact (Finset.le_fold_max _).mpr (.inr ⟨m, Finset.mem_univ m, le_refl _⟩)

theorem rowMax_ne_top {n : ℕ} (s : Fin n → EReal) (hs : ∀ k, s k ≠ ⊤) : rowMax s ≠ ⊤ := by
  unfold rowMax
  refine ne_of_lt ((Finset.fold_max_lt _).mpr ⟨by rw [negInf_bits]; exact bot_lt_top, fun k _ => lt_top_iff_ne_top.mpr (hs k)⟩)

/-- At real scores the shifted exponential is a positive real. -/
theorem ex_real {n : ℕ} (s : Fin n → EReal) (hs : ∀ k, ∃ a : ℝ, s k = a) (m : Fin n) : ∃ a : ℝ, 0 < a ∧ ex s m = a := by
  have h1 : rowMax s ≠ ⊤ := rowMax_ne_top s fun k => by obtain ⟨a, ha⟩ := hs k; rw [ha]; exact EReal.coe_ne_top a
  have h2 : rowMax s ≠ ⊥ := by
    obtain ⟨a, ha⟩ := hs m
    exact ne_of_gt (lt_of_lt_of_le (by rw [ha]; exact EReal.bot_lt_coe a) (le_rowMax s m))
  obtain ⟨a, ha⟩ := hs m
  lift rowMax s to ℝ using ⟨h1, h2⟩ with M hM
  refine ⟨Real.exp (a - M), Real.exp_pos _, ?_⟩
  unfold ex
  rw [← hM, ha, ← EReal.coe_sub, Ideal.exp_coe]

/-- THE GRADIENT: both forms agree at real scores, for every `dp`. -/
theorem softVjp_eq {n : ℕ} (s dp : Fin n → EReal) (hs : ∀ k, ∃ a : ℝ, s k = a) (m : Fin n) : softVjp s dp m = softGrad s dp m := by
  choose f hf0 hf using ex_real s hs
  have hS : ∑ k, ex s k = ((∑ k, f k : ℝ) : EReal) := by
    rw [coe_sum]
    exact Finset.sum_congr rfl fun k _ => hf k
  have hpos : 0 < ∑ k, f k := Finset.sum_pos (fun k _ => hf0 k) ⟨m, Finset.mem_univ m⟩
  generalize hSr : (∑ k, f k) = S at hS hpos
  have hne : S ≠ 0 := ne_of_gt hpos
  have hc : (0 : ℝ) ≤ 1 / S := by positivity
  have hp : ∀ k, prob s k = ((f k * (1 / S) : ℝ) : EReal) := fun k => by
    unfold prob
    rw [hS, hf, Ideal.div_coe hne, EReal.coe_mul]
  unfold softVjp softGrad
  rw [hp m, hS, hf m, ← EReal.coe_mul, Ideal.div_coe hne, Ideal.div_coe (mul_ne_zero hne hne), one_mul]
  have h3 : ∑ k, dp k * ((1 / (S * S) : ℝ) : EReal) * ex s k = (∑ k, dp k * prob s k) * ((1 / S : ℝ) : EReal) := by
    rw [sum_mul_real _ _ hc]
    refine Finset.sum_congr rfl fun k _ => ?_
    rw [hp, hf, mul_assoc, mul_assoc, ← EReal.coe_mul, ← EReal.coe_mul]
    congr 2
    field_simp
  rw [h3, ← EReal.neg_mul, ← EReal.right_distrib_of_nonneg_of_ne_top (EReal.coe_nonneg.mpr hc) (EReal.coe_ne_top _), mul_assoc, ← EReal.coe_mul, mul_comm (1 / S) (f m), ← sub_eq_add_neg, mul_comm]

/-- The scale `1/16` of the scores. -/
def c16 : EReal := Ideal.ofBits .f32 0x3D800000#32

/-- The scaled scores of one query row against the memory's keys. -/
def sc (q : Fin 256 → EReal) (k : Fin 256 → Fin 256 → EReal) (m : Fin 256) : EReal := (∑ d, q d * k m d) * c16

/-- The gradient of the probabilities: the row of the result's gradient against the memory's values. -/
def dpr (d : Fin 256 → EReal) (v : Fin 256 → Fin 256 → EReal) (m : Fin 256) : EReal := ∑ e, d e * v m e

/-- The gradient of the unscaled scores of one query row. -/
def dS (q : Fin 256 → EReal) (k : Fin 256 → Fin 256 → EReal) (d : Fin 256 → EReal) (v : Fin 256 → Fin 256 → EReal) (m : Fin 256) : EReal :=
  softGrad (sc q k) (dpr d v) m * c16

theorem c16_real : ∃ a : ℝ, c16 = a := by
  simp [c16, Ideal.ofBits, Ideal.ieee]
  exact ⟨_, (EReal.coe_mul _ _).symm⟩

/-- Finite rows have real scores. -/
theorem sc_real (q : Fin 256 → EReal) (k : Fin 256 → Fin 256 → EReal) (hq : ∀ d, ∃ a : ℝ, q d = a) (hk : ∀ m d, ∃ a : ℝ, k m d = a) (m : Fin 256) :
    ∃ a : ℝ, sc q k m = a := by
  obtain ⟨a, ha⟩ := real_sum_mul q (k m) hq (hk m)
  obtain ⟨b, hb⟩ := c16_real
  exact ⟨a * b, by unfold sc; rw [ha, hb, EReal.coe_mul]⟩

end Cert.Grad

end
-- ==== Proof.Heads.lean ====
/-
  WHAT THE BODY STORES FOR EACH HEAD, read at an index: the probabilities, the three gradients.
-/
module

public import proofs.«01_k».proof.Proof.Core
public import proofs.«01_k».proof.Proof.Gen.KernelIdeal.Value

@[expose] public section

set_option maxRecDepth 16384

noncomputable section

namespace Cert.KernelIdeal.Att

open Cert.KernelIdeal Cert.KernelIdeal.Gen Cert.Grad Idealize.ShloMosaic Idealize.ShloMosaic.TcCoe Idealize.SL.Sem

theorem prob_8 (q : Vec Ideal S512x256 .bf16) (k : Vec Ideal S256x256 .bf16) (i : Fin 512) (j : Fin 256) : k0_pay8 (F := Ideal) q k (ix2 i j) = prob (sc (fun d => q (ix2 i d)) (fun m d => k (ix2 m d))) j := by
  pointwise [k0_pay8]
  rfl

theorem prob_13 (q : Vec Ideal S512x256 .bf16) (k : Vec Ideal S256x256 .bf16) (i : Fin 512) (j : Fin 256) : k0_pay13 (F := Ideal) q k (ix2 i j) = prob (sc (fun d => q (ix2 i d)) (fun m d => k (ix2 m d))) j := by
  pointwise [k0_pay13]
  rfl

theorem prob_19 (q : Vec Ideal S512x256 .bf16) (k : Vec Ideal S256x256 .bf16) (i : Fin 512) (j : Fin 256) : k0_pay19 (F := Ideal) q k (ix2 i j) = prob (sc (fun d => q (ix2 i d)) (fun m d => k (ix2 m d))) j := by
  pointwise [k0_pay19]
  rfl

theorem ex_25 (q : Vec Ideal S512x256 .bf16) (k : Vec Ideal S256x256 .bf16) (i : Fin 512) (j : Fin 256) : k0_pay25 (F := Ideal) q k (ix2 i j) = ex (sc (fun d => q (ix2 i d)) (fun m d => k (ix2 m d))) j := by
  pointwise [k0_pay25]
  rfl

theorem prob_1 (q : Vec Ideal S512x256 .bf16) (k : Vec Ideal S256x256 .bf16) (i : Fin 512) (j : Fin 256) : k0_pay1 (F := Ideal) (k0_pay25 (F := Ideal) q k) (ix2 i j) = prob (sc (fun d => q (ix2 i d)) (fun m d => k (ix2 m d))) j := by
  pointwise [k0_pay1, ex_25]
  rfl

theorem ds_0 (q : Vec Ideal S512x256 .bf16) (k : Vec Ideal S256x256 .bf16) (d : Vec Ideal S512x256 .bf16) (v : Vec Ideal S256x256 .bf16) (i : Fin 512) (j : Fin 256) :
    k0_pay10 (F := Ideal) q k d v (ix2 i j) = dS (fun d => q (ix2 i d)) (fun m d => k (ix2 m d)) (fun e => d (ix2 i e)) (fun m e => v (ix2 m e)) j := by
  pointwise [k0_pay10, prob_8]
  rfl

theorem dq_0 (q : Vec Ideal S512x256 .bf16) (k : Vec Ideal S256x256 .bf16) (d : Vec Ideal S512x256 .bf16) (v : Vec Ideal S256x256 .bf16) (i : Fin 512) (e : Fin 256) :
    k0_pay11 (F := Ideal) k (k0_pay10 (F := Ideal) q k d v) (ix2 i e) = ∑ m, dS (fun d => q (ix2 i d)) (fun m d => k (ix2 m d)) (fun e => d (ix2 i e)) (fun m e => v (ix2 m e)) m * k (ix2 m e) := by
  pointwise [k0_pay11, ds_0]

theorem dk_0 (q : Vec Ideal S512x256 .bf16) (k : Vec Ideal S256x256 .bf16) (d : Vec Ideal S512x256 .bf16) (v : Vec Ideal S256x256 .bf16) (a : Vec Ideal S256x256 .f32) (m e : Fin 256) :
    k0_pay12 (F := Ideal) q (k0_pay10 (F := Ideal) q k d v) a (ix2 m e) = a (ix2 m e) + ∑ i : Fin 512, dS (fun d => q (ix2 i d)) (fun m d => k (ix2 m d)) (fun e => d (ix2 i e)) (fun m e => v (ix2 m e)) m * q (ix2 i e) := by
  pointwise [k0_pay12, ds_0]

theorem dv_0 (q : Vec Ideal S512x256 .bf16) (k : Vec Ideal S256x256 .bf16) (d : Vec Ideal S512x256 .bf16) (a : Vec Ideal S256x256 .f32) (m e : Fin 256) :
    k0_pay9 (F := Ideal) q k d a (ix2 m e) = a (ix2 m e) + ∑ i : Fin 512, prob (sc (fun d => q (ix2 i d)) (fun m d => k (ix2 m d))) m * d (ix2 i e) := by
  pointwise [k0_pay9, prob_8]

theorem ds_1 (q : Vec Ideal S512x256 .bf16) (k : Vec Ideal S256x256 .bf16) (d : Vec Ideal S512x256 .bf16) (v : Vec Ideal S256x256 .bf16) (i : Fin 512) (j : Fin 256) :
    k0_pay16 (F := Ideal) (k0_pay13 (F := Ideal) q k) (k0_pay14 (F := Ideal) d v) (ix2 i j) = dS (fun d => q (ix2 i d)) (fun m d => k (ix2 m d)) (fun e => d (ix2 i e)) (fun m e => v (ix2 m e)) j := by
  pointwise [k0_pay16, k0_pay14, prob_13]
  rfl

theorem dq_1 (q : Vec Ideal S512x256 .bf16) (k : Vec Ideal S256x256 .bf16) (d : Vec Ideal S512x256 .bf16) (v : Vec Ideal S256x256 .bf16) (i : Fin 512) (e : Fin 256) :
    k0_pay17 (F := Ideal) k (k0_pay13 (F := Ideal) q k) (k0_pay14 (F := Ideal) d v) (ix2 i e) = ∑ m, dS (fun d => q (ix2 i d)) (fun m d => k (ix2 m d)) (fun e => d (ix2 i e)) (fun m e => v (ix2 m e)) m * k (ix2 m e) := by
  pointwise [k0_pay17, ds_1]

theorem dk_1 (q : Vec Ideal S512x256 .bf16) (k : Vec Ideal S256x256 .bf16) (d : Vec Ideal S512x256 .bf16) (v : Vec Ideal S256x256 .bf16) (a : Vec Ideal S256x256 .f32) (m e : Fin 256) :
    k0_pay18 (F := Ideal) q (k0_pay13 (F := Ideal) q k) (k0_pay14 (F := Ideal) d v) a (ix2 m e) = a (ix2 m e) + ∑ i : Fin 512, dS (fun d => q (ix2 i d)) (fun m d => k (ix2 m d)) (fun e => d (ix2 i e)) (fun m e => v (ix2 m e)) m * q (ix2 i e) := by
  pointwise [k0_pay18, ds_1]

theorem dv_1 (q : Vec Ideal S512x256 .bf16) (k : Vec Ideal S256x256 .bf16) (d : Vec Ideal S512x256 .bf16) (a : Vec Ideal S256x256 .f32) (m e : Fin 256) :
    k0_pay15 (F := Ideal) q k d a (ix2 m e) = a (ix2 m e) + ∑ i : Fin 512, prob (sc (fun d => q (ix2 i d)) (fun m d => k (ix2 m d))) m * d (ix2 i e) := by
  pointwise [k0_pay15, prob_13]

theorem ds_2 (q : Vec Ideal S512x256 .bf16) (k : Vec Ideal S256x256 .bf16) (d : Vec Ideal S512x256 .bf16) (v : Vec Ideal S256x256 .bf16) (i : Fin 512) (j : Fin 256) :
    k0_pay22 (F := Ideal) (k0_pay19 (F := Ideal) q k) (k0_pay20 (F := Ideal) d v) (ix2 i j) = dS (fun d => q (ix2 i d)) (fun m d => k (ix2 m d)) (fun e => d (ix2 i e)) (fun m e => v (ix2 m e)) j := by
  pointwise [k0_pay22, k0_pay20, prob_19]
  rfl

theorem dq_2 (q : Vec Ideal S512x256 .bf16) (k : Vec Ideal S256x256 .bf16) (d : Vec Ideal S512x256 .bf16) (v : Vec Ideal S256x256 .bf16) (i : Fin 512) (e : Fin 256) :
    k0_pay23 (F := Ideal) k (k0_pay19 (F := Ideal) q k) (k0_pay20 (F := Ideal) d v) (ix2 i e) = ∑ m, dS (fun d => q (ix2 i d)) (fun m d => k (ix2 m d)) (fun e => d (ix2 i e)) (fun m e => v (ix2 m e)) m * k (ix2 m e) := by
  pointwise [k0_pay23, ds_2]

theorem dk_2 (q : Vec Ideal S512x256 .bf16) (k : Vec Ideal S256x256 .bf16) (d : Vec Ideal S512x256 .bf16) (v : Vec Ideal S256x256 .bf16) (a : Vec Ideal S256x256 .f32) (m e : Fin 256) :
    k0_pay24 (F := Ideal) q (k0_pay19 (F := Ideal) q k) (k0_pay20 (F := Ideal) d v) a (ix2 m e) = a (ix2 m e) + ∑ i : Fin 512, dS (fun d => q (ix2 i d)) (fun m d => k (ix2 m d)) (fun e => d (ix2 i e)) (fun m e => v (ix2 m e)) m * q (ix2 i e) := by
  pointwise [k0_pay24, ds_2]

theorem dv_2 (q : Vec Ideal S512x256 .bf16) (k : Vec Ideal S256x256 .bf16) (d : Vec Ideal S512x256 .bf16) (a : Vec Ideal S256x256 .f32) (m e : Fin 256) :
    k0_pay21 (F := Ideal) d (k0_pay19 (F := Ideal) q k) a (ix2 m e) = a (ix2 m e) + ∑ i : Fin 512, prob (sc (fun d => q (ix2 i d)) (fun m d => k (ix2 m d))) m * d (ix2 i e) := by
  pointwise [k0_pay21, prob_19]

theorem ds_3 (q : Vec Ideal S512x256 .bf16) (k : Vec Ideal S256x256 .bf16) (d : Vec Ideal S512x256 .bf16) (v : Vec Ideal S256x256 .bf16) (i : Fin 512) (j : Fin 256) :
    k0_pay3 (F := Ideal) d (k0_pay25 (F := Ideal) q k) v (ix2 i j) = dS (fun d => q (ix2 i d)) (fun m d => k (ix2 m d)) (fun e => d (ix2 i e)) (fun m e => v (ix2 m e)) j := by
  pointwise [k0_pay3, prob_1]
  rfl

theorem dq_3 (q : Vec Ideal S512x256 .bf16) (k : Vec Ideal S256x256 .bf16) (d : Vec Ideal S512x256 .bf16) (v : Vec Ideal S256x256 .bf16) (i : Fin 512) (e : Fin 256) :
    k0_pay4 (F := Ideal) k d (k0_pay25 (F := Ideal) q k) v (ix2 i e) = ∑ m, dS (fun d => q (ix2 i d)) (fun m d => k (ix2 m d)) (fun e => d (ix2 i e)) (fun m e => v (ix2 m e)) m * k (ix2 m e) := by
  pointwise [k0_pay4, ds_3]

theorem dk_3 (q : Vec Ideal S512x256 .bf16) (k : Vec Ideal S256x256 .bf16) (d : Vec Ideal S512x256 .bf16) (v : Vec Ideal S256x256 .bf16) (a : Vec Ideal S256x256 .f32) (m e : Fin 256) :
    k0_pay5 (F := Ideal) q d (k0_pay25 (F := Ideal) q k) v a (ix2 m e) = a (ix2 m e) + ∑ i : Fin 512, dS (fun d => q (ix2 i d)) (fun m d => k (ix2 m d)) (fun e => d (ix2 i e)) (fun m e => v (ix2 m e)) m * q (ix2 i e) := by
  pointwise [k0_pay5, ds_3]

theorem dv_3 (q : Vec Ideal S512x256 .bf16) (k : Vec Ideal S256x256 .bf16) (d : Vec Ideal S512x256 .bf16) (a : Vec Ideal S256x256 .f32) (m e : Fin 256) :
    k0_pay2 (F := Ideal) d (k0_pay25 (F := Ideal) q k) a (ix2 m e) = a (ix2 m e) + ∑ i : Fin 512, prob (sc (fun d => q (ix2 i d)) (fun m d => k (ix2 m d))) m * d (ix2 i e) := by
  pointwise [k0_pay2, prob_1]

end Cert.KernelIdeal.Att

end
-- ==== Proof.Arrays.lean ====
/-
  THE RESULT ARRAYS OF THE MEMORY ATTENTION'S GRADIENT. Each point of the grid takes 512 query rows. Its block of the queries' gradient is final;
  the gradients of the keys and values are accumulated over the points, so their sums over rows are the sums over all 4096 rows.
-/
module

public import proofs.«01_k».proof.Proof.Heads
public import Idealize.ShloMosaic.Lib.Pipeline.ReadBack
public import proofs.«01_k».proof.Proof.Gen.KernelIdeal.Value

@[expose] public section

set_option maxRecDepth 16384

noncomputable section

namespace Cert.KernelIdeal.Att

open Cert.KernelIdeal Cert.KernelIdeal.Gen Cert.Grad Idealize.ShloMosaic Idealize.ShloMosaic.TcCoe Idealize.SL.Sem

/-- The earliest store is not seen where a later one covers. -/
theorem canon_drop {S : Shape} {e : EltTy} {Val : EltTy → Type} [∀ e, Nonempty (Val e)] (p : View.Piece Val S e) :
    ∀ (L : List (View.Piece Val S e)) (y : S.Idx) (_ : ∃ q ∈ L, y ∈ q.1.set), View.canon (L ++ [p]) y = View.canon L y
  | [], _, hy => by obtain ⟨q, hq, _⟩ := hy; simp at hq
  | q :: L, y, hy => by
    by_cases hm : y ∈ q.1.set
    · obtain ⟨x, rfl⟩ := q.1.exists_idx_of_mem hm
      rw [List.cons_append, show q.1.idx x = q.1.emb x from rfl, View.canon_cons_emb, View.canon_cons_emb]
    · rw [List.cons_append, View.canon_cons_of_not_mem _ _ hm, View.canon_cons_of_not_mem _ _ hm]
      refine canon_drop p L y ?_
      obtain ⟨r, hr, hyr⟩ := hy
      rcases List.mem_cons.mp hr with rfl | hr'
      · exact absurd hyr hm
      · exact ⟨r, hr', hyr⟩

/-- Head `h` of query row `r`: columns `5120 + 256 h` of the projection. -/
def qr (X : S4096x9216.Idx → EReal) (r : Fin 4096) (h : Fin 4) (d : Fin 256) : EReal := X (ix2 r ⟨5120 + (h.val * 256 + d.val), by omega⟩)

/-- Head `h` of the memory's keys. -/
def kr (K : S256x2048.Idx → EReal) (h : Fin 4) (m d : Fin 256) : EReal := K (ix2 m ⟨h.val * 256 + d.val, by omega⟩)

/-- Head `h` of the memory's values. -/
def vr (K : S256x2048.Idx → EReal) (h : Fin 4) (m e : Fin 256) : EReal := K (ix2 m ⟨1024 + (h.val * 256 + e.val), by omega⟩)

/-- Head `h` of row `r` of the result's gradient. -/
def dr (D : S4096x1024.Idx → EReal) (r : Fin 4096) (h : Fin 4) (e : Fin 256) : EReal := D (ix2 r ⟨h.val * 256 + e.val, by omega⟩)

/-- The head a column belongs to, and the column within it. -/
def hd (x : Fin 1024) : Fin 4 := ⟨x.val / 256, by omega⟩
def cl (x : Fin 1024) : Fin 256 := ⟨x.val % 256, by omega⟩

variable (X : S4096x9216.Idx → EReal) (K : S256x2048.Idx → EReal) (D : S4096x1024.Idx → EReal)

/-- The gradient of the scores of row `r`, head `h`. -/
def gS (r : Fin 4096) (h : Fin 4) (j : Fin 256) : EReal := dS (qr X r h) (kr K h) (dr D r h) (vr K h) j

/-- The gradient of the queries. -/
def gQ (i : S4096x1024.Idx) : EReal := ∑ j : Fin 256, gS X K D (i 0) (hd (i 1)) j * kr K (hd (i 1)) j (cl (i 1))

/-- Row `r`'s part of the gradient of the keys, and of the values. -/
def tK (r : Fin 4096) (i : S256x1024.Idx) : EReal := gS X K D r (hd (i 1)) (i 0) * qr X r (hd (i 1)) (cl (i 1))
def tV (r : Fin 4096) (i : S256x1024.Idx) : EReal := prob (sc (qr X r (hd (i 1))) (kr K (hd (i 1)))) (i 0) * dr D r (hd (i 1)) (cl (i 1))

theorem gQ_of (i : S4096x1024.Idx) (r : Fin 4096) (h : Fin 4) (e : Fin 256) (hr : (i 0 : ℕ) = r) (hc : (i 1 : ℕ) = h * 256 + e)
    (q : Fin 256 → EReal) (k : Fin 256 → Fin 256 → EReal) (d : Fin 256 → EReal) (v : Fin 256 → Fin 256 → EReal) (k' : Fin 256 → EReal)
    (hq : ∀ a, q a = qr X r h a) (hk : ∀ j a, k j a = kr K h j a) (hd' : ∀ a, d a = dr D r h a) (hv : ∀ j a, v j a = vr K h j a) (hk' : ∀ j, k' j = kr K h j e) :
    ∑ j, dS q k d v j * k' j = gQ X K D i := by
  obtain rfl : q = qr X r h := funext hq
  obtain rfl : k = kr K h := funext fun j => funext (hk j)
  obtain rfl : d = dr D r h := funext hd'
  obtain rfl : v = vr K h := funext fun j => funext (hv j)
  obtain rfl : k' = fun j => kr K h j e := funext hk'
  have e0 : i 0 = r := Fin.ext hr
  have e1 : hd (i 1) = h := Fin.ext (by show (i 1 : ℕ) / 256 = h; omega)
  have e2 : cl (i 1) = e := Fin.ext (by show (i 1 : ℕ) % 256 = e; omega)
  unfold gQ
  rw [e0, e1, e2]
  rfl

theorem tK_of (i : S256x1024.Idx) (r : Fin 4096) (h : Fin 4) (j e : Fin 256) (hr : (i 0 : ℕ) = j) (hc : (i 1 : ℕ) = h * 256 + e)
    (q : Fin 256 → EReal) (k : Fin 256 → Fin 256 → EReal) (d : Fin 256 → EReal) (v : Fin 256 → Fin 256 → EReal) (q' : EReal)
    (hq : ∀ a, q a = qr X r h a) (hk : ∀ j a, k j a = kr K h j a) (hd' : ∀ a, d a = dr D r h a) (hv : ∀ j a, v j a = vr K h j a) (hq' : q' = qr X r h e) :
    dS q k d v j * q' = tK X K D r i := by
  obtain rfl : q = qr X r h := funext hq
  obtain rfl : k = kr K h := funext fun j => funext (hk j)
  obtain rfl : d = dr D r h := funext hd'
  obtain rfl : v = vr K h := funext fun j => funext (hv j)
  subst hq'
  have e0 : i 0 = j := Fin.ext hr
  have e1 : hd (i 1) = h := Fin.ext (by show (i 1 : ℕ) / 256 = h; omega)
  have e2 : cl (i 1) = e := Fin.ext (by show (i 1 : ℕ) % 256 = e; omega)
  unfold tK
  rw [e0, e1, e2]
  rfl

theorem tV_of (i : S256x1024.Idx) (r : Fin 4096) (h : Fin 4) (j e : Fin 256) (hr : (i 0 : ℕ) = j) (hc : (i 1 : ℕ) = h * 256 + e)
    (q : Fin 256 → EReal) (k : Fin 256 → Fin 256 → EReal) (d' : EReal)
    (hq : ∀ a, q a = qr X r h a) (hk : ∀ j a, k j a = kr K h j a) (hd' : d' = dr D r h e) :
    prob (sc q k) j * d' = tV X K D r i := by
  obtain rfl : q = qr X r h := funext hq
  obtain rfl : k = kr K h := funext fun j => funext (hk j)
  subst hd'
  have e0 : i 0 = j := Fin.ext hr
  have e1 : hd (i 1) = h := Fin.ext (by show (i 1 : ℕ) / 256 = h; omega)
  have e2 : cl (i 1) = e := Fin.ext (by show (i 1 : ℕ) % 256 = e; omega)
  unfold tV
  rw [e0, e1, e2]

variable (m : (ℓ : Loc nD τ sig) → Buf (Elt Ideal) ℓ)

theorem idx : ∀ t : Fin cfg0.N, win0_0.index t = ![t.val, 5] ∧ win0_1.index t = ![0, 0] ∧ win0_2.index t = ![t.val, 0] ∧ win0_3.index t = ![t.val, 0] :=
  (by decide +kernel : ∀ t : Fin grid0.N, _)

theorem lt8 (t : Fin cfg0.N) : t.val < 8 := lt_of_lt_of_eq t.isLt N_0

/-- The row of the whole array that row `i` of point `t`'s block is. -/
def row (t : Fin cfg0.N) (i : Fin 512) : Fin 4096 := ⟨t.val * 512 + i.val, by have := lt8 t; omega⟩

/-- The argument arrays. -/
abbrev aX (c : Dev nD) : S4096x9216.Idx → EReal := m ((c : Thread nD τ).loc main_arg0)
abbrev aK (c : Dev nD) : S256x2048.Idx → EReal := m ((c : Thread nD τ).loc main_arg1)
abbrev aD (c : Dev nD) : S4096x1024.Idx → EReal := m ((c : Thread nD τ).loc main_arg2)

/-- The staged blocks at an index. -/
theorem blkq (c : Dev nD) (t : Fin cfg0.N) (h : Fin 4) (i : Fin 512) (x : Fin 1024) (d : Fin 256) (hx : (x : ℕ) = h * 256 + d) :
    iblk m c 0 t (ix2 i x : S512x1024.Idx) = qr (aX m c) (row t i) h d := by
  have := lt8 t
  unfold qr aX row
  blk_ext [iblk, V, idx t]

theorem blkk (c : Dev nD) (t : Fin cfg0.N) (h : Fin 4) (j : Fin 256) (x : Fin 2048) (d : Fin 256) (hx : (x : ℕ) = h * 256 + d) :
    iblk m c 1 t (ix2 j x : S256x2048.Idx) = kr (aK m c) h j d := by
  unfold kr aK
  blk_ext [iblk, V, idx t]

theorem blkv (c : Dev nD) (t : Fin cfg0.N) (h : Fin 4) (j : Fin 256) (x : Fin 2048) (d : Fin 256) (hx : (x : ℕ) = 1024 + (h * 256 + d)) :
    iblk m c 1 t (ix2 j x : S256x2048.Idx) = vr (aK m c) h j d := by
  unfold vr aK
  blk_ext [iblk, V, idx t]

theorem blkd (c : Dev nD) (t : Fin cfg0.N) (h : Fin 4) (i : Fin 512) (x : Fin 1024) (d : Fin 256) (hx : (x : ℕ) = h * 256 + d) :
    iblk m c 2 t (ix2 i x : S512x1024.Idx) = dr (aD m c) (row t i) h d := by
  have := lt8 t
  unfold dr aD row
  blk_ext [iblk, V, idx t]

theorem point3_A (c : Dev nD) (t : Fin cfg0.N) (h : t.val % 8 = 0) (y : S512x1024.Idx) :
    (outsAt0 m c t.val t.isLt).1 y = gQ (aX m c) (aK m c) (aD m c) (((cfg0.win 3).blk t).view.emb y) := by
  rw [outsAt0_A m c t h]; frame_out
  clear h
  have ht := lt8 t
  canon_tiles x h
  case piece0 =>
    idx_vars x
    rw [dq_3]
    refine gQ_of _ _ _ _ (row t x0) 3 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 3 _ _ a (by simp)
    · pointwise; exact blkk m c t 3 _ _ a (by simp)
    · pointwise; exact blkd m c t 3 _ _ a (by simp)
    · pointwise; exact blkv m c t 3 _ _ a (by simp <;> omega)
    · pointwise; exact blkk m c t 3 _ _ x1 (by simp)
  case piece1 =>
    idx_vars x
    rw [dq_2]
    refine gQ_of _ _ _ _ (row t x0) 2 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 2 _ _ a (by simp)
    · pointwise; exact blkk m c t 2 _ _ a (by simp)
    · pointwise; exact blkd m c t 2 _ _ a (by simp)
    · pointwise; exact blkv m c t 2 _ _ a (by simp <;> omega)
    · pointwise; exact blkk m c t 2 _ _ x1 (by simp)
  case piece2 =>
    idx_vars x
    rw [dq_1]
    refine gQ_of _ _ _ _ (row t x0) 1 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 1 _ _ a (by simp)
    · pointwise; exact blkk m c t 1 _ _ a (by simp)
    · pointwise; exact blkd m c t 1 _ _ a (by simp)
    · pointwise; exact blkv m c t 1 _ _ a (by simp <;> omega)
    · pointwise; exact blkk m c t 1 _ _ x1 (by simp)
  case piece3 =>
    idx_vars x
    rw [dq_0]
    refine gQ_of _ _ _ _ (row t x0) 0 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 0 _ _ a (by simp)
    · pointwise; exact blkk m c t 0 _ _ a (by simp)
    · pointwise; exact blkd m c t 0 _ _ a (by simp)
    · pointwise; exact blkv m c t 0 _ _ a (by simp)
    · pointwise; exact blkk m c t 0 _ _ x1 (by simp)

theorem point3_B (c : Dev nD) (t : Fin cfg0.N) (h : ¬t.val % 8 = 0) (y : S512x1024.Idx) :
    (outsAt0 m c t.val t.isLt).1 y = gQ (aX m c) (aK m c) (aD m c) (((cfg0.win 3).blk t).view.emb y) := by
  rw [outsAt0_B m c t h]; frame_out
  clear h
  have ht := lt8 t
  canon_tiles x h
  case piece0 =>
    idx_vars x
    rw [dq_3]
    refine gQ_of _ _ _ _ (row t x0) 3 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 3 _ _ a (by simp)
    · pointwise; exact blkk m c t 3 _ _ a (by simp)
    · pointwise; exact blkd m c t 3 _ _ a (by simp)
    · pointwise; exact blkv m c t 3 _ _ a (by simp <;> omega)
    · pointwise; exact blkk m c t 3 _ _ x1 (by simp)
  case piece1 =>
    idx_vars x
    rw [dq_2]
    refine gQ_of _ _ _ _ (row t x0) 2 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 2 _ _ a (by simp)
    · pointwise; exact blkk m c t 2 _ _ a (by simp)
    · pointwise; exact blkd m c t 2 _ _ a (by simp)
    · pointwise; exact blkv m c t 2 _ _ a (by simp <;> omega)
    · pointwise; exact blkk m c t 2 _ _ x1 (by simp)
  case piece2 =>
    idx_vars x
    rw [dq_1]
    refine gQ_of _ _ _ _ (row t x0) 1 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 1 _ _ a (by simp)
    · pointwise; exact blkk m c t 1 _ _ a (by simp)
    · pointwise; exact blkd m c t 1 _ _ a (by simp)
    · pointwise; exact blkv m c t 1 _ _ a (by simp <;> omega)
    · pointwise; exact blkk m c t 1 _ _ x1 (by simp)
  case piece3 =>
    idx_vars x
    rw [dq_0]
    refine gQ_of _ _ _ _ (row t x0) 0 x1 ?_ ?_ _ _ _ _ _ (fun a => ?_) (fun j a => ?_) (fun a => ?_) (fun j a => ?_) (fun j => ?_)
    · blk_simp [idx t]; simp only [row]; omega
    · blk_simp [idx t]; simp; omega
    · pointwise; exact blkq m c t 0 _ _ a (by simp)
    · pointwise; exact blkk m c t 0 _ _ a (by simp)
    · pointwise; exact blkd m c t 0 _ _ a (by simp)
    · pointwise; exact blkv m c t 0 _ _ a (by simp)
    · pointwise; exact blkk m c t 0 _ _ x1 (by simp)

theorem final3 (c : Dev nD) : (dats m 0 c).arrAt 3 (cfgs 0).N = gQ (aX m c) (aK m c) (aD m c) := by
  refine (dats m 0 c).arrAt_eq_of_covers 3 _ (by decide +kernel) fun t hf y => ?_
  blk_simp
  rw [after0_3]
  by_cases h : t.val % 8 = 0
  · exact point3_A m c t h y
  · exact point3_B m c t h y

theorem stepA4 (c : Dev nD) (t : Fin cfg0.N) (h : t.val % 8 = 0) (y : S256x1024.Idx) :
    (outsAt0 m c t.val t.isLt).2.1 y = (0 : EReal) + ∑ i : Fin 512, tK (aX m c) (aK m c) (aD m c) (row t i) y := by
  rw [outsAt0_A m c t h]; frame_out
  simp (disch := first | rfl | decide) only [↓View.readCov_skip, ↓View.readCov_fill]
  clear h
  refine (canon_drop _ [_, _, _, _] y (View.cover_of_tiled _ ![256, 256] (by rfl) y)).trans ?_
  canon_tiles x h
  case piece0 =>
    idx_vars x
    rw [dk_3]
    refine congrArg₂ (· + ·) (by pointwise [k0_pay6]) (Finset.sum_congr rfl fun i _ => ?_)
    refine tK_of _ _ _ _ (row t i) 3 x0 x1 h0 (by simp; omega) _ _ _ _ _ (fun a => ?_) (fun j a => ?_) (fun a => ?_) (fun j a => ?_) ?_
    · pointwise; exact blkq m c t 3 _ _ a (by simp)
    · pointwise; exact blkk m c t 3 _ _ a (by simp)
    · pointwise; exact blkd m c t 3 _ _ a (by simp)
    · pointwise; exact blkv m c t 3 _ _ a (by simp <;> omega)
    · pointwise; exact blkq m c t 3 _ _ x1 (by simp)
  case piece1 =>
    idx_vars x
    rw [dk_2]
    refine congrArg₂ (· + ·) (by pointwise [k0_pay6]) (Finset.sum_congr rfl fun i _ => ?_)
    refine tK_of _ _ _ _ (row t i) 2 x0 x1 h0 (by simp; omega) _ _ _ _ _ (fun a => ?_) (fun j a => ?_) (fun a => ?_) (fun j a => ?_) ?_
    · pointwise; exact blkq m c t 2 _ _ a (by simp)
    · pointwise; exact blkk m c t 2 _ _ a (by simp)
    · pointwise; exact blkd m c t 2 _ _ a (by simp)
    · pointwise; exact blkv m c t 2 _ _ a (by simp <;> omega)
    · pointwise; exact blkq m c t 2 _ _ x1 (by simp)
  case piece2 =>
    idx_vars x
    rw [dk_1]
    refine congrArg₂ (· + ·) (by pointwise [k0_pay6]) (Finset.sum_congr rfl fun i _ => ?_)
    refine tK_of _ _ _ _ (row t i) 1 x0 x1 h0 (by simp; omega) _ _ _ _ _ (fun a => ?_) (fun j a => ?_) (fun a => ?_) (fun j a => ?_) ?_
    · pointwise; exact blkq m c t 1 _ _ a (by simp)
    · pointwise; exact blkk m c t 1 _ _ a (by simp)
    · pointwise; exact blkd m c t 1 _ _ a (by simp)
    · pointwise; exact blkv m c t 1 _ _ a (by simp <;> omega)
    · pointwise; exact blkq m c t 1 _ _ x1 (by simp)
  case piece3 =>
    idx_vars x
    rw [dk_0]
    refine congrArg₂ (· + ·) (by pointwise [k0_pay6]) (Finset.sum_congr rfl fun i _ => ?_)
    refine tK_of _ _ _ _ (row t i) 0 x0 x1 h0 (by simp; omega) _ _ _ _ _ (fun a => ?_) (fun j a => ?_) (fun a => ?_) (fun j a => ?_) ?_
    · pointwise; exact blkq m c t 0 _ _ a (by simp)
    · pointwise; exact blkk m c t 0 _ _ a (by simp)
    · pointwise; exact blkd m c t 0 _ _ a (by simp)
    · pointwise; exact blkv m c t 0 _ _ a (by simp)
    · pointwise; exact blkq m c t 0 _ _ x1 (by simp)

theorem stepB4 (c : Dev nD) (t : Fin cfg0.N) (h : ¬t.val % 8 = 0) (y : S256x1024.Idx) :
    (outsAt0 m c t.val t.isLt).2.1 y = (outsAt0 m c (t.val - 1) (Nat.lt_of_le_of_lt (Nat.sub_le _ _) t.isLt)).2.1 y + ∑ i : Fin 512, tK (aX m c) (aK m c) (aD m c) (row t i) y := by
  rw [outsAt0_B m c t h]; frame_out
  clear h
  generalize (outsAt0 m c (t.val - 1) (Nat.lt_of_le_of_lt (Nat.sub_le _ _) t.isLt)).2.1 = acc
  canon_tiles x h
  case piece0 =>
    idx_vars x
    rw [dk_3]
    refine congrArg₂ (· + ·) (by pointwise; blk_ext) (Finset.sum_congr rfl fun i _ => ?_)
    refine tK_of _ _ _ _ (row t i) 3 x0 x1 h0 (by simp; omega) _ _ _ _ _ (fun a => ?_) (fun j a => ?_) (fun a => ?_) (fun j a => ?_) ?_
    · pointwise; exact blkq m c t 3 _ _ a (by simp)
    · pointwise; exact blkk m c t 3 _ _ a (by simp)
    · pointwise; exact blkd m c t 3 _ _ a (by simp)
    · pointwise; exact blkv m c t 3 _ _ a (by simp <;> omega)
    · pointwise; exact blkq m c t 3 _ _ x1 (by simp)
  case piece1 =>
    idx_vars x
    rw [dk_2]
    refine congrArg₂ (· + ·) (by pointwise; blk_ext) (Finset.sum_congr rfl fun i _ => ?_)
    refine tK_of _ _ _ _ (row t i) 2 x0 x1 h0 (by simp; omega) _ _ _ _ _ (fun a => ?_) (fun j a => ?_) (fun a => ?_) (fun j a => ?_) ?_
    · pointwise; exact blkq m c t 2 _ _ a (by simp)
    · pointwise; exact blkk m c t 2 _ _ a (by simp)
    · pointwise; exact blkd m c t 2 _ _ a (by simp)
    · pointwise; exact blkv m c t 2 _ _ a (by simp <;> omega)
    · pointwise; exact blkq m c t 2 _ _ x1 (by simp)
  case piece2 =>
    idx_vars x
    rw [dk_1]
    refine congrArg₂ (· + ·) (by pointwise; blk_ext) (Finset.sum_congr rfl fun i _ => ?_)
    refine tK_of _ _ _ _ (row t i) 1 x0 x1 h0 (by simp; omega) _ _ _ _ _ (fun a => ?_) (fun j a => ?_) (fun a => ?_) (fun j a => ?_) ?_
    · pointwise; exact blkq m c t 1 _ _ a (by simp)
    · pointwise; exact blkk m c t 1 _ _ a (by simp)
    · pointwise; exact blkd m c t 1 _ _ a (by simp)
    · pointwise; exact blkv m c t 1 _ _ a (by simp <;> omega)
    · pointwise; exact blkq m c t 1 _ _ x1 (by simp)
  case piece3 =>
    idx_vars x
    rw [dk_0]
    refine congrArg₂ (· + ·) (by pointwise; blk_ext) (Finset.sum_congr rfl fun i _ => ?_)
    refine tK_of _ _ _ _ (row t i) 0 x0 x1 h0 (by simp; omega) _ _ _ _ _ (fun a => ?_) (fun j a => ?_) (fun a => ?_) (fun j a => ?_) ?_
    · pointwise; exact blkq m c t 0 _ _ a (by simp)
    · pointwise; exact blkk m c t 0 _ _ a (by simp)
    · pointwise; exact blkd m c t 0 _ _ a (by simp)
    · pointwise; exact blkv m c t 0 _ _ a (by simp)
    · pointwise; exact blkq m c t 0 _ _ x1 (by simp)

theorem final4 (c : Dev nD) : (dats m 0 c).arrAt 4 (cfgs 0).N = fun i => ∑ r : Fin 4096, tK (aX m c) (aK m c) (aD m c) r i := by
  refine (dats m 0 c).arrAt_eq_of_after_last 4 t0_7 (by decide +kernel) _ fun j => ?_
  blk_simp
  rw [after0_4, Pipeline.eq_sum_fin_of_reset_step_apply_last (fun n h => (outsAt0 m c n h).2.1) 8 (fun _ => (0 : EReal))
    (fun p j => ∑ i : Fin 512, tK (aX m c) (aK m c) (aD m c) (row p i) j)
    (fun t h j => stepA4 m c t h j) (fun t h j => stepB4 m c t h j) (le_of_eq N_0) t0_7 rfl j, zero_add]
  exact Fin.sum_mul_add_congr fun s k hl => rfl

theorem stepA5 (c : Dev nD) (t : Fin cfg0.N) (h : t.val % 8 = 0) (y : S256x1024.Idx) :
    (outsAt0 m c t.val t.isLt).2.2 y = (0 : EReal) + ∑ i : Fin 512, tV (aX m c) (aK m c) (aD m c) (row t i) y := by
  rw [outsAt0_A m c t h]; frame_out
  simp (disch := first | rfl | decide) only [↓View.readCov_skip, ↓View.readCov_fill]
  clear h
  refine (canon_drop _ [_, _, _, _] y (View.cover_of_tiled _ ![256, 256] (by rfl) y)).trans ?_
  canon_tiles x h
  case piece0 =>
    idx_vars x
    rw [dv_3]
    refine congrArg₂ (· + ·) (by pointwise [k0_pay7]) (Finset.sum_congr rfl fun i _ => ?_)
    refine tV_of _ _ _ _ (row t i) 3 x0 x1 h0 (by simp; omega) _ _ _ (fun a => ?_) (fun j a => ?_) ?_
    · pointwise; exact blkq m c t 3 _ _ a (by simp)
    · pointwise; exact blkk m c t 3 _ _ a (by simp)
    · pointwise; exact blkd m c t 3 _ _ x1 (by simp)
  case piece1 =>
    idx_vars x
    rw [dv_2]
    refine congrArg₂ (· + ·) (by pointwise [k0_pay7]) (Finset.sum_congr rfl fun i _ => ?_)
    refine tV_of _ _ _ _ (row t i) 2 x0 x1 h0 (by simp; omega) _ _ _ (fun a => ?_) (fun j a => ?_) ?_
    · pointwise; exact blkq m c t 2 _ _ a (by simp)
    · pointwise; exact blkk m c t 2 _ _ a (by simp)
    · pointwise; exact blkd m c t 2 _ _ x1 (by simp)
  case piece2 =>
    idx_vars x
    rw [dv_1]
    refine congrArg₂ (· + ·) (by pointwise [k0_pay7]) (Finset.sum_congr rfl fun i _ => ?_)
    refine tV_of _ _ _ _ (row t i) 1 x0 x1 h0 (by simp; omega) _ _ _ (fun a => ?_) (fun j a => ?_) ?_
    · pointwise; exact blkq m c t 1 _ _ a (by simp)
    · pointwise; exact blkk m c t 1 _ _ a (by simp)
    · pointwise; exact blkd m c t 1 _ _ x1 (by simp)
  case piece3 =>
    idx_vars x
    rw [dv_0]
    refine congrArg₂ (· + ·) (by pointwise [k0_pay7]) (Finset.sum_congr rfl fun i _ => ?_)
    refine tV_of _ _ _ _ (row t i) 0 x0 x1 h0 (by simp; omega) _ _ _ (fun a => ?_) (fun j a => ?_) ?_
    · pointwise; exact blkq m c t 0 _ _ a (by simp)
    · pointwise; exact blkk m c t 0 _ _ a (by simp)
    · pointwise; exact blkd m c t 0 _ _ x1 (by simp)

theorem stepB5 (c : Dev nD) (t : Fin cfg0.N) (h : ¬t.val % 8 = 0) (y : S256x1024.Idx) :
    (outsAt0 m c t.val t.isLt).2.2 y = (outsAt0 m c (t.val - 1) (Nat.lt_of_le_of_lt (Nat.sub_le _ _) t.isLt)).2.2 y + ∑ i : Fin 512, tV (aX m c) (aK m c) (aD m c) (row t i) y := by
  rw [outsAt0_B m c t h]; frame_out
  clear h
  generalize (outsAt0 m c (t.val - 1) (Nat.lt_of_le_of_lt (Nat.sub_le _ _) t.isLt)).2.2 = acc
  canon_tiles x h
  case piece0 =>
    idx_vars x
    rw [dv_3]
    refine congrArg₂ (· + ·) (by pointwise; blk_ext) (Finset.sum_congr rfl fun i _ => ?_)
    refine tV_of _ _ _ _ (row t i) 3 x0 x1 h0 (by simp; omega) _ _ _ (fun a => ?_) (fun j a => ?_) ?_
    · pointwise; exact blkq m c t 3 _ _ a (by simp)
    · pointwise; exact blkk m c t 3 _ _ a (by simp)
    · pointwise; exact blkd m c t 3 _ _ x1 (by simp)
  case piece1 =>
    idx_vars x
    rw [dv_2]
    refine congrArg₂ (· + ·) (by pointwise; blk_ext) (Finset.sum_congr rfl fun i _ => ?_)
    refine tV_of _ _ _ _ (row t i) 2 x0 x1 h0 (by simp; omega) _ _ _ (fun a => ?_) (fun j a => ?_) ?_
    · pointwise; exact blkq m c t 2 _ _ a (by simp)
    · pointwise; exact blkk m c t 2 _ _ a (by simp)
    · pointwise; exact blkd m c t 2 _ _ x1 (by simp)
  case piece2 =>
    idx_vars x
    rw [dv_1]
    refine congrArg₂ (· + ·) (by pointwise; blk_ext) (Finset.sum_congr rfl fun i _ => ?_)
    refine tV_of _ _ _ _ (row t i) 1 x0 x1 h0 (by simp; omega) _ _ _ (fun a => ?_) (fun j a => ?_) ?_
    · pointwise; exact blkq m c t 1 _ _ a (by simp)
    · pointwise; exact blkk m c t 1 _ _ a (by simp)
    · pointwise; exact blkd m c t 1 _ _ x1 (by simp)
  case piece3 =>
    idx_vars x
    rw [dv_0]
    refine congrArg₂ (· + ·) (by pointwise; blk_ext) (Finset.sum_congr rfl fun i _ => ?_)
    refine tV_of _ _ _ _ (row t i) 0 x0 x1 h0 (by simp; omega) _ _ _ (fun a => ?_) (fun j a => ?_) ?_
    · pointwise; exact blkq m c t 0 _ _ a (by simp)
    · pointwise; exact blkk m c t 0 _ _ a (by simp)
    · pointwise; exact blkd m c t 0 _ _ x1 (by simp)

theorem final5 (c : Dev nD) : (dats m 0 c).arrAt 5 (cfgs 0).N = fun i => ∑ r : Fin 4096, tV (aX m c) (aK m c) (aD m c) r i := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => (0 : EReal))
    (fun p j => ∑ i : Fin 512, tV (aX m c) (aK m c) (aD m c) (row p i) j)
    (fun t h j => stepA5 m c t h j) (fun t h j => stepB5 m c t h j) (le_of_eq N_0) t0_7 rfl j, zero_add]
  exact Fin.sum_mul_add_congr fun s k hl => rfl

end Cert.KernelIdeal.Att

end
-- ==== Proof.Ref.lean ====
/-
  THE REFERENCE, one value at a time: the scores, the softmax, and the gradients that `jax.vjp` of the plain attention computes.
-/
module

public import proofs.«01_k».proof.Proof.Arrays
public import proofs.«01_k».proof.Proof.Gen.ReferenceIdeal.Read

@[expose] public section

noncomputable section

namespace Cert.ReferenceIdeal.Att

open Cert.ReferenceIdeal Cert.ReferenceIdeal.Gen Cert.ReferenceIdeal.Read Idealize.ShloMosaic Idealize.ShloMosaic.TcCoe Idealize.SL.Sem Idealize.ShloMosaic.StableHlo Cert.Grad
open Cert.KernelIdeal.Att (qr kr vr dr gS gQ tK tV hd cl)

variable (X : S4096x9216.Idx → EReal) (K : S256x2048.Idx → EReal) (D : S4096x1024.Idx → EReal)

theorem q5 (r : Fin 4096) (h : Fin 4) (d : Fin 256) : val_main_v5 (F := Ideal) X (ix4 0 r h d) = qr X r h d := by
  rw [val_main_v5_apply, val_main_v1_apply, val_main_v0_apply]
  unfold qr
  refine congrArg X ?_
  blk_ext

theorem k6 (j : Fin 256) (h : Fin 4) (d : Fin 256) : val_main_v6 (F := Ideal) K (ix4 0 j h d) = kr K h j d := by
  rw [val_main_v6_apply, val_main_v3_apply, val_main_v2_apply]
  unfold kr
  refine congrArg K ?_
  blk_ext

theorem v7 (j : Fin 256) (h : Fin 4) (d : Fin 256) : val_main_v7 (F := Ideal) K (ix4 0 j h d) = vr K h j d := by
  rw [val_main_v7_apply, val_main_v4_apply, val_main_v2_apply]
  unfold vr
  refine congrArg K ?_
  blk_ext

theorem d44 (r : Fin 4096) (h : Fin 4) (d : Fin 256) : val_main_v44 (F := Ideal) D (ix4 0 h d r) = dr D r h d := by
  rw [val_main_v44_apply, val_main_v43_apply, val_main_v42_apply]
  unfold dr
  refine congrArg D ?_
  blk_ext

/-- The scores. -/
theorem s10 (r : Fin 4096) (h : Fin 4) (j : Fin 256) : val_main_v10 (F := Ideal) X K (ix4 0 h r j) = sc (qr X r h) (kr K h) j := by
  rw [val_main_v10_apply, val_main_v8_apply, val_main_v9_apply]
  refine congrArg₂ (· * ·) (Finset.sum_congr rfl fun d _ => congrArg₂ (· * ·) ?_ ?_) rfl
  · exact (congrArg _ (by blk_ext)).trans (q5 X r h d)
  · exact (congrArg _ (by blk_ext)).trans (k6 K j h d)

theorem m11 (r : Fin 4096) (h : Fin 4) : val_main_v11 (F := Ideal) X K (ix3 0 h r) = rowMax (sc (qr X r h) (kr K h)) := by
  unfold val_main_v11 rowMax
  pointwise
  simp only [s10]
  rfl

/-- Its exponential. -/
theorem e31 (r : Fin 4096) (h : Fin 4) (j : Fin 256) : val_main_v31 (F := Ideal) X K (ix4 0 h r j) = ex (sc (qr X r h) (kr K h)) j := by
  rw [val_main_v31_apply, val_main_v30_apply, val_main_v29_apply, val_main_v28_apply, val_main_v18_apply, val_main_v17_apply, val_main_cst_2_apply, s10]
  rw [show idx_main_v28 (idx_main_v29 (ix4 0 h r j)) = ix3 0 h r by blk_ext, m11]
  unfold ex
  refine congrArg Ideal.exp (congrArg (sc (qr X r h) (kr K h) j - ·) ?_)
  show max (Ideal.ofBits .f32 0xFF800000#32) _ = _
  rw [negInf_bits]
  exact max_eq_right bot_le

/-- Its row sums. -/
theorem l33 (r : Fin 4096) (h : Fin 4) : val_main_v33 (F := Ideal) X K (ix4 0 h r 0) = ∑ j, ex (sc (qr X r h) (kr K h)) j := by
  rw [val_main_v33_apply, val_main_v32_apply, val_main_cst_8_apply]
  refine (congrArg₂ (· + ·) Ideal.ofBits_zero_f32 (Finset.sum_congr rfl fun j _ => ?_)).trans (zero_add _)
  exact (congrArg _ (by blk_ext)).trans (e31 X K r h j)

/-- The probabilities. -/
theorem p35 (r : Fin 4096) (h : Fin 4) (j : Fin 256) : val_main_v35 (F := Ideal) X K (ix4 0 h r j) = prob (sc (qr X r h) (kr K h)) j := by
  rw [val_main_v35_apply, val_main_v34_apply, e31, show idx_main_v34 (ix4 0 h r j) = ix4 0 h r 0 by blk_ext, l33]
  rfl

/-- The gradient of the probabilities. -/
theorem d45 (r : Fin 4096) (h : Fin 4) (j : Fin 256) : val_main_v45 (F := Ideal) K D (ix4 0 h r j) = dpr (dr D r h) (vr K h) j := by
  rw [val_main_v45_apply]
  unfold dpr
  refine Finset.sum_congr rfl fun e _ => congrArg₂ (· * ·) ?_ ?_
  · exact (congrArg _ (by blk_ext)).trans (d44 D r h e)
  · exact (congrArg _ (by blk_ext)).trans (v7 K j h e)

theorem r38 (r : Fin 4096) (h : Fin 4) : val_main_v38 (F := Ideal) X K (ix4 0 h r 0) = Ideal.div 1 ((∑ j, ex (sc (qr X r h) (kr K h)) j) * ∑ j, ex (sc (qr X r h) (kr K h)) j) := by
  rw [val_main_v38_apply, val_main_v37_apply, val_main_v36_apply, val_main_cst_9_apply, l33]
  refine congrArg₂ Ideal.div ?_ rfl
  exact Ideal.ofBits_one_f32

theorem n53 (r : Fin 4096) (h : Fin 4) : val_main_v53 (F := Ideal) X K D (ix4 0 h r 0)
    = -(∑ k, dpr (dr D r h) (vr K h) k * Ideal.div 1 ((∑ j, ex (sc (qr X r h) (kr K h)) j) * ∑ j, ex (sc (qr X r h) (kr K h)) j) * ex (sc (qr X r h) (kr K h)) k) := by
  rw [val_main_v53_apply, val_main_v52_apply, val_main_v51_apply, val_main_cst_10_apply]
  refine congrArg (- ·) ?_
  refine (congrArg₂ (· + ·) Ideal.ofBits_zero_f32 (Finset.sum_congr rfl fun j _ => ?_)).trans (zero_add _)
  rw [show idx_main_v51 (idx_main_v52 (ix4 0 h r 0)) j = ix4 0 h r j by blk_ext, val_main_v50_apply, val_main_v49_apply, val_main_v48_apply, d45, e31,
    show idx_main_v48 (ix4 0 h r j) = ix4 0 h r 0 by blk_ext, r38]
  rfl

/-- A sum over two axes of size one is the one element. -/
theorem s56 (r : Fin 4096) (h : Fin 4) : val_main_v56 (F := Ideal) X K D (ix2 h r) = val_main_v53 (F := Ideal) X K D (ix4 0 h r 0) := by
  unfold val_main_v56
  generalize val_main_v53 (F := Ideal) X K D = y
  simp only [Host.reduceAdd, Ideal.hostReduceAdd_def]
  unfold Ideal.hostReduceAdd
  refine (congrArg₂ (· + ·) Ideal.ofBits_zero_f32 (Finset.sum_filter_eq_sum_of_fiber _ (fun _ : Fin 1 => ix4 0 h r 0) (fun _ _ _ => Subsingleton.elim _ _) (fun i => ?_) y)).trans ?_
  · constructor
    · intro e
      refine ⟨0, ?_⟩
      funext a; apply Fin.ext
      match a with
      | ⟨0, _⟩ => exact (Nat.lt_one_iff.mp (i 0).isLt).symm
      | ⟨1, _⟩ => exact (congrArg Fin.val (congrFun e 0)).symm
      | ⟨2, _⟩ => exact (congrArg Fin.val (congrFun e 1)).symm
      | ⟨3, _⟩ => exact (Nat.lt_one_iff.mp (i 3).isLt).symm
    · rintro ⟨k, rfl⟩
      funext b
      apply Fin.ext
      match b with
      | ⟨0, _⟩ => rfl
      | ⟨1, _⟩ => rfl
  · simp

/-- The gradient of the scores, where queries and keys are finite. -/
theorem g62 (hq : ∀ r h d, ∃ a : ℝ, qr X r h d = a) (hk : ∀ h j d, ∃ a : ℝ, kr K h j d = a) (r : Fin 4096) (h : Fin 4) (j : Fin 256) :
    val_main_v62 (F := Ideal) X K D (ix4 0 h r j) = gS X K D r h j := by
  unfold gS dS
  rw [← softVjp_eq _ _ (sc_real _ _ (hq r h) (hk h)) j]
  rw [val_main_v62_apply, val_main_v61_apply, val_main_v60_apply, val_main_v59_apply, val_main_v58_apply, val_main_v57_apply, val_main_v55_apply, val_main_v54_apply, e31, d45,
    show idx_main_v57 (idx_main_v58 (ix4 0 h r j)) = ix2 h r by blk_ext, s56, n53, show idx_main_v54 (ix4 0 h r j) = ix4 0 h r 0 by blk_ext, l33]
  rfl

/-- The three results. -/
theorem dq70 (hq : ∀ r h d, ∃ a : ℝ, qr X r h d = a) (hk : ∀ h j d, ∃ a : ℝ, kr K h j d = a) : val_main_v70 (F := Ideal) X K D = gQ X K D := by
  funext i
  idx_vars i
  rw [val_main_v70_apply, val_main_v69_apply, val_main_v66_apply, val_main_v65_apply]
  refine Finset.sum_congr rfl fun j _ => congrArg₂ (· * ·) ?_ ?_
  · exact (congrArg _ (by unfold hd; blk_ext)).trans (g62 X K D hq hk i0 (hd i1) j)
  · exact (congrArg _ (by unfold hd cl; blk_ext)).trans (k6 K j (hd i1) (cl i1))

theorem dk68 (hq : ∀ r h d, ∃ a : ℝ, qr X r h d = a) (hk : ∀ h j d, ∃ a : ℝ, kr K h j d = a) : val_main_v68 (F := Ideal) X K D = fun i => ∑ r : Fin 4096, tK X K D r i := by
  funext i
  idx_vars i
  rw [val_main_v68_apply, val_main_v64_apply, val_main_v63_apply]
  refine Finset.sum_congr rfl fun r _ => congrArg₂ (· * ·) ?_ ?_
  · exact (congrArg _ (by unfold hd; blk_ext)).trans (g62 X K D hq hk r (hd i1) i0)
  · exact (congrArg _ (by unfold hd cl; blk_ext)).trans (q5 X r (hd i1) (cl i1))

theorem dv67 : val_main_v67 (F := Ideal) X K D = fun i => ∑ r : Fin 4096, tV X K D r i := by
  funext i
  idx_vars i
  rw [val_main_v67_apply, val_main_v47_apply, val_main_v46_apply]
  refine Finset.sum_congr rfl fun r _ => (mul_comm _ _).trans (congrArg₂ (· * ·) ?_ ?_)
  · exact (congrArg _ (by unfold hd; blk_ext)).trans (p35 X K r (hd i1) i0)
  · exact (congrArg _ (by unfold hd cl; blk_ext)).trans (d44 D r (hd i1) (cl i1))

end Cert.ReferenceIdeal.Att

end
-- ==== Proof.Pre.lean ====
/-
  WHAT THE PRECONDITION GIVES: every query and every key is a real number.
-/
module

public import proofs.«01_k».proof.Proof.Ref
public import proofs.«01_k».proof.Pre_finite_qk

@[expose] public section

noncomputable section

namespace Cert.Grad

open Idealize.ShloMosaic
open Cert.KernelIdeal.Att (qr kr)

variable [Cert.Pre_finite_qk.Facts]

/-- An extended real below infinity in absolute value is a real number. -/
theorem real_of_abs_lt {x : EReal} (h : max x (-x) < ⊤) : ∃ a : ℝ, x = a := by
  induction x using EReal.rec with
  | bot => simp at h
  | top => simp at h
  | coe a => exact ⟨a, rfl⟩

theorem posInf_bits : Ideal.ofBits .f32 0x7F800000#32 = ⊤ := by
  simp [Ideal.ofBits, Ideal.ieee]

theorem real_of_test {x y : EReal} (e : BitVec.ofBool (decide (x < Ideal.ofBits .f32 0x7F800000#32)) = 1#1) (hx : x = max y (-y)) : ∃ a : ℝ, y = a := by
  rw [posInf_bits, hx] at e
  by_cases h : max y (-y) < ⊤
  · exact real_of_abs_lt h
  · rw [decide_eq_false h] at e
    exact absurd e (by decide)

variable (X : Cert.Pre_finite_qk.S4096x9216.Idx → EReal) (K : Cert.Pre_finite_qk.S256x2048.Idx → EReal) (D : Cert.Pre_finite_qk.S4096x1024.Idx → EReal)

theorem finite_q (hp : Cert.Pre_finite_qk.fn (F := Ideal) X K D = fun _ => 1#1) (r : Fin 4096) (h : Fin 4) (d : Fin 256) : ∃ a : ℝ, qr X r h d = a := by
  have e := congrFun hp (ix2 (⟨r.val, by omega⟩ : Fin 4352) (⟨h.val * 256 + d.val, by omega⟩ : Fin 1024))
  revert e
  pointwise [Cert.Pre_finite_qk.fn]
  exact fun e => real_of_test e rfl

theorem finite_k (hp : Cert.Pre_finite_qk.fn (F := Ideal) X K D = fun _ => 1#1) (h : Fin 4) (j : Fin 256) (d : Fin 256) : ∃ a : ℝ, kr K h j d = a := by
  have e := congrFun hp (ix2 (⟨4096 + j.val, by omega⟩ : Fin 4352) (⟨h.val * 256 + d.val, by omega⟩ : Fin 1024))
  revert e
  pointwise [Cert.Pre_finite_qk.fn]
  exact fun e => real_of_test e rfl

end Cert.Grad

end
-- ==== Proof.AttnClaim.lean ====
/-
  THE VALUE CLAIM OF THE ATTENTION'S GRADIENT: kernel and reference end with the three arrays `gQ`, the sum of `tK` and the sum of `tV`.
-/
module

public import proofs.«01_k».proof.Defs
public import proofs.«01_k».proof.Proof.Pre
public import Idealize.ShloMosaic.Adequacy
public import Idealize.ShloMosaic.Init

@[expose] public section

noncomputable section

namespace Cert.Proof

open Idealize.ShloMosaic Idealize.SL.Sem
open Cert.KernelIdeal.Att (gQ tK tV)

theorem frame_attn_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  θ_run_mono (Cert.ReferenceIdeal.Value.run m g) fun r hr => ⟨fun c => (hr c).2.2.2, sem_eq_zero_of_no_sems (by decide) r.2⟩

/-- The reference's run, its results named. -/
theorem run_attn_ref (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v70) = Cert.ReferenceIdeal.Read.val_main_v70 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v68) = Cert.ReferenceIdeal.Read.val_main_v68 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v67) = Cert.ReferenceIdeal.Read.val_main_v67 (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)) := by
  refine θ_run_mono (Cert.ReferenceIdeal.Value.run m g) fun r hr c => ?_
  obtain ⟨h1, h2, h3, ha⟩ := hr c
  exact ⟨h1.trans (Cert.ReferenceIdeal.Read.val_main_v70_eq m c), h2.trans (Cert.ReferenceIdeal.Read.val_main_v68_eq m c), h3.trans (Cert.ReferenceIdeal.Read.val_main_v67_eq _ _ _), ha⟩

theorem algebraic_attn [Cert.Pre_finite_qk.Facts] : Cert.algebraic_KernelIdeal_ReferenceIdeal_pre_finite_qk := by
  pair_intro
  · run_from Cert.KernelIdeal.Value.run_blocks m g
  · run_from run_attn_ref m' g'
    · exact (Cert.ReferenceIdeal.Att.dq70 _ _ _ (Cert.Grad.finite_q _ _ _ (hpre c)) (Cert.Grad.finite_k _ _ _ (hpre c))).trans (Cert.KernelIdeal.Att.final3 m c).symm
    · exact (Cert.ReferenceIdeal.Att.dk68 _ _ _ (Cert.Grad.finite_q _ _ _ (hpre c)) (Cert.Grad.finite_k _ _ _ (hpre c))).trans (Cert.KernelIdeal.Att.final4 m c).symm
    · exact (Cert.ReferenceIdeal.Att.dv67 _ _ _).trans (Cert.KernelIdeal.Att.final5 m c).symm

end Cert.Proof

end
-- ==== Proof.Norm.lean ====
/-
  THE GRADIENT OF THE ROOT-MEAN-SQUARE NORM OVER THE EXTENDED REALS. One row `x`, the gradient `d` of the scaled normalised row: the
  kernel's form (`nDx`) and the form that differentiating through the mean gives (`vDx`). They agree for every row and every `d`
  (`vDx_eq`): a row with an infinite entry has an infinite mean square, so its reciprocal root is zero and both are the residual's gradient.
-/
module

public import proofs.«01_k».proof.Proof.Core

@[expose] public section

set_option maxRecDepth 16384

noncomputable section

namespace Cert.Norm

open Idealize.ShloMosaic Cert.Grad

/-- The constants, as the programs write them. -/
def c1024 : EReal := Ideal.ofBits .f32 0x44800000#32
def eps : EReal := Ideal.ofBits .f32 0x358637BD#32
def mhalf : EReal := Ideal.ofBits .f32 0xBF000000#32

theorem c1024_eq : c1024 = ((1024 : ℝ) : EReal) := by
  unfold c1024
  simp [Ideal.ofBits, Ideal.ieee]
  rw [← EReal.coe_mul]
  norm_num

theorem eps_eq : ∃ a : ℝ, 0 < a ∧ eps = a := by
  unfold eps
  simp [Ideal.ofBits, Ideal.ieee]
  exact ⟨8796093 * (2 ^ 43)⁻¹, by positivity, by rw [EReal.coe_mul]⟩

theorem mhalf_eq : mhalf = ((-(1 / 2) : ℝ) : EReal) := by
  unfold mhalf
  simp [Ideal.ofBits, Ideal.ieee]
  rw [← EReal.coe_mul]
  norm_num

/-- The mean square, and the reciprocal root. -/
def ms (x : Fin 1024 → EReal) : EReal := Ideal.div (∑ k, x k * x k) c1024 + eps
def rr (x : Fin 1024 → EReal) : EReal := Ideal.rsqrt (ms x)

/-- The gradient at entry `j`, as the kernel forms it. -/
def nDx (x d : Fin 1024 → EReal) (e : EReal) (j : Fin 1024) : EReal :=
  e + rr x * (d j - x j * rr x * Ideal.div (∑ k, d k * (x k * rr x)) c1024)

/-- The gradient through the mean square, for one of the two factors of the square. -/
def cM (x d : Fin 1024 → EReal) : EReal := Ideal.div ((∑ k, x k * d k) * (mhalf * Ideal.div (rr x) (ms x))) c1024

/-- The gradient at entry `j`, as differentiating gives it. -/
def vDx (x d : Fin 1024 → EReal) (e : EReal) (j : Fin 1024) : EReal := e + (d j * rr x + x j * cM x d + cM x d * x j)

theorem sum_top {n : ℕ} (f : Fin n → EReal) (h0 : ∀ k, 0 ≤ f k) (j : Fin n) (hj : f j = ⊤) : ∑ k, f k = ⊤ := by
  have := Finset.single_le_sum (f := f) (fun k _ => h0 k) (Finset.mem_univ j)
  rw [hj] at this
  exact top_le_iff.mp this

theorem sq_nonneg' (a : EReal) : 0 ≤ a * a := by
  induction a with
  | bot => simp
  | top => simp
  | coe a => rw [← EReal.coe_mul]; exact EReal.coe_nonneg.mpr (mul_self_nonneg a)

/-- A row with an infinite entry has reciprocal root zero. -/
theorem ms_top (x : Fin 1024 → EReal) (j : Fin 1024) (hj : x j * x j = ⊤) : ms x = ⊤ := by
  obtain ⟨a, ha, he⟩ := eps_eq
  unfold ms
  rw [sum_top _ (fun k => sq_nonneg' (x k)) j hj, c1024_eq, Ideal.div_coe (by norm_num), he,
    EReal.top_mul_of_pos (EReal.coe_pos.mpr (by norm_num)), EReal.top_add_coe]

theorem add_self_coe (y : EReal) : y + y = ((2 : ℝ) : EReal) * y := by
  induction y with
  | bot => rw [EReal.coe_mul_bot_of_pos (by norm_num)]; rfl
  | top => rw [EReal.coe_mul_top_of_pos (by norm_num)]; rfl
  | coe y => rw [← EReal.coe_mul, ← EReal.coe_add, two_mul]

/-- THE GRADIENT: both forms agree. -/
theorem vDx_eq (x d : Fin 1024 → EReal) (e : EReal) (j : Fin 1024) : vDx x d e j = nDx x d e j := by
  unfold vDx nDx
  refine congrArg (e + ·) ?_
  by_cases hfin : ∃ j, x j * x j = ⊤
  · obtain ⟨i, hi⟩ := hfin
    have hm := ms_top x i hi
    have hr : rr x = 0 := by unfold rr; rw [hm]; exact Ideal.rsqrt_top
    have hc : cM x d = 0 := by
      unfold cM
      rw [hr, hm, c1024_eq]
      simp [Ideal.div]
    rw [hr, hc]
    simp
  · have hx : ∀ k, ∃ a : ℝ, x k = a := fun k => by
      have h := fun h => hfin ⟨k, h⟩
      generalize x k = y at h
      induction y with
      | bot => exact absurd (by simp) h
      | top => exact absurd (by simp) h
      | coe a => exact ⟨a, rfl⟩
    choose a ha using hx
    obtain ⟨ε, hε, he⟩ := eps_eq
    obtain ⟨s, hs, hms⟩ : ∃ s : ℝ, 0 < s ∧ ms x = s := by
      refine ⟨(∑ k, a k * a k) * (1 / 1024) + ε, ?_, ?_⟩
      · have : 0 ≤ ∑ k, a k * a k := Finset.sum_nonneg fun k _ => mul_self_nonneg (a k)
        positivity
      · unfold ms
        rw [c1024_eq, he, Ideal.div_coe (by norm_num), EReal.coe_add, EReal.coe_mul, coe_sum]
        simp only [ha, EReal.coe_mul]
    obtain ⟨r, hr0, hrr, hrs⟩ : ∃ r : ℝ, 0 < r ∧ rr x = r ∧ r * r = 1 / s := by
      refine ⟨(Real.sqrt s)⁻¹, by positivity, ?_, ?_⟩
      · unfold rr
        rw [hms, Ideal.rsqrt_coe, if_neg (not_lt.mpr hs.le), if_neg hs.ne']
      · rw [← mul_inv, Real.mul_self_sqrt hs.le, one_div]
    have h1 : ∑ k, d k * (x k * rr x) = (∑ k, x k * d k) * (r : EReal) := by
      rw [sum_mul_real _ _ hr0.le]
      exact Finset.sum_congr rfl fun k _ => by rw [hrr, ← mul_assoc, mul_comm (d k)]
    unfold cM
    rw [h1]
    generalize ∑ k, x k * d k = D
    rw [hrr, hms, c1024_eq, Ideal.div_coe hs.ne', Ideal.div_coe (by norm_num), Ideal.div_coe (by norm_num), mhalf_eq, ha j,
      add_assoc, mul_comm (D * _ * _) (a j : EReal), add_self_coe, sub_eq_add_neg,
      EReal.left_distrib_of_nonneg_of_ne_top (EReal.coe_nonneg.mpr hr0.le) (EReal.coe_ne_top r), mul_comm (d j)]
    refine congrArg ((r : EReal) * d j + ·) ?_
    have e1 : ∀ p q u v : EReal, p * (q * (D * u * v)) = (p * q * u * v) * D := fun p q u v => by ac_rfl
    have e2 : ∀ p q u v : EReal, p * (q * (D * u * v)) = (p * q * u * v) * D := fun p q u v => by ac_rfl
    rw [mul_comm (r : EReal) (-_), EReal.neg_mul, mul_comm _ (r : EReal), ← EReal.coe_mul, ← EReal.coe_mul, ← EReal.coe_mul, e1, e2, ← EReal.neg_mul]
    simp only [← EReal.coe_mul, ← EReal.coe_neg]
    congr 2
    rw [show r * (1 / s) = r * (r * r) by rw [hrs]]
    ring

end Cert.Norm

end
-- ==== Proof.Rows.lean ====
/-
  A BLOCK OF EIGHT ROWS WHOSE FIRST ROW IS STORED: what it then holds.
-/
module

public import Idealize.ShloMosaic.Lib.Pipeline.ValueKit
public import Idealize.ShloMosaic.Lib.WritesUnit

@[expose] public section

noncomputable section

namespace Cert.Rows

open Idealize.ShloMosaic

/-- Eight rows. -/
abbrev S8 (n : ℕ) : Shape := ⟨2, ![8, n]⟩

/-- The first row, then whatever was stored before. -/
theorem canon_row {n : ℕ} {e : EltTy} {Val : EltTy → Type} [∀ e, Nonempty (Val e)] (inb : ∀ a, (![0, 0] : Fin 2 → ℕ) a + (![1, n] : Fin 2 → ℕ) a ≤ (S8 n).size a)
    (w : (Rect.unit (s := S8 n) ![0, 0] ![1, n] inb).shape.Idx → Val e) (L : List (View.Piece Val (S8 n) e)) (i : Fin 8) (j : Fin n) :
    View.canon (⟨Rect.unit (s := S8 n) ![0, 0] ![1, n] inb, w⟩ :: L) (ix2 i j) = if i.val = 0 then w (ix2 0 j) else View.canon L (ix2 i j) := by
  by_cases h : i.val = 0
  · rw [if_pos h]
    have hy : (ix2 i j : (S8 n).Idx) = (Rect.unit (s := S8 n) ![0, 0] ![1, n] inb).emb (ix2 0 j) := by
      funext a
      refine Fin.ext ?_
      match a with
      | ⟨0, _⟩ => show i.val = 0 + 1 * 0; omega
      | ⟨1, _⟩ => show j.val = 0 + 1 * j.val; omega
    exact (congrArg (View.canon _) hy).trans (View.canon_cons_emb _ w L _)
  · rw [if_neg h]
    refine View.canon_cons_of_not_mem _ L ?_
    rw [Rect.mem_set_unit]
    intro hall
    have h0 : i.val < 0 + 1 := (hall 0).2
    omega

/-- The first row over what the block held. -/
theorem kept_row {n : ℕ} {sig : RefSig} {κ : Kind} {sp : Space} {e : EltTy} {Val : EltTy → Type} (v : View sig κ sp (S8 n) e) (f : v.ty.Contents Val)
    (inb : ∀ a, (![0, 0] : Fin 2 → ℕ) a + (![1, n] : Fin 2 → ℕ) a ≤ (S8 n).size a)
    (w : (Rect.unit (s := S8 n) ![0, 0] ![1, n] inb).shape.Idx → Val e) (i : Fin 8) (j : Fin n) :
    v.read Val (v.writes Val f [⟨Rect.unit (s := S8 n) ![0, 0] ![1, n] inb, w⟩]) (ix2 i j) = if i.val = 0 then w (ix2 0 j) else v.read Val f (ix2 i j) := by
  by_cases h : i.val = 0
  · rw [if_pos h]
    refine View.read_writes_cons_unit_of_mem v f inb w [] _ (ix2 0 j) rfl fun a => ?_
    match a with
    | ⟨0, _⟩ => show i.val = 0 + 0; omega
    | ⟨1, _⟩ => show j.val = 0 + j.val; omega
  · rw [if_neg h]
    refine (View.read_writes_cons_unit_of_not_mem v f inb w [] _ rfl 0 (.inr ?_)).trans (by rw [View.writes_nil])
    show 0 + 1 ≤ i.val
    omega

/-- A block `R × n`. -/
abbrev S2 (R n : ℕ) : Shape := ⟨2, ![R, n]⟩

/-- The piece stored last, inside it. -/
theorem canon_in {R n r k o : ℕ} {e : EltTy} {Val : EltTy → Type} [∀ e, Nonempty (Val e)] (inb : ∀ a, (![0, o] : Fin 2 → ℕ) a + (![r, k] : Fin 2 → ℕ) a ≤ (S2 R n).size a)
    (w : (Rect.unit (s := S2 R n) ![0, o] ![r, k] inb).shape.Idx → Val e) (L : List (View.Piece Val (S2 R n) e)) (i : Fin R) (j : Fin n) (i' : Fin r) (l : Fin k)
    (hi : i.val = i'.val) (hj : j.val = o + l.val) :
    View.canon (⟨Rect.unit (s := S2 R n) ![0, o] ![r, k] inb, w⟩ :: L) (ix2 i j) = w (ix2 i' l) := by
  have hy : (ix2 i j : (S2 R n).Idx) = (Rect.unit (s := S2 R n) ![0, o] ![r, k] inb).emb (ix2 i' l) := by
    funext a
    refine Fin.ext ?_
    match a with
    | ⟨0, _⟩ => show i.val = 0 + 1 * i'.val; omega
    | ⟨1, _⟩ => show j.val = o + 1 * l.val; omega
  exact (congrArg (View.canon _) hy).trans (View.canon_cons_emb _ w L _)

/-- The piece stored last, outside it. -/
theorem canon_out {R n r k o : ℕ} {e : EltTy} {Val : EltTy → Type} [∀ e, Nonempty (Val e)] (inb : ∀ a, (![0, o] : Fin 2 → ℕ) a + (![r, k] : Fin 2 → ℕ) a ≤ (S2 R n).size a)
    (w : (Rect.unit (s := S2 R n) ![0, o] ![r, k] inb).shape.Idx → Val e) (L : List (View.Piece Val (S2 R n) e)) (i : Fin R) (j : Fin n)
    (h : r ≤ i.val ∨ j.val < o ∨ o + k ≤ j.val) :
    View.canon (⟨Rect.unit (s := S2 R n) ![0, o] ![r, k] inb, w⟩ :: L) (ix2 i j) = View.canon L (ix2 i j) := by
  refine View.canon_cons_of_not_mem _ L ?_
  rw [Rect.mem_set_unit]
  intro hall
  have h0 : i.val < 0 + r := (hall 0).2
  have h1 : o ≤ j.val := (hall 1).1
  have h2 : j.val < o + k := (hall 1).2
  omega

/-- The same over what the block held, inside the piece. -/
theorem read_in {R n r k o : ℕ} {sig : RefSig} {κ : Kind} {sp : Space} {e : EltTy} {Val : EltTy → Type} (v : View sig κ sp (S2 R n) e) (f : v.ty.Contents Val)
    (inb : ∀ a, (![0, o] : Fin 2 → ℕ) a + (![r, k] : Fin 2 → ℕ) a ≤ (S2 R n).size a)
    (w : (Rect.unit (s := S2 R n) ![0, o] ![r, k] inb).shape.Idx → Val e) (L : List (View.Piece Val (S2 R n) e)) (i : Fin R) (j : Fin n) (i' : Fin r) (l : Fin k)
    (hi : i.val = i'.val) (hj : j.val = o + l.val) :
    v.read Val (v.writes Val f (⟨Rect.unit (s := S2 R n) ![0, o] ![r, k] inb, w⟩ :: L)) (ix2 i j) = w (ix2 i' l) := by
  refine View.read_writes_cons_unit_of_mem v f inb w L _ (ix2 i' l) rfl fun a => ?_
  match a with
  | ⟨0, _⟩ => show i.val = 0 + i'.val; omega
  | ⟨1, _⟩ => show j.val = o + l.val; omega

/-- And outside it. -/
theorem read_out {R n r k o : ℕ} {sig : RefSig} {κ : Kind} {sp : Space} {e : EltTy} {Val : EltTy → Type} (v : View sig κ sp (S2 R n) e) (f : v.ty.Contents Val)
    (inb : ∀ a, (![0, o] : Fin 2 → ℕ) a + (![r, k] : Fin 2 → ℕ) a ≤ (S2 R n).size a)
    (w : (Rect.unit (s := S2 R n) ![0, o] ![r, k] inb).shape.Idx → Val e) (L : List (View.Piece Val (S2 R n) e)) (i : Fin R) (j : Fin n)
    (h : r ≤ i.val ∨ j.val < o ∨ o + k ≤ j.val) :
    v.read Val (v.writes Val f (⟨Rect.unit (s := S2 R n) ![0, o] ![r, k] inb, w⟩ :: L)) (ix2 i j) = v.read Val (v.writes Val f L) (ix2 i j) := by
  rcases h with h | h
  · refine View.read_writes_cons_unit_of_not_mem v f inb w L _ rfl 0 (.inr ?_)
    show 0 + r ≤ i.val
    omega
  · refine View.read_writes_cons_unit_of_not_mem v f inb w L _ rfl 1 (h.imp (fun h => ?_) (fun h => ?_))
    · show j.val < o; exact h
    · show o + k ≤ j.val; exact h

end Cert.Rows

end
-- ==== Proof.DH.lean ====
/-
  THE GRADIENT THROUGH THE INPUT PROJECTION AND ITS NORM: the arriving gradient times the transposed weight, in two halves of the summed axis,
  then the norm's gradient added to the residual's. Each pair of points takes 512 rows; the gain's gradient is accumulated over the pairs.
-/
module

public import proofs.«01_k».proof.Defs
public import proofs.«01_k».proof.Proof.Norm
public import proofs.«01_k».proof.Proof.Rows
public import Idealize.ShloMosaic.Lib.Pipeline.ReadBack
public import proofs.«01_k».proof.Proof.Gen.Kernel2Ideal.Value
public import proofs.«01_k».proof.Proof.Gen.Reference2Ideal.Read

@[expose] public section

set_option maxRecDepth 16384

noncomputable section

namespace Cert.DH

open Cert.Kernel2Ideal Cert.Kernel2Ideal.Gen Cert.Norm Cert.Rows Idealize.ShloMosaic Idealize.ShloMosaic.TcCoe Idealize.SL.Sem

section Results
variable (A : S4096x9216.Idx → EReal) (W : S1024x9216.Idx → EReal) (X E : S4096x1024.Idx → EReal) (g : S1x1024.Idx → EReal)

/-- The gradient of the normalised row's product. -/
def dh (p : Fin 4096) (j : Fin 1024) : EReal := ∑ k : Fin 9216, A (ix2 p k) * W (ix2 j k)

/-- The gradient of the input. -/
def gX (i : S4096x1024.Idx) : EReal := nDx (fun k => X (ix2 (i 0) k)) (fun k => dh A W (i 0) k * g (ix2 0 k)) (E i) (i 1)

/-- Row `p`'s part of the gain's gradient, in the first of the eight rows. -/
def tG (p : Fin 4096) (i : S8x1024.Idx) : EReal :=
  if (i 0).val = 0 then dh A W p (i 1) * (X (ix2 p (i 1)) * rr (fun k => X (ix2 p k))) else 0

end Results

theorem idx : ∀ t : Fin cfg0.N, win0_0.index t = ![t.val / 2, t.val % 2] ∧ win0_1.index t = ![0, t.val % 2] ∧ win0_2.index t = ![t.val / 2, 0] ∧ win0_3.index t = ![t.val / 2, 0]
    ∧ win0_4.index t = ![0, 0] ∧ win0_5.index t = ![t.val / 2, 0] ∧ win0_6.index t = ![t.val / 2, 0] ∧ win0_7.index t = ![0, 0] :=
  (by decide +kernel : ∀ t : Fin grid0.N, _)

theorem lt (t : Fin cfg0.N) : t.val < 16 := lt_of_lt_of_eq t.isLt N_0

def row (t : Fin cfg0.N) (i : Fin 512) : Fin 4096 := ⟨t.val / 2 * 512 + i.val, by have := lt t; omega⟩

section Payloads
variable (a : Vec Ideal S512x4608 .bf16) (w : Vec Ideal S1024x4608 .bf16) (u x e : Vec Ideal S512x1024 .f32) (g : Vec Ideal S1x1024 .f32)

theorem pay2 (p : Fin 512) (j : Fin 1024) : (k0_pay2 (F := Ideal) a w (ix2 p j) : EReal) = ∑ k : Fin 4608, a (ix2 p k) * w (ix2 j k) := by
  pointwise [k0_pay2, k0_pay1]

theorem pay3 (p : Fin 512) (j : Fin 1024) : (k0_pay3 (F := Ideal) a w u (ix2 p j) : EReal) = u (ix2 p j) + ∑ k : Fin 4608, a (ix2 p k) * w (ix2 j k) := by
  pointwise [k0_pay3, k0_pay1]

theorem pay5 (p : Fin 512) : (k0_pay5 (F := Ideal) x (ix2 p 0) : EReal) = rr (fun k => x (ix2 p k)) := by
  unfold rr ms c1024 eps
  pointwise [k0_pay5]

theorem pay6 (p : Fin 512) (j : Fin 1024) : (k0_pay6 (F := Ideal) x (ix2 p j) : EReal) = x (ix2 p j) * rr (fun k => x (ix2 p k)) := by
  rw [← pay5]
  unfold k0_pay6
  generalize k0_pay5 x = r
  pointwise

theorem pay8 (p : Fin 512) (j : Fin 1024) : (k0_pay8 (F := Ideal) u x g e (ix2 p j) : EReal)
    = nDx (fun k => x (ix2 p k)) (fun k => u (ix2 p k) * g (ix2 0 k)) (e (ix2 p j)) j := by
  have h5 := pay5 x p
  have h6 := pay6 x p
  unfold nDx k0_pay8 c1024
  generalize k0_pay5 x = r at *
  generalize k0_pay6 x = n at *
  pointwise
  simp only [h5, h6]

theorem pay9 (p : Fin 512) (j : Fin 1024) : (k0_pay9 (F := Ideal) u x g e (ix2 p j) : EReal)
    = nDx (fun k => x (ix2 p k)) (fun k => u (ix2 p k) * g (ix2 0 k)) (e (ix2 p j)) j := by
  rw [← pay8]
  rfl

theorem pay7 (z : Vec Ideal S1x1024 .f32) (j : Fin 1024) : (k0_pay7 (F := Ideal) u x z (ix2 0 j) : EReal)
    = z (ix2 0 j) + ∑ p : Fin 512, u (ix2 p j) * (x (ix2 p j) * rr (fun k => x (ix2 p k))) := by
  have h6 := pay6 x
  unfold k0_pay7
  generalize k0_pay6 x = n at *
  pointwise
  simp only [h6]

end Payloads

variable (m : (ℓ : Loc nD τ sig) → Buf (Elt Ideal) ℓ)

abbrev aA (c : Dev nD) : S4096x9216.Idx → EReal := m ((c : Thread nD τ).loc main_arg0)
abbrev aW (c : Dev nD) : S1024x9216.Idx → EReal := m ((c : Thread nD τ).loc main_arg1)
abbrev aX (c : Dev nD) : S4096x1024.Idx → EReal := m ((c : Thread nD τ).loc main_arg2)
abbrev aE (c : Dev nD) : S4096x1024.Idx → EReal := m ((c : Thread nD τ).loc main_arg3)
abbrev aG (c : Dev nD) : S1x1024.Idx → EReal := m ((c : Thread nD τ).loc main_arg4)

/-- The staged blocks. -/
abbrev bA (c : Dev nD) (t : Fin cfg0.N) : S512x4608.Idx → EReal := iblk m c 0 t
abbrev bW (c : Dev nD) (t : Fin cfg0.N) : S1024x4608.Idx → EReal := iblk m c 1 t
abbrev bX (c : Dev nD) (t : Fin cfg0.N) : S512x1024.Idx → EReal := iblk m c 2 t
abbrev bE (c : Dev nD) (t : Fin cfg0.N) : S512x1024.Idx → EReal := iblk m c 3 t
abbrev bG (c : Dev nD) (t : Fin cfg0.N) : S1x1024.Idx → EReal := iblk m c 4 t

/-- The half of the summed axis a point takes. -/
def half (n : ℕ) (k : Fin 4608) : Fin 9216 := ⟨n % 2 * 4608 + k.val, by omega⟩

/-- That half's part of the product. -/
def part (A : S4096x9216.Idx → EReal) (W : S1024x9216.Idx → EReal) (n : ℕ) (p : Fin 4096) (j : Fin 1024) : EReal :=
  ∑ k : Fin 4608, A (ix2 p (half n k)) * W (ix2 j (half n k))

theorem parts (A : S4096x9216.Idx → EReal) (W : S1024x9216.Idx → EReal) (p : Fin 4096) (j : Fin 1024) : part A W 0 p j + part A W 1 p j = dh A W p j := by
  unfold part dh
  refine (Fin.sum_univ_two (fun s : Fin 2 => ∑ k : Fin 4608, A (ix2 p (half s.val k)) * W (ix2 j (half s.val k)))).symm.trans ?_
  refine Fin.sum_mul_add_congr fun s k hl => ?_
  have e : half s.val k = ⟨s.val * 4608 + k.val, hl⟩ := Fin.ext (by show s.val % 2 * 4608 + k.val = s.val * 4608 + k.val; have := s.isLt; omega)
  rw [e]

theorem blkA (c : Dev nD) (t : Fin cfg0.N) (p : Fin 512) (k : Fin 4608) : bA m c t (ix2 p k) = aA m c (ix2 (row t p) (half t.val k)) := by
  have := lt t
  unfold bA aA row half
  blk_ext [iblk, V, idx t]

theorem blkW (c : Dev nD) (t : Fin cfg0.N) (j : Fin 1024) (k : Fin 4608) : bW m c t (ix2 j k) = aW m c (ix2 j (half t.val k)) := by
  unfold bW aW half
  blk_ext [iblk, V, idx t]

theorem blkX (c : Dev nD) (t : Fin cfg0.N) (p : Fin 512) (k : Fin 1024) : bX m c t (ix2 p k) = aX m c (ix2 (row t p) k) := by
  have := lt t
  unfold bX aX row
  blk_ext [iblk, V, idx t]

theorem blkE (c : Dev nD) (t : Fin cfg0.N) (p : Fin 512) (k : Fin 1024) : bE m c t (ix2 p k) = aE m c (ix2 (row t p) k) := by
  have := lt t
  unfold bE aE row
  blk_ext [iblk, V, idx t]

theorem blkG (c : Dev nD) (t : Fin cfg0.N) (k : Fin 1024) : bG m c t (ix2 0 k) = aG m c (ix2 0 k) := by
  unfold bG aG
  blk_ext [iblk, V, idx t]

theorem blk_part (c : Dev nD) (t : Fin cfg0.N) (p : Fin 512) (j : Fin 1024) :
    ∑ q : Fin 4608, bA m c t (ix2 p q) * bW m c t (ix2 j q) = part (aA m c) (aW m c) t.val (row t p) j := by
  unfold part
  exact Finset.sum_congr rfl fun q _ => congrArg₂ (· * ·) (blkA m c t p q) (blkW m c t j q)

theorem blk_row (c : Dev nD) (t : Fin cfg0.N) (p : Fin 512) : (fun k : Fin 1024 => bX m c t (ix2 p k)) = fun k => aX m c (ix2 (row t p) k) :=
  funext fun k => blkX m c t p k

/-- After an even point the accumulator holds the first half's part. -/
theorem acc_even (c : Dev nD) (t : Fin cfg0.N) (h : t.val % 2 = 0) (p : Fin 512) (j : Fin 1024) :
    ((outsAt0 m c t.val t.isLt).2.2.2 (ix2 p j) : EReal) = part (aA m c) (aW m c) 0 (row t p) j := by
  have e : part (aA m c) (aW m c) 0 (row t p) j = part (aA m c) (aW m c) t.val (row t p) j := by
    unfold part half; simp only [h]
  rw [e, ← blk_part]
  by_cases h2 : t.val % 16 = 0
  · rw [outsAt0_A m c t h (by omega) h2 (by omega)]
    frame_out
    exact pay2 (bA m c t) (bW m c t) p j
  · rw [outsAt0_C m c t h (by omega) h2 (by omega)]
    frame_out
    exact pay2 (bA m c t) (bW m c t) p j

/-- The accumulator an odd point finds. -/
theorem acc_odd (c : Dev nD) (t : Fin cfg0.N) (h : t.val % 2 = 1) (p : Fin 512) (j : Fin 1024) :
    ((outsAt0 m c (t.val - 1) (Nat.lt_of_le_of_lt (Nat.sub_le _ _) t.isLt)).2.2.2 (ix2 p j) : EReal) = part (aA m c) (aW m c) 0 (row t p) j := by
  refine (acc_even m c ⟨t.val - 1, Nat.lt_of_le_of_lt (Nat.sub_le _ _) t.isLt⟩ (by show (t.val - 1) % 2 = 0; omega) p j).trans ?_
  refine congrArg (fun r => part (aA m c) (aW m c) 0 r j) (Fin.ext ?_)
  show (t.val - 1) / 2 * 512 + p.val = t.val / 2 * 512 + p.val
  omega

/-- The accumulator an odd point leaves. -/
theorem acc_whole (c : Dev nD) (t : Fin cfg0.N) (h : t.val % 2 = 1) (p : Fin 512) (j : Fin 1024) :
    (k0_pay3 (F := Ideal) (bA m c t) (bW m c t) (View.read (Elt Ideal) (View.whole cc0_scratch0)
      ((Memref.isWhole_whole cc0_scratch0).unread (outsAt0 m c (t.val - 1) (Nat.lt_of_le_of_lt (Nat.sub_le _ _) t.isLt)).2.2.2)) (ix2 p j) : EReal) = dh (aA m c) (aW m c) (row t p) j := by
  have e : part (aA m c) (aW m c) 1 (row t p) j = part (aA m c) (aW m c) t.val (row t p) j := by
    unfold part half; simp only [h]
  have ha := acc_odd m c t h p j
  generalize (outsAt0 m c (t.val - 1) (Nat.lt_of_le_of_lt (Nat.sub_le _ _) t.isLt)).2.2.2 = u at *
  rw [pay3, ← parts, e, ← blk_part]
  refine congrArg₂ (· + ·) (Eq.trans ?_ ha) rfl
  exact congrFun (Memref.IsWhole.read_unread (Memref.isWhole_whole cc0_scratch0) u) (ix2 p j)

theorem dx_val (c : Dev nD) (t : Fin cfg0.N) (h : t.val % 2 = 1) (p : Fin 512) (j : Fin 1024) :
    nDx (fun k => bX m c t (ix2 p k)) (fun k => (k0_pay3 (F := Ideal) (bA m c t) (bW m c t) (View.read (Elt Ideal) (View.whole cc0_scratch0)
      ((Memref.isWhole_whole cc0_scratch0).unread (outsAt0 m c (t.val - 1) (Nat.lt_of_le_of_lt (Nat.sub_le _ _) t.isLt)).2.2.2)) (ix2 p k) : EReal) * bG m c t (ix2 0 k)) (bE m c t (ix2 p j)) j
      = gX (aA m c) (aW m c) (aX m c) (aE m c) (aG m c) (ix2 (row t p) j) := by
  have hd : (fun k => (k0_pay3 (F := Ideal) (bA m c t) (bW m c t) (View.read (Elt Ideal) (View.whole cc0_scratch0)
      ((Memref.isWhole_whole cc0_scratch0).unread (outsAt0 m c (t.val - 1) (Nat.lt_of_le_of_lt (Nat.sub_le _ _) t.isLt)).2.2.2)) (ix2 p k) : EReal) * bG m c t (ix2 0 k))
      = fun k => dh (aA m c) (aW m c) (row t p) k * aG m c (ix2 0 k) :=
    funext fun k => congrArg₂ (· * ·) (acc_whole m c t h p k) (blkG m c t k)
  rw [hd, blk_row, blkE]
  rfl

/-- A point's rows' parts of the gain's gradient, at the first row of the block. -/
theorem adds (c : Dev nD) (t : Fin cfg0.N) (h : t.val % 2 = 1) (j : Fin 1024) :
    ∑ p : Fin 512, (k0_pay3 (F := Ideal) (bA m c t) (bW m c t) (View.read (Elt Ideal) (View.whole cc0_scratch0)
      ((Memref.isWhole_whole cc0_scratch0).unread (outsAt0 m c (t.val - 1) (Nat.lt_of_le_of_lt (Nat.sub_le _ _) t.isLt)).2.2.2)) (ix2 p j) : EReal) * (bX m c t (ix2 p j) * rr (fun k => bX m c t (ix2 p k)))
      = ∑ p : Fin 512, tG (aA m c) (aW m c) (aX m c) (row t p) (ix2 0 j) := by
  refine Finset.sum_congr rfl fun p _ => ?_
  rw [blk_row, blkX]
  exact (congrArg₂ (· * ·) (acc_whole m c t h p j) rfl).trans (if_pos rfl).symm

theorem adds_none (c : Dev nD) (t : Fin cfg0.N) (i : Fin 8) (j : Fin 1024) (h : ¬i.val = 0) :
    ∑ p : Fin 512, tG (aA m c) (aW m c) (aX m c) (row t p) (ix2 i j) = 0 :=
  Finset.sum_eq_zero fun p _ => if_neg h

theorem out5 (c : Dev nD) (t : Fin cfg0.N) (h : t.val % 2 = 1) (y : S512x1024.Idx) :
    ((outsAt0 m c t.val t.isLt).1 y : EReal) = gX (aA m c) (aW m c) (aX m c) (aE m c) (aG m c) (ix2 (row t (y 0)) (y 1)) := by
  idx_vars y
  rw [outsAt0_B m c t (by omega) h (by omega) h]
  frame_out
  exact (pay8 _ (bX m c t) (bE m c t) (bG m c t) y0 y1).trans (dx_val m c t h y0 y1)

theorem out6 (c : Dev nD) (t : Fin cfg0.N) (h : t.val % 2 = 1) (y : S512x1024.Idx) :
    ((outsAt0 m c t.val t.isLt).2.1 y : EReal) = gX (aA m c) (aW m c) (aX m c) (aE m c) (aG m c) (ix2 (row t (y 0)) (y 1)) := by
  idx_vars y
  rw [outsAt0_B m c t (by omega) h (by omega) h]
  frame_out
  exact (pay9 _ (bX m c t) (bE m c t) (bG m c t) y0 y1).trans (dx_val m c t h y0 y1)

theorem out7_B (c : Dev nD) (t : Fin cfg0.N) (h : t.val % 2 = 1) (y : S8x1024.Idx) :
    ((outsAt0 m c t.val t.isLt).2.2.1 y : EReal) = (outsAt0 m c (t.val - 1) (Nat.lt_of_le_of_lt (Nat.sub_le _ _) t.isLt)).2.2.1 y + ∑ p : Fin 512, tG (aA m c) (aW m c) (aX m c) (row t p) y := by
  have ha := adds m c t h
  idx_vars y
  rw [outsAt0_B m c t (by omega) h (by omega) h]
  frame_out
  generalize (outsAt0 m c (t.val - 1) (Nat.lt_of_le_of_lt (Nat.sub_le _ _) t.isLt)).2.2.1 = acc
  refine (kept_row _ _ _ _ y0 y1).trans ?_
  by_cases h0 : y0.val = 0
  · rw [if_pos h0, show y0 = 0 from Fin.ext h0, ← ha]
    refine (pay7 _ (bX m c t) _ y1).trans ?_
    refine congrArg₂ (· + ·) (by pointwise; blk_ext) rfl
  · rw [if_neg h0, adds_none m c t y0 y1 h0, add_zero, Memref.IsWhole.read_unread]

theorem out7_C (c : Dev nD) (t : Fin cfg0.N) (h : t.val % 2 = 0) (h2 : ¬t.val % 16 = 0) (y : S8x1024.Idx) :
    ((outsAt0 m c t.val t.isLt).2.2.1 y : EReal) = (outsAt0 m c (t.val - 1) (Nat.lt_of_le_of_lt (Nat.sub_le _ _) t.isLt)).2.2.1 y := by
  rw [outsAt0_C m c t h (by omega) h2 (by omega)]
  generalize outsAt0 m c (t.val - 1) (Nat.lt_of_le_of_lt (Nat.sub_le _ _) t.isLt) = o
  rfl

theorem out7_A (c : Dev nD) (t : Fin cfg0.N) (h2 : t.val % 16 = 0) (y : S8x1024.Idx) :
    ((outsAt0 m c t.val t.isLt).2.2.1 y : EReal) = 0 := by
  idx_vars y
  rw [outsAt0_A m c t (by omega) (by omega) h2 (by omega)]
  frame_out
  pointwise [k0_pay4]

theorem final5 (c : Dev nD) : (dats m 0 c).arrAt 5 (cfgs 0).N = gX (aA m c) (aW m c) (aX m c) (aE m c) (aG m c) := by
  refine (dats m 0 c).arrAt_eq_of_covers 5 _ (by decide +kernel) fun t hf y => ?_
  blk_simp
  rw [after0_5]
  have ht := lt t
  refine (out5 m c t ((flush0_5 t).mp hf) y).trans (congrArg (gX _ _ _ _ _) ?_)
  unfold row
  blk_ext [idx t]

theorem final6 (c : Dev nD) : (dats m 0 c).arrAt 6 (cfgs 0).N = gX (aA m c) (aW m c) (aX m c) (aE m c) (aG m c) := by
  refine (dats m 0 c).arrAt_eq_of_covers 6 _ (by decide +kernel) fun t hf y => ?_
  blk_simp
  rw [after0_6]
  have ht := lt t
  refine (out6 m c t ((flush0_6 t).mp hf) y).trans (congrArg (gX _ _ _ _ _) ?_)
  unfold row
  blk_ext [idx t]

/-- The gain's gradient. -/
def gG (A : S4096x9216.Idx → EReal) (W : S1024x9216.Idx → EReal) (X : S4096x1024.Idx → EReal) (i : S8x1024.Idx) : EReal := ∑ p : Fin 4096, tG A W X p i

/-- What a point adds to the gain's gradient: nothing at an even point. -/
def term (c : Dev nD) (t : Fin cfg0.N) (y : S8x1024.Idx) : EReal :=
  if t.val % 2 = 1 then ∑ i : Fin 512, tG (aA m c) (aW m c) (aX m c) (row t i) y else 0

theorem step (c : Dev nD) (t : Fin cfg0.N) (h : ¬t.val % 16 = 0) (y : S8x1024.Idx) :
    ((outsAt0 m c t.val t.isLt).2.2.1 y : EReal) = (outsAt0 m c (t.val - 1) (Nat.lt_of_le_of_lt (Nat.sub_le _ _) t.isLt)).2.2.1 y + term m c t y := by
  unfold term
  by_cases h1 : t.val % 2 = 1
  · rw [if_pos h1]
    exact out7_B m c t h1 y
  · rw [if_neg h1, add_zero]
    exact out7_C m c t (by omega) h y

theorem start (c : Dev nD) (t : Fin cfg0.N) (h : t.val % 16 = 0) (y : S8x1024.Idx) :
    ((outsAt0 m c t.val t.isLt).2.2.1 y : EReal) = 0 + term m c t y := by
  unfold term
  rw [if_neg (by omega), add_zero]
  exact out7_A m c t h y

/-- The terms of the sixteen points are those of the eight odd ones. -/
theorem sum_pairs {M : Type} [AddCommMonoid M] (f : ℕ → M) : ∑ t : Fin 16, (if t.val % 2 = 1 then f (t.val / 2) else 0) = ∑ s : Fin 8, f s.val := by
  simp [Fin.sum_univ_succ, Fin.sum_univ_eight]

/-- What the `n`-th pair of points adds. -/
def pair (c : Dev nD) (y : S8x1024.Idx) (n : ℕ) : EReal :=
  ∑ i : Fin 512, tG (aA m c) (aW m c) (aX m c) ⟨(n * 512 + i.val) % 4096, Nat.mod_lt _ (by decide)⟩ y

theorem final7 (c : Dev nD) : (dats m 0 c).arrAt 7 (cfgs 0).N = gG (aA m c) (aW m c) (aX m c) := by
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => (0 : EReal))
    (fun p j => term m c p j)
    (fun t h j => start m c t h j) (fun t h j => step m c t h j) (le_of_eq N_0) t0_15 rfl j, zero_add]
  have e : ∀ t : Fin 16, term m c t j = if t.val % 2 = 1 then pair m c j (t.val / 2) else 0 := fun t => by
    unfold term row pair
    refine if_congr Iff.rfl (Finset.sum_congr rfl fun i _ => congrArg (fun r => tG (aA m c) (aW m c) (aX m c) r j) (Fin.ext ?_)) rfl
    show t.val / 2 * 512 + i.val = (t.val / 2 * 512 + i.val) % 4096
    have := t.isLt
    omega
  refine ((Finset.sum_congr rfl fun t _ => e t).trans (sum_pairs (pair m c j))).trans ?_
  refine Fin.sum_mul_add_congr fun s k hl => congrArg (fun r => tG (aA m c) (aW m c) (aX m c) r j) (Fin.ext ?_)
  exact Nat.mod_eq_of_lt hl

end Cert.DH

end
-- ==== Proof.DHRef.lean ====
/-
  THE REFERENCE'S GRADIENT THROUGH THE INPUT PROJECTION AND ITS NORM, read at an index.
-/
module

public import Idealize.ShloMosaic.Lib.KernelVsHost
public import proofs.«01_k».proof.Proof.DH

@[expose] public section

set_option maxRecDepth 16384

noncomputable section

namespace Cert.DH.Ref

open Cert.Reference2Ideal Cert.Reference2Ideal.Gen Cert.Reference2Ideal.Read Cert.Norm Cert.Grad Idealize.ShloMosaic Idealize.ShloMosaic.TcCoe Idealize.SL.Sem

variable (A : S4096x9216.Idx → EReal) (W : S1024x9216.Idx → EReal) (X E : S4096x1024.Idx → EReal) (g : S1x1024.Idx → EReal)

theorem r7 (p : Fin 4096) : (val_main_v7 (F := Ideal) X (ix2 p 0) : EReal) = ms (fun k => X (ix2 p k)) := by
  unfold ms c1024 eps
  pointwise [val_main_v7, val_main_v5, val_main_v3, val_main_v4, val_main_v6, val_main_v2, val_main_v1, val_main_cst, val_main_cst_0, val_main_cst_1]

theorem r8 (p : Fin 4096) : (val_main_v8 (F := Ideal) X (ix2 p 0) : EReal) = rr (fun k => X (ix2 p k)) := by
  unfold rr
  rw [← r7]
  rfl

theorem r13 (p : Fin 4096) (j : Fin 1024) : (val_main_v13 (F := Ideal) X (ix2 p j) : EReal) = X (ix2 p j) * rr (fun k => X (ix2 p k)) := by
  rw [← r8]
  unfold val_main_v13 val_main_v12
  generalize val_main_v8 (F := Ideal) X = r
  pointwise

theorem r20 (p : Fin 4096) (j : Fin 1024) : (val_main_v20 (F := Ideal) A W (ix2 p j) : EReal) = dh A W p j := by
  unfold dh
  pointwise [val_main_v20, val_main_v19, val_main_v17]

theorem r25 (p : Fin 4096) (j : Fin 1024) : (val_main_v25 (F := Ideal) A W g (ix2 p j) : EReal) = dh A W p j * g (ix2 0 j) := by
  rw [← r20]
  unfold val_main_v25
  generalize val_main_v20 (F := Ideal) A W = r
  pointwise [val_main_v24, val_main_v14, val_main_v0]

theorem r34 (p : Fin 4096) : (val_main_v34 (F := Ideal) A W X g (ix2 p 0) : EReal) = cM (fun k => X (ix2 p k)) (fun k => dh A W p k * g (ix2 0 k)) := by
  have h7 := r7 X p
  have h8 := r8 X p
  have h25 := r25 A W g p
  unfold cM c1024 mhalf val_main_v34 val_main_v32 val_main_v29 val_main_v28 val_main_v27 val_main_v11 val_main_v9
  generalize val_main_v7 (F := Ideal) X = a7 at *
  generalize val_main_v8 (F := Ideal) X = a8 at *
  generalize val_main_v25 (F := Ideal) A W g = a25 at *
  pointwise [val_main_v10, val_main_v33, val_main_cst_2, val_main_cst_5, val_main_cst_6]
  simp only [h7, h8, h25]

theorem r36 (p : Fin 4096) (j : Fin 1024) : (val_main_v36 (F := Ideal) A W X g (ix2 p j) : EReal) = cM (fun k => X (ix2 p k)) (fun k => dh A W p k * g (ix2 0 k)) := by
  rw [← r34]
  unfold val_main_v36 val_main_v35
  generalize val_main_v34 (F := Ideal) A W X g = a
  pointwise [val_main_cst_7]
  exact Fin.sum_univ_one _

theorem r42 (i : S4096x1024.Idx) : (val_main_v42 (F := Ideal) A W X E g i : EReal) = gX A W X E g i := by
  idx_vars i
  refine Eq.trans ?_ (vDx_eq (fun k => X (ix2 i0 k)) (fun k => dh A W i0 k * g (ix2 0 k)) (E (ix2 i0 i1)) i1)
  have h8 := r8 X i0
  have h25 := r25 A W g i0
  have h36 := r36 A W X g i0
  unfold vDx val_main_v42 val_main_v40 val_main_v38 val_main_v39 val_main_v37 val_main_v31 val_main_v30
  generalize val_main_v8 (F := Ideal) X = a8 at *
  generalize val_main_v25 (F := Ideal) A W g = a25 at *
  generalize val_main_v36 (F := Ideal) A W X g = a36 at *
  pointwise
  simp only [h8, h25, h36]

theorem r43 (i : S4096x1024.Idx) : (val_main_v43 (F := Ideal) A W X E g i : EReal) = gX A W X E g i := r42 A W X E g i

theorem r41 (j : Fin 1024) : (val_main_v41 (F := Ideal) A W X (ix2 0 j) : EReal) = gG A W X (ix2 0 j) := by
  have h13 := r13 X
  have h20 := r20 A W
  unfold val_main_v41 val_main_v26 val_main_v23 val_main_v22 val_main_v21
  generalize val_main_v13 (F := Ideal) X = a13 at *
  generalize val_main_v20 (F := Ideal) A W = a20 at *
  pointwise [val_main_cst_3, val_main_cst_4]
  simp only [h13, h20]
  refine (Finset.sum_eq_single (0 : Fin 1) (fun b _ h => absurd (Subsingleton.elim b 0) h) (fun h => absurd (Finset.mem_univ _) h)).trans ?_
  refine (Finset.sum_congr rfl fun p _ => ?_ : ∑ p : Fin 4096, X (ix2 p j) * rr (fun k => X (ix2 p k)) * dh A W p j = ∑ p : Fin 4096, tG A W X p (ix2 0 j))
  rw [mul_comm]
  exact (if_pos rfl).symm

theorem r44 (i : S8x1024.Idx) : (val_main_v44 (F := Ideal) A W X i : EReal) = gG A W X i := by
  idx_vars i
  have h41 := r41 A W X
  unfold val_main_v44
  generalize val_main_v41 (F := Ideal) A W X = a at *
  pointwise
  by_cases h0 : i0.val = 0
  · rw [dif_pos (by omega)]
    have e : i0 = 0 := Fin.ext h0
    subst e
    exact h41 i1
  · rw [dif_neg (by omega)]
    refine Eq.trans ?_ (Finset.sum_eq_zero fun p _ => if_neg h0).symm
    pointwise [val_main_call0_v0, val_main_c]
    exact sitofp_zero (φ := .f32)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m ρ) fun r hr c => ?_
  obtain ⟨h1, h2, h3, ha⟩ := hr c
  exact ⟨h1.trans (val_main_v42_eq m c), h2.trans (val_main_v43_eq m c), h3.trans (val_main_v44_eq _ _ _), ha⟩

end Cert.DH.Ref

namespace Cert.Proof

open Idealize.ShloMosaic Idealize.ShloMosaic.TcCoe Idealize.SL.Sem

theorem frame_d_h_ref : Cert.quiescent_Reference2Ideal := fun m g _ =>
  θ_run_mono (Cert.Reference2Ideal.Value.run m g) fun r hr => ⟨fun c => (hr c).2.2.2, sem_eq_zero_of_no_sems (by decide) r.2⟩

theorem algebraic_d_h : Cert.algebraic_Kernel2Ideal_Reference2Ideal := by
  pair_intro
  · run_from Cert.Kernel2Ideal.Value.run_blocks m g
  · run_from Cert.DH.Ref.run m' g'
    · exact (funext fun i => Cert.DH.Ref.r42 _ _ _ _ _ i).trans (Cert.DH.final5 m c).symm
    · exact (funext fun i => Cert.DH.Ref.r43 _ _ _ _ _ i).trans (Cert.DH.final6 m c).symm
    · exact (funext fun i => Cert.DH.Ref.r44 _ _ _ i).trans (Cert.DH.final7 m c).symm

end Cert.Proof

end
-- ==== Proof.DwOut.lean ====
/-
  THE WEIGHT GRADIENT OF A BRANCH'S OUTPUT PROJECTION: a block of columns at a time.
-/
module

public import Idealize.ShloMosaic.Lib.Pipeline.ValueKit
public import proofs.«01_k».proof.Defs
public import proofs.«01_k».proof.Proof.Gen.Kernel3Ideal.Value
public import proofs.«01_k».proof.Proof.Gen.Reference3Ideal.Read

@[expose] public section

set_option maxRecDepth 16384

noncomputable section

namespace Cert.DwOut

open Cert.Kernel3Ideal Cert.Kernel3Ideal.Gen Idealize.ShloMosaic Idealize.ShloMosaic.TcCoe Idealize.SL.Sem

/-- The product. -/
def G (A : S4096x1024.Idx → EReal) (B : S4096x1024.Idx → EReal) (i : S1024x1024.Idx) : EReal := ∑ r : Fin 4096, A (ix2 r (i 0)) * B (ix2 r (i 1))

theorem idx : ∀ t : Fin cfg0.N, win0_0.index t = ![0, 0] ∧ win0_1.index t = ![0, t.val] ∧ win0_2.index t = ![0, t.val] :=
  (by decide +kernel : ∀ t : Fin grid0.N, _)

theorem lt (t : Fin cfg0.N) : t.val < 2 := lt_of_lt_of_eq t.isLt N_0

theorem pay (A : Vec Ideal S4096x1024 .bf16) (B : Vec Ideal S4096x512 .bf16) (y : S1024x512.Idx) :
    (k0_pay1 (F := Ideal) A B y : EReal) = ∑ r : Fin 4096, A (ix2 r (y 0)) * B (ix2 r (y 1)) := by
  idx_vars y
  pointwise [k0_pay1]

variable (m : (ℓ : Loc nD τ sig) → Buf (Elt Ideal) ℓ)

theorem point (c : Dev nD) (t : Fin cfg0.N) (y : S1024x512.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DwOut

namespace Cert.DwOut.Ref

open Cert.Reference3Ideal Cert.Reference3Ideal.Gen Cert.Reference3Ideal.Read Idealize.ShloMosaic Idealize.ShloMosaic.TcCoe Idealize.SL.Sem

theorem value (A : S4096x1024.Idx → EReal) (B : S4096x1024.Idx → EReal) : val_main_v4 (F := Ideal) A B = Cert.DwOut.G A B := by
  funext i
  rw [val_main_v4_apply, val_main_v3_apply, val_main_v2_apply]
  refine (Finset.sum_congr rfl fun r _ => ?_ : _ = ∑ r : Fin 4096, A (ix2 r (i 0)) * B (ix2 r (i 1)))
  rw [mul_comm]
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v4_eq _ _), ha⟩

end Cert.DwOut.Ref

namespace Cert.Proof

open Idealize.ShloMosaic Idealize.ShloMosaic.TcCoe Idealize.SL.Sem

theorem frame_dw_out_ref : Cert.quiescent_Reference3Ideal := fun m g _ =>
  θ_run_mono (Cert.Reference3Ideal.Value.run m g) fun r hr => ⟨fun c => (hr c).2, sem_eq_zero_of_no_sems (by decide) r.2⟩

theorem algebraic_dw_out : Cert.algebraic_Kernel3Ideal_Reference3Ideal := by
  pair_intro
  · run_from Cert.Kernel3Ideal.Value.run_blocks m g
  · run_from Cert.DwOut.Ref.run m' g'
    exact (Cert.DwOut.Ref.value _ _).trans (Cert.DwOut.final m c).symm

end Cert.Proof

end
-- ==== Proof.DH2.lean ====
/-
  THE GRADIENT THROUGH THE UP PROJECTION AND ITS NORM: the arriving gradient times the transposed weight, then the norm's gradient added to
  the residual's. Each point of the grid takes 512 rows; the gain's gradient is accumulated over the points in the first of eight rows.
-/
module

public import proofs.«01_k».proof.Defs
public import proofs.«01_k».proof.Proof.Norm
public import proofs.«01_k».proof.Proof.Rows
public import Idealize.ShloMosaic.Lib.Pipeline.ReadBack
public import proofs.«01_k».proof.Proof.Gen.Kernel4Ideal.Value
public import proofs.«01_k».proof.Proof.Gen.Reference4Ideal.Read

@[expose] public section

set_option maxRecDepth 16384

noncomputable section

namespace Cert.DH2

open Cert.Kernel4Ideal Cert.Kernel4Ideal.Gen Cert.Norm Cert.Rows Idealize.ShloMosaic Idealize.ShloMosaic.TcCoe Idealize.SL.Sem

section Results
variable (A : S4096x6144.Idx → EReal) (W : S1024x6144.Idx → EReal) (X E : S4096x1024.Idx → EReal) (g : S1x1024.Idx → EReal)

/-- The gradient of the normalised row's product. -/
def dh (p : Fin 4096) (j : Fin 1024) : EReal := ∑ k : Fin 6144, A (ix2 p k) * W (ix2 j k)

/-- The gradient of the input. -/
def gX (i : S4096x1024.Idx) : EReal := nDx (fun k => X (ix2 (i 0) k)) (fun k => dh A W (i 0) k * g (ix2 0 k)) (E i) (i 1)

/-- Row `p`'s part of the gain's gradient, in the first of the eight rows. -/
def tG (p : Fin 4096) (i : S8x1024.Idx) : EReal :=
  if (i 0).val = 0 then dh A W p (i 1) * (X (ix2 p (i 1)) * rr (fun k => X (ix2 p k))) else 0

end Results

theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

section Payloads
variable (a : Vec Ideal S512x6144 .bf16) (w : Vec Ideal S1024x6144 .bf16) (x e : Vec Ideal S512x1024 .f32) (g : Vec Ideal S1x1024 .f32)

theorem pay1 (p : Fin 512) (j : Fin 1024) : (k0_pay1 (F := Ideal) a w (ix2 p j) : EReal) = ∑ k : Fin 6144, a (ix2 p k) * w (ix2 j k) := by
  pointwise [k0_pay1]

theorem pay3 (p : Fin 512) : (k0_pay3 (F := Ideal) x (ix2 p 0) : EReal) = rr (fun k => x (ix2 p k)) := by
  unfold rr ms c1024 eps
  pointwise [k0_pay3]

theorem pay4 (p : Fin 512) (j : Fin 1024) : (k0_pay4 (F := Ideal) x (ix2 p j) : EReal) = x (ix2 p j) * rr (fun k => x (ix2 p k)) := by
  rw [← pay3]
  unfold k0_pay4
  generalize k0_pay3 x = r
  pointwise

theorem pay6 (p : Fin 512) (j : Fin 1024) : (k0_pay6 (F := Ideal) a w x g e (ix2 p j) : EReal)
    = nDx (fun k => x (ix2 p k)) (fun k => (∑ q : Fin 6144, a (ix2 p q) * w (ix2 k q)) * g (ix2 0 k)) (e (ix2 p j)) j := by
  have h1 := pay1 a w p
  have h3 := pay3 x p
  have h4 := pay4 x p
  unfold nDx k0_pay6 c1024
  generalize k0_pay3 x = r at *
  generalize k0_pay4 x = n at *
  generalize k0_pay1 a w = u at *
  pointwise
  simp only [h1, h3, h4]

theorem pay7 (p : Fin 512) (j : Fin 1024) : (k0_pay7 (F := Ideal) a w x g e (ix2 p j) : EReal)
    = nDx (fun k => x (ix2 p k)) (fun k => (∑ q : Fin 6144, a (ix2 p q) * w (ix2 k q)) * g (ix2 0 k)) (e (ix2 p j)) j := by
  rw [← pay6]
  rfl

theorem pay5 (z : Vec Ideal S1x1024 .f32) (j : Fin 1024) : (k0_pay5 (F := Ideal) a w x z (ix2 0 j) : EReal)
    = z (ix2 0 j) + ∑ p : Fin 512, (∑ q : Fin 6144, a (ix2 p q) * w (ix2 j q)) * (x (ix2 p j) * rr (fun k => x (ix2 p k))) := by
  have h1 := pay1 a w
  have h4 := pay4 x
  unfold k0_pay5
  generalize k0_pay4 x = n at *
  generalize k0_pay1 a w = u at *
  pointwise
  simp only [h1, h4]

end Payloads

variable (m : (ℓ : Loc nD τ sig) → Buf (Elt Ideal) ℓ)

abbrev aA (c : Dev nD) : S4096x6144.Idx → EReal := m ((c : Thread nD τ).loc main_arg0)
abbrev aW (c : Dev nD) : S1024x6144.Idx → EReal := m ((c : Thread nD τ).loc main_arg1)
abbrev aX (c : Dev nD) : S4096x1024.Idx → EReal := m ((c : Thread nD τ).loc main_arg2)
abbrev aE (c : Dev nD) : S4096x1024.Idx → EReal := m ((c : Thread nD τ).loc main_arg3)
abbrev aG (c : Dev nD) : S1x1024.Idx → EReal := m ((c : Thread nD τ).loc main_arg4)

/-- The staged blocks. -/
abbrev bA (c : Dev nD) (t : Fin cfg0.N) : S512x6144.Idx → EReal := iblk m c 0 t
abbrev bW (c : Dev nD) (t : Fin cfg0.N) : S1024x6144.Idx → EReal := iblk m c 1 t
abbrev bX (c : Dev nD) (t : Fin cfg0.N) : S512x1024.Idx → EReal := iblk m c 2 t
abbrev bE (c : Dev nD) (t : Fin cfg0.N) : S512x1024.Idx → EReal := iblk m c 3 t
abbrev bG (c : Dev nD) (t : Fin cfg0.N) : S1x1024.Idx → EReal := iblk m c 4 t

theorem blkA (c : Dev nD) (t : Fin cfg0.N) (p : Fin 512) (k : Fin 6144) : bA m c t (ix2 p k) = aA m c (ix2 (row t p) k) := by
  have := lt t
  unfold bA aA row
  blk_ext [iblk, V, idx t]

theorem blkW (c : Dev nD) (t : Fin cfg0.N) (j : Fin 1024) (k : Fin 6144) : bW m c t (ix2 j k) = aW m c (ix2 j k) := by
  unfold bW aW
  blk_ext [iblk, V, idx t]

theorem blkX (c : Dev nD) (t : Fin cfg0.N) (p : Fin 512) (k : Fin 1024) : bX m c t (ix2 p k) = aX m c (ix2 (row t p) k) := by
  have := lt t
  unfold bX aX row
  blk_ext [iblk, V, idx t]

theorem blkE (c : Dev nD) (t : Fin cfg0.N) (p : Fin 512) (k : Fin 1024) : bE m c t (ix2 p k) = aE m c (ix2 (row t p) k) := by
  have := lt t
  unfold bE aE row
  blk_ext [iblk, V, idx t]

theorem blkG (c : Dev nD) (t : Fin cfg0.N) (k : Fin 1024) : bG m c t (ix2 0 k) = aG m c (ix2 0 k) := by
  unfold bG aG
  blk_ext [iblk, V, idx t]

/-- The point's rows of the gradient of the product. -/
theorem blk_dh (c : Dev nD) (t : Fin cfg0.N) (p : Fin 512) (j : Fin 1024) :
    ∑ q : Fin 6144, bA m c t (ix2 p q) * bW m c t (ix2 j q) = dh (aA m c) (aW m c) (row t p) j := by
  unfold dh
  exact Finset.sum_congr rfl fun q _ => congrArg₂ (· * ·) (blkA m c t p q) (blkW m c t j q)

theorem blk_row (c : Dev nD) (t : Fin cfg0.N) (p : Fin 512) : (fun k : Fin 1024 => bX m c t (ix2 p k)) = fun k => aX m c (ix2 (row t p) k) :=
  funext fun k => blkX m c t p k

/-- What a point leaves in its block of the input's gradient. -/
theorem leaves (c : Dev nD) (t : Fin cfg0.N) (p : Fin 512) (j : Fin 1024) :
    nDx (fun k => bX m c t (ix2 p k)) (fun k => (∑ q : Fin 6144, bA m c t (ix2 p q) * bW m c t (ix2 k q)) * bG m c t (ix2 0 k)) (bE m c t (ix2 p j)) j
      = gX (aA m c) (aW m c) (aX m c) (aE m c) (aG m c) (ix2 (row t p) j) := by
  show _ = nDx (fun k => aX m c (ix2 (row t p) k)) (fun k => dh (aA m c) (aW m c) (row t p) k * aG m c (ix2 0 k)) (aE m c (ix2 (row t p) j)) j
  rw [blk_row, blkE]
  refine congrArg (fun d => nDx _ d _ _) (funext fun k => ?_)
  exact congrArg₂ (· * ·) (blk_dh m c t p k) (blkG m c t k)

/-- What a point adds to the gain's gradient. -/
theorem adds (c : Dev nD) (t : Fin cfg0.N) (j : Fin 1024) :
    ∑ p : Fin 512, (∑ q : Fin 6144, bA m c t (ix2 p q) * bW m c t (ix2 j q)) * (bX m c t (ix2 p j) * rr (fun k => bX m c t (ix2 p k)))
      = ∑ p : Fin 512, tG (aA m c) (aW m c) (aX m c) (row t p) (ix2 0 j) := by
  refine Finset.sum_congr rfl fun p _ => ?_
  rw [blk_row, blkX, blk_dh]
  exact (if_pos rfl).symm

theorem adds_none (c : Dev nD) (t : Fin cfg0.N) (i : Fin 8) (j : Fin 1024) (h : ¬i.val = 0) :
    ∑ p : Fin 512, tG (aA m c) (aW m c) (aX m c) (row t p) (ix2 i j) = 0 :=
  Finset.sum_eq_zero fun p _ => if_neg h

theorem out5 (c : Dev nD) (t : Fin cfg0.N) (y : S512x1024.Idx) :
    ((outsAt0 m c t.val t.isLt).1 y : EReal) = gX (aA m c) (aW m c) (aX m c) (aE m c) (aG m c) (ix2 (row t (y 0)) (y 1)) := by
  idx_vars y
  by_cases h : t.val % 8 = 0
  · rw [outsAt0_A m c t h]
    frame_out
    exact (pay6 (bA m c t) (bW m c t) (bX m c t) (bE m c t) (bG m c t) y0 y1).trans (leaves m c t y0 y1)
  · rw [outsAt0_B m c t h]
    frame_out
    exact (pay6 (bA m c t) (bW m c t) (bX m c t) (bE m c t) (bG m c t) y0 y1).trans (leaves m c t y0 y1)

theorem out6 (c : Dev nD) (t : Fin cfg0.N) (y : S512x1024.Idx) :
    ((outsAt0 m c t.val t.isLt).2.1 y : EReal) = gX (aA m c) (aW m c) (aX m c) (aE m c) (aG m c) (ix2 (row t (y 0)) (y 1)) := by
  idx_vars y
  by_cases h : t.val % 8 = 0
  · rw [outsAt0_A m c t h]
    frame_out
    exact (pay7 (bA m c t) (bW m c t) (bX m c t) (bE m c t) (bG m c t) y0 y1).trans (leaves m c t y0 y1)
  · rw [outsAt0_B m c t h]
    frame_out
    exact (pay7 (bA m c t) (bW m c t) (bX m c t) (bE m c t) (bG m c t) y0 y1).trans (leaves m c t y0 y1)

theorem out7_A (c : Dev nD) (t : Fin cfg0.N) (h : t.val % 8 = 0) (y : S8x1024.Idx) :
    ((outsAt0 m c t.val t.isLt).2.2 y : EReal) = 0 + ∑ p : Fin 512, tG (aA m c) (aW m c) (aX m c) (row t p) y := by
  idx_vars y
  rw [outsAt0_A m c t h]
  frame_out
  simp (disch := first | rfl | decide) only [↓View.readCov_skip, ↓View.readCov_fill]
  refine (canon_row _ _ _ y0 y1).trans ?_
  by_cases h0 : y0.val = 0
  · rw [if_pos h0, show y0 = 0 from Fin.ext h0, ← adds]
    refine (pay5 (bA m c t) (bW m c t) (bX m c t) _ y1).trans ?_
    refine congrArg₂ (· + ·) (by pointwise [k0_pay2]) rfl
  · rw [if_neg h0, adds_none m c t y0 y1 h0]
    refine (congrFun (View.canon_cons_unit_lit _ _ _ (by decide)) _).trans ?_
    rw [add_zero]
    pointwise [k0_pay2]

theorem out7_B (c : Dev nD) (t : Fin cfg0.N) (h : ¬t.val % 8 = 0) (y : S8x1024.Idx) :
    ((outsAt0 m c t.val t.isLt).2.2 y : EReal) = (outsAt0 m c (t.val - 1) (Nat.lt_of_le_of_lt (Nat.sub_le _ _) t.isLt)).2.2 y + ∑ p : Fin 512, tG (aA m c) (aW m c) (aX m c) (row t p) y := by
  idx_vars y
  rw [outsAt0_B m c t h]
  frame_out
  generalize (outsAt0 m c (t.val - 1) (Nat.lt_of_le_of_lt (Nat.sub_le _ _) t.isLt)).2.2 = acc
  refine (kept_row _ _ _ _ y0 y1).trans ?_
  by_cases h0 : y0.val = 0
  · rw [if_pos h0, show y0 = 0 from Fin.ext h0, ← adds]
    refine (pay5 (bA m c t) (bW m c t) (bX m c t) _ y1).trans ?_
    refine congrArg₂ (· + ·) (by pointwise; blk_ext) rfl
  · rw [if_neg h0, adds_none m c t y0 y1 h0, add_zero, Memref.IsWhole.read_unread]

theorem final5 (c : Dev nD) : (dats m 0 c).arrAt 5 (cfgs 0).N = gX (aA m c) (aW m c) (aX m c) (aE m c) (aG m c) := by
  refine (dats m 0 c).arrAt_eq_of_covers 5 _ (by decide +kernel) fun t hf y => ?_
  blk_simp
  rw [after0_5]
  have ht := lt t
  refine (out5 m c t y).trans (congrArg (gX _ _ _ _ _) ?_)
  unfold row
  blk_ext [idx t]

theorem final6 (c : Dev nD) : (dats m 0 c).arrAt 6 (cfgs 0).N = gX (aA m c) (aW m c) (aX m c) (aE m c) (aG m c) := by
  refine (dats m 0 c).arrAt_eq_of_covers 6 _ (by decide +kernel) fun t hf y => ?_
  blk_simp
  rw [after0_6]
  have ht := lt t
  refine (out6 m c t y).trans (congrArg (gX _ _ _ _ _) ?_)
  unfold row
  blk_ext [idx t]

/-- The gain's gradient. -/
def gG (A : S4096x6144.Idx → EReal) (W : S1024x6144.Idx → EReal) (X : S4096x1024.Idx → EReal) (i : S8x1024.Idx) : EReal := ∑ p : Fin 4096, tG A W X p i

theorem final7 (c : Dev nD) : (dats m 0 c).arrAt 7 (cfgs 0).N = gG (aA m c) (aW m c) (aX m c) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => (0 : EReal))
    (fun p j => ∑ i : Fin 512, tG (aA m c) (aW m c) (aX m c) (row p i) j)
    (fun t h j => out7_A m c t h j) (fun t h j => out7_B m c t h j) (le_of_eq N_0) t0_7 rfl j, zero_add]
  exact Fin.sum_mul_add_congr fun s k hl => rfl

end Cert.DH2

end
-- ==== Proof.DH2Ref.lean ====
/-
  THE REFERENCE'S GRADIENT THROUGH THE UP PROJECTION AND ITS NORM, read at an index.
-/
module

public import Idealize.ShloMosaic.Lib.KernelVsHost
public import proofs.«01_k».proof.Proof.DH2

@[expose] public section

set_option maxRecDepth 16384

noncomputable section

namespace Cert.DH2.Ref

open Cert.Reference4Ideal Cert.Reference4Ideal.Gen Cert.Reference4Ideal.Read Cert.Norm Cert.Grad Idealize.ShloMosaic Idealize.ShloMosaic.TcCoe Idealize.SL.Sem

variable (A : S4096x6144.Idx → EReal) (W : S1024x6144.Idx → EReal) (X E : S4096x1024.Idx → EReal) (g : S1x1024.Idx → EReal)

theorem r7 (p : Fin 4096) : (val_main_v7 (F := Ideal) X (ix2 p 0) : EReal) = ms (fun k => X (ix2 p k)) := by
  unfold ms c1024 eps
  pointwise [val_main_v7, val_main_v5, val_main_v3, val_main_v4, val_main_v6, val_main_v2, val_main_v1, val_main_cst, val_main_cst_0, val_main_cst_1]

theorem r8 (p : Fin 4096) : (val_main_v8 (F := Ideal) X (ix2 p 0) : EReal) = rr (fun k => X (ix2 p k)) := by
  unfold rr
  rw [← r7]
  rfl

theorem r13 (p : Fin 4096) (j : Fin 1024) : (val_main_v13 (F := Ideal) X (ix2 p j) : EReal) = X (ix2 p j) * rr (fun k => X (ix2 p k)) := by
  rw [← r8]
  unfold val_main_v13 val_main_v12
  generalize val_main_v8 (F := Ideal) X = r
  pointwise

theorem r20 (p : Fin 4096) (j : Fin 1024) : (val_main_v20 (F := Ideal) A W (ix2 p j) : EReal) = dh A W p j := by
  unfold dh
  pointwise [val_main_v20, val_main_v19, val_main_v17]

theorem r25 (p : Fin 4096) (j : Fin 1024) : (val_main_v25 (F := Ideal) A W g (ix2 p j) : EReal) = dh A W p j * g (ix2 0 j) := by
  rw [← r20]
  unfold val_main_v25
  generalize val_main_v20 (F := Ideal) A W = r
  pointwise [val_main_v24, val_main_v14, val_main_v0]

theorem r34 (p : Fin 4096) : (val_main_v34 (F := Ideal) A W X g (ix2 p 0) : EReal) = cM (fun k => X (ix2 p k)) (fun k => dh A W p k * g (ix2 0 k)) := by
  have h7 := r7 X p
  have h8 := r8 X p
  have h25 := r25 A W g p
  unfold cM c1024 mhalf val_main_v34 val_main_v32 val_main_v29 val_main_v28 val_main_v27 val_main_v11 val_main_v9
  generalize val_main_v7 (F := Ideal) X = a7 at *
  generalize val_main_v8 (F := Ideal) X = a8 at *
  generalize val_main_v25 (F := Ideal) A W g = a25 at *
  pointwise [val_main_v10, val_main_v33, val_main_cst_2, val_main_cst_5, val_main_cst_6]
  simp only [h7, h8, h25]

theorem r36 (p : Fin 4096) (j : Fin 1024) : (val_main_v36 (F := Ideal) A W X g (ix2 p j) : EReal) = cM (fun k => X (ix2 p k)) (fun k => dh A W p k * g (ix2 0 k)) := by
  rw [← r34]
  unfold val_main_v36 val_main_v35
  generalize val_main_v34 (F := Ideal) A W X g = a
  pointwise [val_main_cst_7]
  exact Fin.sum_univ_one _

theorem r42 (i : S4096x1024.Idx) : (val_main_v42 (F := Ideal) A W X E g i : EReal) = gX A W X E g i := by
  idx_vars i
  refine Eq.trans ?_ (vDx_eq (fun k => X (ix2 i0 k)) (fun k => dh A W i0 k * g (ix2 0 k)) (E (ix2 i0 i1)) i1)
  have h8 := r8 X i0
  have h25 := r25 A W g i0
  have h36 := r36 A W X g i0
  unfold vDx val_main_v42 val_main_v40 val_main_v38 val_main_v39 val_main_v37 val_main_v31 val_main_v30
  generalize val_main_v8 (F := Ideal) X = a8 at *
  generalize val_main_v25 (F := Ideal) A W g = a25 at *
  generalize val_main_v36 (F := Ideal) A W X g = a36 at *
  pointwise
  simp only [h8, h25, h36]

theorem r43 (i : S4096x1024.Idx) : (val_main_v43 (F := Ideal) A W X E g i : EReal) = gX A W X E g i := r42 A W X E g i

theorem r41 (j : Fin 1024) : (val_main_v41 (F := Ideal) A W X (ix2 0 j) : EReal) = gG A W X (ix2 0 j) := by
  have h13 := r13 X
  have h20 := r20 A W
  unfold val_main_v41 val_main_v26 val_main_v23 val_main_v22 val_main_v21
  generalize val_main_v13 (F := Ideal) X = a13 at *
  generalize val_main_v20 (F := Ideal) A W = a20 at *
  pointwise [val_main_cst_3, val_main_cst_4]
  simp only [h13, h20]
  refine (Finset.sum_eq_single (0 : Fin 1) (fun b _ h => absurd (Subsingleton.elim b 0) h) (fun h => absurd (Finset.mem_univ _) h)).trans ?_
  refine (Finset.sum_congr rfl fun p _ => ?_ : ∑ p : Fin 4096, X (ix2 p j) * rr (fun k => X (ix2 p k)) * dh A W p j = ∑ p : Fin 4096, tG A W X p (ix2 0 j))
  rw [mul_comm]
  exact (if_pos rfl).symm

theorem r44 (i : S8x1024.Idx) : (val_main_v44 (F := Ideal) A W X i : EReal) = gG A W X i := by
  idx_vars i
  have h41 := r41 A W X
  unfold val_main_v44
  generalize val_main_v41 (F := Ideal) A W X = a at *
  pointwise
  by_cases h0 : i0.val = 0
  · rw [dif_pos (by omega)]
    have e : i0 = 0 := Fin.ext h0
    subst e
    exact h41 i1
  · rw [dif_neg (by omega)]
    refine Eq.trans ?_ (Finset.sum_eq_zero fun p _ => if_neg h0).symm
    pointwise [val_main_call0_v0, val_main_c]
    exact sitofp_zero (φ := .f32)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m ρ) fun r hr c => ?_
  obtain ⟨h1, h2, h3, ha⟩ := hr c
  exact ⟨h1.trans (val_main_v42_eq m c), h2.trans (val_main_v43_eq m c), h3.trans (val_main_v44_eq _ _ _), ha⟩

end Cert.DH2.Ref

namespace Cert.Proof

open Idealize.ShloMosaic Idealize.ShloMosaic.TcCoe Idealize.SL.Sem

theorem frame_d_h2_ref : Cert.quiescent_Reference4Ideal := fun m g _ =>
  θ_run_mono (Cert.Reference4Ideal.Value.run m g) fun r hr => ⟨fun c => (hr c).2.2.2, sem_eq_zero_of_no_sems (by decide) r.2⟩

theorem algebraic_d_h2 : Cert.algebraic_Kernel4Ideal_Reference4Ideal := by
  pair_intro
  · run_from Cert.Kernel4Ideal.Value.run_blocks m g
  · run_from Cert.DH2.Ref.run m' g'
    · exact (funext fun i => Cert.DH2.Ref.r42 _ _ _ _ _ i).trans (Cert.DH2.final5 m c).symm
    · exact (funext fun i => Cert.DH2.Ref.r43 _ _ _ _ _ i).trans (Cert.DH2.final6 m c).symm
    · exact (funext fun i => Cert.DH2.Ref.r44 _ _ _ i).trans (Cert.DH2.final7 m c).symm

end Cert.Proof

end
-- ==== Proof.DwIn.lean ====
/-
  THE WEIGHT GRADIENT OF THE INPUT PROJECTION: the transposed activations times the product's gradient, a block of columns at a time.
-/
module

public import Idealize.ShloMosaic.Lib.Pipeline.ValueKit
public import proofs.«01_k».proof.Defs
public import proofs.«01_k».proof.Proof.Gen.Kernel5Ideal.Value
public import proofs.«01_k».proof.Proof.Gen.Reference5Ideal.Read

@[expose] public section

set_option maxRecDepth 16384

noncomputable section

namespace Cert.DwIn

open Cert.Kernel5Ideal Cert.Kernel5Ideal.Gen Idealize.ShloMosaic Idealize.ShloMosaic.TcCoe Idealize.SL.Sem

/-- The product. -/
def G (A : S4096x1024.Idx → EReal) (B : S4096x9216.Idx → EReal) (i : S1024x9216.Idx) : EReal := ∑ r : Fin 4096, A (ix2 r (i 0)) * B (ix2 r (i 1))

theorem idx : ∀ t : Fin cfg0.N, win0_0.index t = ![0, 0] ∧ win0_1.index t = ![0, t.val] ∧ win0_2.index t = ![0, t.val] :=
  (by decide +kernel : ∀ t : Fin grid0.N, _)

theorem lt (t : Fin cfg0.N) : t.val < 12 := lt_of_lt_of_eq t.isLt N_0

theorem pay (A : Vec Ideal S4096x1024 .bf16) (B : Vec Ideal S4096x768 .bf16) (y : S1024x768.Idx) :
    (k0_pay1 (F := Ideal) A B y : EReal) = ∑ r : Fin 4096, A (ix2 r (y 0)) * B (ix2 r (y 1)) := by
  idx_vars y
  pointwise [k0_pay1]

variable (m : (ℓ : Loc nD τ sig) → Buf (Elt Ideal) ℓ)

theorem point (c : Dev nD) (t : Fin cfg0.N) (y : S1024x768.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DwIn

namespace Cert.DwIn.Ref

open Cert.Reference5Ideal Cert.Reference5Ideal.Gen Cert.Reference5Ideal.Read Idealize.ShloMosaic Idealize.ShloMosaic.TcCoe Idealize.SL.Sem

theorem value (A : S4096x1024.Idx → EReal) (B : S4096x9216.Idx → EReal) : val_main_v4 (F := Ideal) A B = Cert.DwIn.G A B := by
  funext i
  rw [val_main_v4_apply, val_main_v3_apply, val_main_v2_apply]
  refine (Finset.sum_congr rfl fun r _ => ?_ : _ = ∑ r : Fin 4096, A (ix2 r (i 0)) * B (ix2 r (i 1)))
  rw [mul_comm]
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v4_eq _ _), ha⟩

end Cert.DwIn.Ref

namespace Cert.Proof

open Idealize.ShloMosaic Idealize.ShloMosaic.TcCoe Idealize.SL.Sem

theorem frame_dw_in_ref : Cert.quiescent_Reference5Ideal := fun m g _ =>
  θ_run_mono (Cert.Reference5Ideal.Value.run m g) fun r hr => ⟨fun c => (hr c).2, sem_eq_zero_of_no_sems (by decide) r.2⟩

theorem algebraic_dw_in : Cert.algebraic_Kernel5Ideal_Reference5Ideal := by
  pair_intro
  · run_from Cert.Kernel5Ideal.Value.run_blocks m g
  · run_from Cert.DwIn.Ref.run m' g'
    exact (Cert.DwIn.Ref.value _ _).trans (Cert.DwIn.final m c).symm

end Cert.Proof

end
-- ==== Proof.DwUp.lean ====
/-
  THE WEIGHT GRADIENT OF THE UP PROJECTION, stored transposed: a block of rows at a time.
-/
module

public import Idealize.ShloMosaic.Lib.Pipeline.ValueKit
public import proofs.«01_k».proof.Defs
public import proofs.«01_k».proof.Proof.Gen.Kernel6Ideal.Value
public import proofs.«01_k».proof.Proof.Gen.Reference6Ideal.Read

@[expose] public section

set_option maxRecDepth 16384

noncomputable section

namespace Cert.DwUp

open Cert.Kernel6Ideal Cert.Kernel6Ideal.Gen Idealize.ShloMosaic Idealize.ShloMosaic.TcCoe Idealize.SL.Sem

/-- The product. -/
def G (A : S4096x6144.Idx → EReal) (B : S4096x1024.Idx → EReal) (i : S6144x1024.Idx) : EReal := ∑ r : Fin 4096, A (ix2 r (i 0)) * B (ix2 r (i 1))

theorem idx : ∀ t : Fin cfg0.N, win0_0.index t = ![0, t.val] ∧ win0_1.index t = ![0, 0] ∧ win0_2.index t = ![t.val, 0] :=
  (by decide +kernel : ∀ t : Fin grid0.N, _)

theorem lt (t : Fin cfg0.N) : t.val < 8 := lt_of_lt_of_eq t.isLt N_0

theorem pay (A : Vec Ideal S4096x768 .bf16) (B : Vec Ideal S4096x1024 .bf16) (y : S768x1024.Idx) :
    (k0_pay1 (F := Ideal) A B y : EReal) = ∑ r : Fin 4096, A (ix2 r (y 0)) * B (ix2 r (y 1)) := by
  idx_vars y
  pointwise [k0_pay1]

variable (m : (ℓ : Loc nD τ sig) → Buf (Elt Ideal) ℓ)

theorem point (c : Dev nD) (t : Fin cfg0.N) (y : S768x1024.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DwUp

namespace Cert.DwUp.Ref

open Cert.Reference6Ideal Cert.Reference6Ideal.Gen Cert.Reference6Ideal.Read Idealize.ShloMosaic Idealize.ShloMosaic.TcCoe Idealize.SL.Sem

theorem value (A : S4096x6144.Idx → EReal) (B : S4096x1024.Idx → EReal) : val_main_v5 (F := Ideal) A B = Cert.DwUp.G A B := by
  funext i
  rw [val_main_v5_apply, val_main_v4_apply, val_main_v3_apply, val_main_v2_apply]
  refine (Finset.sum_congr rfl fun r _ => ?_ : _ = ∑ r : Fin 4096, A (ix2 r (i 0)) * B (ix2 r (i 1)))
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v5_eq _ _), ha⟩

end Cert.DwUp.Ref

namespace Cert.Proof

open Idealize.ShloMosaic Idealize.ShloMosaic.TcCoe Idealize.SL.Sem

theorem frame_dw_up_ref : Cert.quiescent_Reference6Ideal := fun m g _ =>
  θ_run_mono (Cert.Reference6Ideal.Value.run m g) fun r hr => ⟨fun c => (hr c).2, sem_eq_zero_of_no_sems (by decide) r.2⟩

theorem algebraic_dw_up : Cert.algebraic_Kernel6Ideal_Reference6Ideal := by
  pair_intro
  · run_from Cert.Kernel6Ideal.Value.run_blocks m g
  · run_from Cert.DwUp.Ref.run m' g'
    exact (Cert.DwUp.Ref.value _ _).trans (Cert.DwUp.final m c).symm

end Cert.Proof

end
-- ==== Proof.DwDown.lean ====
/-
  THE WEIGHT GRADIENT OF THE DOWN PROJECTION: a block of rows at a time.
-/
module

public import Idealize.ShloMosaic.Lib.Pipeline.ValueKit
public import proofs.«01_k».proof.Defs
public import proofs.«01_k».proof.Proof.Gen.Kernel7Ideal.Value
public import proofs.«01_k».proof.Proof.Gen.Reference7Ideal.Read

@[expose] public section

set_option maxRecDepth 16384

noncomputable section

namespace Cert.DwDown

open Cert.Kernel7Ideal Cert.Kernel7Ideal.Gen Idealize.ShloMosaic Idealize.ShloMosaic.TcCoe Idealize.SL.Sem

/-- The product. -/
def G (A : S4096x3072.Idx → EReal) (B : S4096x1024.Idx → EReal) (i : S3072x1024.Idx) : EReal := ∑ r : Fin 4096, A (ix2 r (i 0)) * B (ix2 r (i 1))

theorem idx : ∀ t : Fin cfg0.N, win0_0.index t = ![0, t.val] ∧ win0_1.index t = ![0, 0] ∧ win0_2.index t = ![t.val, 0] :=
  (by decide +kernel : ∀ t : Fin grid0.N, _)

theorem lt (t : Fin cfg0.N) : t.val < 4 := lt_of_lt_of_eq t.isLt N_0

theorem pay (A : Vec Ideal S4096x768 .bf16) (B : Vec Ideal S4096x1024 .bf16) (y : S768x1024.Idx) :
    (k0_pay1 (F := Ideal) A B y : EReal) = ∑ r : Fin 4096, A (ix2 r (y 0)) * B (ix2 r (y 1)) := by
  idx_vars y
  pointwise [k0_pay1]

variable (m : (ℓ : Loc nD τ sig) → Buf (Elt Ideal) ℓ)

theorem point (c : Dev nD) (t : Fin cfg0.N) (y : S768x1024.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DwDown

namespace Cert.DwDown.Ref

open Cert.Reference7Ideal Cert.Reference7Ideal.Gen Cert.Reference7Ideal.Read Idealize.ShloMosaic Idealize.ShloMosaic.TcCoe Idealize.SL.Sem

theorem value (A : S4096x3072.Idx → EReal) (B : S4096x1024.Idx → EReal) : val_main_v4 (F := Ideal) A B = Cert.DwDown.G A B := by
  funext i
  rw [val_main_v4_apply, val_main_v3_apply, val_main_v2_apply]
  refine (Finset.sum_congr rfl fun r _ => ?_ : _ = ∑ r : Fin 4096, A (ix2 r (i 0)) * B (ix2 r (i 1)))
  rw [mul_comm]
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v4_eq _ _), ha⟩

end Cert.DwDown.Ref

namespace Cert.Proof

open Idealize.ShloMosaic Idealize.ShloMosaic.TcCoe Idealize.SL.Sem

theorem frame_dw_down_ref : Cert.quiescent_Reference7Ideal := fun m g _ =>
  θ_run_mono (Cert.Reference7Ideal.Value.run m g) fun r hr => ⟨fun c => (hr c).2, sem_eq_zero_of_no_sems (by decide) r.2⟩

theorem algebraic_dw_down : Cert.algebraic_Kernel7Ideal_Reference7Ideal := by
  pair_intro
  · run_from Cert.Kernel7Ideal.Value.run_blocks m g
  · run_from Cert.DwDown.Ref.run m' g'
    exact (Cert.DwDown.Ref.value _ _).trans (Cert.DwDown.final m c).symm

end Cert.Proof

end
-- ==== Proof.DAct.lean ====
/-
  THE GRADIENT AT THE ACTIVATIONS OF THE FEED FORWARD: the arriving gradient times the transposed down projection, a tile at a time.
-/
module

public import Idealize.ShloMosaic.Lib.Pipeline.ValueKit
public import proofs.«01_k».proof.Defs
public import proofs.«01_k».proof.Proof.Gen.Kernel8Ideal.Value
public import proofs.«01_k».proof.Proof.Gen.Reference8Ideal.Read

@[expose] public section

set_option maxRecDepth 16384

noncomputable section

namespace Cert.DAct

open Cert.Kernel8Ideal Cert.Kernel8Ideal.Gen Idealize.ShloMosaic Idealize.ShloMosaic.TcCoe Idealize.SL.Sem

/-- The product. -/
def G (A : S4096x1024.Idx → EReal) (B : S3072x1024.Idx → EReal) (i : S4096x3072.Idx) : EReal := ∑ r : Fin 1024, A (ix2 (i 0) r) * B (ix2 (i 1) r)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

theorem lt (t : Fin cfg0.N) : t.val < 16 := lt_of_lt_of_eq t.isLt N_0

theorem pay (A : Vec Ideal S1024x1024 .bf16) (B : Vec Ideal S768x1024 .bf16) (y : S1024x768.Idx) :
    (k0_pay1 (F := Ideal) A B y : EReal) = ∑ r : Fin 1024, A (ix2 (y 0) r) * B (ix2 (y 1) r) := by
  idx_vars y
  pointwise [k0_pay1]

variable (m : (ℓ : Loc nD τ sig) → Buf (Elt Ideal) ℓ)

theorem point (c : Dev nD) (t : Fin cfg0.N) (y : S1024x768.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.DAct

namespace Cert.DAct.Ref

open Cert.Reference8Ideal Cert.Reference8Ideal.Gen Cert.Reference8Ideal.Read Idealize.ShloMosaic Idealize.ShloMosaic.TcCoe Idealize.SL.Sem

theorem value (A : S4096x1024.Idx → EReal) (B : S3072x1024.Idx → EReal) : val_main_v3 (F := Ideal) A B = Cert.DAct.G A B := by
  funext i
  rw [val_main_v3_apply, val_main_v2_apply]
  refine (Finset.sum_congr rfl fun r _ => ?_ : _ = ∑ r : Fin 1024, A (ix2 (i 0) r) * B (ix2 (i 1) r))
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v3_eq _ _), ha⟩

end Cert.DAct.Ref

namespace Cert.Proof

open Idealize.ShloMosaic Idealize.ShloMosaic.TcCoe Idealize.SL.Sem

theorem frame_d_act_ref : Cert.quiescent_Reference8Ideal := fun m g _ =>
  θ_run_mono (Cert.Reference8Ideal.Value.run m g) fun r hr => ⟨fun c => (hr c).2, sem_eq_zero_of_no_sems (by decide) r.2⟩

theorem algebraic_d_act : Cert.algebraic_Kernel8Ideal_Reference8Ideal := by
  pair_intro
  · run_from Cert.Kernel8Ideal.Value.run_blocks m g
  · run_from Cert.DAct.Ref.run m' g'
    exact (Cert.DAct.Ref.value _ _).trans (Cert.DAct.final m c).symm

end Cert.Proof

end
-- ==== Proof.Mix.lean ====
/-
  THE GATE'S GRADIENT, of the kernel: the gradient of the three mixed branches, of their products with the square weights, of the
  gates before the logistic function, and of the gates' bias. Each point of the grid takes 512 rows; the bias's gradient is accumulated
  over the points in the first of eight rows.
-/
module

public import proofs.«01_k».proof.Defs
public import proofs.«01_k».proof.Proof.Rows
public import Idealize.ShloMosaic.Lib.Pipeline.ValueKit
public import Idealize.ShloMosaic.Lib.Pipeline.ReadBack
public import proofs.«01_k».proof.Proof.Gen.Kernel9Ideal.Frame

@[expose] public section

set_option maxRecDepth 16384

noncomputable section

namespace Cert.Mix

open Cert.Kernel9Ideal Cert.Kernel9Ideal.Gen Cert.Rows Idealize.ShloMosaic Idealize.ShloMosaic.TcCoe Idealize.SL.Sem

/-- The logistic function. -/
def sg (z : EReal) : EReal := Ideal.div 1 (1 + Ideal.exp (0 - z))

/-- Column `l` of part `j`. -/
def cq (j : Fin 3) (l : Fin 1024) : Fin 3072 := ⟨j.val * 1024 + l.val, by omega⟩

/-- The part of a column, and its place in it. -/
def cj (q : Fin 3072) : Fin 3 := ⟨q.val / 1024, by omega⟩
def cl (q : Fin 3072) : Fin 1024 := ⟨q.val % 1024, by omega⟩

theorem cq_cj (q : Fin 3072) : cq (cj q) (cl q) = q := Fin.ext (by show q.val / 1024 * 1024 + q.val % 1024 = q.val; omega)

theorem cj_cq (j : Fin 3) (l : Fin 1024) : cj (cq j l) = j := Fin.ext (by show (j.val * 1024 + l.val) / 1024 = j.val; omega)

theorem cl_cq (j : Fin 3) (l : Fin 1024) : cl (cq j l) = l := Fin.ext (by show (j.val * 1024 + l.val) % 1024 = l.val; omega)

section Results
variable (DX : S4096x1024.Idx → EReal) (Y : Fin 3 → S4096x1024.Idx → EReal) (PG : S4096x9216.Idx → EReal) (W : S4x1024x1024.Idx → EReal) (BG : S1x3072.Idx → EReal)

/-- The gradient of the mixed row. -/
def dm (p : Fin 4096) (l : Fin 1024) : EReal := ∑ k : Fin 1024, DX (ix2 p k) * W (ix3 3 l k)

/-- Gate `j`. -/
def gate (j : Fin 3) (p : Fin 4096) (l : Fin 1024) : EReal := sg (PG (ix2 p ⟨6144 + (cq j l).val, by have := (cq j l).isLt; omega⟩) + BG (ix2 0 (cq j l)))

/-- The gradient of branch `j`. -/
def dY (j : Fin 3) (p : Fin 4096) (l : Fin 1024) : EReal := dm DX W p l * gate PG BG j p l

/-- The gradient through branch `j`'s weight. -/
def dZ (j : Fin 3) (p : Fin 4096) (l : Fin 1024) : EReal := ∑ k : Fin 1024, dY DX PG W BG j p k * W (ix3 ⟨j.val, by omega⟩ l k)

/-- The gradient of gate `j` before the logistic function. -/
def dP (j : Fin 3) (p : Fin 4096) (l : Fin 1024) : EReal := dm DX W p l * Y j (ix2 p l) * gate PG BG j p l * (1 - gate PG BG j p l)

def gY (j : Fin 3) (i : S4096x1024.Idx) : EReal := dY DX PG W BG j (i 0) (i 1)
def gZ (j : Fin 3) (i : S4096x1024.Idx) : EReal := dZ DX PG W BG j (i 0) (i 1)
def gP (i : S4096x3072.Idx) : EReal := dP DX Y PG W BG (cj (i 1)) (i 0) (cl (i 1))

/-- Row `p`'s part of the bias's gradient, in the first of the eight rows. -/
def tB (p : Fin 4096) (i : S8x3072.Idx) : EReal := if (i 0).val = 0 then dP DX Y PG W BG (cj (i 1)) p (cl (i 1)) else 0

/-- The bias's gradient. -/
def gB (i : S8x3072.Idx) : EReal := ∑ p : Fin 4096, tB DX Y PG W BG p i

end Results

theorem idx : ∀ t : Fin cfg0.N, win0_0.index t = ![t.val, 0] ∧ win0_1.index t = ![t.val, 0] ∧ win0_2.index t = ![t.val, 0] ∧ win0_3.index t = ![t.val, 0]
    ∧ win0_4.index t = ![t.val, 2] ∧ win0_5.index t = ![0, 0, 0] ∧ win0_6.index t = ![0, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 2] ∧ win0_14.index t = ![0, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

section Payloads
variable (v3 v7 : Vec Ideal S512x1024 .bf16) (w w' : Vec Ideal S1x1024x1024 .bf16) (b : Vec Ideal S1x1024 .f32) (a g u : FVec Ideal S512x1024 .f32)

theorem pay5 (p : Fin 512) (j : Fin 1024) : (k0_pay5 (F := Ideal) v3 w (ix2 p j) : EReal) = ∑ k : Fin 1024, v3 (ix2 p k) * w (ix3 0 j k) := by
  pointwise [k0_pay5]

theorem pay6 (p : Fin 512) (j : Fin 1024) : (k0_pay6 (F := Ideal) v7 b (ix2 p j) : EReal) = sg (v7 (ix2 p j) + b (ix2 0 j)) := by
  unfold sg
  pointwise [k0_pay6]

theorem pay13 (p : Fin 512) (j : Fin 1024) : (k0_pay13 (F := Ideal) v7 b (ix2 p j) : EReal) = sg (v7 (ix2 p j) + b (ix2 0 j)) := by
  unfold sg
  pointwise [k0_pay13]

theorem pay19 (p : Fin 512) (j : Fin 1024) : (k0_pay19 (F := Ideal) v7 b (ix2 p j) : EReal) = sg (v7 (ix2 p j) + b (ix2 0 j)) := by
  unfold sg
  pointwise [k0_pay19]

theorem pay10 (p : Fin 512) (j : Fin 1024) : (k0_pay10 (F := Ideal) g u (ix2 p j) : EReal) = u (ix2 p j) * (1 - g (ix2 p j)) := by
  pointwise [k0_pay10]

theorem pay12 (j : Fin 1024) : (k0_pay12 (F := Ideal) g u b (ix2 0 j) : EReal) = b (ix2 0 j) + ∑ p : Fin 512, u (ix2 p j) * (1 - g (ix2 p j)) := by
  have h := pay10 g u
  unfold k0_pay12
  generalize k0_pay10 g u = r at *
  pointwise
  simp only [h]

theorem pay7 (p : Fin 512) (j : Fin 1024) : (k0_pay7 (F := Ideal) v3 w v7 b (ix2 p j) : EReal) = k0_pay5 (F := Ideal) v3 w (ix2 p j) * k0_pay6 (F := Ideal) v7 b (ix2 p j) := by
  unfold k0_pay7
  generalize k0_pay5 v3 w = r
  generalize k0_pay6 v7 b = s
  pointwise

theorem pay8 (p : Fin 512) (j : Fin 1024) : (k0_pay8 (F := Ideal) v3 w v7 b w' (ix2 p j) : EReal) = ∑ k : Fin 1024, (k0_pay7 (F := Ideal) v3 w v7 b (ix2 p k) : EReal) * w' (ix3 0 j k) := by
  unfold k0_pay8
  generalize k0_pay7 v3 w v7 b = r
  pointwise

theorem pay9 (y : Vec Ideal S512x1024 .bf16) (p : Fin 512) (j : Fin 1024) : (k0_pay9 (F := Ideal) v3 w v7 b y (ix2 p j) : EReal)
    = k0_pay5 (F := Ideal) v3 w (ix2 p j) * y (ix2 p j) * k0_pay6 (F := Ideal) v7 b (ix2 p j) := by
  unfold k0_pay9
  generalize k0_pay5 v3 w = r
  generalize k0_pay6 v7 b = s
  pointwise

theorem pay11 (p : Fin 512) (j : Fin 1024) : (k0_pay11 (F := Ideal) g u (ix2 p j) : EReal) = u (ix2 p j) * (1 - g (ix2 p j)) := pay10 g u p j

theorem pay14 (p : Fin 512) (j : Fin 1024) : (k0_pay14 (F := Ideal) a v7 b (ix2 p j) : EReal) = a (ix2 p j) * k0_pay13 (F := Ideal) v7 b (ix2 p j) := by
  unfold k0_pay14
  generalize k0_pay13 v7 b = s
  pointwise

theorem pay15 (p : Fin 512) (j : Fin 1024) : (k0_pay15 (F := Ideal) a v7 b w' (ix2 p j) : EReal) = ∑ k : Fin 1024, (k0_pay14 (F := Ideal) a v7 b (ix2 p k) : EReal) * w' (ix3 0 j k) := by
  unfold k0_pay15
  generalize k0_pay14 a v7 b = r
  pointwise

theorem pay16 (p : Fin 512) (j : Fin 1024) : (k0_pay16 (F := Ideal) a g v7 (ix2 p j) : EReal) = a (ix2 p j) * v7 (ix2 p j) * g (ix2 p j) * (1 - g (ix2 p j)) := by
  pointwise [k0_pay16]

theorem pay17 (p : Fin 512) (j : Fin 1024) : (k0_pay17 (F := Ideal) a g v7 (ix2 p j) : EReal) = a (ix2 p j) * v7 (ix2 p j) * g (ix2 p j) * (1 - g (ix2 p j)) := pay16 v7 a g p j

theorem pay18 (j : Fin 1024) : (k0_pay18 (F := Ideal) a g v7 b (ix2 0 j) : EReal) = b (ix2 0 j) + ∑ p : Fin 512, a (ix2 p j) * v7 (ix2 p j) * g (ix2 p j) * (1 - g (ix2 p j)) := by
  have h := pay16 v7 a g
  unfold k0_pay18
  generalize k0_pay16 a g v7 = r at *
  pointwise
  simp only [h]

theorem pay20 (p : Fin 512) (j : Fin 1024) : (k0_pay20 (F := Ideal) a v7 b (ix2 p j) : EReal) = a (ix2 p j) * k0_pay19 (F := Ideal) v7 b (ix2 p j) := by
  unfold k0_pay20
  generalize k0_pay19 v7 b = s
  pointwise

theorem pay21 (p : Fin 512) (j : Fin 1024) : (k0_pay21 (F := Ideal) a v7 b w' (ix2 p j) : EReal) = ∑ k : Fin 1024, (k0_pay20 (F := Ideal) a v7 b (ix2 p k) : EReal) * w' (ix3 0 j k) := by
  unfold k0_pay21
  generalize k0_pay20 a v7 b = r
  pointwise

theorem pay1 (p : Fin 512) (j : Fin 1024) : (k0_pay1 (F := Ideal) a g v7 (ix2 p j) : EReal) = a (ix2 p j) * v7 (ix2 p j) * g (ix2 p j) * (1 - g (ix2 p j)) := by
  pointwise [k0_pay1]

theorem pay2 (p : Fin 512) (j : Fin 1024) : (k0_pay2 (F := Ideal) a g v7 (ix2 p j) : EReal) = a (ix2 p j) * v7 (ix2 p j) * g (ix2 p j) * (1 - g (ix2 p j)) := pay1 v7 a g p j

theorem pay3 (j : Fin 1024) : (k0_pay3 (F := Ideal) a g v7 b (ix2 0 j) : EReal) = b (ix2 0 j) + ∑ p : Fin 512, a (ix2 p j) * v7 (ix2 p j) * g (ix2 p j) * (1 - g (ix2 p j)) := by
  have h := pay1 v7 a g
  unfold k0_pay3
  generalize k0_pay1 a g v7 = r at *
  pointwise
  simp only [h]

end Payloads

variable (m : (ℓ : Loc nD τ sig) → Buf (Elt Ideal) ℓ)

abbrev aX (c : Dev nD) : S4096x1024.Idx → EReal := m ((c : Thread nD τ).loc main_arg0)
abbrev aY (c : Dev nD) : Fin 3 → S4096x1024.Idx → EReal
  | 0 => m ((c : Thread nD τ).loc main_arg1)
  | 1 => m ((c : Thread nD τ).loc main_arg2)
  | 2 => m ((c : Thread nD τ).loc main_arg3)
abbrev aP (c : Dev nD) : S4096x9216.Idx → EReal := m ((c : Thread nD τ).loc main_arg4)
abbrev aW (c : Dev nD) : S4x1024x1024.Idx → EReal := m ((c : Thread nD τ).loc main_arg5)
abbrev aB (c : Dev nD) : S1x3072.Idx → EReal := m ((c : Thread nD τ).loc main_arg6)

/-- The staged blocks. -/
abbrev bX (c : Dev nD) (t : Fin cfg0.N) : S512x1024.Idx → EReal := iblk m c 0 t
abbrev bY (c : Dev nD) (t : Fin cfg0.N) : Fin 3 → S512x1024.Idx → EReal
  | 0 => iblk m c 1 t
  | 1 => iblk m c 2 t
  | 2 => iblk m c 3 t
abbrev bP (c : Dev nD) (t : Fin cfg0.N) : S512x3072.Idx → EReal := iblk m c 4 t
abbrev bW (c : Dev nD) (t : Fin cfg0.N) : S4x1024x1024.Idx → EReal := iblk m c 5 t
abbrev bB (c : Dev nD) (t : Fin cfg0.N) : S1x3072.Idx → EReal := iblk m c 6 t

theorem blkX (c : Dev nD) (t : Fin cfg0.N) (p : Fin 512) (k : Fin 1024) : bX m c t (ix2 p k) = aX m c (ix2 (row t p) k) := by
  have := lt t
  unfold bX aX row
  blk_ext [iblk, V, idx t]

theorem blkY (c : Dev nD) (t : Fin cfg0.N) (p : Fin 512) (k : Fin 1024) : ∀ j, bY m c t j (ix2 p k) = aY m c j (ix2 (row t p) k)
  | 0 => by have := lt t; unfold row; simp only [bY, aY]; blk_ext [iblk, V, idx t]
  | 1 => by have := lt t; unfold row; simp only [bY, aY]; blk_ext [iblk, V, idx t]
  | 2 => by have := lt t; unfold row; simp only [bY, aY]; blk_ext [iblk, V, idx t]

theorem blkP (c : Dev nD) (t : Fin cfg0.N) (p : Fin 512) (q : Fin 3072) : bP m c t (ix2 p q) = aP m c (ix2 (row t p) ⟨6144 + q.val, by omega⟩) := by
  have := lt t
  unfold bP aP row
  blk_ext [iblk, V, idx t]

theorem blkW (c : Dev nD) (t : Fin cfg0.N) (x : S4x1024x1024.Idx) : bW m c t x = aW m c x := by
  unfold bW aW
  blk_ext [iblk, V, idx t]

theorem blkB (c : Dev nD) (t : Fin cfg0.N) (q : Fin 3072) : bB m c t (ix2 0 q) = aB m c (ix2 0 q) := by
  unfold bB aB
  blk_ext [iblk, V, idx t]

abbrev w0 (c : Dev nD) (t : Fin cfg0.N) : Vec Ideal S1x1024x1024 .bf16 := View.ld (iblk m c 5 t) (Rect.unit (s := S4x1024x1024) ![0, 0, 0] ![1, 1024, 1024] inb_S4x1024x1024_S1x1024x1024_0_0_0)

theorem ldw0 (c : Dev nD) (t : Fin cfg0.N) (l k : Fin 1024) : (w0 m c t (ix3 0 l k) : EReal) = aW m c (ix3 0 l k) := by
  rw [← blkW m c t]
  unfold w0 bW
  pointwise

abbrev w1 (c : Dev nD) (t : Fin cfg0.N) : Vec Ideal S1x1024x1024 .bf16 := View.ld (iblk m c 5 t) (Rect.unit (s := S4x1024x1024) ![1, 0, 0] ![1, 1024, 1024] inb_S4x1024x1024_S1x1024x1024_1_0_0)

theorem ldw1 (c : Dev nD) (t : Fin cfg0.N) (l k : Fin 1024) : (w1 m c t (ix3 0 l k) : EReal) = aW m c (ix3 1 l k) := by
  rw [← blkW m c t]
  unfold w1 bW
  pointwise

abbrev w2 (c : Dev nD) (t : Fin cfg0.N) : Vec Ideal S1x1024x1024 .bf16 := View.ld (iblk m c 5 t) (Rect.unit (s := S4x1024x1024) ![2, 0, 0] ![1, 1024, 1024] inb_S4x1024x1024_S1x1024x1024_2_0_0)

theorem ldw2 (c : Dev nD) (t : Fin cfg0.N) (l k : Fin 1024) : (w2 m c t (ix3 0 l k) : EReal) = aW m c (ix3 2 l k) := by
  rw [← blkW m c t]
  unfold w2 bW
  pointwise

abbrev w3 (c : Dev nD) (t : Fin cfg0.N) : Vec Ideal S1x1024x1024 .bf16 := View.ld (iblk m c 5 t) (Rect.unit (s := S4x1024x1024) ![3, 0, 0] ![1, 1024, 1024] inb_S4x1024x1024_S1x1024x1024_3_0_0)

theorem ldw3 (c : Dev nD) (t : Fin cfg0.N) (l k : Fin 1024) : (w3 m c t (ix3 0 l k) : EReal) = aW m c (ix3 3 l k) := by
  rw [← blkW m c t]
  unfold w3 bW
  pointwise

abbrev p0 (c : Dev nD) (t : Fin cfg0.N) : Vec Ideal S512x1024 .bf16 := View.ld (iblk m c 4 t) (Rect.unit (s := S512x3072) ![0, 0] ![512, 1024] inb_S512x3072_S512x1024_0_0)
abbrev b0 (c : Dev nD) (t : Fin cfg0.N) : Vec Ideal S1x1024 .f32 := View.ld (iblk m c 6 t) (Rect.unit (s := S1x3072) ![0, 0] ![1, 1024] inb_S1x3072_S1x1024_0_0)

theorem gate0 (c : Dev nD) (t : Fin cfg0.N) (p : Fin 512) (l : Fin 1024) : (k0_pay6 (F := Ideal) (p0 m c t) (b0 m c t) (ix2 p l) : EReal) = gate (aP m c) (aB m c) 0 (row t p) l := by
  unfold gate
  rw [pay6, ← blkP m c t, ← blkB m c t]
  refine congrArg sg (congrArg₂ (· + ·) ?_ ?_)
  · unfold p0 bP cq
    pointwise
    blk_ext
  · unfold b0 bB cq
    pointwise
    blk_ext

abbrev p1 (c : Dev nD) (t : Fin cfg0.N) : Vec Ideal S512x1024 .bf16 := View.ld (iblk m c 4 t) (Rect.unit (s := S512x3072) ![0, 1024] ![512, 1024] inb_S512x3072_S512x1024_0_1024)
abbrev b1 (c : Dev nD) (t : Fin cfg0.N) : Vec Ideal S1x1024 .f32 := View.ld (iblk m c 6 t) (Rect.unit (s := S1x3072) ![0, 1024] ![1, 1024] inb_S1x3072_S1x1024_0_1024)

theorem gate1 (c : Dev nD) (t : Fin cfg0.N) (p : Fin 512) (l : Fin 1024) : (k0_pay13 (F := Ideal) (p1 m c t) (b1 m c t) (ix2 p l) : EReal) = gate (aP m c) (aB m c) 1 (row t p) l := by
  unfold gate
  rw [pay13, ← blkP m c t, ← blkB m c t]
  refine congrArg sg (congrArg₂ (· + ·) ?_ ?_)
  · unfold p1 bP cq
    pointwise
    blk_ext
  · unfold b1 bB cq
    pointwise
    blk_ext

abbrev p2 (c : Dev nD) (t : Fin cfg0.N) : Vec Ideal S512x1024 .bf16 := View.ld (iblk m c 4 t) (Rect.unit (s := S512x3072) ![0, 2048] ![512, 1024] inb_S512x3072_S512x1024_0_2048)
abbrev b2 (c : Dev nD) (t : Fin cfg0.N) : Vec Ideal S1x1024 .f32 := View.ld (iblk m c 6 t) (Rect.unit (s := S1x3072) ![0, 2048] ![1, 1024] inb_S1x3072_S1x1024_0_2048)

theorem gate2 (c : Dev nD) (t : Fin cfg0.N) (p : Fin 512) (l : Fin 1024) : (k0_pay19 (F := Ideal) (p2 m c t) (b2 m c t) (ix2 p l) : EReal) = gate (aP m c) (aB m c) 2 (row t p) l := by
  unfold gate
  rw [pay19, ← blkP m c t, ← blkB m c t]
  refine congrArg sg (congrArg₂ (· + ·) ?_ ?_)
  · unfold p2 bP cq
    pointwise
    blk_ext
  · unfold b2 bB cq
    pointwise
    blk_ext

abbrev dmB (c : Dev nD) (t : Fin cfg0.N) : FVec Ideal S512x1024 .f32 := k0_pay5 (F := Ideal) (iblk m c 0 t) (w3 m c t)

theorem dm_blk (c : Dev nD) (t : Fin cfg0.N) (p : Fin 512) (l : Fin 1024) : (dmB m c t (ix2 p l) : EReal) = dm (aX m c) (aW m c) (row t p) l := by
  unfold dm
  refine (pay5 (bX m c t) _ p l).trans (Finset.sum_congr rfl fun k _ => ?_)
  rw [blkX, ldw3]

theorem dy_blk0 (c : Dev nD) (t : Fin cfg0.N) (p : Fin 512) (l : Fin 1024) : (k0_pay7 (F := Ideal) (iblk m c 0 t) (w3 m c t) (p0 m c t) (b0 m c t) (ix2 p l) : EReal) = dY (aX m c) (aP m c) (aW m c) (aB m c) 0 (row t p) l :=
  (pay7 (bX m c t) (p0 m c t) (w3 m c t) (b0 m c t) p l).trans (congrArg₂ (· * ·) (dm_blk m c t p l) (gate0 m c t p l))

theorem dz_blk0 (c : Dev nD) (t : Fin cfg0.N) (p : Fin 512) (l : Fin 1024) : (k0_pay8 (F := Ideal) (iblk m c 0 t) (w3 m c t) (p0 m c t) (b0 m c t) (w0 m c t) (ix2 p l) : EReal) = dZ (aX m c) (aP m c) (aW m c) (aB m c) 0 (row t p) l :=
  (pay8 (bX m c t) (p0 m c t) (w3 m c t) (w0 m c t) (b0 m c t) p l).trans (Finset.sum_congr rfl fun k _ => congrArg₂ (· * ·) (dy_blk0 m c t p k) (ldw0 m c t l k))

theorem dp_one0 (c : Dev nD) (t : Fin cfg0.N) (p : Fin 512) (l : Fin 1024) : ((k0_pay9 (F := Ideal) (iblk m c 0 t) (w3 m c t) (p0 m c t) (b0 m c t) (iblk m c 1 t) (ix2 p l) : EReal) * (1 - (k0_pay6 (F := Ideal) (p0 m c t) (b0 m c t) (ix2 p l) : EReal)))
    = dP (aX m c) (aY m c) (aP m c) (aW m c) (aB m c) 0 (row t p) l :=
  congrArg₂ (· * ·) ((pay9 (bX m c t) (p0 m c t) (w3 m c t) (b0 m c t) (bY m c t 0) p l).trans (congrArg₂ (· * ·) (congrArg₂ (· * ·) (dm_blk m c t p l) (blkY m c t p l 0)) (gate0 m c t p l)))
    (congrArg (fun x : EReal => 1 - x) (gate0 m c t p l))

theorem dp_blk0 (c : Dev nD) (t : Fin cfg0.N) (p : Fin 512) (l : Fin 1024) : (k0_pay11 (F := Ideal) (k0_pay6 (F := Ideal) (p0 m c t) (b0 m c t)) (k0_pay9 (F := Ideal) (iblk m c 0 t) (w3 m c t) (p0 m c t) (b0 m c t) (iblk m c 1 t)) (ix2 p l) : EReal) = dP (aX m c) (aY m c) (aP m c) (aW m c) (aB m c) 0 (row t p) l :=
  (pay11 (k0_pay6 (F := Ideal) (p0 m c t) (b0 m c t)) (k0_pay9 (F := Ideal) (iblk m c 0 t) (w3 m c t) (p0 m c t) (b0 m c t) (iblk m c 1 t)) p l).trans (dp_one0 m c t p l)

theorem db_blk0 (c : Dev nD) (t : Fin cfg0.N) (z : Vec Ideal S1x1024 .f32) (l : Fin 1024) : (k0_pay12 (F := Ideal) (k0_pay6 (F := Ideal) (p0 m c t) (b0 m c t)) (k0_pay9 (F := Ideal) (iblk m c 0 t) (w3 m c t) (p0 m c t) (b0 m c t) (iblk m c 1 t)) z (ix2 0 l) : EReal) = z (ix2 0 l) + ∑ p : Fin 512, dP (aX m c) (aY m c) (aP m c) (aW m c) (aB m c) 0 (row t p) l :=
  (pay12 z (k0_pay6 (F := Ideal) (p0 m c t) (b0 m c t)) (k0_pay9 (F := Ideal) (iblk m c 0 t) (w3 m c t) (p0 m c t) (b0 m c t) (iblk m c 1 t)) l).trans (congrArg₂ (· + ·) rfl (Finset.sum_congr rfl fun p _ => dp_one0 m c t p l))

theorem dy_blk1 (c : Dev nD) (t : Fin cfg0.N) (p : Fin 512) (l : Fin 1024) : (k0_pay14 (F := Ideal) (dmB m c t) (p1 m c t) (b1 m c t) (ix2 p l) : EReal) = dY (aX m c) (aP m c) (aW m c) (aB m c) 1 (row t p) l :=
  (pay14 (p1 m c t) (b1 m c t) (dmB m c t) p l).trans (congrArg₂ (· * ·) (dm_blk m c t p l) (gate1 m c t p l))

theorem dz_blk1 (c : Dev nD) (t : Fin cfg0.N) (p : Fin 512) (l : Fin 1024) : (k0_pay15 (F := Ideal) (dmB m c t) (p1 m c t) (b1 m c t) (w1 m c t) (ix2 p l) : EReal) = dZ (aX m c) (aP m c) (aW m c) (aB m c) 1 (row t p) l :=
  (pay15 (p1 m c t) (w1 m c t) (b1 m c t) (dmB m c t) p l).trans (Finset.sum_congr rfl fun k _ => congrArg₂ (· * ·) (dy_blk1 m c t p k) (ldw1 m c t l k))

theorem dp_one1 (c : Dev nD) (t : Fin cfg0.N) (p : Fin 512) (l : Fin 1024) : (dmB m c t (ix2 p l) : EReal) * bY m c t 1 (ix2 p l) * (k0_pay13 (F := Ideal) (p1 m c t) (b1 m c t) (ix2 p l) : EReal) * (1 - (k0_pay13 (F := Ideal) (p1 m c t) (b1 m c t) (ix2 p l) : EReal))
    = dP (aX m c) (aY m c) (aP m c) (aW m c) (aB m c) 1 (row t p) l :=
  congrArg₂ (· * ·) (congrArg₂ (· * ·) (congrArg₂ (· * ·) (dm_blk m c t p l) (blkY m c t p l 1)) (gate1 m c t p l))
    (congrArg (fun x : EReal => 1 - x) (gate1 m c t p l))

theorem dp_blk1 (c : Dev nD) (t : Fin cfg0.N) (p : Fin 512) (l : Fin 1024) : (k0_pay17 (F := Ideal) (dmB m c t) (k0_pay13 (F := Ideal) (p1 m c t) (b1 m c t)) (iblk m c 2 t) (ix2 p l) : EReal) = dP (aX m c) (aY m c) (aP m c) (aW m c) (aB m c) 1 (row t p) l :=
  (pay17 (bY m c t 1) (dmB m c t) (k0_pay13 (F := Ideal) (p1 m c t) (b1 m c t)) p l).trans (dp_one1 m c t p l)

theorem db_blk1 (c : Dev nD) (t : Fin cfg0.N) (z : Vec Ideal S1x1024 .f32) (l : Fin 1024) : (k0_pay18 (F := Ideal) (dmB m c t) (k0_pay13 (F := Ideal) (p1 m c t) (b1 m c t)) (iblk m c 2 t) z (ix2 0 l) : EReal) = z (ix2 0 l) + ∑ p : Fin 512, dP (aX m c) (aY m c) (aP m c) (aW m c) (aB m c) 1 (row t p) l :=
  (pay18 (bY m c t 1) z (dmB m c t) (k0_pay13 (F := Ideal) (p1 m c t) (b1 m c t)) l).trans (congrArg₂ (· + ·) rfl (Finset.sum_congr rfl fun p _ => dp_one1 m c t p l))

theorem dy_blk2 (c : Dev nD) (t : Fin cfg0.N) (p : Fin 512) (l : Fin 1024) : (k0_pay20 (F := Ideal) (dmB m c t) (p2 m c t) (b2 m c t) (ix2 p l) : EReal) = dY (aX m c) (aP m c) (aW m c) (aB m c) 2 (row t p) l :=
  (pay20 (p2 m c t) (b2 m c t) (dmB m c t) p l).trans (congrArg₂ (· * ·) (dm_blk m c t p l) (gate2 m c t p l))

theorem dz_blk2 (c : Dev nD) (t : Fin cfg0.N) (p : Fin 512) (l : Fin 1024) : (k0_pay21 (F := Ideal) (dmB m c t) (p2 m c t) (b2 m c t) (w2 m c t) (ix2 p l) : EReal) = dZ (aX m c) (aP m c) (aW m c) (aB m c) 2 (row t p) l :=
  (pay21 (p2 m c t) (w2 m c t) (b2 m c t) (dmB m c t) p l).trans (Finset.sum_congr rfl fun k _ => congrArg₂ (· * ·) (dy_blk2 m c t p k) (ldw2 m c t l k))

theorem dp_one2 (c : Dev nD) (t : Fin cfg0.N) (p : Fin 512) (l : Fin 1024) : (dmB m c t (ix2 p l) : EReal) * bY m c t 2 (ix2 p l) * (k0_pay19 (F := Ideal) (p2 m c t) (b2 m c t) (ix2 p l) : EReal) * (1 - (k0_pay19 (F := Ideal) (p2 m c t) (b2 m c t) (ix2 p l) : EReal))
    = dP (aX m c) (aY m c) (aP m c) (aW m c) (aB m c) 2 (row t p) l :=
  congrArg₂ (· * ·) (congrArg₂ (· * ·) (congrArg₂ (· * ·) (dm_blk m c t p l) (blkY m c t p l 2)) (gate2 m c t p l))
    (congrArg (fun x : EReal => 1 - x) (gate2 m c t p l))

theorem dp_blk2 (c : Dev nD) (t : Fin cfg0.N) (p : Fin 512) (l : Fin 1024) : (k0_pay2 (F := Ideal) (dmB m c t) (k0_pay19 (F := Ideal) (p2 m c t) (b2 m c t)) (iblk m c 3 t) (ix2 p l) : EReal) = dP (aX m c) (aY m c) (aP m c) (aW m c) (aB m c) 2 (row t p) l :=
  (pay2 (bY m c t 2) (dmB m c t) (k0_pay19 (F := Ideal) (p2 m c t) (b2 m c t)) p l).trans (dp_one2 m c t p l)

theorem db_blk2 (c : Dev nD) (t : Fin cfg0.N) (z : Vec Ideal S1x1024 .f32) (l : Fin 1024) : (k0_pay3 (F := Ideal) (dmB m c t) (k0_pay19 (F := Ideal) (p2 m c t) (b2 m c t)) (iblk m c 3 t) z (ix2 0 l) : EReal) = z (ix2 0 l) + ∑ p : Fin 512, dP (aX m c) (aY m c) (aP m c) (aW m c) (aB m c) 2 (row t p) l :=
  (pay3 (bY m c t 2) z (dmB m c t) (k0_pay19 (F := Ideal) (p2 m c t) (b2 m c t)) l).trans (congrArg₂ (· + ·) rfl (Finset.sum_congr rfl fun p _ => dp_one2 m c t p l))

theorem out7 (c : Dev nD) (t : Fin cfg0.N) (y : S512x1024.Idx) :
    ((outsAt0 m c t.val t.isLt).1 y : EReal) = gY (aX m c) (aP m c) (aW m c) (aB m c) 0 (ix2 (row t (y 0)) (y 1)) := by
  idx_vars y
  by_cases h : t.val % 8 = 0
  · rw [outsAt0_A m c t h]
    frame_out
    exact dy_blk0 m c t y0 y1
  · rw [outsAt0_B m c t h]
    frame_out
    exact dy_blk0 m c t y0 y1

theorem final7 (c : Dev nD) : (dats m 0 c).arrAt 7 (cfgs 0).N = gY (aX m c) (aP m c) (aW m c) (aB m c) 0 := by
  refine (dats m 0 c).arrAt_eq_of_covers 7 _ (by decide +kernel) fun t hf y => ?_
  blk_simp
  rw [after0_7]
  have ht := lt t
  refine (out7 m c t y).trans (congrArg (gY _ _ _ _ _) ?_)
  unfold row
  blk_ext [idx t]

theorem out8 (c : Dev nD) (t : Fin cfg0.N) (y : S512x1024.Idx) :
    ((outsAt0 m c t.val t.isLt).2.1 y : EReal) = gY (aX m c) (aP m c) (aW m c) (aB m c) 1 (ix2 (row t (y 0)) (y 1)) := by
  idx_vars y
  by_cases h : t.val % 8 = 0
  · rw [outsAt0_A m c t h]
    frame_out
    exact dy_blk1 m c t y0 y1
  · rw [outsAt0_B m c t h]
    frame_out
    exact dy_blk1 m c t y0 y1

theorem final8 (c : Dev nD) : (dats m 0 c).arrAt 8 (cfgs 0).N = gY (aX m c) (aP m c) (aW m c) (aB m c) 1 := by
  refine (dats m 0 c).arrAt_eq_of_covers 8 _ (by decide +kernel) fun t hf y => ?_
  blk_simp
  rw [after0_8]
  have ht := lt t
  refine (out8 m c t y).trans (congrArg (gY _ _ _ _ _) ?_)
  unfold row
  blk_ext [idx t]

theorem out9 (c : Dev nD) (t : Fin cfg0.N) (y : S512x1024.Idx) :
    ((outsAt0 m c t.val t.isLt).2.2.1 y : EReal) = gY (aX m c) (aP m c) (aW m c) (aB m c) 2 (ix2 (row t (y 0)) (y 1)) := by
  idx_vars y
  by_cases h : t.val % 8 = 0
  · rw [outsAt0_A m c t h]
    frame_out
    exact dy_blk2 m c t y0 y1
  · rw [outsAt0_B m c t h]
    frame_out
    exact dy_blk2 m c t y0 y1

theorem final9 (c : Dev nD) : (dats m 0 c).arrAt 9 (cfgs 0).N = gY (aX m c) (aP m c) (aW m c) (aB m c) 2 := by
  refine (dats m 0 c).arrAt_eq_of_covers 9 _ (by decide +kernel) fun t hf y => ?_
  blk_simp
  rw [after0_9]
  have ht := lt t
  refine (out9 m c t y).trans (congrArg (gY _ _ _ _ _) ?_)
  unfold row
  blk_ext [idx t]

theorem out10 (c : Dev nD) (t : Fin cfg0.N) (y : S512x1024.Idx) :
    ((outsAt0 m c t.val t.isLt).2.2.2.1 y : EReal) = gZ (aX m c) (aP m c) (aW m c) (aB m c) 0 (ix2 (row t (y 0)) (y 1)) := by
  idx_vars y
  by_cases h : t.val % 8 = 0
  · rw [outsAt0_A m c t h]
    frame_out
    exact dz_blk0 m c t y0 y1
  · rw [outsAt0_B m c t h]
    frame_out
    exact dz_blk0 m c t y0 y1

theorem final10 (c : Dev nD) : (dats m 0 c).arrAt 10 (cfgs 0).N = gZ (aX m c) (aP m c) (aW m c) (aB m c) 0 := by
  refine (dats m 0 c).arrAt_eq_of_covers 10 _ (by decide +kernel) fun t hf y => ?_
  blk_simp
  rw [after0_10]
  have ht := lt t
  refine (out10 m c t y).trans (congrArg (gZ _ _ _ _ _) ?_)
  unfold row
  blk_ext [idx t]

theorem out11 (c : Dev nD) (t : Fin cfg0.N) (y : S512x1024.Idx) :
    ((outsAt0 m c t.val t.isLt).2.2.2.2.1 y : EReal) = gZ (aX m c) (aP m c) (aW m c) (aB m c) 1 (ix2 (row t (y 0)) (y 1)) := by
  idx_vars y
  by_cases h : t.val % 8 = 0
  · rw [outsAt0_A m c t h]
    frame_out
    exact dz_blk1 m c t y0 y1
  · rw [outsAt0_B m c t h]
    frame_out
    exact dz_blk1 m c t y0 y1

theorem final11 (c : Dev nD) : (dats m 0 c).arrAt 11 (cfgs 0).N = gZ (aX m c) (aP m c) (aW m c) (aB m c) 1 := by
  refine (dats m 0 c).arrAt_eq_of_covers 11 _ (by decide +kernel) fun t hf y => ?_
  blk_simp
  rw [after0_11]
  have ht := lt t
  refine (out11 m c t y).trans (congrArg (gZ _ _ _ _ _) ?_)
  unfold row
  blk_ext [idx t]

theorem out12 (c : Dev nD) (t : Fin cfg0.N) (y : S512x1024.Idx) :
    ((outsAt0 m c t.val t.isLt).2.2.2.2.2.1 y : EReal) = gZ (aX m c) (aP m c) (aW m c) (aB m c) 2 (ix2 (row t (y 0)) (y 1)) := by
  idx_vars y
  by_cases h : t.val % 8 = 0
  · rw [outsAt0_A m c t h]
    frame_out
    exact dz_blk2 m c t y0 y1
  · rw [outsAt0_B m c t h]
    frame_out
    exact dz_blk2 m c t y0 y1

theorem final12 (c : Dev nD) : (dats m 0 c).arrAt 12 (cfgs 0).N = gZ (aX m c) (aP m c) (aW m c) (aB m c) 2 := by
  refine (dats m 0 c).arrAt_eq_of_covers 12 _ (by decide +kernel) fun t hf y => ?_
  blk_simp
  rw [after0_12]
  have ht := lt t
  refine (out12 m c t y).trans (congrArg (gZ _ _ _ _ _) ?_)
  unfold row
  blk_ext [idx t]

/-- Three pieces, one per part. -/
theorem out13 (c : Dev nD) (t : Fin cfg0.N) (p : Fin 512) (j : Fin 3) (l : Fin 1024) :
    ((outsAt0 m c t.val t.isLt).2.2.2.2.2.2.1 (ix2 p (cq j l)) : EReal) = dP (aX m c) (aY m c) (aP m c) (aW m c) (aB m c) j (row t p) l := by
  have hl := l.isLt
  by_cases h : t.val % 8 = 0
  · rw [outsAt0_A m c t h]
    frame_out
    match j with
    | 0 =>
      refine (canon_out _ _ _ _ _ (.inr (.inl (by show 0 * 1024 + l.val < 2048; omega)))).trans ((canon_out _ _ _ _ _ (.inr (.inl (by show 0 * 1024 + l.val < 1024; omega)))).trans ?_)
      exact (canon_in _ _ _ _ _ p l rfl (by show 0 * 1024 + l.val = 0 + l.val; omega)).trans (dp_blk0 m c t p l)
    | 1 =>
      refine (canon_out _ _ _ _ _ (.inr (.inl (by show 1 * 1024 + l.val < 2048; omega)))).trans ?_
      exact (canon_in _ _ _ _ _ p l rfl (by show 1 * 1024 + l.val = 1024 + l.val; omega)).trans (dp_blk1 m c t p l)
    | 2 => exact (canon_in _ _ _ _ _ p l rfl (by show 2 * 1024 + l.val = 2048 + l.val; omega)).trans (dp_blk2 m c t p l)
  · rw [outsAt0_B m c t h]
    frame_out
    match j with
    | 0 =>
      refine (canon_out _ _ _ _ _ (.inr (.inl (by show 0 * 1024 + l.val < 2048; omega)))).trans ((canon_out _ _ _ _ _ (.inr (.inl (by show 0 * 1024 + l.val < 1024; omega)))).trans ?_)
      exact (canon_in _ _ _ _ _ p l rfl (by show 0 * 1024 + l.val = 0 + l.val; omega)).trans (dp_blk0 m c t p l)
    | 1 =>
      refine (canon_out _ _ _ _ _ (.inr (.inl (by show 1 * 1024 + l.val < 2048; omega)))).trans ?_
      exact (canon_in _ _ _ _ _ p l rfl (by show 1 * 1024 + l.val = 1024 + l.val; omega)).trans (dp_blk1 m c t p l)
    | 2 => exact (canon_in _ _ _ _ _ p l rfl (by show 2 * 1024 + l.val = 2048 + l.val; omega)).trans (dp_blk2 m c t p l)

theorem out14_A (c : Dev nD) (t : Fin cfg0.N) (h : t.val % 8 = 0) (p : Fin 8) (j : Fin 3) (l : Fin 1024) :
    ((outsAt0 m c t.val t.isLt).2.2.2.2.2.2.2 (ix2 p (cq j l)) : EReal) = if p.val = 0 then 0 + ∑ i : Fin 512, dP (aX m c) (aY m c) (aP m c) (aW m c) (aB m c) j (row t i) l else 0 := by
  have hl := l.isLt
  rw [outsAt0_A m c t h]
  frame_out
  simp (disch := first | rfl | decide) only [↓View.readCov_skip, ↓View.readCov_fill]
  by_cases hp : p.val = 0
  · rw [if_pos hp]
    match j with
    | 0 =>
      refine (canon_out _ _ _ _ _ (.inr (.inl (by show 0 * 1024 + l.val < 2048; omega)))).trans ((canon_out _ _ _ _ _ (.inr (.inl (by show 0 * 1024 + l.val < 1024; omega)))).trans ?_)
      refine (canon_in _ _ _ _ _ 0 l hp (by show 0 * 1024 + l.val = 0 + l.val; omega)).trans ((db_blk0 m c t _ l).trans (congrArg₂ (· + ·) ?_ rfl))
      pointwise [k0_pay4]
    | 1 =>
      refine (canon_out _ _ _ _ _ (.inr (.inl (by show 1 * 1024 + l.val < 2048; omega)))).trans ?_
      refine (canon_in _ _ _ _ _ 0 l hp (by show 1 * 1024 + l.val = 1024 + l.val; omega)).trans ((db_blk1 m c t _ l).trans (congrArg₂ (· + ·) ?_ rfl))
      pointwise [k0_pay4]
    | 2 =>
      refine (canon_in _ _ _ _ _ 0 l hp (by show 2 * 1024 + l.val = 2048 + l.val; omega)).trans ((db_blk2 m c t _ l).trans (congrArg₂ (· + ·) ?_ rfl))
      pointwise [k0_pay4]
  · rw [if_neg hp]
    have h1 : 1 ≤ p.val := by omega
    refine (canon_out _ _ _ _ _ (.inl h1)).trans ((canon_out _ _ _ _ _ (.inl h1)).trans ((canon_out _ _ _ _ _ (.inl h1)).trans ?_))
    refine (congrFun (View.canon_cons_unit_lit _ _ _ (by decide)) _).trans ?_
    pointwise [k0_pay4]

theorem out14_B (c : Dev nD) (t : Fin cfg0.N) (h : ¬t.val % 8 = 0) (p : Fin 8) (j : Fin 3) (l : Fin 1024) :
    ((outsAt0 m c t.val t.isLt).2.2.2.2.2.2.2 (ix2 p (cq j l)) : EReal) = (outsAt0 m c (t.val - 1) (Nat.lt_of_le_of_lt (Nat.sub_le _ _) t.isLt)).2.2.2.2.2.2.2 (ix2 p (cq j l))
      + (if p.val = 0 then ∑ i : Fin 512, dP (aX m c) (aY m c) (aP m c) (aW m c) (aB m c) j (row t i) l else 0) := by
  have hl := l.isLt
  rw [outsAt0_B m c t h]
  frame_out
  generalize (outsAt0 m c (t.val - 1) (Nat.lt_of_le_of_lt (Nat.sub_le _ _) t.isLt)).2.2.2.2.2.2.2 = acc
  by_cases hp : p.val = 0
  · rw [if_pos hp]
    have hp' : p = 0 := Fin.ext hp
    subst hp'
    match j with
    | 0 =>
      refine (read_out _ _ _ _ _ _ _ (.inr (.inl (by show 0 * 1024 + l.val < 2048; omega)))).trans ((read_out _ _ _ _ _ _ _ (.inr (.inl (by show 0 * 1024 + l.val < 1024; omega)))).trans ?_)
      refine (read_in _ _ _ _ _ _ _ 0 l hp (by show 0 * 1024 + l.val = 0 + l.val; omega)).trans ((db_blk0 m c t _ l).trans (congrArg₂ (· + ·) ?_ rfl))
      unfold cq; pointwise; blk_ext
    | 1 =>
      refine (read_out _ _ _ _ _ _ _ (.inr (.inl (by show 1 * 1024 + l.val < 2048; omega)))).trans ?_
      refine (read_in _ _ _ _ _ _ _ 0 l hp (by show 1 * 1024 + l.val = 1024 + l.val; omega)).trans ((db_blk1 m c t _ l).trans (congrArg₂ (· + ·) ?_ rfl))
      unfold cq; pointwise; blk_ext
    | 2 =>
      refine (read_in _ _ _ _ _ _ _ 0 l hp (by show 2 * 1024 + l.val = 2048 + l.val; omega)).trans ((db_blk2 m c t _ l).trans (congrArg₂ (· + ·) ?_ rfl))
      unfold cq; pointwise; blk_ext
  · rw [if_neg hp, add_zero]
    have h1 : 1 ≤ p.val := by omega
    refine (read_out _ _ _ _ _ _ _ (.inl h1)).trans ((read_out _ _ _ _ _ _ _ (.inl h1)).trans ((read_out _ _ _ _ _ _ _ (.inl h1)).trans ?_))
    rw [View.writes_nil, Memref.IsWhole.read_unread]

/-- What a point adds. -/
theorem adds (c : Dev nD) (t : Fin cfg0.N) (p : Fin 8) (j : Fin 3) (l : Fin 1024) :
    ∑ i : Fin 512, tB (aX m c) (aY m c) (aP m c) (aW m c) (aB m c) (row t i) (ix2 p (cq j l)) = if p.val = 0 then ∑ i : Fin 512, dP (aX m c) (aY m c) (aP m c) (aW m c) (aB m c) j (row t i) l else 0 := by
  unfold tB
  show ∑ i : Fin 512, (if p.val = 0 then dP (aX m c) (aY m c) (aP m c) (aW m c) (aB m c) (cj (cq j l)) (row t i) (cl (cq j l)) else 0) = _
  rw [cj_cq, cl_cq]
  by_cases hp : p.val = 0
  · simp only [if_pos hp]
  · simp only [if_neg hp, Finset.sum_const_zero]

theorem start (c : Dev nD) (t : Fin cfg0.N) (h : t.val % 8 = 0) (y : S8x3072.Idx) :
    ((outsAt0 m c t.val t.isLt).2.2.2.2.2.2.2 y : EReal) = 0 + ∑ i : Fin 512, tB (aX m c) (aY m c) (aP m c) (aW m c) (aB m c) (row t i) y := by
  idx_vars y
  rw [← cq_cj y1, adds, out14_A m c t h]
  by_cases hp : y0.val = 0
  · rw [if_pos hp, if_pos hp]
  · rw [if_neg hp, if_neg hp, add_zero]

theorem step (c : Dev nD) (t : Fin cfg0.N) (h : ¬t.val % 8 = 0) (y : S8x3072.Idx) :
    ((outsAt0 m c t.val t.isLt).2.2.2.2.2.2.2 y : EReal) = (outsAt0 m c (t.val - 1) (Nat.lt_of_le_of_lt (Nat.sub_le _ _) t.isLt)).2.2.2.2.2.2.2 y + ∑ i : Fin 512, tB (aX m c) (aY m c) (aP m c) (aW m c) (aB m c) (row t i) y := by
  idx_vars y
  rw [← cq_cj y1, adds]
  exact out14_B m c t h y0 (cj y1) (cl y1)

theorem final14 (c : Dev nD) : (dats m 0 c).arrAt 14 (cfgs 0).N = gB (aX m c) (aY m c) (aP m c) (aW m c) (aB m c) := by
  refine (dats m 0 c).arrAt_eq_of_after_last 14 t0_7 (by decide +kernel) _ fun j => ?_
  blk_simp
  rw [after0_14, Pipeline.eq_sum_fin_of_reset_step_apply_last (fun n h => (outsAt0 m c n h).2.2.2.2.2.2.2) 8 (fun _ => (0 : EReal))
    (fun p j => ∑ i : Fin 512, tB (aX m c) (aY m c) (aP m c) (aW m c) (aB m c) (row p i) j)
    (fun t h j => start m c t h j) (fun t h j => step m c t h j) (le_of_eq N_0) t0_7 rfl j, zero_add]
  exact Fin.sum_mul_add_congr fun s k hl => rfl

/-- The gates' gradient fills the last three parts of the projection's gradient. -/
def gD (DX : S4096x1024.Idx → EReal) (Y : Fin 3 → S4096x1024.Idx → EReal) (PG : S4096x9216.Idx → EReal) (W : S4x1024x1024.Idx → EReal) (BG : S1x3072.Idx → EReal) (i : S4096x9216.Idx) : EReal :=
  gP DX Y PG W BG (ix2 (i 0) ⟨(i 1).val - 6144, by have h : (i 1).val < 9216 := (i 1).isLt; omega⟩)

theorem gD_in (DX : S4096x1024.Idx → EReal) (Y : Fin 3 → S4096x1024.Idx → EReal) (PG : S4096x9216.Idx → EReal) (W : S4x1024x1024.Idx → EReal) (BG : S1x3072.Idx → EReal) (p : Fin 4096) (q : Fin 3072) :
    gD DX Y PG W BG (ix2 p ⟨6144 + q.val, by omega⟩ : S4096x9216.Idx) = gP DX Y PG W BG (ix2 p q) :=
  congrArg (gP _ _ _ _ _) (congrArg (ix2 p) (Fin.ext (by show 6144 + q.val - 6144 = q.val; omega)))

theorem final13 (c : Dev nD) (p : Fin 4096) (q : Fin 3072) :
    ((dats m 0 c).arrAt 13 (cfgs 0).N (ix2 p ⟨6144 + q.val, by omega⟩ : S4096x9216.Idx) : EReal) = gP (aX m c) (aY m c) (aP m c) (aW m c) (aB m c) (ix2 p q) := by
  have hw : (dats m 0 c).arrAt 13 (cfgs 0).N = fun i : S4096x9216.Idx => if (i 1).val / 3072 = 2 then gD (aX m c) (aY m c) (aP m c) (aW m c) (aB m c) i else (dats m 0 c).A 13 i := by
    refine (dats m 0 c).arrAt_eq_of_coversWhere 13 _ (fun β => β (1 : Fin 2) = 2) (by decide +kernel) (fun t hf y => ?_) (fun j => Iff.rfl)
    blk_simp
    rw [after0_13]
    have ht := lt t
    idx_vars y
    have e : (((View.whole main_v0_6).slice (win0_13.rect t)).emb (ix2 y0 y1 : S512x3072.Idx) : S4096x9216.Idx) = ix2 (row t y0) ⟨6144 + y1.val, by omega⟩ := by
      unfold row
      blk_ext [idx t]
    refine Eq.trans ?_ (congrArg (gD (aX m c) (aY m c) (aP m c) (aW m c) (aB m c)) e).symm
    rw [gD_in]
    have h := out13 m c t y0 (cj y1) (cl y1)
    rw [cq_cj] at h
    exact h
  rw [hw]
  exact (if_pos (by show (6144 + q.val) / 3072 = 2; omega)).trans (gD_in _ _ _ _ _ p q)

theorem slice_at (x : Vec Ideal S4096x9216 .bf16) (p : Fin 4096) (q : Fin 3072) :
    (extractStridedSlice S4096x3072 ![0, 6144] x slices_S4096x9216_S4096x3072_0_6144 (ix2 p q) : EReal) = x (ix2 p ⟨6144 + q.val, by omega⟩) := by
  pointwise

/-- What the line after the kernel reads. -/
theorem final_v1 (c : Dev nD) :
    (extractStridedSlice S4096x3072 ![0, 6144] ((dats m 0 c).arrAt 13 (cfgs 0).N : (⟨S4096x9216, .bf16⟩ : BufTy).Contents (Elt Ideal)) slices_S4096x9216_S4096x3072_0_6144 : S4096x3072.Idx → EReal)
      = gP (aX m c) (aY m c) (aP m c) (aW m c) (aB m c) := by
  funext y
  idx_vars y
  exact (slice_at _ y0 y1).trans (final13 m c y0 y1)

theorem tail_eq (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v1) = extractStridedSlice S4096x3072 ![0, 6144] ((dats m 0 c).arrAt 13 (cfgs 0).N : (⟨S4096x9216, .bf16⟩ : BufTy).Contents (Elt Ideal)) slices_S4096x9216_S4096x3072_0_6144 := by
  refine (h.rest_eq c main_v1 (by decide)).trans ?_
  unfold Pipeline.afterTail₀
  simp only [hostOps1, List.flatten_cons, List.flatten_nil, List.append_nil]
  after_results_simp
  exact congrArg (fun x : (⟨S4096x9216, .bf16⟩ : BufTy).Contents (Elt Ideal) => extractStridedSlice S4096x3072 ![0, 6144] x slices_S4096x9216_S4096x3072_0_6144)
    (Pipeline.withArrays_arr (cfgs 0).spec (by decide) c (V0 m c) (fun w => (dats m 0 c).arrAt w (cfgs 0).N) 13)

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v0_0) = (gY (aX m c) (aP m c) (aW m c) (aB m c) 0 : S4096x1024.Idx → EReal)
      ∧ r.2.mem ((c.tc : Thread nD τ).loc main_v0_1) = (gY (aX m c) (aP m c) (aW m c) (aB m c) 1 : S4096x1024.Idx → EReal)
      ∧ r.2.mem ((c.tc : Thread nD τ).loc main_v0_2) = (gY (aX m c) (aP m c) (aW m c) (aB m c) 2 : S4096x1024.Idx → EReal)
      ∧ r.2.mem ((c.tc : Thread nD τ).loc main_v0_3) = (gZ (aX m c) (aP m c) (aW m c) (aB m c) 0 : S4096x1024.Idx → EReal)
      ∧ r.2.mem ((c.tc : Thread nD τ).loc main_v0_4) = (gZ (aX m c) (aP m c) (aW m c) (aB m c) 1 : S4096x1024.Idx → EReal)
      ∧ r.2.mem ((c.tc : Thread nD τ).loc main_v0_5) = (gZ (aX m c) (aP m c) (aW m c) (aB m c) 2 : S4096x1024.Idx → EReal)
      ∧ r.2.mem ((c.tc : Thread nD τ).loc main_v1) = (gP (aX m c) (aY m c) (aP m c) (aW m c) (aB m c) : S4096x3072.Idx → EReal)
      ∧ r.2.mem ((c.tc : Thread nD τ).loc main_v0_7) = (gB (aX m c) (aY m c) (aP m c) (aW m c) (aB m c) : S8x3072.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (θ_run_and (run_main m ρ) (unchanged m ρ)) fun r hr c => ?_
  obtain ⟨h, ha⟩ := hr
  exact ⟨((h c).1 7).trans (final7 m c), ((h c).1 8).trans (final8 m c), ((h c).1 9).trans (final9 m c), ((h c).1 10).trans (final10 m c), ((h c).1 11).trans (final11 m c), ((h c).1 12).trans (final12 m c),
    (tail_eq m r h c).trans (final_v1 m c), ((h c).1 14).trans (final14 m c), ha c⟩

end Cert.Mix

end
-- ==== Proof.MixRef.lean ====
/-
  THE REFERENCE'S GRADIENT OF THE GATED MIXTURE, read at an index.
-/
module

public import Idealize.ShloMosaic.Lib.KernelVsHost
public import proofs.«01_k».proof.Proof.Mix
public import proofs.«01_k».proof.Proof.Gen.Reference9Ideal.Read

@[expose] public section

set_option maxRecDepth 16384

noncomputable section

namespace Cert.Mix.Ref

open Cert.Reference9Ideal Cert.Reference9Ideal.Gen Cert.Reference9Ideal.Read Cert.Mix Idealize.ShloMosaic Idealize.ShloMosaic.TcCoe Idealize.SL.Sem

variable (DX Y0 Y1 Y2 : S4096x1024.Idx → EReal) (PG : S4096x9216.Idx → EReal) (W : S4x1024x1024.Idx → EReal) (BG : S1x3072.Idx → EReal)

/-- The three branches. -/
def ys : Fin 3 → S4096x1024.Idx → EReal
  | 0 => Y0
  | 1 => Y1
  | 2 => Y2

theorem r12 (p : Fin 4096) (j : Fin 3) (l : Fin 1024) : (val_main_v12 (F := Ideal) PG BG (ix3 p j l) : EReal) = PG (ix2 p ⟨6144 + (cq j l).val, by have := (cq j l).isLt; omega⟩) + BG (ix2 0 (cq j l)) := by
  unfold cq
  pointwise [val_main_v12, val_main_v11, val_main_v5, val_main_v4, val_main_v10, val_main_v9, val_main_v6]

theorem r18 (p : Fin 4096) (j : Fin 3) (l : Fin 1024) : (val_main_v18 (F := Ideal) PG BG (ix3 p j l) : EReal) = gate PG BG j p l := by
  have h := r12 PG BG p j l
  unfold gate sg
  rw [← h]
  unfold val_main_v18 val_main_v16 val_main_v14 val_main_v13
  generalize val_main_v12 (F := Ideal) PG BG = r
  pointwise [val_main_v15, val_main_v17, val_main_cst, val_main_cst_0]
  rw [zero_sub]

theorem r21 (p : Fin 4096) (j : Fin 3) (l : Fin 1024) : (val_main_v21 (F := Ideal) PG BG (ix3 p j l) : EReal) = gate PG BG j p l * (1 - gate PG BG j p l) := by
  rw [← r18]
  unfold val_main_v21 val_main_v20
  generalize val_main_v18 (F := Ideal) PG BG = r
  pointwise [val_main_v19, val_main_cst_1]

theorem r23 (p : Fin 4096) (l : Fin 1024) : (val_main_v23 (F := Ideal) PG BG (ix2 p l) : EReal) = gate PG BG 0 p l := by
  rw [← r18]
  unfold val_main_v23 val_main_v22
  generalize val_main_v18 (F := Ideal) PG BG = r
  pointwise

theorem r26 (p : Fin 4096) (l : Fin 1024) : (val_main_v26 (F := Ideal) PG BG (ix2 p l) : EReal) = gate PG BG 1 p l := by
  rw [← r18]
  unfold val_main_v26 val_main_v25
  generalize val_main_v18 (F := Ideal) PG BG = r
  pointwise

theorem r30 (p : Fin 4096) (l : Fin 1024) : (val_main_v30 (F := Ideal) PG BG (ix2 p l) : EReal) = gate PG BG 2 p l := by
  rw [← r18]
  unfold val_main_v30 val_main_v29
  generalize val_main_v18 (F := Ideal) PG BG = r
  pointwise

theorem r8 (l k : Fin 1024) : (val_main_v8 (F := Ideal) W (ix2 l k) : EReal) = W (ix3 3 l k) := by
  pointwise [val_main_v8, val_main_v7, val_main_v0]

theorem r57 (l k : Fin 1024) : (val_main_v57 (F := Ideal) W (ix2 l k) : EReal) = W (ix3 0 l k) := by
  pointwise [val_main_v57, val_main_v56, val_main_v0]

theorem r60 (l k : Fin 1024) : (val_main_v60 (F := Ideal) W (ix2 l k) : EReal) = W (ix3 1 l k) := by
  pointwise [val_main_v60, val_main_v59, val_main_v0]

theorem r63 (l k : Fin 1024) : (val_main_v63 (F := Ideal) W (ix2 l k) : EReal) = W (ix3 2 l k) := by
  pointwise [val_main_v63, val_main_v62, val_main_v0]

theorem r35 (p : Fin 4096) (l : Fin 1024) : (val_main_v35 (F := Ideal) DX W (ix2 p l) : EReal) = dm DX W p l := by
  have h := r8 W
  unfold dm val_main_v35
  generalize val_main_v8 (F := Ideal) W = r at *
  pointwise [val_main_v34]
  simp only [h]

theorem r45 (p : Fin 4096) (l : Fin 1024) : (val_main_v45 (F := Ideal) DX PG W BG (ix2 p l) : EReal) = dY DX PG W BG 0 p l := by
  have h := r23 PG BG p l
  have h' := r35 DX W p l
  unfold dY val_main_v45
  generalize val_main_v23 (F := Ideal) PG BG = a at *
  generalize val_main_v35 (F := Ideal) DX W = b at *
  pointwise
  rw [h, h', mul_comm]

theorem r40 (p : Fin 4096) (l : Fin 1024) : (val_main_v40 (F := Ideal) DX PG W BG (ix2 p l) : EReal) = dY DX PG W BG 1 p l := by
  have h := r26 PG BG p l
  have h' := r35 DX W p l
  unfold dY val_main_v40
  generalize val_main_v26 (F := Ideal) PG BG = a at *
  generalize val_main_v35 (F := Ideal) DX W = b at *
  pointwise
  rw [h, h', mul_comm]

theorem r36 (p : Fin 4096) (l : Fin 1024) : (val_main_v36 (F := Ideal) DX PG W BG (ix2 p l) : EReal) = dY DX PG W BG 2 p l := by
  have h := r30 PG BG p l
  have h' := r35 DX W p l
  unfold dY val_main_v36
  generalize val_main_v30 (F := Ideal) PG BG = a at *
  generalize val_main_v35 (F := Ideal) DX W = b at *
  pointwise
  rw [h, h', mul_comm]

theorem r58 (p : Fin 4096) (l : Fin 1024) : (val_main_v58 (F := Ideal) DX PG W BG (ix2 p l) : EReal) = dZ DX PG W BG 0 p l := by
  have h := r45 DX PG W BG
  have h' := r57 W
  unfold dZ val_main_v58
  generalize val_main_v45 (F := Ideal) DX PG W BG = a at *
  generalize val_main_v57 (F := Ideal) W = b at *
  pointwise
  simp only [h, h']

theorem r61 (p : Fin 4096) (l : Fin 1024) : (val_main_v61 (F := Ideal) DX PG W BG (ix2 p l) : EReal) = dZ DX PG W BG 1 p l := by
  have h := r40 DX PG W BG
  have h' := r60 W
  unfold dZ val_main_v61
  generalize val_main_v40 (F := Ideal) DX PG W BG = a at *
  generalize val_main_v60 (F := Ideal) W = b at *
  pointwise
  simp only [h, h']

theorem r64 (p : Fin 4096) (l : Fin 1024) : (val_main_v64 (F := Ideal) DX PG W BG (ix2 p l) : EReal) = dZ DX PG W BG 2 p l := by
  have h := r36 DX PG W BG
  have h' := r63 W
  unfold dZ val_main_v64
  generalize val_main_v36 (F := Ideal) DX PG W BG = a at *
  generalize val_main_v63 (F := Ideal) W = b at *
  pointwise
  simp only [h, h']

/-- The branch a column of the gates' gradient belongs to is the only one its padded parts leave. -/
theorem r49 (p : Fin 4096) (l : Fin 1024) : ∀ j, (val_main_v49 (F := Ideal) DX Y0 Y1 Y2 W (ix3 p j l) : EReal) = dm DX W p l * ys Y0 Y1 Y2 j (ix2 p l) := by
  have h := r35 DX W p l
  unfold val_main_v49 val_main_v44 val_main_v39 val_main_v43 val_main_v48 val_main_v38 val_main_v42 val_main_v47 val_main_v37 val_main_v41 val_main_v46
  generalize val_main_v35 (F := Ideal) DX W = b at *
  intro j
  match j with
  | 0 =>
    pointwise [val_main_v1, val_main_v2, val_main_v3, val_main_cst_2, val_main_cst_3, val_main_cst_4]
    exact congrArg (· * _) h
  | 1 =>
    pointwise [val_main_v1, val_main_v2, val_main_v3, val_main_cst_2, val_main_cst_3, val_main_cst_4]
    exact congrArg (· * _) h
  | 2 =>
    pointwise [val_main_v1, val_main_v2, val_main_v3, val_main_cst_2, val_main_cst_3, val_main_cst_4]
    exact congrArg (· * _) h

theorem r50 (p : Fin 4096) (j : Fin 3) (l : Fin 1024) : (val_main_v50 (F := Ideal) DX Y0 Y1 Y2 PG W BG (ix3 p j l) : EReal) = dP DX (ys Y0 Y1 Y2) PG W BG j p l := by
  have h := r49 DX Y0 Y1 Y2 W p l j
  have h' := r21 PG BG p j l
  unfold dP val_main_v50
  generalize val_main_v49 (F := Ideal) DX Y0 Y1 Y2 W = a at *
  generalize val_main_v21 (F := Ideal) PG BG = b at *
  pointwise
  rw [h, h', ← mul_assoc]

theorem r51 (i : S4096x3072.Idx) : (val_main_v51 (F := Ideal) DX Y0 Y1 Y2 PG W BG i : EReal) = gP DX (ys Y0 Y1 Y2) PG W BG i := by
  idx_vars i
  have h := r50 DX Y0 Y1 Y2 PG W BG i0 (cj i1) (cl i1)
  unfold val_main_v51
  generalize val_main_v50 (F := Ideal) DX Y0 Y1 Y2 PG W BG = a at *
  refine Eq.trans ?_ h
  unfold cj cl
  pointwise

theorem r55 (q : Fin 3072) : (val_main_v55 (F := Ideal) DX Y0 Y1 Y2 PG W BG (ix2 0 q) : EReal) = gB DX (ys Y0 Y1 Y2) PG W BG (ix2 0 q) := by
  have h := fun i => r51 DX Y0 Y1 Y2 PG W BG i
  unfold val_main_v55 val_main_v54 val_main_v53 val_main_v52
  generalize val_main_v51 (F := Ideal) DX Y0 Y1 Y2 PG W BG = a at *
  pointwise [val_main_cst_5, val_main_cst_6]
  simp only [h]
  refine (Finset.sum_eq_single (0 : Fin 1) (fun b _ h => absurd (Subsingleton.elim b 0) h) (fun h => absurd (Finset.mem_univ _) h)).trans ?_
  exact (Finset.sum_congr rfl fun p _ => (if_pos rfl).symm : ∑ p : Fin 4096, gP DX (ys Y0 Y1 Y2) PG W BG (ix2 p q) = ∑ p : Fin 4096, tB DX (ys Y0 Y1 Y2) PG W BG p (ix2 0 q))

theorem r72 (i : S8x3072.Idx) : (val_main_v72 (F := Ideal) DX Y0 Y1 Y2 PG W BG i : EReal) = gB DX (ys Y0 Y1 Y2) PG W BG i := by
  idx_vars i
  have h := r55 DX Y0 Y1 Y2 PG W BG
  unfold val_main_v72
  generalize val_main_v55 (F := Ideal) DX Y0 Y1 Y2 PG W BG = a at *
  pointwise
  by_cases h0 : i0.val = 0
  · rw [dif_pos (by omega)]
    have e : i0 = 0 := Fin.ext h0
    subst e
    exact h i1
  · rw [dif_neg (by omega)]
    refine Eq.trans ?_ (Finset.sum_eq_zero fun p _ => if_neg h0).symm
    pointwise [val_main_call0_v0, val_main_c]
    exact sitofp_zero (φ := .f32)

theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v65) = val_main_v65 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v66) = val_main_v66 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v67) = val_main_v67 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v68) = val_main_v68 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v69) = val_main_v69 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v70) = val_main_v70 (F := Ideal) (m ((c.tc : Thread nD τ).loc main_arg0)) (m ((c.tc : Thread nD τ).loc main_arg4)) (m ((c.tc : Thread nD τ).loc main_arg5)) (m ((c.tc : Thread nD τ).loc main_arg6))
      ∧ r.2.mem ((c.tc : Thread nD τ).loc main_v71) = val_main_v71 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v72) = val_main_v72 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine θ_run_mono (Value.run m ρ) fun r hr c => ?_
  obtain ⟨h1, h2, h3, h4, h5, h6, h7, h8, ha⟩ := hr c
  exact ⟨h1.trans (val_main_v65_eq _ _ _ _), h2.trans (val_main_v66_eq _ _ _ _), h3.trans (val_main_v67_eq _ _ _ _), h4.trans (val_main_v68_eq _ _ _ _), h5.trans (val_main_v69_eq _ _ _ _), h6.trans (val_main_v70_eq _ _ _ _),
    h7.trans (val_main_v71_eq _ _ _ _ _ _ _), h8.trans (val_main_v72_eq _ _ _ _ _ _ _), ha⟩

end Cert.Mix.Ref

namespace Cert.Proof

open Idealize.ShloMosaic Idealize.ShloMosaic.TcCoe Idealize.SL.Sem

theorem frame_mix_ref : Cert.quiescent_Reference9Ideal := fun m g _ =>
  θ_run_mono (Cert.Reference9Ideal.Value.run m g) fun r hr => ⟨fun c => (hr c).2.2.2.2.2.2.2.2, sem_eq_zero_of_no_sems (by decide) r.2⟩

theorem ys_eq (m : (ℓ : Loc Cert.Kernel9Ideal.nD Cert.Kernel9Ideal.τ Cert.Kernel9Ideal.sig) → Buf (Elt Ideal) ℓ) (c : Dev Cert.Kernel9Ideal.nD) :
    Cert.Mix.Ref.ys (Cert.Mix.aY m c 0) (Cert.Mix.aY m c 1) (Cert.Mix.aY m c 2) = Cert.Mix.aY m c := by
  funext j
  match j with
  | 0 => rfl
  | 1 => rfl
  | 2 => rfl

theorem at_ix2 (f g : Cert.Kernel9Ideal.S4096x1024.Idx → EReal) (h : ∀ (p : Fin 4096) (l : Fin 1024), f (ix2 p l) = g (ix2 p l)) (i : Cert.Kernel9Ideal.S4096x1024.Idx) : f i = g i := by
  idx_vars i
  exact h i0 i1

theorem algebraic_mix : Cert.algebraic_Kernel9Ideal_Reference9Ideal := by
  pair_intro
  · run_from Cert.Mix.run m g
  · run_from Cert.Mix.Ref.run m' g'
    · exact funext fun i => at_ix2 _ _ (fun p l => Cert.Mix.Ref.r45 _ _ _ _ p l) i
    · exact funext fun i => at_ix2 _ _ (fun p l => Cert.Mix.Ref.r40 _ _ _ _ p l) i
    · exact funext fun i => at_ix2 _ _ (fun p l => Cert.Mix.Ref.r36 _ _ _ _ p l) i
    · exact funext fun i => at_ix2 _ _ (fun p l => Cert.Mix.Ref.r58 _ _ _ _ p l) i
    · exact funext fun i => at_ix2 _ _ (fun p l => Cert.Mix.Ref.r61 _ _ _ _ p l) i
    · exact funext fun i => at_ix2 _ _ (fun p l => Cert.Mix.Ref.r64 _ _ _ _ p l) i
    · exact (funext fun i => Cert.Mix.Ref.r51 _ _ _ _ _ _ _ i).trans (congrArg (fun y => Cert.Mix.gP _ y _ _ _) (ys_eq m c))
    · exact (funext fun i => Cert.Mix.Ref.r72 _ _ _ _ _ _ _ i).trans (congrArg (fun y => Cert.Mix.gB _ y _ _ _) (ys_eq m c))

end Cert.Proof

end
-- ==== Proof.MixOut.lean ====
/-
  THE MIXING OF THE THREE BRANCHES: their products with the square weights, the gates, the merged row, its product with the output weight,
  the residual, and the norm before the feed forward. Each point of the grid takes 512 rows.
-/
module

public import Idealize.ShloMosaic.Lib.Pipeline.ValueKit
public import proofs.«01_k».proof.Defs
public import proofs.«01_k».proof.Proof.Norm
public import proofs.«01_k».proof.Proof.Mix
public import proofs.«01_k».proof.Proof.Gen.Kernel10Ideal.Value
public import proofs.«01_k».proof.Proof.Gen.Reference10Ideal.Read

@[expose] public section

set_option maxRecDepth 16384

noncomputable section

namespace Cert.MixOut

open Cert.Kernel10Ideal Cert.Kernel10Ideal.Gen Cert.Norm Idealize.ShloMosaic Idealize.ShloMosaic.TcCoe Idealize.SL.Sem
open Cert.Mix (sg cq gate)

section Results
variable (X Z0 Z1 Z2 : S4096x1024.Idx → EReal) (PG : S4096x9216.Idx → EReal) (W : S4x1024x1024.Idx → EReal) (BG : S1x3072.Idx → EReal) (G : S1x1024.Idx → EReal)

/-- A branch through its weight. -/
def yy (Z : S4096x1024.Idx → EReal) (j : Fin 4) (p : Fin 4096) (l : Fin 1024) : EReal := ∑ k : Fin 1024, Z (ix2 p k) * W (ix3 j k l)

/-- The merged row. -/
def mg (p : Fin 4096) (l : Fin 1024) : EReal := gate PG BG 0 p l * yy W Z0 0 p l + gate PG BG 1 p l * yy W Z1 1 p l + gate PG BG 2 p l * yy W Z2 2 p l

/-- The row after the mixer, and its norm. -/
def xo (p : Fin 4096) (l : Fin 1024) : EReal := X (ix2 p l) + ∑ k : Fin 1024, mg Z0 Z1 Z2 PG W BG p k * W (ix3 3 k l)
def ho (p : Fin 4096) (l : Fin 1024) : EReal := xo X Z0 Z1 Z2 PG W BG p l * rr (xo X Z0 Z1 Z2 PG W BG p) * G (ix2 0 l)

def gY (Z : S4096x1024.Idx → EReal) (j : Fin 4) (i : S4096x1024.Idx) : EReal := yy W Z j (i 0) (i 1)
def gM (i : S4096x1024.Idx) : EReal := mg Z0 Z1 Z2 PG W BG (i 0) (i 1)
def gX (i : S4096x1024.Idx) : EReal := xo X Z0 Z1 Z2 PG W BG (i 0) (i 1)
def gH (i : S4096x1024.Idx) : EReal := ho X Z0 Z1 Z2 PG W BG G (i 0) (i 1)

end Results

theorem idx : ∀ t : Fin cfg0.N, win0_0.index t = ![t.val, 0] ∧ win0_1.index t = ![t.val, 0] ∧ win0_2.index t = ![t.val, 0] ∧ win0_3.index t = ![t.val, 0]
    ∧ win0_4.index t = ![t.val, 2] ∧ win0_5.index t = ![0, 0, 0] ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

section Payloads
variable (z u v : Vec Ideal S512x1024 .bf16) (w : Vec Ideal S1x1024x1024 .bf16) (b b' : Vec Ideal S1x1024 .f32) (x : Vec Ideal S512x1024 .f32) (a e f : FVec Ideal S512x1024 .f32)

theorem pay3 (p : Fin 512) (j : Fin 1024) : (k0_pay3 (F := Ideal) z w (ix2 p j) : EReal) = ∑ k : Fin 1024, z (ix2 p k) * w (ix3 0 k j) := by
  pointwise [k0_pay3]

theorem pay4 (p : Fin 512) (j : Fin 1024) : (k0_pay4 (F := Ideal) z w (ix2 p j) : EReal) = ∑ k : Fin 1024, z (ix2 p k) * w (ix3 0 k j) := by
  pointwise [k0_pay4]

theorem pay5 (p : Fin 512) (j : Fin 1024) : (k0_pay5 (F := Ideal) z w (ix2 p j) : EReal) = ∑ k : Fin 1024, z (ix2 p k) * w (ix3 0 k j) := by
  pointwise [k0_pay5]

theorem pay6 (p : Fin 512) (j : Fin 1024) : (k0_pay6 (F := Ideal) z w (ix2 p j) : EReal) = ∑ k : Fin 1024, z (ix2 p k) * w (ix3 0 k j) := pay3 z w p j

theorem pay8 (p : Fin 512) (j : Fin 1024) : (k0_pay8 (F := Ideal) z w (ix2 p j) : EReal) = ∑ k : Fin 1024, z (ix2 p k) * w (ix3 0 k j) := pay4 z w p j

theorem pay9 (p : Fin 512) (j : Fin 1024) : (k0_pay9 (F := Ideal) a (ix2 p j) : EReal) = a (ix2 p j) := rfl

theorem pay7 (p : Fin 512) (j : Fin 1024) : (k0_pay7 (F := Ideal) z w u b (ix2 p j) : EReal) = sg (u (ix2 p j) + b (ix2 0 j)) * k0_pay3 (F := Ideal) z w (ix2 p j) := by
  unfold k0_pay7 sg
  generalize k0_pay3 z w = r
  pointwise

theorem pay10 (p : Fin 512) (j : Fin 1024) : (k0_pay10 (F := Ideal) a e f u b v b' (ix2 p j) : EReal)
    = f (ix2 p j) + sg (u (ix2 p j) + b (ix2 0 j)) * a (ix2 p j) + sg (v (ix2 p j) + b' (ix2 0 j)) * e (ix2 p j) := by
  unfold k0_pay10 sg
  pointwise

theorem pay1 (p : Fin 512) (j : Fin 1024) : (k0_pay1 (F := Ideal) z x w (ix2 p j) : EReal) = x (ix2 p j) + ∑ k : Fin 1024, z (ix2 p k) * w (ix3 0 k j) := by
  pointwise [k0_pay1]

theorem pay2 (p : Fin 512) (j : Fin 1024) : (k0_pay2 (F := Ideal) z x w b (ix2 p j) : EReal)
    = k0_pay1 (F := Ideal) z x w (ix2 p j) * rr (fun k => k0_pay1 (F := Ideal) z x w (ix2 p k)) * b (ix2 0 j) := by
  unfold k0_pay2 rr ms c1024 eps
  generalize k0_pay1 z x w = r
  pointwise

end Payloads

variable (m : (ℓ : Loc nD τ sig) → Buf (Elt Ideal) ℓ)

abbrev aX (c : Dev nD) : S4096x1024.Idx → EReal := m ((c : Thread nD τ).loc main_arg0)
abbrev aZ0 (c : Dev nD) : S4096x1024.Idx → EReal := m ((c : Thread nD τ).loc main_arg1)
abbrev aZ1 (c : Dev nD) : S4096x1024.Idx → EReal := m ((c : Thread nD τ).loc main_arg2)
abbrev aZ2 (c : Dev nD) : S4096x1024.Idx → EReal := m ((c : Thread nD τ).loc main_arg3)
abbrev aP (c : Dev nD) : S4096x9216.Idx → EReal := m ((c : Thread nD τ).loc main_arg4)
abbrev aW (c : Dev nD) : S4x1024x1024.Idx → EReal := m ((c : Thread nD τ).loc main_arg5)
abbrev aB (c : Dev nD) : S1x3072.Idx → EReal := m ((c : Thread nD τ).loc main_arg6)
abbrev aG (c : Dev nD) : S1x1024.Idx → EReal := m ((c : Thread nD τ).loc main_arg7)

/-- The staged blocks. -/
abbrev bX (c : Dev nD) (t : Fin cfg0.N) : S512x1024.Idx → EReal := iblk m c 0 t
abbrev bZ0 (c : Dev nD) (t : Fin cfg0.N) : S512x1024.Idx → EReal := iblk m c 1 t
abbrev bZ1 (c : Dev nD) (t : Fin cfg0.N) : S512x1024.Idx → EReal := iblk m c 2 t
abbrev bZ2 (c : Dev nD) (t : Fin cfg0.N) : S512x1024.Idx → EReal := iblk m c 3 t
abbrev bP (c : Dev nD) (t : Fin cfg0.N) : S512x3072.Idx → EReal := iblk m c 4 t
abbrev bW (c : Dev nD) (t : Fin cfg0.N) : S4x1024x1024.Idx → EReal := iblk m c 5 t
abbrev bB (c : Dev nD) (t : Fin cfg0.N) : S1x3072.Idx → EReal := iblk m c 6 t
abbrev bG (c : Dev nD) (t : Fin cfg0.N) : S1x1024.Idx → EReal := iblk m c 7 t

theorem blkX (c : Dev nD) (t : Fin cfg0.N) (p : Fin 512) (k : Fin 1024) : bX m c t (ix2 p k) = aX m c (ix2 (row t p) k) := by
  have := lt t
  unfold bX aX row
  blk_ext [iblk, V, idx t]

theorem blkZ0 (c : Dev nD) (t : Fin cfg0.N) (p : Fin 512) (k : Fin 1024) : bZ0 m c t (ix2 p k) = aZ0 m c (ix2 (row t p) k) := by
  have := lt t
  unfold bZ0 aZ0 row
  blk_ext [iblk, V, idx t]

theorem blkZ1 (c : Dev nD) (t : Fin cfg0.N) (p : Fin 512) (k : Fin 1024) : bZ1 m c t (ix2 p k) = aZ1 m c (ix2 (row t p) k) := by
  have := lt t
  unfold bZ1 aZ1 row
  blk_ext [iblk, V, idx t]

theorem blkZ2 (c : Dev nD) (t : Fin cfg0.N) (p : Fin 512) (k : Fin 1024) : bZ2 m c t (ix2 p k) = aZ2 m c (ix2 (row t p) k) := by
  have := lt t
  unfold bZ2 aZ2 row
  blk_ext [iblk, V, idx t]

theorem blkP (c : Dev nD) (t : Fin cfg0.N) (p : Fin 512) (q : Fin 3072) : bP m c t (ix2 p q) = aP m c (ix2 (row t p) ⟨6144 + q.val, by omega⟩) := by
  have := lt t
  unfold bP aP row
  blk_ext [iblk, V, idx t]

theorem blkW (c : Dev nD) (t : Fin cfg0.N) (x : S4x1024x1024.Idx) : bW m c t x = aW m c x := by
  unfold bW aW
  blk_ext [iblk, V, idx t]

theorem blkB (c : Dev nD) (t : Fin cfg0.N) (x : S1x3072.Idx) : bB m c t x = aB m c x := by
  unfold bB aB
  blk_ext [iblk, V, idx t]

theorem blkG (c : Dev nD) (t : Fin cfg0.N) (x : S1x1024.Idx) : bG m c t x = aG m c x := by
  unfold bG aG
  blk_ext [iblk, V, idx t]

abbrev w0 (c : Dev nD) (t : Fin cfg0.N) : Vec Ideal S1x1024x1024 .bf16 := View.ld (iblk m c 5 t) (Rect.unit (s := S4x1024x1024) ![0, 0, 0] ![1, 1024, 1024] inb_S4x1024x1024_S1x1024x1024_0_0_0)

theorem ldw0 (c : Dev nD) (t : Fin cfg0.N) (l k : Fin 1024) : (w0 m c t (ix3 0 l k) : EReal) = aW m c (ix3 0 l k) := by
  rw [← blkW m c t]
  unfold w0 bW
  pointwise

abbrev w1 (c : Dev nD) (t : Fin cfg0.N) : Vec Ideal S1x1024x1024 .bf16 := View.ld (iblk m c 5 t) (Rect.unit (s := S4x1024x1024) ![1, 0, 0] ![1, 1024, 1024] inb_S4x1024x1024_S1x1024x1024_1_0_0)

theorem ldw1 (c : Dev nD) (t : Fin cfg0.N) (l k : Fin 1024) : (w1 m c t (ix3 0 l k) : EReal) = aW m c (ix3 1 l k) := by
  rw [← blkW m c t]
  unfold w1 bW
  pointwise

abbrev w2 (c : Dev nD) (t : Fin cfg0.N) : Vec Ideal S1x1024x1024 .bf16 := View.ld (iblk m c 5 t) (Rect.unit (s := S4x1024x1024) ![2, 0, 0] ![1, 1024, 1024] inb_S4x1024x1024_S1x1024x1024_2_0_0)

theorem ldw2 (c : Dev nD) (t : Fin cfg0.N) (l k : Fin 1024) : (w2 m c t (ix3 0 l k) : EReal) = aW m c (ix3 2 l k) := by
  rw [← blkW m c t]
  unfold w2 bW
  pointwise

abbrev w3 (c : Dev nD) (t : Fin cfg0.N) : Vec Ideal S1x1024x1024 .bf16 := View.ld (iblk m c 5 t) (Rect.unit (s := S4x1024x1024) ![3, 0, 0] ![1, 1024, 1024] inb_S4x1024x1024_S1x1024x1024_3_0_0)

theorem ldw3 (c : Dev nD) (t : Fin cfg0.N) (l k : Fin 1024) : (w3 m c t (ix3 0 l k) : EReal) = aW m c (ix3 3 l k) := by
  rw [← blkW m c t]
  unfold w3 bW
  pointwise

abbrev p0 (c : Dev nD) (t : Fin cfg0.N) : Vec Ideal S512x1024 .bf16 := View.ld (iblk m c 4 t) (Rect.unit (s := S512x3072) ![0, 0] ![512, 1024] inb_S512x3072_S512x1024_0_0)
abbrev b0 (c : Dev nD) (t : Fin cfg0.N) : Vec Ideal S1x1024 .f32 := View.ld (iblk m c 6 t) (Rect.unit (s := S1x3072) ![0, 0] ![1, 1024] inb_S1x3072_S1x1024_0_0)

theorem gate0 (c : Dev nD) (t : Fin cfg0.N) (p : Fin 512) (l : Fin 1024) : sg ((p0 m c t (ix2 p l) : EReal) + (b0 m c t (ix2 0 l) : EReal)) = gate (aP m c) (aB m c) 0 (row t p) l := by
  unfold gate
  rw [← blkP m c t, ← blkB m c t]
  refine congrArg sg (congrArg₂ (· + ·) ?_ ?_)
  · unfold p0 bP cq
    pointwise
    blk_ext
  · unfold b0 bB cq
    pointwise
    blk_ext

abbrev p1 (c : Dev nD) (t : Fin cfg0.N) : Vec Ideal S512x1024 .bf16 := View.ld (iblk m c 4 t) (Rect.unit (s := S512x3072) ![0, 1024] ![512, 1024] inb_S512x3072_S512x1024_0_1024)
abbrev b1 (c : Dev nD) (t : Fin cfg0.N) : Vec Ideal S1x1024 .f32 := View.ld (iblk m c 6 t) (Rect.unit (s := S1x3072) ![0, 1024] ![1, 1024] inb_S1x3072_S1x1024_0_1024)

theorem gate1 (c : Dev nD) (t : Fin cfg0.N) (p : Fin 512) (l : Fin 1024) : sg ((p1 m c t (ix2 p l) : EReal) + (b1 m c t (ix2 0 l) : EReal)) = gate (aP m c) (aB m c) 1 (row t p) l := by
  unfold gate
  rw [← blkP m c t, ← blkB m c t]
  refine congrArg sg (congrArg₂ (· + ·) ?_ ?_)
  · unfold p1 bP cq
    pointwise
    blk_ext
  · unfold b1 bB cq
    pointwise
    blk_ext

abbrev p2 (c : Dev nD) (t : Fin cfg0.N) : Vec Ideal S512x1024 .bf16 := View.ld (iblk m c 4 t) (Rect.unit (s := S512x3072) ![0, 2048] ![512, 1024] inb_S512x3072_S512x1024_0_2048)
abbrev b2 (c : Dev nD) (t : Fin cfg0.N) : Vec Ideal S1x1024 .f32 := View.ld (iblk m c 6 t) (Rect.unit (s := S1x3072) ![0, 2048] ![1, 1024] inb_S1x3072_S1x1024_0_2048)

theorem gate2 (c : Dev nD) (t : Fin cfg0.N) (p : Fin 512) (l : Fin 1024) : sg ((p2 m c t (ix2 p l) : EReal) + (b2 m c t (ix2 0 l) : EReal)) = gate (aP m c) (aB m c) 2 (row t p) l := by
  unfold gate
  rw [← blkP m c t, ← blkB m c t]
  refine congrArg sg (congrArg₂ (· + ·) ?_ ?_)
  · unfold p2 bP cq
    pointwise
    blk_ext
  · unfold b2 bB cq
    pointwise
    blk_ext

theorem yb0 (c : Dev nD) (t : Fin cfg0.N) (p : Fin 512) (l : Fin 1024) : (k0_pay3 (F := Ideal) (iblk m c 1 t) (w0 m c t) (ix2 p l) : EReal) = yy (aW m c) (aZ0 m c) 0 (row t p) l := by
  unfold yy
  exact (pay3 (bZ0 m c t) (w0 m c t) p l).trans (Finset.sum_congr rfl fun k _ => congrArg₂ (· * ·) (blkZ0 m c t p k) (ldw0 m c t k l))

theorem yb1 (c : Dev nD) (t : Fin cfg0.N) (p : Fin 512) (l : Fin 1024) : (k0_pay4 (F := Ideal) (iblk m c 2 t) (w1 m c t) (ix2 p l) : EReal) = yy (aW m c) (aZ1 m c) 1 (row t p) l := by
  unfold yy
  exact (pay4 (bZ1 m c t) (w1 m c t) p l).trans (Finset.sum_congr rfl fun k _ => congrArg₂ (· * ·) (blkZ1 m c t p k) (ldw1 m c t k l))

theorem yb2 (c : Dev nD) (t : Fin cfg0.N) (p : Fin 512) (l : Fin 1024) : (k0_pay5 (F := Ideal) (iblk m c 3 t) (w2 m c t) (ix2 p l) : EReal) = yy (aW m c) (aZ2 m c) 2 (row t p) l := by
  unfold yy
  exact (pay5 (bZ2 m c t) (w2 m c t) p l).trans (Finset.sum_congr rfl fun k _ => congrArg₂ (· * ·) (blkZ2 m c t p k) (ldw2 m c t k l))

abbrev yA (c : Dev nD) (t : Fin cfg0.N) : FVec Ideal S512x1024 .f32 := k0_pay7 (F := Ideal) (iblk m c 1 t) (w0 m c t) (p0 m c t) (b0 m c t)
abbrev yB (c : Dev nD) (t : Fin cfg0.N) : FVec Ideal S512x1024 .f32 := k0_pay4 (F := Ideal) (iblk m c 2 t) (w1 m c t)
abbrev yC (c : Dev nD) (t : Fin cfg0.N) : FVec Ideal S512x1024 .f32 := k0_pay5 (F := Ideal) (iblk m c 3 t) (w2 m c t)
abbrev yM (c : Dev nD) (t : Fin cfg0.N) : FVec Ideal S512x1024 .bf16 := k0_pay10 (F := Ideal) (yB m c t) (yC m c t) (yA m c t) (p1 m c t) (b1 m c t) (p2 m c t) (b2 m c t)

theorem e11 (c : Dev nD) (t : Fin cfg0.N) : k0_pay11 (F := Ideal) (iblk m c 0 t) (iblk m c 1 t) (iblk m c 2 t) (iblk m c 3 t) (iblk m c 4 t) (iblk m c 5 t) (iblk m c 6 t) (iblk m c 7 t) = yB m c t := by
  unfold k0_pay11
  exact congrArg (fun x => k0_pay4 (F := Ideal) x (w1 m c t)) (View.ld_unit_lit inb_S512x1024_S512x1024_0_0 _ (by decide))

theorem e12 (c : Dev nD) (t : Fin cfg0.N) : k0_pay12 (F := Ideal) (iblk m c 0 t) (iblk m c 1 t) (iblk m c 2 t) (iblk m c 3 t) (iblk m c 4 t) (iblk m c 5 t) (iblk m c 6 t) (iblk m c 7 t) = yC m c t := by
  unfold k0_pay12
  exact congrArg (fun x => k0_pay5 (F := Ideal) x (w2 m c t)) (View.ld_unit_lit inb_S512x1024_S512x1024_0_0 _ (by decide))

theorem e13 (c : Dev nD) (t : Fin cfg0.N) : k0_pay13 (F := Ideal) (iblk m c 0 t) (iblk m c 1 t) (iblk m c 2 t) (iblk m c 3 t) (iblk m c 4 t) (iblk m c 5 t) (iblk m c 6 t) (iblk m c 7 t) = yA m c t := by
  unfold k0_pay13
  exact congrArg (fun x => k0_pay7 (F := Ideal) x (w0 m c t) (p0 m c t) (b0 m c t)) (View.ld_unit_lit inb_S512x1024_S512x1024_0_0 _ (by decide))

theorem e14 (c : Dev nD) (t : Fin cfg0.N) : k0_pay14 (F := Ideal) (iblk m c 0 t) (iblk m c 1 t) (iblk m c 2 t) (iblk m c 3 t) (iblk m c 4 t) (iblk m c 5 t) (iblk m c 6 t) (iblk m c 7 t) = yM m c t := by
  unfold k0_pay14
  rw [e11, e12, e13]
  rfl

theorem mg_blk (c : Dev nD) (t : Fin cfg0.N) (p : Fin 512) (l : Fin 1024) : (yM m c t (ix2 p l) : EReal) = mg (aZ0 m c) (aZ1 m c) (aZ2 m c) (aP m c) (aW m c) (aB m c) (row t p) l := by
  unfold mg
  exact (pay10 (p1 m c t) (p2 m c t) (b1 m c t) (b2 m c t) (yB m c t) (yC m c t) (yA m c t) p l).trans
    (congrArg₂ (· + ·) (congrArg₂ (· + ·) ((pay7 (bZ0 m c t) (p0 m c t) (w0 m c t) (b0 m c t) p l).trans (congrArg₂ (· * ·) (gate0 m c t p l) (yb0 m c t p l)))
      (congrArg₂ (· * ·) (gate1 m c t p l) (yb1 m c t p l))) (congrArg₂ (· * ·) (gate2 m c t p l) (yb2 m c t p l)))

theorem xo_blk (c : Dev nD) (t : Fin cfg0.N) (p : Fin 512) (l : Fin 1024) : (k0_pay1 (F := Ideal) (yM m c t) (iblk m c 0 t) (w3 m c t) (ix2 p l) : EReal)
    = xo (aX m c) (aZ0 m c) (aZ1 m c) (aZ2 m c) (aP m c) (aW m c) (aB m c) (row t p) l := by
  unfold xo
  exact (pay1 (yM m c t) (w3 m c t) (bX m c t) p l).trans (congrArg₂ (· + ·) (blkX m c t p l) (Finset.sum_congr rfl fun k _ => congrArg₂ (· * ·) (mg_blk m c t p k) (ldw3 m c t k l)))

theorem ho_blk (c : Dev nD) (t : Fin cfg0.N) (p : Fin 512) (l : Fin 1024) : (k0_pay2 (F := Ideal) (yM m c t) (iblk m c 0 t) (w3 m c t) (iblk m c 7 t) (ix2 p l) : EReal)
    = ho (aX m c) (aZ0 m c) (aZ1 m c) (aZ2 m c) (aP m c) (aW m c) (aB m c) (aG m c) (row t p) l := by
  unfold ho
  exact (pay2 (yM m c t) (w3 m c t) (bG m c t) (bX m c t) p l).trans
    (congrArg₂ (· * ·) (congrArg₂ (· * ·) (xo_blk m c t p l) (congrArg rr (funext fun k => xo_blk m c t p k))) (blkG m c t _))

theorem final8 (c : Dev nD) : (dats m 0 c).arrAt 8 (cfgs 0).N = gY (aW m c) (aZ0 m c) 0 := by
  refine (dats m 0 c).arrAt_eq_of_covers 8 _ (by decide +kernel) fun t hf y => ?_
  blk_simp
  rw [after0_8]
  frame_out
  have ht := lt t
  idx_vars y
  refine (yb0 m c t y0 y1).trans (congrArg (gY (aW m c) (aZ0 m c) 0) (?_ : ix2 (row t y0) y1 = _))
  unfold row
  blk_ext [idx t]

theorem final9 (c : Dev nD) : (dats m 0 c).arrAt 9 (cfgs 0).N = gY (aW m c) (aZ1 m c) 1 := by
  refine (dats m 0 c).arrAt_eq_of_covers 9 _ (by decide +kernel) fun t hf y => ?_
  blk_simp
  rw [after0_9]
  frame_out
  have ht := lt t
  idx_vars y
  refine (yb1 m c t y0 y1).trans (congrArg (gY (aW m c) (aZ1 m c) 1) (?_ : ix2 (row t y0) y1 = _))
  unfold row
  blk_ext [idx t]

theorem final10 (c : Dev nD) : (dats m 0 c).arrAt 10 (cfgs 0).N = gY (aW m c) (aZ2 m c) 2 := by
  refine (dats m 0 c).arrAt_eq_of_covers 10 _ (by decide +kernel) fun t hf y => ?_
  blk_simp
  rw [after0_10]
  frame_out
  rw [e12]
  have ht := lt t
  idx_vars y
  refine (yb2 m c t y0 y1).trans (congrArg (gY (aW m c) (aZ2 m c) 2) (?_ : ix2 (row t y0) y1 = _))
  unfold row
  blk_ext [idx t]

theorem mgG (c : Dev nD) (t : Fin cfg0.N) (p : Fin 512) (l : Fin 1024) : (yM m c t (ix2 p l) : EReal) = gM (aZ0 m c) (aZ1 m c) (aZ2 m c) (aP m c) (aW m c) (aB m c) (ix2 (row t p) l) := by
  rw [mg_blk]
  rfl

theorem o11 (c : Dev nD) (t : Fin cfg0.N) : out0_11 (F := Ideal) (iblk m c 0 t) (iblk m c 1 t) (iblk m c 2 t) (iblk m c 3 t) (iblk m c 4 t) (iblk m c 5 t) (iblk m c 6 t) (iblk m c 7 t) = yM m c t := by
  unfold out0_11
  exact (View.canon_cons_unit_lit inb_S512x1024_S512x1024_0_0 _ _ (by decide)).trans (e14 m c t)

theorem final11 (c : Dev nD) : (dats m 0 c).arrAt 11 (cfgs 0).N = gM (aZ0 m c) (aZ1 m c) (aZ2 m c) (aP m c) (aW m c) (aB m c) := by
  refine (dats m 0 c).arrAt_eq_of_covers 11 _ (by decide +kernel) fun t hf y => ?_
  blk_simp
  rw [after0_11]
  rw [o11]
  have ht := lt t
  idx_vars y
  rw [mgG m c t y0 y1]
  refine congrArg (gM (aZ0 m c) (aZ1 m c) (aZ2 m c) (aP m c) (aW m c) (aB m c)) (?_ : ix2 (row t y0) y1 = _)
  unfold row
  blk_ext [idx t]

theorem final12 (c : Dev nD) : (dats m 0 c).arrAt 12 (cfgs 0).N = gX (aX m c) (aZ0 m c) (aZ1 m c) (aZ2 m c) (aP m c) (aW m c) (aB m c) := by
  refine (dats m 0 c).arrAt_eq_of_covers 12 _ (by decide +kernel) fun t hf y => ?_
  blk_simp
  rw [after0_12]
  frame_out
  rw [e14]
  have ht := lt t
  idx_vars y
  refine (xo_blk m c t y0 y1).trans (congrArg (gX (aX m c) (aZ0 m c) (aZ1 m c) (aZ2 m c) (aP m c) (aW m c) (aB m c)) (?_ : ix2 (row t y0) y1 = _))
  unfold row
  blk_ext [idx t]

theorem final13 (c : Dev nD) : (dats m 0 c).arrAt 13 (cfgs 0).N = gH (aX m c) (aZ0 m c) (aZ1 m c) (aZ2 m c) (aP m c) (aW m c) (aB m c) (aG m c) := by
  refine (dats m 0 c).arrAt_eq_of_covers 13 _ (by decide +kernel) fun t hf y => ?_
  blk_simp
  rw [after0_13]
  frame_out
  rw [e14]
  have ht := lt t
  idx_vars y
  refine (ho_blk m c t y0 y1).trans (congrArg (gH (aX m c) (aZ0 m c) (aZ1 m c) (aZ2 m c) (aP m c) (aW m c) (aB m c) (aG m c)) (?_ : ix2 (row t y0) y1 = _))
  unfold row
  blk_ext [idx t]

end Cert.MixOut

namespace Cert.MixOut.Ref

open Cert.Reference10Ideal Cert.Reference10Ideal.Gen Cert.Reference10Ideal.Read Cert.Norm Cert.MixOut Idealize.ShloMosaic Idealize.ShloMosaic.TcCoe Idealize.SL.Sem
open Cert.Mix (sg cq gate)

variable (X Z0 Z1 Z2 : S4096x1024.Idx → EReal) (PG : S4096x9216.Idx → EReal) (W : S4x1024x1024.Idx → EReal) (BG : S1x3072.Idx → EReal) (G : S1x1024.Idx → EReal)

theorem r4 (p : Fin 4096) (l : Fin 1024) : (val_main_v4 (F := Ideal) Z0 W (ix2 p l) : EReal) = yy W Z0 0 p l := by
  unfold yy
  pointwise [val_main_v4, val_main_v1, val_main_v3, val_main_v2, val_main_v0]

theorem r8 (p : Fin 4096) (l : Fin 1024) : (val_main_v8 (F := Ideal) Z1 W (ix2 p l) : EReal) = yy W Z1 1 p l := by
  unfold yy
  pointwise [val_main_v8, val_main_v5, val_main_v7, val_main_v6, val_main_v0]

theorem r12 (p : Fin 4096) (l : Fin 1024) : (val_main_v12 (F := Ideal) Z2 W (ix2 p l) : EReal) = yy W Z2 2 p l := by
  unfold yy
  pointwise [val_main_v12, val_main_v9, val_main_v11, val_main_v10, val_main_v0]

theorem r19 (p : Fin 4096) (j : Fin 3) (l : Fin 1024) : (val_main_v19 (F := Ideal) PG BG (ix3 p j l) : EReal) = PG (ix2 p ⟨6144 + (cq j l).val, by have := (cq j l).isLt; omega⟩) + BG (ix2 0 (cq j l)) := by
  unfold cq
  pointwise [val_main_v19, val_main_v18, val_main_v14, val_main_v13, val_main_v17, val_main_v16, val_main_v15]

theorem r25 (p : Fin 4096) (j : Fin 3) (l : Fin 1024) : (val_main_v25 (F := Ideal) PG BG (ix3 p j l) : EReal) = gate PG BG j p l := by
  have h := r19 PG BG p j l
  unfold gate sg
  rw [← h]
  unfold val_main_v25 val_main_v23 val_main_v21 val_main_v20
  generalize val_main_v19 (F := Ideal) PG BG = r
  pointwise [val_main_v22, val_main_v24, val_main_cst, val_main_cst_0]
  rw [zero_sub]

theorem r27 (p : Fin 4096) (l : Fin 1024) : (val_main_v27 (F := Ideal) PG BG (ix2 p l) : EReal) = gate PG BG 0 p l := by
  rw [← r25]
  unfold val_main_v27 val_main_v26
  generalize val_main_v25 (F := Ideal) PG BG = r
  pointwise

theorem r30 (p : Fin 4096) (l : Fin 1024) : (val_main_v30 (F := Ideal) PG BG (ix2 p l) : EReal) = gate PG BG 1 p l := by
  rw [← r25]
  unfold val_main_v30 val_main_v29
  generalize val_main_v25 (F := Ideal) PG BG = r
  pointwise

theorem r34 (p : Fin 4096) (l : Fin 1024) : (val_main_v34 (F := Ideal) PG BG (ix2 p l) : EReal) = gate PG BG 2 p l := by
  rw [← r25]
  unfold val_main_v34 val_main_v33
  generalize val_main_v25 (F := Ideal) PG BG = r
  pointwise

theorem r36 (p : Fin 4096) (l : Fin 1024) : (val_main_v36 (F := Ideal) Z0 Z1 Z2 PG W BG (ix2 p l) : EReal) = mg Z0 Z1 Z2 PG W BG p l := by
  unfold mg
  rw [← r4, ← r8, ← r12, ← r27, ← r30, ← r34]
  rfl

theorem r40 (p : Fin 4096) (l : Fin 1024) : (val_main_v40 (F := Ideal) X Z0 Z1 Z2 PG W BG (ix2 p l) : EReal) = xo X Z0 Z1 Z2 PG W BG p l := by
  have h := r36 Z0 Z1 Z2 PG W BG
  unfold val_main_v40 val_main_v39 xo
  generalize val_main_v36 (F := Ideal) Z0 Z1 Z2 PG W BG = r at *
  pointwise [val_main_v38, val_main_v37, val_main_v0]
  simp only [h]

theorem r53 (p : Fin 4096) : (val_main_v53 (F := Ideal) X Z0 Z1 Z2 PG W BG (ix2 p 0) : EReal) = rr (xo X Z0 Z1 Z2 PG W BG p) := by
  have h := r40 X Z0 Z1 Z2 PG W BG
  unfold val_main_v53 val_main_v52 val_main_v50 val_main_v48 val_main_v47 val_main_v46 rr ms c1024 eps
  generalize val_main_v40 (F := Ideal) X Z0 Z1 Z2 PG W BG = r at *
  pointwise [val_main_v49, val_main_v51, val_main_cst_1, val_main_cst_2, val_main_cst_3]
  simp only [h]

theorem r59 (p : Fin 4096) (l : Fin 1024) : (val_main_v59 (F := Ideal) X Z0 Z1 Z2 PG W BG G (ix2 p l) : EReal) = ho X Z0 Z1 Z2 PG W BG G p l := by
  have h := r40 X Z0 Z1 Z2 PG W BG
  have h' := r53 X Z0 Z1 Z2 PG W BG
  unfold val_main_v59 val_main_v58 val_main_v55 val_main_v54 ho
  generalize val_main_v40 (F := Ideal) X Z0 Z1 Z2 PG W BG = r at *
  generalize val_main_v53 (F := Ideal) X Z0 Z1 Z2 PG W BG = s at *
  pointwise [val_main_v57, val_main_v56, val_main_v45]
  simp only [h, h']

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v41) = val_main_v41 (F := Ideal) (m ((c.tc : Thread nD τ).loc main_arg1)) (m ((c.tc : Thread nD τ).loc main_arg5))
      ∧ r.2.mem ((c.tc : Thread nD τ).loc main_v42) = val_main_v42 (F := Ideal) (m ((c.tc : Thread nD τ).loc main_arg2)) (m ((c.tc : Thread nD τ).loc main_arg5))
      ∧ r.2.mem ((c.tc : Thread nD τ).loc main_v43) = val_main_v43 (F := Ideal) (m ((c.tc : Thread nD τ).loc main_arg3)) (m ((c.tc : Thread nD τ).loc main_arg5))
      ∧ r.2.mem ((c.tc : Thread nD τ).loc main_v44) = val_main_v44 (F := Ideal) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v40) = val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine θ_run_mono (Value.run m g) fun r hr c => ?_
  obtain ⟨h0, h1, h2, h3, h4, h5, ha⟩ := hr c
  exact ⟨h0.trans (val_main_v41_eq _ _), h1.trans (val_main_v42_eq _ _), h2.trans (val_main_v43_eq _ _), h3.trans (val_main_v44_eq _ _ _ _ _ _), h4.trans (val_main_v40_eq _ _ _ _ _ _ _), h5.trans (val_main_v59_eq m c), ha⟩

/-- Two arrays agree when they agree at every pair of coordinates. -/
theorem ext2 {f g : S4096x1024.Idx → EReal} (h : ∀ p l, f (ix2 p l) = g (ix2 p l)) : f = g := by
  funext i
  idx_vars i
  exact h i0 i1

end Cert.MixOut.Ref

namespace Cert.Proof

open Idealize.ShloMosaic Idealize.ShloMosaic.TcCoe Idealize.SL.Sem

theorem frame_mix_out_ref : Cert.quiescent_Reference10Ideal := fun m g _ =>
  θ_run_mono (Cert.Reference10Ideal.Value.run m g) fun r hr => ⟨fun c => (hr c).2.2.2.2.2.2, sem_eq_zero_of_no_sems (by decide) r.2⟩

theorem algebraic_mix_out : Cert.algebraic_Kernel10Ideal_Reference10Ideal := by
  pair_intro
  · run_from Cert.Kernel10Ideal.Value.run_blocks m g
  · run_from Cert.MixOut.Ref.run m' g'
    · exact (Cert.MixOut.Ref.ext2 fun p l => Cert.MixOut.Ref.r4 _ _ p l).trans (Cert.MixOut.final8 m c).symm
    · exact (Cert.MixOut.Ref.ext2 fun p l => Cert.MixOut.Ref.r8 _ _ p l).trans (Cert.MixOut.final9 m c).symm
    · exact (Cert.MixOut.Ref.ext2 fun p l => Cert.MixOut.Ref.r12 _ _ p l).trans (Cert.MixOut.final10 m c).symm
    · exact (Cert.MixOut.Ref.ext2 fun p l => Cert.MixOut.Ref.r36 _ _ _ _ _ _ p l).trans (Cert.MixOut.final11 m c).symm
    · exact (Cert.MixOut.Ref.ext2 fun p l => Cert.MixOut.Ref.r40 _ _ _ _ _ _ _ p l).trans (Cert.MixOut.final12 m c).symm
    · exact (Cert.MixOut.Ref.ext2 fun p l => Cert.MixOut.Ref.r59 _ _ _ _ _ _ _ _ p l).trans (Cert.MixOut.final13 m c).symm

end Cert.Proof

end
-- ==== Proof.Proj.lean ====
/-
  THE INPUT PROJECTION OF THE MIXER: the normed activations times the gathered weight, a tile at a time.
-/
module

public import Idealize.ShloMosaic.Lib.Pipeline.ValueKit
public import proofs.«01_k».proof.Defs
public import proofs.«01_k».proof.Proof.Gen.Kernel11Ideal.Value
public import proofs.«01_k».proof.Proof.Gen.Reference11Ideal.Read

@[expose] public section

set_option maxRecDepth 16384

noncomputable section

namespace Cert.Proj

open Cert.Kernel11Ideal Cert.Kernel11Ideal.Gen Idealize.ShloMosaic Idealize.ShloMosaic.TcCoe Idealize.SL.Sem

/-- The product of the rows and the columns. -/
def G (A : S4096x1024.Idx → EReal) (B : S1024x9216.Idx → EReal) (i : S4096x9216.Idx) : EReal := ∑ r : Fin 1024, A (ix2 (i 0) r) * B (ix2 r (i 1))

theorem idx : ∀ t : Fin cfg0.N, win0_0.index t = ![t.val / 6, 0] ∧ win0_1.index t = ![0, t.val % 6] ∧ win0_2.index t = ![t.val / 6, t.val % 6] :=
  (by decide +kernel : ∀ t : Fin grid0.N, _)

theorem lt (t : Fin cfg0.N) : t.val < 24 := lt_of_lt_of_eq t.isLt N_0

theorem pay (A : Vec Ideal S1024x1024 .bf16) (B : Vec Ideal S1024x1536 .bf16) (y : S1024x1536.Idx) :
    (k0_pay1 (F := Ideal) A B y : EReal) = ∑ r : Fin 1024, A (ix2 (y 0) r) * B (ix2 r (y 1)) := by
  idx_vars y
  pointwise [k0_pay1]

variable (m : (ℓ : Loc nD τ sig) → Buf (Elt Ideal) ℓ)

theorem point (c : Dev nD) (t : Fin cfg0.N) (y : S1024x1536.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Proj

namespace Cert.Proj.Ref

open Cert.Reference11Ideal Cert.Reference11Ideal.Gen Cert.Reference11Ideal.Read Idealize.ShloMosaic Idealize.ShloMosaic.TcCoe Idealize.SL.Sem

theorem value (A : S4096x1024.Idx → EReal) (B : S1024x9216.Idx → EReal) : val_main_v3 (F := Ideal) A B = Cert.Proj.G A B := by
  funext i
  rw [val_main_v3_apply, val_main_v2_apply]
  refine (Finset.sum_congr rfl fun r _ => ?_ : _ = ∑ r : Fin 1024, A (ix2 (i 0) r) * B (ix2 r (i 1)))
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v3_eq _ _), ha⟩

end Cert.Proj.Ref

namespace Cert.Proof

open Idealize.ShloMosaic Idealize.ShloMosaic.TcCoe Idealize.SL.Sem

theorem frame_proj_ref : Cert.quiescent_Reference11Ideal := fun m g _ =>
  θ_run_mono (Cert.Reference11Ideal.Value.run m g) fun r hr => ⟨fun c => (hr c).2, sem_eq_zero_of_no_sems (by decide) r.2⟩

theorem algebraic_proj : Cert.algebraic_Kernel11Ideal_Reference11Ideal := by
  pair_intro
  · run_from Cert.Kernel11Ideal.Value.run_blocks m g
  · run_from Cert.Proj.Ref.run m' g'
    exact (Cert.Proj.Ref.value _ _).trans (Cert.Proj.final m c).symm

end Cert.Proof

end
-- ==== Proof.Up.lean ====
/-
  THE UP PROJECTION OF THE FEED FORWARD: the normed activations times the gathered weight, a tile at a time.
-/
module

public import Idealize.ShloMosaic.Lib.Pipeline.ValueKit
public import proofs.«01_k».proof.Defs
public import proofs.«01_k».proof.Proof.Gen.Kernel12Ideal.Value
public import proofs.«01_k».proof.Proof.Gen.Reference12Ideal.Read

@[expose] public section

set_option maxRecDepth 16384

noncomputable section

namespace Cert.Up

open Cert.Kernel12Ideal Cert.Kernel12Ideal.Gen Idealize.ShloMosaic Idealize.ShloMosaic.TcCoe Idealize.SL.Sem

/-- The product of the rows and the columns. -/
def G (A : S4096x1024.Idx → EReal) (B : S1024x6144.Idx → EReal) (i : S4096x6144.Idx) : EReal := ∑ r : Fin 1024, A (ix2 (i 0) r) * B (ix2 r (i 1))

theorem idx : ∀ t : Fin cfg0.N, win0_0.index t = ![t.val / 4, 0] ∧ win0_1.index t = ![0, t.val % 4] ∧ win0_2.index t = ![t.val / 4, t.val % 4] :=
  (by decide +kernel : ∀ t : Fin grid0.N, _)

theorem lt (t : Fin cfg0.N) : t.val < 16 := lt_of_lt_of_eq t.isLt N_0

theorem pay (A : Vec Ideal S1024x1024 .bf16) (B : Vec Ideal S1024x1536 .bf16) (y : S1024x1536.Idx) :
    (k0_pay1 (F := Ideal) A B y : EReal) = ∑ r : Fin 1024, A (ix2 (y 0) r) * B (ix2 r (y 1)) := by
  idx_vars y
  pointwise [k0_pay1]

variable (m : (ℓ : Loc nD τ sig) → Buf (Elt Ideal) ℓ)

theorem point (c : Dev nD) (t : Fin cfg0.N) (y : S1024x1536.Idx) :
    k0_pay1 (F := Ideal) (iblk m c 0 t) (iblk m c 1 t) y = G (m ((c : Thread nD τ).loc main_arg0)) (m ((c : Thread nD τ).loc main_arg1)) (((cfg0.win 2).blk t).view.emb y) := by
  have ht := lt t
  refine (pay _ _ y).trans (Finset.sum_congr rfl fun r _ => congrArg₂ (· * ·) ?_ ?_)
  · blk_ext [iblk, V, idx t]
  · blk_ext [iblk, V, idx t]

theorem final (c : Dev nD) : (dats m 0 c).arrAt 2 (cfgs 0).N = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Cert.Up

namespace Cert.Up.Ref

open Cert.Reference12Ideal Cert.Reference12Ideal.Gen Cert.Reference12Ideal.Read Idealize.ShloMosaic Idealize.ShloMosaic.TcCoe Idealize.SL.Sem

theorem value (A : S4096x1024.Idx → EReal) (B : S1024x6144.Idx → EReal) : val_main_v3 (F := Ideal) A B = Cert.Up.G A B := by
  funext i
  rw [val_main_v3_apply, val_main_v2_apply]
  refine (Finset.sum_congr rfl fun r _ => ?_ : _ = ∑ r : Fin 1024, A (ix2 (i 0) r) * B (ix2 r (i 1)))
  refine congrArg₂ (· * ·) ?_ ?_
  · exact congrArg A (by blk_ext)
  · exact congrArg B (by blk_ext)

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = val_main_v3 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h1, ha⟩ := hr c
  exact ⟨h1.trans (val_main_v3_eq _ _), ha⟩

end Cert.Up.Ref

namespace Cert.Proof

open Idealize.ShloMosaic Idealize.ShloMosaic.TcCoe Idealize.SL.Sem

theorem frame_up_ref : Cert.quiescent_Reference12Ideal := fun m g _ =>
  θ_run_mono (Cert.Reference12Ideal.Value.run m g) fun r hr => ⟨fun c => (hr c).2, sem_eq_zero_of_no_sems (by decide) r.2⟩

theorem algebraic_up : Cert.algebraic_Kernel12Ideal_Reference12Ideal := by
  pair_intro
  · run_from Cert.Kernel12Ideal.Value.run_blocks m g
  · run_from Cert.Up.Ref.run m' g'
    exact (Cert.Up.Ref.value _ _).trans (Cert.Up.final m c).symm

end Cert.Proof

end
-- ==== Proof.Down.lean ====
/-
  THE DOWN PROJECTION OF THE FEED FORWARD, its residual and the norm of the next layer: each point of the grid takes 512 rows.
-/
module

public import Idealize.ShloMosaic.Lib.Pipeline.ValueKit
public import proofs.«01_k».proof.Defs
public import proofs.«01_k».proof.Proof.Norm
public import proofs.«01_k».proof.Proof.Gen.Kernel13Ideal.Value
public import proofs.«01_k».proof.Proof.Gen.Reference13Ideal.Read

@[expose] public section

set_option maxRecDepth 16384

noncomputable section

namespace Cert.Down

open Cert.Kernel13Ideal Cert.Kernel13Ideal.Gen Cert.Norm Idealize.ShloMosaic Idealize.ShloMosaic.TcCoe Idealize.SL.Sem

section Results
variable (A : S4096x3072.Idx → EReal) (W : S3072x1024.Idx → EReal) (X : S4096x1024.Idx → EReal) (G : S1x1024.Idx → EReal)

/-- The new row, and its norm. -/
def xo (p : Fin 4096) (j : Fin 1024) : EReal := X (ix2 p j) + ∑ k : Fin 3072, A (ix2 p k) * W (ix2 k j)
def ho (p : Fin 4096) (j : Fin 1024) : EReal := xo A W X p j * rr (xo A W X p) * G (ix2 0 j)

def gX (i : S4096x1024.Idx) : EReal := xo A W X (i 0) (i 1)
def gH (i : S4096x1024.Idx) : EReal := ho A W X G (i 0) (i 1)

end Results

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

theorem pay1 (x : Vec Ideal S512x1024 .f32) (a : Vec Ideal S512x3072 .bf16) (w : Vec Ideal S3072x1024 .bf16) (p : Fin 512) (j : Fin 1024) :
    (k0_pay1 (F := Ideal) x a w (ix2 p j) : EReal) = x (ix2 p j) + ∑ k : Fin 3072, a (ix2 p k) * w (ix2 k j) := by
  pointwise [k0_pay1]

theorem pay2 (x : Vec Ideal S512x1024 .f32) (a : Vec Ideal S512x3072 .bf16) (w : Vec Ideal S3072x1024 .bf16) (g : Vec Ideal S1x1024 .f32) (p : Fin 512) (j : Fin 1024) :
    (k0_pay2 (F := Ideal) x a w g (ix2 p j) : EReal)
      = k0_pay1 (F := Ideal) x a w (ix2 p j) * rr (fun k => k0_pay1 (F := Ideal) x a w (ix2 p k)) * g (ix2 0 j) := by
  unfold k0_pay2 rr ms c1024 eps
  generalize k0_pay1 x a w = r
  pointwise

variable (m : (ℓ : Loc nD τ sig) → Buf (Elt Ideal) ℓ)

abbrev aA (c : Dev nD) : S4096x3072.Idx → EReal := m ((c : Thread nD τ).loc main_arg0)
abbrev aW (c : Dev nD) : S3072x1024.Idx → EReal := m ((c : Thread nD τ).loc main_arg1)
abbrev aX (c : Dev nD) : S4096x1024.Idx → EReal := m ((c : Thread nD τ).loc main_arg2)
abbrev aG (c : Dev nD) : S1x1024.Idx → EReal := m ((c : Thread nD τ).loc main_arg3)

/-- The staged blocks. -/
abbrev bA (c : Dev nD) (t : Fin cfg0.N) : S512x3072.Idx → EReal := iblk m c 0 t
abbrev bW (c : Dev nD) (t : Fin cfg0.N) : S3072x1024.Idx → EReal := iblk m c 1 t
abbrev bX (c : Dev nD) (t : Fin cfg0.N) : S512x1024.Idx → EReal := iblk m c 2 t
abbrev bG (c : Dev nD) (t : Fin cfg0.N) : S1x1024.Idx → EReal := iblk m c 3 t

theorem blkA (c : Dev nD) (t : Fin cfg0.N) (p : Fin 512) (k : Fin 3072) : bA m c t (ix2 p k) = aA m c (ix2 (row t p) k) := by
  have := lt t
  unfold bA aA row
  blk_ext [iblk, V, idx t]

theorem blkW (c : Dev nD) (t : Fin cfg0.N) (x : S3072x1024.Idx) : bW m c t x = aW m c x := by
  unfold bW aW
  blk_ext [iblk, V, idx t]

theorem blkX (c : Dev nD) (t : Fin cfg0.N) (p : Fin 512) (k : Fin 1024) : bX m c t (ix2 p k) = aX m c (ix2 (row t p) k) := by
  have := lt t
  unfold bX aX row
  blk_ext [iblk, V, idx t]

theorem blkG (c : Dev nD) (t : Fin cfg0.N) (x : S1x1024.Idx) : bG m c t x = aG m c x := by
  unfold bG aG
  blk_ext [iblk, V, idx t]

theorem xo_blk (c : Dev nD) (t : Fin cfg0.N) (p : Fin 512) (j : Fin 1024) :
    (k0_pay1 (F := Ideal) (iblk m c 2 t) (iblk m c 0 t) (iblk m c 1 t) (ix2 p j) : EReal) = xo (aA m c) (aW m c) (aX m c) (row t p) j := by
  unfold xo
  refine (pay1 (bX m c t) (bA m c t) (bW m c t) p j).trans (congrArg₂ (· + ·) (blkX m c t p j) (Finset.sum_congr rfl fun k _ => congrArg₂ (· * ·) (blkA m c t p k) (blkW m c t _)))

theorem ho_blk (c : Dev nD) (t : Fin cfg0.N) (p : Fin 512) (j : Fin 1024) :
    (k0_pay2 (F := Ideal) (iblk m c 2 t) (iblk m c 0 t) (iblk m c 1 t) (iblk m c 3 t) (ix2 p j) : EReal) = ho (aA m c) (aW m c) (aX m c) (aG m c) (row t p) j := by
  unfold ho
  refine (pay2 (bX m c t) (bA m c t) (bW m c t) (bG m c t) p j).trans (congrArg₂ (· * ·) (congrArg₂ (· * ·) (xo_blk m c t p j) (congrArg rr (funext fun k => xo_blk m c t p k))) (blkG m c t _))

theorem final4 (c : Dev nD) : (dats m 0 c).arrAt 4 (cfgs 0).N = gX (aA m c) (aW m c) (aX m c) := by
  refine (dats m 0 c).arrAt_eq_of_covers 4 _ (by decide +kernel) fun t hf y => ?_
  blk_simp
  rw [after0_4]
  frame_out
  have ht := lt t
  idx_vars y
  refine (xo_blk m c t y0 y1).trans (congrArg (gX (aA m c) (aW m c) (aX m c)) (?_ : ix2 (row t y0) y1 = _))
  unfold row
  blk_ext [idx t]

theorem final5 (c : Dev nD) : (dats m 0 c).arrAt 5 (cfgs 0).N = gH (aA m c) (aW m c) (aX m c) (aG m c) := by
  refine (dats m 0 c).arrAt_eq_of_covers 5 _ (by decide +kernel) fun t hf y => ?_
  blk_simp
  rw [after0_5]
  frame_out
  have ht := lt t
  idx_vars y
  refine (ho_blk m c t y0 y1).trans (congrArg (gH (aA m c) (aW m c) (aX m c) (aG m c)) (?_ : ix2 (row t y0) y1 = _))
  unfold row
  blk_ext [idx t]

end Cert.Down

namespace Cert.Down.Ref

open Cert.Reference13Ideal Cert.Reference13Ideal.Gen Cert.Reference13Ideal.Read Cert.Norm Idealize.ShloMosaic Idealize.ShloMosaic.TcCoe Idealize.SL.Sem

variable (A : S4096x3072.Idx → EReal) (W : S3072x1024.Idx → EReal) (X : S4096x1024.Idx → EReal) (G : S1x1024.Idx → EReal)

theorem x3 (p : Fin 4096) (j : Fin 1024) : (val_main_v3 (F := Ideal) A W X (ix2 p j) : EReal) = Cert.Down.xo A W X p j := by
  unfold Cert.Down.xo
  pointwise [val_main_v3, val_main_v2, val_main_v1, val_main_v0]

theorem r12 (p : Fin 4096) : (val_main_v12 (F := Ideal) A W X (ix2 p 0) : EReal) = rr (Cert.Down.xo A W X p) := by
  have h := x3 A W X
  unfold val_main_v12 val_main_v11 val_main_v9 val_main_v7 val_main_v6 val_main_v5 rr ms c1024 eps
  generalize val_main_v3 (F := Ideal) A W X = r at *
  pointwise [val_main_v8, val_main_v10, val_main_cst, val_main_cst_0, val_main_cst_1]
  simp only [h]

theorem h18 (p : Fin 4096) (j : Fin 1024) : (val_main_v18 (F := Ideal) A W X G (ix2 p j) : EReal) = Cert.Down.ho A W X G p j := by
  have h := x3 A W X
  have h' := r12 A W X
  unfold val_main_v18 val_main_v17 val_main_v14 val_main_v13 Cert.Down.ho
  generalize val_main_v3 (F := Ideal) A W X = r at *
  generalize val_main_v12 (F := Ideal) A W X = s at *
  pointwise [val_main_v16, val_main_v15, val_main_v4]
  simp only [h, h']

theorem value3 : val_main_v3 (F := Ideal) A W X = Cert.Down.gX A W X := by
  funext i
  idx_vars i
  exact x3 A W X i0 i1

theorem value18 : val_main_v18 (F := Ideal) A W X G = Cert.Down.gH A W X G := by
  funext i
  idx_vars i
  exact h18 A W X G i0 i1

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v3) = val_main_v3 (F := Ideal) (m ((c.tc : Thread nD τ).loc main_arg0)) (m ((c.tc : Thread nD τ).loc main_arg1)) (m ((c.tc : Thread nD τ).loc main_arg2))
      ∧ r.2.mem ((c.tc : Thread nD τ).loc main_v18) = val_main_v18 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (Value.run m g) fun r hr c => ?_
  obtain ⟨h0, h1, ha⟩ := hr c
  exact ⟨h0.trans (val_main_v3_eq _ _ _), h1.trans (val_main_v18_eq _ _ _ _), ha⟩

end Cert.Down.Ref

namespace Cert.Proof

open Idealize.ShloMosaic Idealize.ShloMosaic.TcCoe Idealize.SL.Sem

theorem frame_down_ref : Cert.quiescent_Reference13Ideal := fun m g _ =>
  θ_run_mono (Cert.Reference13Ideal.Value.run m g) fun r hr => ⟨fun c => (hr c).2.2, sem_eq_zero_of_no_sems (by decide) r.2⟩

theorem algebraic_down : Cert.algebraic_Kernel13Ideal_Reference13Ideal := by
  pair_intro
  · run_from Cert.Kernel13Ideal.Value.run_blocks m g
  · run_from Cert.Down.Ref.run m' g'
    · exact (Cert.Down.Ref.value3 _ _ _).trans (Cert.Down.final4 m c).symm
    · exact (Cert.Down.Ref.value18 _ _ _ _).trans (Cert.Down.final5 m c).symm

end Cert.Proof

end
-- ==== Proof.AttnFwd.lean ====
/-
  THE MEMORY ATTENTION: the softmax of the scaled scores against the memory's keys, and its product with the memory's values, head by head.
  Each point of the grid takes 512 query rows.
-/
module

public import proofs.«01_k».proof.Defs
public import proofs.«01_k».proof.Proof.Arrays
public import proofs.«01_k».proof.Proof.Gen.Kernel14Ideal.Value
public import proofs.«01_k».proof.Proof.Gen.Reference14Ideal.Read

@[expose] public section

set_option maxRecDepth 16384

noncomputable section

namespace Cert.AttnFwd

open Cert.Kernel14Ideal Cert.Kernel14Ideal.Gen Cert.Grad Idealize.ShloMosaic Idealize.ShloMosaic.TcCoe Idealize.SL.Sem
open Cert.KernelIdeal.Att (qr kr vr hd cl)

/-- Head `h` of row `r`, at column `e` of it. -/
def oo (X : S4096x9216.Idx → EReal) (K : S256x2048.Idx → EReal) (r : Fin 4096) (h : Fin 4) (e : Fin 256) : EReal :=
  ∑ j : Fin 256, prob (sc (qr X r h) (kr K h)) j * vr K h j e

def gO (X : S4096x9216.Idx → EReal) (K : S256x2048.Idx → EReal) (i : S4096x1024.Idx) : EReal := oo X K (i 0) (hd (i 1)) (cl (i 1))

theorem gO_of (X : S4096x9216.Idx → EReal) (K : S256x2048.Idx → EReal) (i : S4096x1024.Idx) (r : Fin 4096) (h : Fin 4) (e : Fin 256) (hr : (i 0 : ℕ) = r) (hc : (i 1 : ℕ) = h * 256 + e)
    (q : Fin 256 → EReal) (k : Fin 256 → Fin 256 → EReal) (v : Fin 256 → EReal)
    (hq : ∀ a, q a = qr X r h a) (hk : ∀ j a, k j a = kr K h j a) (hv : ∀ j, v j = vr K h j e) :
    ∑ j, prob (sc q k) j * v j = gO X K i := by
  obtain rfl : q = qr X r h := funext hq
  obtain rfl : k = kr K h := funext fun j => funext (hk j)
  obtain rfl : v = fun j => vr K h j e := funext hv
  have e0 : i 0 = r := Fin.ext hr
  have e1 : hd (i 1) = h := Fin.ext (by show (i 1 : ℕ) / 256 = h; omega)
  have e2 : cl (i 1) = e := Fin.ext (by show (i 1 : ℕ) % 256 = e; omega)
  unfold gO oo
  rw [e0, e1, e2]

section Payloads
variable (q : Vec Ideal S512x256 .bf16) (k v : Vec Ideal S256x256 .bf16)

theorem o_0 (i : Fin 512) (e : Fin 256) : (k0_pay2 (F := Ideal) q k v (ix2 i e) : EReal) = ∑ j, prob (sc (fun d => q (ix2 i d)) (fun m d => k (ix2 m d))) j * v (ix2 j e) := by
  pointwise [k0_pay2]
  rfl

theorem p_1 (i : Fin 512) (j : Fin 256) : (k0_pay3 (F := Ideal) q k (ix2 i j) : EReal) = prob (sc (fun d => q (ix2 i d)) (fun m d => k (ix2 m d))) j := by
  pointwise [k0_pay3]
  rfl

theorem o_1 (i : Fin 512) (e : Fin 256) : (k0_pay4 (F := Ideal) (k0_pay3 (F := Ideal) q k) v (ix2 i e) : EReal) = ∑ j, prob (sc (fun d => q (ix2 i d)) (fun m d => k (ix2 m d))) j * v (ix2 j e) := by
  pointwise [k0_pay4, p_1]

theorem o_2 (i : Fin 512) (e : Fin 256) : (k0_pay5 (F := Ideal) q k v (ix2 i e) : EReal) = ∑ j, prob (sc (fun d => q (ix2 i d)) (fun m d => k (ix2 m d))) j * v (ix2 j e) := by
  pointwise [k0_pay5]
  rfl

theorem e_3 (i : Fin 512) (j : Fin 256) : (k0_pay6 (F := Ideal) q k (ix2 i j) : EReal) = ex (sc (fun d => q (ix2 i d)) (fun m d => k (ix2 m d))) j := by
  pointwise [k0_pay6]
  rfl

theorem s_3 (i : Fin 512) : (k0_pay7 (F := Ideal) q k (ix2 i 0) : EReal) = ∑ j, ex (sc (fun d => q (ix2 i d)) (fun m d => k (ix2 m d))) j := by
  pointwise [k0_pay7, e_3]

theorem o_3 (i : Fin 512) (e : Fin 256) : (k0_pay1 (F := Ideal) (k0_pay6 (F := Ideal) q k) (k0_pay7 (F := Ideal) q k) v (ix2 i e) : EReal) = ∑ j, prob (sc (fun d => q (ix2 i d)) (fun m d => k (ix2 m d))) j * v (ix2 j e) := by
  pointwise [k0_pay1, e_3, s_3]
  rfl

end Payloads

theorem idx : ∀ t : Fin cfg0.N, win0_0.index t = ![t.val, 5] ∧ win0_1.index t = ![0, 0] ∧ win0_2.index t = ![t.val, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

variable (m : (ℓ : Loc nD τ sig) → Buf (Elt Ideal) ℓ)

abbrev aX (c : Dev nD) : S4096x9216.Idx → EReal := m ((c : Thread nD τ).loc main_arg0)
abbrev aK (c : Dev nD) : S256x2048.Idx → EReal := m ((c : Thread nD τ).loc main_arg1)

theorem blkq (c : Dev nD) (t : Fin cfg0.N) (h : Fin 4) (i : Fin 512) (x : Fin 1024) (d : Fin 256) (hx : (x : ℕ) = h * 256 + d) :
    iblk m c 0 t (ix2 i x : S512x1024.Idx) = qr (aX m c) (row t i) h d := by
  have := lt t
  unfold qr aX row
  blk_ext [iblk, V, idx t]

theorem blkk (c : Dev nD) (t : Fin cfg0.N) (h : Fin 4) (j : Fin 256) (x : Fin 2048) (d : Fin 256) (hx : (x : ℕ) = h * 256 + d) :
    iblk m c 1 t (ix2 j x : S256x2048.Idx) = kr (aK m c) h j d := by
  unfold kr aK
  blk_ext [iblk, V, idx t]

theorem blkv (c : Dev nD) (t : Fin cfg0.N) (h : Fin 4) (j : Fin 256) (x : Fin 2048) (d : Fin 256) (hx : (x : ℕ) = 1024 + (h * 256 + d)) :
    iblk m c 1 t (ix2 j x : S256x2048.Idx) = vr (aK m c) h j d := by
  unfold vr aK
  blk_ext [iblk, V, idx t]

theorem point (c : Dev nD) (t : Fin cfg0.N) (y : S512x1024.Idx) :
    out0_2 (F := Ideal) (iblk m c 0 t) (iblk m c 1 t) y = gO (aX m c) (aK m c) (((cfg0.win 2).blk t).view.emb y) := by
  frame_out
  have ht := lt t
  canon_tiles x h
  case piece0 =>
    idx_vars x
    refine (o_3 _ _ _ x0 x1).trans ?_
    refine gO_of _ _ _ (row t x0) 3 x1 ?_ ?_ _ _ _ (fun a => ?_) (fun j a => ?_) (fun j => ?_)
    · blk_simp [idx t]; simp only [row]; omega
    · blk_simp [idx t]; simp <;> omega
    · pointwise; exact blkq m c t 3 _ _ a (by simp)
    · pointwise; exact blkk m c t 3 _ _ a (by simp)
    · pointwise; exact blkv m c t 3 _ _ x1 (by simp <;> omega)
  case piece1 =>
    idx_vars x
    refine (o_2 _ _ _ x0 x1).trans ?_
    refine gO_of _ _ _ (row t x0) 2 x1 ?_ ?_ _ _ _ (fun a => ?_) (fun j a => ?_) (fun j => ?_)
    · blk_simp [idx t]; simp only [row]; omega
    · blk_simp [idx t]; simp <;> omega
    · pointwise; exact blkq m c t 2 _ _ a (by simp)
    · pointwise; exact blkk m c t 2 _ _ a (by simp)
    · pointwise; exact blkv m c t 2 _ _ x1 (by simp <;> omega)
  case piece2 =>
    idx_vars x
    refine (o_1 _ _ _ x0 x1).trans ?_
    refine gO_of _ _ _ (row t x0) 1 x1 ?_ ?_ _ _ _ (fun a => ?_) (fun j a => ?_) (fun j => ?_)
    · blk_simp [idx t]; simp only [row]; omega
    · blk_simp [idx t]; simp <;> omega
    · pointwise; exact blkq m c t 1 _ _ a (by simp)
    · pointwise; exact blkk m c t 1 _ _ a (by simp)
    · pointwise; exact blkv m c t 1 _ _ x1 (by simp <;> omega)
  case piece3 =>
    idx_vars x
    refine (o_0 _ _ _ x0 x1).trans ?_
    refine gO_of _ _ _ (row t x0) 0 x1 ?_ ?_ _ _ _ (fun a => ?_) (fun j a => ?_) (fun j => ?_)
    · blk_simp [idx t]; simp only [row]; omega
    · blk_simp [idx t]; simp <;> omega
    · pointwise; exact blkq m c t 0 _ _ a (by simp)
    · pointwise; exact blkk m c t 0 _ _ a (by simp)
    · pointwise; exact blkv m c t 0 _ _ x1 (by simp <;> omega)

theorem final (c : Dev nD) : (dats m 0 c).arrAt 2 (cfgs 0).N = gO (aX m c) (aK m c) := by
  refine (dats m 0 c).arrAt_eq_of_covers 2 _ (by decide +kernel) fun t hf y => ?_
  blk_simp
  rw [after0_2]
  exact point m c t y

end Cert.AttnFwd

namespace Cert.AttnFwd.Ref

open Cert.Reference14Ideal Cert.Reference14Ideal.Gen Cert.Reference14Ideal.Read Cert.Grad Idealize.ShloMosaic Idealize.ShloMosaic.TcCoe Idealize.SL.Sem Idealize.ShloMosaic.StableHlo
open Cert.KernelIdeal.Att (qr kr vr hd cl)

variable (X : S4096x9216.Idx → EReal) (K : S256x2048.Idx → EReal)

theorem q5 (r : Fin 4096) (h : Fin 4) (d : Fin 256) : val_main_v5 (F := Ideal) X (ix4 0 r h d) = qr X r h d := by
  rw [val_main_v5_apply, val_main_v4_apply, val_main_v3_apply]
  unfold qr
  refine congrArg X ?_
  blk_ext

theorem k6 (j : Fin 256) (h : Fin 4) (d : Fin 256) : val_main_v6 (F := Ideal) K (ix4 0 j h d) = kr K h j d := by
  rw [val_main_v6_apply, val_main_v1_apply, val_main_v0_apply]
  unfold kr
  refine congrArg K ?_
  blk_ext

theorem v7 (j : Fin 256) (h : Fin 4) (d : Fin 256) : val_main_v7 (F := Ideal) K (ix4 0 j h d) = vr K h j d := by
  rw [val_main_v7_apply, val_main_v2_apply, val_main_v0_apply]
  unfold vr
  refine congrArg K ?_
  blk_ext

theorem s10 (r : Fin 4096) (h : Fin 4) (j : Fin 256) : val_main_v10 (F := Ideal) X K (ix4 0 h r j) = sc (qr X r h) (kr K h) j := by
  rw [val_main_v10_apply, val_main_v8_apply, val_main_v9_apply]
  refine congrArg₂ (· * ·) (Finset.sum_congr rfl fun d _ => congrArg₂ (· * ·) ?_ ?_) rfl
  · exact (congrArg _ (by blk_ext)).trans (q5 X r h d)
  · exact (congrArg _ (by blk_ext)).trans (k6 K j h d)

theorem m11 (r : Fin 4096) (h : Fin 4) : val_main_v11 (F := Ideal) X K (ix3 0 h r) = rowMax (sc (qr X r h) (kr K h)) := by
  unfold val_main_v11 rowMax
  pointwise
  simp only [s10]
  rfl

theorem e17 (r : Fin 4096) (h : Fin 4) (j : Fin 256) : val_main_v17 (F := Ideal) X K (ix4 0 h r j) = ex (sc (qr X r h) (kr K h)) j := by
  rw [val_main_v17_apply, val_main_v16_apply, val_main_v15_apply, val_main_v14_apply, val_main_v13_apply, val_main_v12_apply, val_main_cst_1_apply, s10]
  rw [show idx_main_v14 (idx_main_v15 (ix4 0 h r j)) = ix3 0 h r by blk_ext, m11]
  unfold ex
  refine congrArg Ideal.exp (congrArg (sc (qr X r h) (kr K h) j - ·) ?_)
  show max (Ideal.ofBits .f32 0xFF800000#32) _ = _
  rw [negInf_bits]
  exact max_eq_right bot_le

theorem l19 (r : Fin 4096) (h : Fin 4) : val_main_v19 (F := Ideal) X K (ix4 0 h r 0) = ∑ j, ex (sc (qr X r h) (kr K h)) j := by
  rw [val_main_v19_apply, val_main_v18_apply, val_main_cst_2_apply]
  refine (congrArg₂ (· + ·) Ideal.ofBits_zero_f32 (Finset.sum_congr rfl fun j _ => ?_)).trans (zero_add _)
  exact (congrArg _ (by blk_ext)).trans (e17 X K r h j)

theorem p21 (r : Fin 4096) (h : Fin 4) (j : Fin 256) : val_main_v21 (F := Ideal) X K (ix4 0 h r j) = prob (sc (qr X r h) (kr K h)) j := by
  rw [val_main_v21_apply, val_main_v20_apply, e17, show idx_main_v20 (ix4 0 h r j) = ix4 0 h r 0 by blk_ext, l19]
  rfl

theorem value : val_main_v25 (F := Ideal) X K = Cert.AttnFwd.gO X K := by
  funext i
  idx_vars i
  rw [val_main_v25_apply, val_main_v24_apply, val_main_v23_apply, val_main_v22_apply]
  unfold Cert.AttnFwd.gO Cert.AttnFwd.oo
  show (∑ k : Fin 256, (_ : EReal)) = ∑ k : Fin 256, (_ : EReal)
  refine Finset.sum_congr rfl fun j _ => (mul_comm (_ : EReal) _).trans (congrArg₂ (fun a b : EReal => a * b) ?_ ?_)
  · exact (congrArg _ (by unfold hd; blk_ext)).trans (p21 X K i0 (hd i1) j)
  · exact (congrArg _ (by unfold hd cl; blk_ext)).trans (v7 K j (hd i1) (cl i1))

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25) = val_main_v25 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine θ_run_mono (Value.run m g) fun r hr c => ?_
  obtain ⟨h0, ha⟩ := hr c
  exact ⟨h0.trans (val_main_v25_eq _ _), ha⟩

end Cert.AttnFwd.Ref

namespace Cert.Proof

open Idealize.ShloMosaic Idealize.ShloMosaic.TcCoe Idealize.SL.Sem

theorem frame_attn_fwd_ref : Cert.quiescent_Reference14Ideal := fun m g _ =>
  θ_run_mono (Cert.Reference14Ideal.Value.run m g) fun r hr => ⟨fun c => (hr c).2, sem_eq_zero_of_no_sems (by decide) r.2⟩

theorem algebraic_attn_fwd : Cert.algebraic_Kernel14Ideal_Reference14Ideal := by
  pair_intro
  · run_from Cert.Kernel14Ideal.Value.run_blocks m g
  · run_from Cert.AttnFwd.Ref.run m' g'
    exact (Cert.AttnFwd.Ref.value _ _).trans (Cert.AttnFwd.final m c).symm

end Cert.Proof

end
-- ==== Proof.Adam.lean ====
/-
  THE OPTIMISER'S UPDATE of one entry: the two running means, and the step they give.
-/
module

public import Idealize.ShloMosaic.Lib.Pipeline.ValueKit

@[expose] public section

noncomputable section

namespace Cert.Adam

open Idealize.ShloMosaic Idealize.ShloMosaic.TcCoe

/-- The running mean of the gradient. -/
def newM (m g : EReal) : EReal := Ideal.ofBits .f32 0x3F666666#32 * m + Ideal.ofBits .f32 0x3DCCCCCD#32 * g

/-- The running mean of its square. -/
def newV (v g : EReal) : EReal := Ideal.ofBits .f32 0x3F7FBE77#32 * v + Ideal.ofBits .f32 0x3A83126F#32 * (g * g)

/-- The step. -/
def step (w g m v : EReal) : EReal :=
  Ideal.ofBits .f32 0xBA83126F#32 *
    (Ideal.div (Ideal.div (newM m g) (Ideal.ofBits .f32 0x3F26BD02#32)) (Ideal.sqrt (Ideal.div (newV v g) (Ideal.ofBits .f32 0x3C231ACC#32)) + Ideal.ofBits .f32 0x322BCC77#32)
      + Ideal.ofBits .f32 0x3C23D70A#32 * w)

end Cert.Adam

end
-- ==== Proof.AdamIn.lean ====
/-
  THE OPTIMISER for the input projection: the gradient is the sum of what the eight devices sent, and the update follows from it.
  The first half of the grid takes the first layer, the second half the second.
-/
module

public import proofs.«01_k».proof.Defs
public import proofs.«01_k».proof.Proof.Adam
public import proofs.«01_k».proof.Proof.Gen.Kernel15Ideal.Value
public import proofs.«01_k».proof.Proof.Gen.Reference15Ideal.Read

@[expose] public section

set_option maxRecDepth 16384

noncomputable section

namespace Cert.AdamIn

open Cert.Kernel15Ideal Cert.Kernel15Ideal.Gen Idealize.ShloMosaic Idealize.ShloMosaic.TcCoe Idealize.SL.Sem

/-- The gradient: the eight slots of its layer summed. -/
def gr (A B : S8x1024x1152.Idx → EReal) (i : S2x1024x1152.Idx) : EReal := ∑ k : Fin 8, (if (i 0 : ℕ) = 0 then A else B) (ix3 k (i 1) (i 2))

def gm (A B : S8x1024x1152.Idx → EReal) (M : S2x1024x1152.Idx → EReal) (i : S2x1024x1152.Idx) : EReal := Adam.newM (M i) (gr A B i)
def gv (A B : S8x1024x1152.Idx → EReal) (W : S2x1024x1152.Idx → EReal) (i : S2x1024x1152.Idx) : EReal := Adam.newV (W i) (gr A B i)
def gd (A B : S8x1024x1152.Idx → EReal) (W M U : S2x1024x1152.Idx → EReal) (i : S2x1024x1152.Idx) : EReal := Adam.step (W i) (gr A B i) (M i) (U i)

section Payloads
variable (a b c d e f g h : Vec Ideal S1x128x1152 .bf16) (r : Fin 128) (j : Fin 1152)

theorem sum_A : (k0_pay4 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay4]

theorem sum_B : (k0_pay5 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay5]

variable (G M U W : Vec Ideal S1x128x1152 .f32)

theorem mean : (k0_pay10 (F := Ideal) G M (ix2 r j) : EReal) = Adam.newM (M (ix3 0 r j)) (G (ix3 0 r j)) := by
  pointwise [k0_pay10, k0_pay8, Adam.newM]

theorem square : (k0_pay11 (F := Ideal) G U (ix2 r j) : EReal) = Adam.newV (U (ix3 0 r j)) (G (ix3 0 r j)) := by
  pointwise [k0_pay11, k0_pay8, Adam.newV]

theorem step (z : Fin 1) : (k0_pay1 (F := Ideal) (k0_pay9 (F := Ideal) W) (k0_pay12 (F := Ideal) G M U) (ix3 z r j) : EReal) = Adam.step (W (ix3 0 r j)) (G (ix3 0 r j)) (M (ix3 0 r j)) (U (ix3 0 r j)) := by
  pointwise [k0_pay1, k0_pay9, k0_pay12, Adam.step, mean, square]

end Payloads

theorem idxA : ∀ t : Fin cfg0.N, t.val < 8 → win0_0.index t = ![0, t.val, 0] :=
  (by decide +kernel : ∀ t : Fin grid0.N, _)
theorem idxB : ∀ t : Fin cfg0.N, 8 ≤ t.val → win0_1.index t = ![0, t.val % 8, 0] :=
  (by decide +kernel : ∀ t : Fin grid0.N, _)
theorem idx : ∀ t : Fin cfg0.N, win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)

theorem lt (t : Fin cfg0.N) : t.val < 16 := lt_of_lt_of_eq t.isLt N_0

def layer (t : Fin cfg0.N) : Fin 2 := ⟨t.val / 8, by have := lt t; omega⟩
def row (t : Fin cfg0.N) (r : Fin 128) : Fin 1024 := ⟨t.val % 8 * 128 + r.val, by have := lt t; omega⟩

variable (m : (ℓ : Loc nD τ sig) → Buf (Elt Ideal) ℓ)

abbrev sA (c : Dev nD) : S8x1024x1152.Idx → EReal := m ((c : Thread nD τ).loc main_arg0)
abbrev sB (c : Dev nD) : S8x1024x1152.Idx → EReal := m ((c : Thread nD τ).loc main_arg1)
abbrev aW (c : Dev nD) : S2x1024x1152.Idx → EReal := m ((c : Thread nD τ).loc main_arg2)
abbrev aM (c : Dev nD) : S2x1024x1152.Idx → EReal := m ((c : Thread nD τ).loc main_arg3)
abbrev aU (c : Dev nD) : S2x1024x1152.Idx → EReal := m ((c : Thread nD τ).loc main_arg4)

/-- The sum of a block's eight slots. -/
theorem slots_A (c : Dev nD) (t : Fin cfg0.N) (h : t.val < 8) (r : Fin 128) (j : Fin 1152) (x : S8x128x1152.Idx → EReal) (hx : x = iblk m c 0 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 8 = 0 then sA m c else sB m c) (ix3 k (row t r) j)
  rw [if_pos (show t.val / 8 = 0 by omega)]
  refine Eq.trans (Fin.sum_univ_eight fun k => x (ix3 k r j)).symm (Finset.sum_congr rfl fun k _ => ?_)
  subst hx
  unfold sA row
  blk_ext [iblk, V, idxA t h]

theorem slots_B (c : Dev nD) (t : Fin cfg0.N) (h : 8 ≤ t.val) (r : Fin 128) (j : Fin 1152) (x : S8x128x1152.Idx → EReal) (hx : x = iblk m c 1 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 8 = 0 then sA m c else sB m c) (ix3 k (row t r) j)
  rw [if_neg (show ¬ t.val / 8 = 0 by omega)]
  refine Eq.trans (Fin.sum_univ_eight fun k => x (ix3 k r j)).symm (Finset.sum_congr rfl fun k _ => ?_)
  subst hx
  unfold sB row
  blk_ext [iblk, V, idxB t h]

theorem blkW (c : Dev nD) (t : Fin cfg0.N) (r : Fin 128) (j : Fin 1152) : iblk m c 2 t (ix3 0 r j : S1x128x1152.Idx) = aW m c (ix3 (layer t) (row t r) j) := by
  have := lt t
  unfold aW row layer
  blk_ext [iblk, V, idx t]

theorem blkM (c : Dev nD) (t : Fin cfg0.N) (r : Fin 128) (j : Fin 1152) : iblk m c 3 t (ix3 0 r j : S1x128x1152.Idx) = aM m c (ix3 (layer t) (row t r) j) := by
  have := lt t
  unfold aM row layer
  blk_ext [iblk, V, idx t]

theorem blkU (c : Dev nD) (t : Fin cfg0.N) (r : Fin 128) (j : Fin 1152) : iblk m c 4 t (ix3 0 r j : S1x128x1152.Idx) = aU m c (ix3 (layer t) (row t r) j) := by
  have := lt t
  unfold aU row layer
  blk_ext [iblk, V, idx t]

theorem out_g (c : Dev nD) (t : Fin cfg0.N) (z : Fin 1) (r : Fin 128) (j : Fin 1152) :
    (outsAt0 m c t.val t.isLt).1 (ix3 z r j) = gr (sA m c) (sB m c) (ix3 (layer t) (row t r) j) := by
  rcases Nat.lt_or_ge t.val 8 with h | h
  · rw [outsAt0_A m c t h (by omega)]
    frame_out
    pointwise [k0_pay6, sum_A]
    exact slots_A m c t h r j _ rfl
  · rw [outsAt0_B m c t (by omega) h]
    frame_out
    pointwise [k0_pay7, sum_B]
    exact slots_B m c t h r j _ rfl

theorem out_d (c : Dev nD) (t : Fin cfg0.N) (z : Fin 1) (r : Fin 128) (j : Fin 1152) :
    (outsAt0 m c t.val t.isLt).2.1 (ix3 z r j) = gd (sA m c) (sB m c) (aW m c) (aM m c) (aU m c) (ix3 (layer t) (row t r) j) := by
  rcases Nat.lt_or_ge t.val 8 with h | h
  · rw [outsAt0_A m c t h (by omega)]
    frame_out
    rw [step, blkW, blkM, blkU]
    refine congrArg (fun s => Adam.step _ s _ _) ?_
    pointwise [k0_pay6, sum_A]
    exact slots_A m c t h r j _ rfl
  · rw [outsAt0_B m c t (by omega) h]
    frame_out
    rw [step, blkW, blkM, blkU]
    refine congrArg (fun s => Adam.step _ s _ _) ?_
    pointwise [k0_pay7, sum_B]
    exact slots_B m c t h r j _ rfl

theorem out_m (c : Dev nD) (t : Fin cfg0.N) (z : Fin 1) (r : Fin 128) (j : Fin 1152) :
    (outsAt0 m c t.val t.isLt).2.2.1 (ix3 z r j) = gm (sA m c) (sB m c) (aM m c) (ix3 (layer t) (row t r) j) := by
  rcases Nat.lt_or_ge t.val 8 with h | h
  · rw [outsAt0_A m c t h (by omega)]
    frame_out
    pointwise [k0_pay2, mean, k0_pay6, sum_A]
    rw [blkM, slots_A m c t h r j _ rfl]
    rfl
  · rw [outsAt0_B m c t (by omega) h]
    frame_out
    pointwise [k0_pay2, mean, k0_pay7, sum_B]
    rw [blkM, slots_B m c t h r j _ rfl]
    rfl

theorem out_v (c : Dev nD) (t : Fin cfg0.N) (z : Fin 1) (r : Fin 128) (j : Fin 1152) :
    (outsAt0 m c t.val t.isLt).2.2.2 (ix3 z r j) = gv (sA m c) (sB m c) (aU m c) (ix3 (layer t) (row t r) j) := by
  rcases Nat.lt_or_ge t.val 8 with h | h
  · rw [outsAt0_A m c t h (by omega)]
    frame_out
    pointwise [k0_pay3, square, k0_pay6, sum_A]
    rw [blkU, slots_A m c t h r j _ rfl]
    rfl
  · rw [outsAt0_B m c t (by omega) h]
    frame_out
    pointwise [k0_pay3, square, k0_pay7, sum_B]
    rw [blkU, slots_B m c t h r j _ rfl]
    rfl

theorem final_g (c : Dev nD) : (dats m 0 c).arrAt 5 (cfgs 0).N = gr (sA m c) (sB m c) := by
  refine (dats m 0 c).arrAt_eq_of_covers 5 _ (by decide +kernel) fun t hf y => ?_
  blk_simp
  rw [after0_5]
  have ht := lt t
  idx_vars y
  refine (out_g m c t y0 y1 y2).trans (congrArg (gr (sA m c) (sB m c)) (?_ : ix3 (layer t) (row t y1) y2 = _))
  unfold layer row
  blk_ext [idx t]

theorem final_d (c : Dev nD) : (dats m 0 c).arrAt 6 (cfgs 0).N = gd (sA m c) (sB m c) (aW m c) (aM m c) (aU m c) := by
  refine (dats m 0 c).arrAt_eq_of_covers 6 _ (by decide +kernel) fun t hf y => ?_
  blk_simp
  rw [after0_6]
  have ht := lt t
  idx_vars y
  refine (out_d m c t y0 y1 y2).trans (congrArg (gd (sA m c) (sB m c) (aW m c) (aM m c) (aU m c)) (?_ : ix3 (layer t) (row t y1) y2 = _))
  unfold layer row
  blk_ext [idx t]

theorem final_m (c : Dev nD) : (dats m 0 c).arrAt 7 (cfgs 0).N = gm (sA m c) (sB m c) (aM m c) := by
  refine (dats m 0 c).arrAt_eq_of_covers 7 _ (by decide +kernel) fun t hf y => ?_
  blk_simp
  rw [after0_7]
  have ht := lt t
  idx_vars y
  refine (out_m m c t y0 y1 y2).trans (congrArg (gm (sA m c) (sB m c) (aM m c)) (?_ : ix3 (layer t) (row t y1) y2 = _))
  unfold layer row
  blk_ext [idx t]

theorem final_v (c : Dev nD) : (dats m 0 c).arrAt 8 (cfgs 0).N = gv (sA m c) (sB m c) (aU m c) := by
  refine (dats m 0 c).arrAt_eq_of_covers 8 _ (by decide +kernel) fun t hf y => ?_
  blk_simp
  rw [after0_8]
  have ht := lt t
  idx_vars y
  refine (out_v m c t y0 y1 y2).trans (congrArg (gv (sA m c) (sB m c) (aU m c)) (?_ : ix3 (layer t) (row t y1) y2 = _))
  unfold layer row
  blk_ext [idx t]

end Cert.AdamIn

namespace Cert.AdamIn.Ref

open Cert.Reference15Ideal Cert.Reference15Ideal.Gen Cert.Reference15Ideal.Read Idealize.ShloMosaic Idealize.ShloMosaic.TcCoe Idealize.SL.Sem Idealize.ShloMosaic.StableHlo

variable (A B : S8x1024x1152.Idx → EReal) (W M U : S2x1024x1152.Idx → EReal)

theorem both (l : Fin 2) (k : Fin 8) (r : Fin 1024) (j : Fin 1152) : val_main_v2 (F := Ideal) A B (ix4 l k r j) = (if (l : ℕ) = 0 then A else B) (ix3 k r j) := by
  unfold val_main_v2
  concat_tiles i h
  case piece0 =>
    rw [val_main_v0_apply, if_pos (by simpa using h)]
    have e1 : (i 1 : ℕ) = k := h1
    have e2 : (i 2 : ℕ) = r := h2
    have e3 : (i 3 : ℕ) = j := h3
    exact congrArg A (by blk_ext)
  case piece1 =>
    rw [val_main_v1_apply, if_neg (by have e0 : (l : ℕ) = 1 := h; omega)]
    have e1 : (i 1 : ℕ) = k := h1
    have e2 : (i 2 : ℕ) = r := h2
    have e3 : (i 3 : ℕ) = j := h3
    exact congrArg B (by blk_ext)

theorem grad : val_main_v4 (F := Ideal) A B = Cert.AdamIn.gr A B := by
  funext i
  idx_vars i
  rw [val_main_v4_apply, val_main_cst_apply]
  refine (congrArg₂ (· + ·) Ideal.ofBits_zero_f32 (Finset.sum_congr rfl fun k _ => ?_)).trans (zero_add _)
  rw [val_main_v3_apply]
  exact (congrArg (val_main_v2 (F := Ideal) A B) (by blk_ext)).trans (both A B i0 k i1 i2)

theorem mean : val_main_v9 (F := Ideal) A B M = Cert.AdamIn.gm A B M := by
  funext i
  unfold Cert.AdamIn.gm
  rw [← grad]
  rfl

theorem square : val_main_v15 (F := Ideal) A B U = Cert.AdamIn.gv A B U := by
  funext i
  unfold Cert.AdamIn.gv
  rw [← grad]
  rfl

theorem step : val_main_v28 (F := Ideal) A B W M U = Cert.AdamIn.gd A B W M U := by
  funext i
  unfold Cert.AdamIn.gd
  rw [← grad]
  rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = val_main_v9 (F := Ideal) (m ((c.tc : Thread nD τ).loc main_arg0)) (m ((c.tc : Thread nD τ).loc main_arg1)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m g) fun r hr c => ?_
  obtain ⟨h0, h1, h2, h3, ha⟩ := hr c
  exact ⟨h0.trans (val_main_v4_eq _ _), h1.trans (val_main_v28_eq _ _ _ _ _), h2.trans (val_main_v9_eq _ _ _), h3.trans (val_main_v15_eq _ _ _), ha⟩

end Cert.AdamIn.Ref

namespace Cert.Proof

open Idealize.ShloMosaic Idealize.ShloMosaic.TcCoe Idealize.SL.Sem

theorem frame_adam_in_ref : Cert.quiescent_Reference15Ideal := fun m g _ =>
  θ_run_mono (Cert.Reference15Ideal.Value.run m g) fun r hr => ⟨fun c => (hr c).2.2.2.2, sem_eq_zero_of_no_sems (by decide) r.2⟩

theorem algebraic_adam_in : Cert.algebraic_Kernel15Ideal_Reference15Ideal := by
  pair_intro
  · run_from Cert.Kernel15Ideal.Value.run_blocks m g
  · run_from Cert.AdamIn.Ref.run m' g'
    · exact (Cert.AdamIn.Ref.grad _ _).trans (Cert.AdamIn.final_g m c).symm
    · exact (Cert.AdamIn.Ref.step _ _ _ _ _).trans (Cert.AdamIn.final_d m c).symm
    · exact (Cert.AdamIn.Ref.mean _ _ _).trans (Cert.AdamIn.final_m m c).symm
    · exact (Cert.AdamIn.Ref.square _ _ _).trans (Cert.AdamIn.final_v m c).symm

end Cert.Proof

end
-- ==== Proof.AdamOut.lean ====
/-
  THE OPTIMISER for the four square weights: the gradient is the sum of what the eight devices sent, and the update follows from it.
  The first half of the grid takes the first layer, the second half the second.
-/
module

public import proofs.«01_k».proof.Defs
public import proofs.«01_k».proof.Proof.Adam
public import proofs.«01_k».proof.Proof.Gen.Kernel16Ideal.Value
public import proofs.«01_k».proof.Proof.Gen.Reference16Ideal.Read

@[expose] public section

set_option maxRecDepth 16384

noncomputable section

namespace Cert.AdamOut

open Cert.Kernel16Ideal Cert.Kernel16Ideal.Gen Idealize.ShloMosaic Idealize.ShloMosaic.TcCoe Idealize.SL.Sem

/-- The gradient: the eight slots of its layer summed. -/
def gr (A B : S8x512x1024.Idx → EReal) (i : S2x512x1024.Idx) : EReal := ∑ k : Fin 8, (if (i 0 : ℕ) = 0 then A else B) (ix3 k (i 1) (i 2))

def gm (A B : S8x512x1024.Idx → EReal) (M : S2x512x1024.Idx → EReal) (i : S2x512x1024.Idx) : EReal := Adam.newM (M i) (gr A B i)
def gv (A B : S8x512x1024.Idx → EReal) (W : S2x512x1024.Idx → EReal) (i : S2x512x1024.Idx) : EReal := Adam.newV (W i) (gr A B i)
def gd (A B : S8x512x1024.Idx → EReal) (W M U : S2x512x1024.Idx → EReal) (i : S2x512x1024.Idx) : EReal := Adam.step (W i) (gr A B i) (M i) (U i)

section Payloads
variable (a b c d e f g h : Vec Ideal S1x128x1024 .bf16) (r : Fin 128) (j : Fin 1024)

theorem sum_A : (k0_pay4 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay4]

theorem sum_B : (k0_pay5 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay5]

variable (G M U W : Vec Ideal S1x128x1024 .f32)

theorem mean : (k0_pay10 (F := Ideal) G M (ix2 r j) : EReal) = Adam.newM (M (ix3 0 r j)) (G (ix3 0 r j)) := by
  pointwise [k0_pay10, k0_pay8, Adam.newM]

theorem square : (k0_pay11 (F := Ideal) G U (ix2 r j) : EReal) = Adam.newV (U (ix3 0 r j)) (G (ix3 0 r j)) := by
  pointwise [k0_pay11, k0_pay8, Adam.newV]

theorem step (z : Fin 1) : (k0_pay1 (F := Ideal) (k0_pay9 (F := Ideal) W) (k0_pay12 (F := Ideal) G M U) (ix3 z r j) : EReal) = Adam.step (W (ix3 0 r j)) (G (ix3 0 r j)) (M (ix3 0 r j)) (U (ix3 0 r j)) := by
  pointwise [k0_pay1, k0_pay9, k0_pay12, Adam.step, mean, square]

end Payloads

theorem idxA : ∀ t : Fin cfg0.N, t.val < 4 → win0_0.index t = ![0, t.val, 0] :=
  (by decide +kernel : ∀ t : Fin grid0.N, _)
theorem idxB : ∀ t : Fin cfg0.N, 4 ≤ t.val → win0_1.index t = ![0, t.val % 4, 0] :=
  (by decide +kernel : ∀ t : Fin grid0.N, _)
theorem idx : ∀ t : Fin cfg0.N, win0_2.index t = ![t.val / 4, t.val % 4, 0] ∧ win0_3.index t = ![t.val / 4, t.val % 4, 0] ∧ win0_4.index t = ![t.val / 4, t.val % 4, 0]
    ∧ win0_5.index t = ![t.val / 4, t.val % 4, 0] ∧ win0_6.index t = ![t.val / 4, t.val % 4, 0] ∧ win0_7.index t = ![t.val / 4, t.val % 4, 0] ∧ win0_8.index t = ![t.val / 4, t.val % 4, 0] :=
  (by decide +kernel : ∀ t : Fin grid0.N, _)

theorem lt (t : Fin cfg0.N) : t.val < 8 := lt_of_lt_of_eq t.isLt N_0

def layer (t : Fin cfg0.N) : Fin 2 := ⟨t.val / 4, by have := lt t; omega⟩
def row (t : Fin cfg0.N) (r : Fin 128) : Fin 512 := ⟨t.val % 4 * 128 + r.val, by have := lt t; omega⟩

variable (m : (ℓ : Loc nD τ sig) → Buf (Elt Ideal) ℓ)

abbrev sA (c : Dev nD) : S8x512x1024.Idx → EReal := m ((c : Thread nD τ).loc main_arg0)
abbrev sB (c : Dev nD) : S8x512x1024.Idx → EReal := m ((c : Thread nD τ).loc main_arg1)
abbrev aW (c : Dev nD) : S2x512x1024.Idx → EReal := m ((c : Thread nD τ).loc main_arg2)
abbrev aM (c : Dev nD) : S2x512x1024.Idx → EReal := m ((c : Thread nD τ).loc main_arg3)
abbrev aU (c : Dev nD) : S2x512x1024.Idx → EReal := m ((c : Thread nD τ).loc main_arg4)

/-- The sum of a block's eight slots. -/
theorem slots_A (c : Dev nD) (t : Fin cfg0.N) (h : t.val < 4) (r : Fin 128) (j : Fin 1024) (x : S8x128x1024.Idx → EReal) (hx : x = iblk m c 0 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 4 = 0 then sA m c else sB m c) (ix3 k (row t r) j)
  rw [if_pos (show t.val / 4 = 0 by omega)]
  refine Eq.trans (Fin.sum_univ_eight fun k => x (ix3 k r j)).symm (Finset.sum_congr rfl fun k _ => ?_)
  subst hx
  unfold sA row
  blk_ext [iblk, V, idxA t h]

theorem slots_B (c : Dev nD) (t : Fin cfg0.N) (h : 4 ≤ t.val) (r : Fin 128) (j : Fin 1024) (x : S8x128x1024.Idx → EReal) (hx : x = iblk m c 1 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 4 = 0 then sA m c else sB m c) (ix3 k (row t r) j)
  rw [if_neg (show ¬ t.val / 4 = 0 by omega)]
  refine Eq.trans (Fin.sum_univ_eight fun k => x (ix3 k r j)).symm (Finset.sum_congr rfl fun k _ => ?_)
  subst hx
  unfold sB row
  blk_ext [iblk, V, idxB t h]

theorem blkW (c : Dev nD) (t : Fin cfg0.N) (r : Fin 128) (j : Fin 1024) : iblk m c 2 t (ix3 0 r j : S1x128x1024.Idx) = aW m c (ix3 (layer t) (row t r) j) := by
  have := lt t
  unfold aW row layer
  blk_ext [iblk, V, idx t]

theorem blkM (c : Dev nD) (t : Fin cfg0.N) (r : Fin 128) (j : Fin 1024) : iblk m c 3 t (ix3 0 r j : S1x128x1024.Idx) = aM m c (ix3 (layer t) (row t r) j) := by
  have := lt t
  unfold aM row layer
  blk_ext [iblk, V, idx t]

theorem blkU (c : Dev nD) (t : Fin cfg0.N) (r : Fin 128) (j : Fin 1024) : iblk m c 4 t (ix3 0 r j : S1x128x1024.Idx) = aU m c (ix3 (layer t) (row t r) j) := by
  have := lt t
  unfold aU row layer
  blk_ext [iblk, V, idx t]

theorem out_g (c : Dev nD) (t : Fin cfg0.N) (z : Fin 1) (r : Fin 128) (j : Fin 1024) :
    (outsAt0 m c t.val t.isLt).1 (ix3 z r j) = gr (sA m c) (sB m c) (ix3 (layer t) (row t r) j) := by
  rcases Nat.lt_or_ge t.val 4 with h | h
  · rw [outsAt0_A m c t h (by omega)]
    frame_out
    pointwise [k0_pay6, sum_A]
    exact slots_A m c t h r j _ rfl
  · rw [outsAt0_B m c t (by omega) h]
    frame_out
    pointwise [k0_pay7, sum_B]
    exact slots_B m c t h r j _ rfl

theorem out_d (c : Dev nD) (t : Fin cfg0.N) (z : Fin 1) (r : Fin 128) (j : Fin 1024) :
    (outsAt0 m c t.val t.isLt).2.1 (ix3 z r j) = gd (sA m c) (sB m c) (aW m c) (aM m c) (aU m c) (ix3 (layer t) (row t r) j) := by
  rcases Nat.lt_or_ge t.val 4 with h | h
  · rw [outsAt0_A m c t h (by omega)]
    frame_out
    rw [step, blkW, blkM, blkU]
    refine congrArg (fun s => Adam.step _ s _ _) ?_
    pointwise [k0_pay6, sum_A]
    exact slots_A m c t h r j _ rfl
  · rw [outsAt0_B m c t (by omega) h]
    frame_out
    rw [step, blkW, blkM, blkU]
    refine congrArg (fun s => Adam.step _ s _ _) ?_
    pointwise [k0_pay7, sum_B]
    exact slots_B m c t h r j _ rfl

theorem out_m (c : Dev nD) (t : Fin cfg0.N) (z : Fin 1) (r : Fin 128) (j : Fin 1024) :
    (outsAt0 m c t.val t.isLt).2.2.1 (ix3 z r j) = gm (sA m c) (sB m c) (aM m c) (ix3 (layer t) (row t r) j) := by
  rcases Nat.lt_or_ge t.val 4 with h | h
  · rw [outsAt0_A m c t h (by omega)]
    frame_out
    pointwise [k0_pay2, mean, k0_pay6, sum_A]
    rw [blkM, slots_A m c t h r j _ rfl]
    rfl
  · rw [outsAt0_B m c t (by omega) h]
    frame_out
    pointwise [k0_pay2, mean, k0_pay7, sum_B]
    rw [blkM, slots_B m c t h r j _ rfl]
    rfl

theorem out_v (c : Dev nD) (t : Fin cfg0.N) (z : Fin 1) (r : Fin 128) (j : Fin 1024) :
    (outsAt0 m c t.val t.isLt).2.2.2 (ix3 z r j) = gv (sA m c) (sB m c) (aU m c) (ix3 (layer t) (row t r) j) := by
  rcases Nat.lt_or_ge t.val 4 with h | h
  · rw [outsAt0_A m c t h (by omega)]
    frame_out
    pointwise [k0_pay3, square, k0_pay6, sum_A]
    rw [blkU, slots_A m c t h r j _ rfl]
    rfl
  · rw [outsAt0_B m c t (by omega) h]
    frame_out
    pointwise [k0_pay3, square, k0_pay7, sum_B]
    rw [blkU, slots_B m c t h r j _ rfl]
    rfl

theorem final_g (c : Dev nD) : (dats m 0 c).arrAt 5 (cfgs 0).N = gr (sA m c) (sB m c) := by
  refine (dats m 0 c).arrAt_eq_of_covers 5 _ (by decide +kernel) fun t hf y => ?_
  blk_simp
  rw [after0_5]
  have ht := lt t
  idx_vars y
  refine (out_g m c t y0 y1 y2).trans (congrArg (gr (sA m c) (sB m c)) (?_ : ix3 (layer t) (row t y1) y2 = _))
  unfold layer row
  blk_ext [idx t]

theorem final_d (c : Dev nD) : (dats m 0 c).arrAt 6 (cfgs 0).N = gd (sA m c) (sB m c) (aW m c) (aM m c) (aU m c) := by
  refine (dats m 0 c).arrAt_eq_of_covers 6 _ (by decide +kernel) fun t hf y => ?_
  blk_simp
  rw [after0_6]
  have ht := lt t
  idx_vars y
  refine (out_d m c t y0 y1 y2).trans (congrArg (gd (sA m c) (sB m c) (aW m c) (aM m c) (aU m c)) (?_ : ix3 (layer t) (row t y1) y2 = _))
  unfold layer row
  blk_ext [idx t]

theorem final_m (c : Dev nD) : (dats m 0 c).arrAt 7 (cfgs 0).N = gm (sA m c) (sB m c) (aM m c) := by
  refine (dats m 0 c).arrAt_eq_of_covers 7 _ (by decide +kernel) fun t hf y => ?_
  blk_simp
  rw [after0_7]
  have ht := lt t
  idx_vars y
  refine (out_m m c t y0 y1 y2).trans (congrArg (gm (sA m c) (sB m c) (aM m c)) (?_ : ix3 (layer t) (row t y1) y2 = _))
  unfold layer row
  blk_ext [idx t]

theorem final_v (c : Dev nD) : (dats m 0 c).arrAt 8 (cfgs 0).N = gv (sA m c) (sB m c) (aU m c) := by
  refine (dats m 0 c).arrAt_eq_of_covers 8 _ (by decide +kernel) fun t hf y => ?_
  blk_simp
  rw [after0_8]
  have ht := lt t
  idx_vars y
  refine (out_v m c t y0 y1 y2).trans (congrArg (gv (sA m c) (sB m c) (aU m c)) (?_ : ix3 (layer t) (row t y1) y2 = _))
  unfold layer row
  blk_ext [idx t]

end Cert.AdamOut

namespace Cert.AdamOut.Ref

open Cert.Reference16Ideal Cert.Reference16Ideal.Gen Cert.Reference16Ideal.Read Idealize.ShloMosaic Idealize.ShloMosaic.TcCoe Idealize.SL.Sem Idealize.ShloMosaic.StableHlo

variable (A B : S8x512x1024.Idx → EReal) (W M U : S2x512x1024.Idx → EReal)

theorem both (l : Fin 2) (k : Fin 8) (r : Fin 512) (j : Fin 1024) : val_main_v2 (F := Ideal) A B (ix4 l k r j) = (if (l : ℕ) = 0 then A else B) (ix3 k r j) := by
  unfold val_main_v2
  concat_tiles i h
  case piece0 =>
    rw [val_main_v0_apply, if_pos (by simpa using h)]
    have e1 : (i 1 : ℕ) = k := h1
    have e2 : (i 2 : ℕ) = r := h2
    have e3 : (i 3 : ℕ) = j := h3
    exact congrArg A (by blk_ext)
  case piece1 =>
    rw [val_main_v1_apply, if_neg (by have e0 : (l : ℕ) = 1 := h; omega)]
    have e1 : (i 1 : ℕ) = k := h1
    have e2 : (i 2 : ℕ) = r := h2
    have e3 : (i 3 : ℕ) = j := h3
    exact congrArg B (by blk_ext)

theorem grad : val_main_v4 (F := Ideal) A B = Cert.AdamOut.gr A B := by
  funext i
  idx_vars i
  rw [val_main_v4_apply, val_main_cst_apply]
  refine (congrArg₂ (· + ·) Ideal.ofBits_zero_f32 (Finset.sum_congr rfl fun k _ => ?_)).trans (zero_add _)
  rw [val_main_v3_apply]
  exact (congrArg (val_main_v2 (F := Ideal) A B) (by blk_ext)).trans (both A B i0 k i1 i2)

theorem mean : val_main_v9 (F := Ideal) A B M = Cert.AdamOut.gm A B M := by
  funext i
  unfold Cert.AdamOut.gm
  rw [← grad]
  rfl

theorem square : val_main_v15 (F := Ideal) A B U = Cert.AdamOut.gv A B U := by
  funext i
  unfold Cert.AdamOut.gv
  rw [← grad]
  rfl

theorem step : val_main_v28 (F := Ideal) A B W M U = Cert.AdamOut.gd A B W M U := by
  funext i
  unfold Cert.AdamOut.gd
  rw [← grad]
  rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = val_main_v9 (F := Ideal) (m ((c.tc : Thread nD τ).loc main_arg0)) (m ((c.tc : Thread nD τ).loc main_arg1)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m g) fun r hr c => ?_
  obtain ⟨h0, h1, h2, h3, ha⟩ := hr c
  exact ⟨h0.trans (val_main_v4_eq _ _), h1.trans (val_main_v28_eq _ _ _ _ _), h2.trans (val_main_v9_eq _ _ _), h3.trans (val_main_v15_eq _ _ _), ha⟩

end Cert.AdamOut.Ref

namespace Cert.Proof

open Idealize.ShloMosaic Idealize.ShloMosaic.TcCoe Idealize.SL.Sem

theorem frame_adam_out_ref : Cert.quiescent_Reference16Ideal := fun m g _ =>
  θ_run_mono (Cert.Reference16Ideal.Value.run m g) fun r hr => ⟨fun c => (hr c).2.2.2.2, sem_eq_zero_of_no_sems (by decide) r.2⟩

theorem algebraic_adam_out : Cert.algebraic_Kernel16Ideal_Reference16Ideal := by
  pair_intro
  · run_from Cert.Kernel16Ideal.Value.run_blocks m g
  · run_from Cert.AdamOut.Ref.run m' g'
    · exact (Cert.AdamOut.Ref.grad _ _).trans (Cert.AdamOut.final_g m c).symm
    · exact (Cert.AdamOut.Ref.step _ _ _ _ _).trans (Cert.AdamOut.final_d m c).symm
    · exact (Cert.AdamOut.Ref.mean _ _ _).trans (Cert.AdamOut.final_m m c).symm
    · exact (Cert.AdamOut.Ref.square _ _ _).trans (Cert.AdamOut.final_v m c).symm

end Cert.Proof

end
-- ==== Proof.AdamUp.lean ====
/-
  THE OPTIMISER for the up projection: the gradient is the sum of what the eight devices sent, and the update follows from it.
  The first half of the grid takes the first layer, the second half the second.
-/
module

public import proofs.«01_k».proof.Defs
public import proofs.«01_k».proof.Proof.Adam
public import proofs.«01_k».proof.Proof.Gen.Kernel17Ideal.Value
public import proofs.«01_k».proof.Proof.Gen.Reference17Ideal.Read

@[expose] public section

set_option maxRecDepth 16384

noncomputable section

namespace Cert.AdamUp

open Cert.Kernel17Ideal Cert.Kernel17Ideal.Gen Idealize.ShloMosaic Idealize.ShloMosaic.TcCoe Idealize.SL.Sem

/-- The gradient: the eight slots of its layer summed. -/
def gr (A B : S8x768x1024.Idx → EReal) (i : S2x704x1024.Idx) : EReal := ∑ k : Fin 8, (if (i 0 : ℕ) = 0 then A else B) (ix3 k (⟨(i 1 : ℕ), lt_of_lt_of_le (i 1).isLt (by decide : 704 ≤ 768)⟩) (i 2))

def gm (A B : S8x768x1024.Idx → EReal) (M : S2x704x1024.Idx → EReal) (i : S2x704x1024.Idx) : EReal := Adam.newM (M i) (gr A B i)
def gv (A B : S8x768x1024.Idx → EReal) (W : S2x704x1024.Idx → EReal) (i : S2x704x1024.Idx) : EReal := Adam.newV (W i) (gr A B i)
def gd (A B : S8x768x1024.Idx → EReal) (W M U : S2x704x1024.Idx → EReal) (i : S2x704x1024.Idx) : EReal := Adam.step (W i) (gr A B i) (M i) (U i)

section Payloads
variable (a b c d e f g h : Vec Ideal S1x64x1024 .bf16) (r : Fin 64) (j : Fin 1024)

theorem sum_A : (k0_pay4 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay4]

theorem sum_B : (k0_pay5 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay5]

variable (G M U W : Vec Ideal S1x64x1024 .f32)

theorem mean : (k0_pay10 (F := Ideal) G M (ix2 r j) : EReal) = Adam.newM (M (ix3 0 r j)) (G (ix3 0 r j)) := by
  pointwise [k0_pay10, k0_pay8, Adam.newM]

theorem square : (k0_pay11 (F := Ideal) G U (ix2 r j) : EReal) = Adam.newV (U (ix3 0 r j)) (G (ix3 0 r j)) := by
  pointwise [k0_pay11, k0_pay8, Adam.newV]

theorem step (z : Fin 1) : (k0_pay1 (F := Ideal) (k0_pay9 (F := Ideal) W) (k0_pay12 (F := Ideal) G M U) (ix3 z r j) : EReal) = Adam.step (W (ix3 0 r j)) (G (ix3 0 r j)) (M (ix3 0 r j)) (U (ix3 0 r j)) := by
  pointwise [k0_pay1, k0_pay9, k0_pay12, Adam.step, mean, square]

end Payloads

theorem idxA : ∀ t : Fin cfg0.N, t.val < 11 → win0_0.index t = ![0, t.val, 0] :=
  (by decide +kernel : ∀ t : Fin grid0.N, _)
theorem idxB : ∀ t : Fin cfg0.N, 11 ≤ t.val → win0_1.index t = ![0, t.val % 11, 0] :=
  (by decide +kernel : ∀ t : Fin grid0.N, _)
theorem idx : ∀ t : Fin cfg0.N, win0_2.index t = ![t.val / 11, t.val % 11, 0] ∧ win0_3.index t = ![t.val / 11, t.val % 11, 0] ∧ win0_4.index t = ![t.val / 11, t.val % 11, 0]
    ∧ win0_5.index t = ![t.val / 11, t.val % 11, 0] ∧ win0_6.index t = ![t.val / 11, t.val % 11, 0] ∧ win0_7.index t = ![t.val / 11, t.val % 11, 0] ∧ win0_8.index t = ![t.val / 11, t.val % 11, 0] :=
  (by decide +kernel : ∀ t : Fin grid0.N, _)

theorem lt (t : Fin cfg0.N) : t.val < 22 := lt_of_lt_of_eq t.isLt N_0

def layer (t : Fin cfg0.N) : Fin 2 := ⟨t.val / 11, by have := lt t; omega⟩
def row (t : Fin cfg0.N) (r : Fin 64) : Fin 704 := ⟨t.val % 11 * 64 + r.val, by have := lt t; omega⟩

variable (m : (ℓ : Loc nD τ sig) → Buf (Elt Ideal) ℓ)

abbrev sA (c : Dev nD) : S8x768x1024.Idx → EReal := m ((c : Thread nD τ).loc main_arg0)
abbrev sB (c : Dev nD) : S8x768x1024.Idx → EReal := m ((c : Thread nD τ).loc main_arg1)
abbrev aW (c : Dev nD) : S2x704x1024.Idx → EReal := m ((c : Thread nD τ).loc main_arg2)
abbrev aM (c : Dev nD) : S2x704x1024.Idx → EReal := m ((c : Thread nD τ).loc main_arg3)
abbrev aU (c : Dev nD) : S2x704x1024.Idx → EReal := m ((c : Thread nD τ).loc main_arg4)

/-- The sum of a block's eight slots. -/
theorem slots_A (c : Dev nD) (t : Fin cfg0.N) (h : t.val < 11) (r : Fin 64) (j : Fin 1024) (x : S8x64x1024.Idx → EReal) (hx : x = iblk m c 0 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 11 = 0 then sA m c else sB m c) (ix3 k (⟨(row t r : ℕ), lt_of_lt_of_le (row t r).isLt (by decide : 704 ≤ 768)⟩) j)
  rw [if_pos (show t.val / 11 = 0 by omega)]
  refine Eq.trans (Fin.sum_univ_eight fun k => x (ix3 k r j)).symm (Finset.sum_congr rfl fun k _ => ?_)
  subst hx
  unfold sA row
  blk_ext [iblk, V, idxA t h]

theorem slots_B (c : Dev nD) (t : Fin cfg0.N) (h : 11 ≤ t.val) (r : Fin 64) (j : Fin 1024) (x : S8x64x1024.Idx → EReal) (hx : x = iblk m c 1 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 11 = 0 then sA m c else sB m c) (ix3 k (⟨(row t r : ℕ), lt_of_lt_of_le (row t r).isLt (by decide : 704 ≤ 768)⟩) j)
  rw [if_neg (show ¬ t.val / 11 = 0 by omega)]
  refine Eq.trans (Fin.sum_univ_eight fun k => x (ix3 k r j)).symm (Finset.sum_congr rfl fun k _ => ?_)
  subst hx
  unfold sB row
  blk_ext [iblk, V, idxB t h]

theorem blkW (c : Dev nD) (t : Fin cfg0.N) (r : Fin 64) (j : Fin 1024) : iblk m c 2 t (ix3 0 r j : S1x64x1024.Idx) = aW m c (ix3 (layer t) (row t r) j) := by
  have := lt t
  unfold aW row layer
  blk_ext [iblk, V, idx t]

theorem blkM (c : Dev nD) (t : Fin cfg0.N) (r : Fin 64) (j : Fin 1024) : iblk m c 3 t (ix3 0 r j : S1x64x1024.Idx) = aM m c (ix3 (layer t) (row t r) j) := by
  have := lt t
  unfold aM row layer
  blk_ext [iblk, V, idx t]

theorem blkU (c : Dev nD) (t : Fin cfg0.N) (r : Fin 64) (j : Fin 1024) : iblk m c 4 t (ix3 0 r j : S1x64x1024.Idx) = aU m c (ix3 (layer t) (row t r) j) := by
  have := lt t
  unfold aU row layer
  blk_ext [iblk, V, idx t]

theorem out_g (c : Dev nD) (t : Fin cfg0.N) (z : Fin 1) (r : Fin 64) (j : Fin 1024) :
    (outsAt0 m c t.val t.isLt).1 (ix3 z r j) = gr (sA m c) (sB m c) (ix3 (layer t) (row t r) j) := by
  rcases Nat.lt_or_ge t.val 11 with h | h
  · rw [outsAt0_A m c t h (by omega)]
    frame_out
    pointwise [k0_pay6, sum_A]
    exact slots_A m c t h r j _ rfl
  · rw [outsAt0_B m c t (by omega) h]
    frame_out
    pointwise [k0_pay7, sum_B]
    exact slots_B m c t h r j _ rfl

theorem out_d (c : Dev nD) (t : Fin cfg0.N) (z : Fin 1) (r : Fin 64) (j : Fin 1024) :
    (outsAt0 m c t.val t.isLt).2.1 (ix3 z r j) = gd (sA m c) (sB m c) (aW m c) (aM m c) (aU m c) (ix3 (layer t) (row t r) j) := by
  rcases Nat.lt_or_ge t.val 11 with h | h
  · rw [outsAt0_A m c t h (by omega)]
    frame_out
    rw [step, blkW, blkM, blkU]
    refine congrArg (fun s => Adam.step _ s _ _) ?_
    pointwise [k0_pay6, sum_A]
    exact slots_A m c t h r j _ rfl
  · rw [outsAt0_B m c t (by omega) h]
    frame_out
    rw [step, blkW, blkM, blkU]
    refine congrArg (fun s => Adam.step _ s _ _) ?_
    pointwise [k0_pay7, sum_B]
    exact slots_B m c t h r j _ rfl

theorem out_m (c : Dev nD) (t : Fin cfg0.N) (z : Fin 1) (r : Fin 64) (j : Fin 1024) :
    (outsAt0 m c t.val t.isLt).2.2.1 (ix3 z r j) = gm (sA m c) (sB m c) (aM m c) (ix3 (layer t) (row t r) j) := by
  rcases Nat.lt_or_ge t.val 11 with h | h
  · rw [outsAt0_A m c t h (by omega)]
    frame_out
    pointwise [k0_pay2, mean, k0_pay6, sum_A]
    rw [blkM, slots_A m c t h r j _ rfl]
    rfl
  · rw [outsAt0_B m c t (by omega) h]
    frame_out
    pointwise [k0_pay2, mean, k0_pay7, sum_B]
    rw [blkM, slots_B m c t h r j _ rfl]
    rfl

theorem out_v (c : Dev nD) (t : Fin cfg0.N) (z : Fin 1) (r : Fin 64) (j : Fin 1024) :
    (outsAt0 m c t.val t.isLt).2.2.2 (ix3 z r j) = gv (sA m c) (sB m c) (aU m c) (ix3 (layer t) (row t r) j) := by
  rcases Nat.lt_or_ge t.val 11 with h | h
  · rw [outsAt0_A m c t h (by omega)]
    frame_out
    pointwise [k0_pay3, square, k0_pay6, sum_A]
    rw [blkU, slots_A m c t h r j _ rfl]
    rfl
  · rw [outsAt0_B m c t (by omega) h]
    frame_out
    pointwise [k0_pay3, square, k0_pay7, sum_B]
    rw [blkU, slots_B m c t h r j _ rfl]
    rfl

theorem final_g (c : Dev nD) : (dats m 0 c).arrAt 5 (cfgs 0).N = gr (sA m c) (sB m c) := by
  refine (dats m 0 c).arrAt_eq_of_covers 5 _ (by decide +kernel) fun t hf y => ?_
  blk_simp
  rw [after0_5]
  have ht := lt t
  idx_vars y
  refine (out_g m c t y0 y1 y2).trans (congrArg (gr (sA m c) (sB m c)) (?_ : ix3 (layer t) (row t y1) y2 = _))
  unfold layer row
  blk_ext [idx t]

theorem final_d (c : Dev nD) : (dats m 0 c).arrAt 6 (cfgs 0).N = gd (sA m c) (sB m c) (aW m c) (aM m c) (aU m c) := by
  refine (dats m 0 c).arrAt_eq_of_covers 6 _ (by decide +kernel) fun t hf y => ?_
  blk_simp
  rw [after0_6]
  have ht := lt t
  idx_vars y
  refine (out_d m c t y0 y1 y2).trans (congrArg (gd (sA m c) (sB m c) (aW m c) (aM m c) (aU m c)) (?_ : ix3 (layer t) (row t y1) y2 = _))
  unfold layer row
  blk_ext [idx t]

theorem final_m (c : Dev nD) : (dats m 0 c).arrAt 7 (cfgs 0).N = gm (sA m c) (sB m c) (aM m c) := by
  refine (dats m 0 c).arrAt_eq_of_covers 7 _ (by decide +kernel) fun t hf y => ?_
  blk_simp
  rw [after0_7]
  have ht := lt t
  idx_vars y
  refine (out_m m c t y0 y1 y2).trans (congrArg (gm (sA m c) (sB m c) (aM m c)) (?_ : ix3 (layer t) (row t y1) y2 = _))
  unfold layer row
  blk_ext [idx t]

theorem final_v (c : Dev nD) : (dats m 0 c).arrAt 8 (cfgs 0).N = gv (sA m c) (sB m c) (aU m c) := by
  refine (dats m 0 c).arrAt_eq_of_covers 8 _ (by decide +kernel) fun t hf y => ?_
  blk_simp
  rw [after0_8]
  have ht := lt t
  idx_vars y
  refine (out_v m c t y0 y1 y2).trans (congrArg (gv (sA m c) (sB m c) (aU m c)) (?_ : ix3 (layer t) (row t y1) y2 = _))
  unfold layer row
  blk_ext [idx t]

end Cert.AdamUp

namespace Cert.AdamUp.Ref

open Cert.Reference17Ideal Cert.Reference17Ideal.Gen Cert.Reference17Ideal.Read Idealize.ShloMosaic Idealize.ShloMosaic.TcCoe Idealize.SL.Sem Idealize.ShloMosaic.StableHlo

variable (A B : S8x768x1024.Idx → EReal) (W M U : S2x704x1024.Idx → EReal)

theorem both (l : Fin 2) (k : Fin 8) (r : Fin 768) (j : Fin 1024) : val_main_v2 (F := Ideal) A B (ix4 l k r j) = (if (l : ℕ) = 0 then A else B) (ix3 k r j) := by
  unfold val_main_v2
  concat_tiles i h
  case piece0 =>
    rw [val_main_v0_apply, if_pos (by simpa using h)]
    have e1 : (i 1 : ℕ) = k := h1
    have e2 : (i 2 : ℕ) = r := h2
    have e3 : (i 3 : ℕ) = j := h3
    exact congrArg A (by blk_ext)
  case piece1 =>
    rw [val_main_v1_apply, if_neg (by have e0 : (l : ℕ) = 1 := h; omega)]
    have e1 : (i 1 : ℕ) = k := h1
    have e2 : (i 2 : ℕ) = r := h2
    have e3 : (i 3 : ℕ) = j := h3
    exact congrArg B (by blk_ext)

theorem grad : val_main_v5 (F := Ideal) A B = Cert.AdamUp.gr A B := by
  funext i
  idx_vars i
  rw [val_main_v5_apply]
  rw [val_main_v4_apply, val_main_cst_apply]
  refine (congrArg₂ (· + ·) Ideal.ofBits_zero_f32 (Finset.sum_congr rfl fun k _ => ?_)).trans (zero_add _)
  rw [val_main_v3_apply]
  exact (congrArg (val_main_v2 (F := Ideal) A B) (by blk_ext)).trans (both A B i0 k ⟨(i1 : ℕ), lt_of_lt_of_le i1.isLt (by decide : 704 ≤ 768)⟩ i2)

theorem mean : val_main_v10 (F := Ideal) A B M = Cert.AdamUp.gm A B M := by
  funext i
  unfold Cert.AdamUp.gm
  rw [← grad]
  rfl

theorem square : val_main_v16 (F := Ideal) A B U = Cert.AdamUp.gv A B U := by
  funext i
  unfold Cert.AdamUp.gv
  rw [← grad]
  rfl

theorem step : val_main_v29 (F := Ideal) A B W M U = Cert.AdamUp.gd A B W M U := by
  funext i
  unfold Cert.AdamUp.gd
  rw [← grad]
  rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v5) = val_main_v5 (F := Ideal) (m ((c.tc : Thread nD τ).loc main_arg0)) (m ((c.tc : Thread nD τ).loc main_arg1))
      ∧ r.2.mem ((c.tc : Thread nD τ).loc main_v29) = val_main_v29 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v10) = val_main_v10 (F := Ideal) (m ((c.tc : Thread nD τ).loc main_arg0)) (m ((c.tc : Thread nD τ).loc main_arg1)) (m ((c.tc : Thread nD τ).loc main_arg3))
      ∧ r.2.mem ((c.tc : Thread nD τ).loc main_v16) = val_main_v16 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m g) fun r hr c => ?_
  obtain ⟨h0, h1, h2, h3, ha⟩ := hr c
  exact ⟨h0.trans (val_main_v5_eq _ _), h1.trans (val_main_v29_eq _ _ _ _ _), h2.trans (val_main_v10_eq _ _ _), h3.trans (val_main_v16_eq _ _ _), ha⟩

end Cert.AdamUp.Ref

namespace Cert.Proof

open Idealize.ShloMosaic Idealize.ShloMosaic.TcCoe Idealize.SL.Sem

theorem frame_adam_up_ref : Cert.quiescent_Reference17Ideal := fun m g _ =>
  θ_run_mono (Cert.Reference17Ideal.Value.run m g) fun r hr => ⟨fun c => (hr c).2.2.2.2, sem_eq_zero_of_no_sems (by decide) r.2⟩

theorem algebraic_adam_up : Cert.algebraic_Kernel17Ideal_Reference17Ideal := by
  pair_intro
  · run_from Cert.Kernel17Ideal.Value.run_blocks m g
  · run_from Cert.AdamUp.Ref.run m' g'
    · exact (Cert.AdamUp.Ref.grad _ _).trans (Cert.AdamUp.final_g m c).symm
    · exact (Cert.AdamUp.Ref.step _ _ _ _ _).trans (Cert.AdamUp.final_d m c).symm
    · exact (Cert.AdamUp.Ref.mean _ _ _).trans (Cert.AdamUp.final_m m c).symm
    · exact (Cert.AdamUp.Ref.square _ _ _).trans (Cert.AdamUp.final_v m c).symm

end Cert.Proof

end
-- ==== Proof.AdamDown.lean ====
/-
  THE OPTIMISER for the down projection: the gradient is the sum of what the eight devices sent, and the update follows from it.
  The first half of the grid takes the first layer, the second half the second.
-/
module

public import proofs.«01_k».proof.Defs
public import proofs.«01_k».proof.Proof.Adam
public import proofs.«01_k».proof.Proof.Gen.Kernel18Ideal.Value
public import proofs.«01_k».proof.Proof.Gen.Reference18Ideal.Read

@[expose] public section

set_option maxRecDepth 16384

noncomputable section

namespace Cert.AdamDown

open Cert.Kernel18Ideal Cert.Kernel18Ideal.Gen Idealize.ShloMosaic Idealize.ShloMosaic.TcCoe Idealize.SL.Sem

/-- The gradient: the eight slots of its layer summed. -/
def gr (A B : S8x352x1024.Idx → EReal) (i : S2x352x1024.Idx) : EReal := ∑ k : Fin 8, (if (i 0 : ℕ) = 0 then A else B) (ix3 k (i 1) (i 2))

def gm (A B : S8x352x1024.Idx → EReal) (M : S2x352x1024.Idx → EReal) (i : S2x352x1024.Idx) : EReal := Adam.newM (M i) (gr A B i)
def gv (A B : S8x352x1024.Idx → EReal) (W : S2x352x1024.Idx → EReal) (i : S2x352x1024.Idx) : EReal := Adam.newV (W i) (gr A B i)
def gd (A B : S8x352x1024.Idx → EReal) (W M U : S2x352x1024.Idx → EReal) (i : S2x352x1024.Idx) : EReal := Adam.step (W i) (gr A B i) (M i) (U i)

section Payloads
variable (a b c d e f g h : Vec Ideal S1x32x1024 .bf16) (r : Fin 32) (j : Fin 1024)

theorem sum_A : (k0_pay4 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay4]

theorem sum_B : (k0_pay5 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay5]

variable (G M U W : Vec Ideal S1x32x1024 .f32)

theorem mean : (k0_pay10 (F := Ideal) G M (ix2 r j) : EReal) = Adam.newM (M (ix3 0 r j)) (G (ix3 0 r j)) := by
  pointwise [k0_pay10, k0_pay8, Adam.newM]

theorem square : (k0_pay11 (F := Ideal) G U (ix2 r j) : EReal) = Adam.newV (U (ix3 0 r j)) (G (ix3 0 r j)) := by
  pointwise [k0_pay11, k0_pay8, Adam.newV]

theorem step (z : Fin 1) : (k0_pay1 (F := Ideal) (k0_pay9 (F := Ideal) W) (k0_pay12 (F := Ideal) G M U) (ix3 z r j) : EReal) = Adam.step (W (ix3 0 r j)) (G (ix3 0 r j)) (M (ix3 0 r j)) (U (ix3 0 r j)) := by
  pointwise [k0_pay1, k0_pay9, k0_pay12, Adam.step, mean, square]

end Payloads

theorem idxA : ∀ t : Fin cfg0.N, t.val < 11 → win0_0.index t = ![0, t.val, 0] :=
  (by decide +kernel : ∀ t : Fin grid0.N, _)
theorem idxB : ∀ t : Fin cfg0.N, 11 ≤ t.val → win0_1.index t = ![0, t.val % 11, 0] :=
  (by decide +kernel : ∀ t : Fin grid0.N, _)
theorem idx : ∀ t : Fin cfg0.N, win0_2.index t = ![t.val / 11, t.val % 11, 0] ∧ win0_3.index t = ![t.val / 11, t.val % 11, 0] ∧ win0_4.index t = ![t.val / 11, t.val % 11, 0]
    ∧ win0_5.index t = ![t.val / 11, t.val % 11, 0] ∧ win0_6.index t = ![t.val / 11, t.val % 11, 0] ∧ win0_7.index t = ![t.val / 11, t.val % 11, 0] ∧ win0_8.index t = ![t.val / 11, t.val % 11, 0] :=
  (by decide +kernel : ∀ t : Fin grid0.N, _)

theorem lt (t : Fin cfg0.N) : t.val < 22 := lt_of_lt_of_eq t.isLt N_0

def layer (t : Fin cfg0.N) : Fin 2 := ⟨t.val / 11, by have := lt t; omega⟩
def row (t : Fin cfg0.N) (r : Fin 32) : Fin 352 := ⟨t.val % 11 * 32 + r.val, by have := lt t; omega⟩

variable (m : (ℓ : Loc nD τ sig) → Buf (Elt Ideal) ℓ)

abbrev sA (c : Dev nD) : S8x352x1024.Idx → EReal := m ((c : Thread nD τ).loc main_arg0)
abbrev sB (c : Dev nD) : S8x352x1024.Idx → EReal := m ((c : Thread nD τ).loc main_arg1)
abbrev aW (c : Dev nD) : S2x352x1024.Idx → EReal := m ((c : Thread nD τ).loc main_arg2)
abbrev aM (c : Dev nD) : S2x352x1024.Idx → EReal := m ((c : Thread nD τ).loc main_arg3)
abbrev aU (c : Dev nD) : S2x352x1024.Idx → EReal := m ((c : Thread nD τ).loc main_arg4)

/-- The sum of a block's eight slots. -/
theorem slots_A (c : Dev nD) (t : Fin cfg0.N) (h : t.val < 11) (r : Fin 32) (j : Fin 1024) (x : S8x32x1024.Idx → EReal) (hx : x = iblk m c 0 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 11 = 0 then sA m c else sB m c) (ix3 k (row t r) j)
  rw [if_pos (show t.val / 11 = 0 by omega)]
  refine Eq.trans (Fin.sum_univ_eight fun k => x (ix3 k r j)).symm (Finset.sum_congr rfl fun k _ => ?_)
  subst hx
  unfold sA row
  blk_ext [iblk, V, idxA t h]

theorem slots_B (c : Dev nD) (t : Fin cfg0.N) (h : 11 ≤ t.val) (r : Fin 32) (j : Fin 1024) (x : S8x32x1024.Idx → EReal) (hx : x = iblk m c 1 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 11 = 0 then sA m c else sB m c) (ix3 k (row t r) j)
  rw [if_neg (show ¬ t.val / 11 = 0 by omega)]
  refine Eq.trans (Fin.sum_univ_eight fun k => x (ix3 k r j)).symm (Finset.sum_congr rfl fun k _ => ?_)
  subst hx
  unfold sB row
  blk_ext [iblk, V, idxB t h]

theorem blkW (c : Dev nD) (t : Fin cfg0.N) (r : Fin 32) (j : Fin 1024) : iblk m c 2 t (ix3 0 r j : S1x32x1024.Idx) = aW m c (ix3 (layer t) (row t r) j) := by
  have := lt t
  unfold aW row layer
  blk_ext [iblk, V, idx t]

theorem blkM (c : Dev nD) (t : Fin cfg0.N) (r : Fin 32) (j : Fin 1024) : iblk m c 3 t (ix3 0 r j : S1x32x1024.Idx) = aM m c (ix3 (layer t) (row t r) j) := by
  have := lt t
  unfold aM row layer
  blk_ext [iblk, V, idx t]

theorem blkU (c : Dev nD) (t : Fin cfg0.N) (r : Fin 32) (j : Fin 1024) : iblk m c 4 t (ix3 0 r j : S1x32x1024.Idx) = aU m c (ix3 (layer t) (row t r) j) := by
  have := lt t
  unfold aU row layer
  blk_ext [iblk, V, idx t]

theorem out_g (c : Dev nD) (t : Fin cfg0.N) (z : Fin 1) (r : Fin 32) (j : Fin 1024) :
    (outsAt0 m c t.val t.isLt).1 (ix3 z r j) = gr (sA m c) (sB m c) (ix3 (layer t) (row t r) j) := by
  rcases Nat.lt_or_ge t.val 11 with h | h
  · rw [outsAt0_A m c t h (by omega)]
    frame_out
    pointwise [k0_pay6, sum_A]
    exact slots_A m c t h r j _ rfl
  · rw [outsAt0_B m c t (by omega) h]
    frame_out
    pointwise [k0_pay7, sum_B]
    exact slots_B m c t h r j _ rfl

theorem out_d (c : Dev nD) (t : Fin cfg0.N) (z : Fin 1) (r : Fin 32) (j : Fin 1024) :
    (outsAt0 m c t.val t.isLt).2.1 (ix3 z r j) = gd (sA m c) (sB m c) (aW m c) (aM m c) (aU m c) (ix3 (layer t) (row t r) j) := by
  rcases Nat.lt_or_ge t.val 11 with h | h
  · rw [outsAt0_A m c t h (by omega)]
    frame_out
    rw [step, blkW, blkM, blkU]
    refine congrArg (fun s => Adam.step _ s _ _) ?_
    pointwise [k0_pay6, sum_A]
    exact slots_A m c t h r j _ rfl
  · rw [outsAt0_B m c t (by omega) h]
    frame_out
    rw [step, blkW, blkM, blkU]
    refine congrArg (fun s => Adam.step _ s _ _) ?_
    pointwise [k0_pay7, sum_B]
    exact slots_B m c t h r j _ rfl

theorem out_m (c : Dev nD) (t : Fin cfg0.N) (z : Fin 1) (r : Fin 32) (j : Fin 1024) :
    (outsAt0 m c t.val t.isLt).2.2.1 (ix3 z r j) = gm (sA m c) (sB m c) (aM m c) (ix3 (layer t) (row t r) j) := by
  rcases Nat.lt_or_ge t.val 11 with h | h
  · rw [outsAt0_A m c t h (by omega)]
    frame_out
    pointwise [k0_pay2, mean, k0_pay6, sum_A]
    rw [blkM, slots_A m c t h r j _ rfl]
    rfl
  · rw [outsAt0_B m c t (by omega) h]
    frame_out
    pointwise [k0_pay2, mean, k0_pay7, sum_B]
    rw [blkM, slots_B m c t h r j _ rfl]
    rfl

theorem out_v (c : Dev nD) (t : Fin cfg0.N) (z : Fin 1) (r : Fin 32) (j : Fin 1024) :
    (outsAt0 m c t.val t.isLt).2.2.2 (ix3 z r j) = gv (sA m c) (sB m c) (aU m c) (ix3 (layer t) (row t r) j) := by
  rcases Nat.lt_or_ge t.val 11 with h | h
  · rw [outsAt0_A m c t h (by omega)]
    frame_out
    pointwise [k0_pay3, square, k0_pay6, sum_A]
    rw [blkU, slots_A m c t h r j _ rfl]
    rfl
  · rw [outsAt0_B m c t (by omega) h]
    frame_out
    pointwise [k0_pay3, square, k0_pay7, sum_B]
    rw [blkU, slots_B m c t h r j _ rfl]
    rfl

theorem final_g (c : Dev nD) : (dats m 0 c).arrAt 5 (cfgs 0).N = gr (sA m c) (sB m c) := by
  refine (dats m 0 c).arrAt_eq_of_covers 5 _ (by decide +kernel) fun t hf y => ?_
  blk_simp
  rw [after0_5]
  have ht := lt t
  idx_vars y
  refine (out_g m c t y0 y1 y2).trans (congrArg (gr (sA m c) (sB m c)) (?_ : ix3 (layer t) (row t y1) y2 = _))
  unfold layer row
  blk_ext [idx t]

theorem final_d (c : Dev nD) : (dats m 0 c).arrAt 6 (cfgs 0).N = gd (sA m c) (sB m c) (aW m c) (aM m c) (aU m c) := by
  refine (dats m 0 c).arrAt_eq_of_covers 6 _ (by decide +kernel) fun t hf y => ?_
  blk_simp
  rw [after0_6]
  have ht := lt t
  idx_vars y
  refine (out_d m c t y0 y1 y2).trans (congrArg (gd (sA m c) (sB m c) (aW m c) (aM m c) (aU m c)) (?_ : ix3 (layer t) (row t y1) y2 = _))
  unfold layer row
  blk_ext [idx t]

theorem final_m (c : Dev nD) : (dats m 0 c).arrAt 7 (cfgs 0).N = gm (sA m c) (sB m c) (aM m c) := by
  refine (dats m 0 c).arrAt_eq_of_covers 7 _ (by decide +kernel) fun t hf y => ?_
  blk_simp
  rw [after0_7]
  have ht := lt t
  idx_vars y
  refine (out_m m c t y0 y1 y2).trans (congrArg (gm (sA m c) (sB m c) (aM m c)) (?_ : ix3 (layer t) (row t y1) y2 = _))
  unfold layer row
  blk_ext [idx t]

theorem final_v (c : Dev nD) : (dats m 0 c).arrAt 8 (cfgs 0).N = gv (sA m c) (sB m c) (aU m c) := by
  refine (dats m 0 c).arrAt_eq_of_covers 8 _ (by decide +kernel) fun t hf y => ?_
  blk_simp
  rw [after0_8]
  have ht := lt t
  idx_vars y
  refine (out_v m c t y0 y1 y2).trans (congrArg (gv (sA m c) (sB m c) (aU m c)) (?_ : ix3 (layer t) (row t y1) y2 = _))
  unfold layer row
  blk_ext [idx t]

end Cert.AdamDown

namespace Cert.AdamDown.Ref

open Cert.Reference18Ideal Cert.Reference18Ideal.Gen Cert.Reference18Ideal.Read Idealize.ShloMosaic Idealize.ShloMosaic.TcCoe Idealize.SL.Sem Idealize.ShloMosaic.StableHlo

variable (A B : S8x352x1024.Idx → EReal) (W M U : S2x352x1024.Idx → EReal)

theorem both (l : Fin 2) (k : Fin 8) (r : Fin 352) (j : Fin 1024) : val_main_v2 (F := Ideal) A B (ix4 l k r j) = (if (l : ℕ) = 0 then A else B) (ix3 k r j) := by
  unfold val_main_v2
  concat_tiles i h
  case piece0 =>
    rw [val_main_v0_apply, if_pos (by simpa using h)]
    have e1 : (i 1 : ℕ) = k := h1
    have e2 : (i 2 : ℕ) = r := h2
    have e3 : (i 3 : ℕ) = j := h3
    exact congrArg A (by blk_ext)
  case piece1 =>
    rw [val_main_v1_apply, if_neg (by have e0 : (l : ℕ) = 1 := h; omega)]
    have e1 : (i 1 : ℕ) = k := h1
    have e2 : (i 2 : ℕ) = r := h2
    have e3 : (i 3 : ℕ) = j := h3
    exact congrArg B (by blk_ext)

theorem grad : val_main_v4 (F := Ideal) A B = Cert.AdamDown.gr A B := by
  funext i
  idx_vars i
  rw [val_main_v4_apply, val_main_cst_apply]
  refine (congrArg₂ (· + ·) Ideal.ofBits_zero_f32 (Finset.sum_congr rfl fun k _ => ?_)).trans (zero_add _)
  rw [val_main_v3_apply]
  exact (congrArg (val_main_v2 (F := Ideal) A B) (by blk_ext)).trans (both A B i0 k i1 i2)

theorem mean : val_main_v9 (F := Ideal) A B M = Cert.AdamDown.gm A B M := by
  funext i
  unfold Cert.AdamDown.gm
  rw [← grad]
  rfl

theorem square : val_main_v15 (F := Ideal) A B U = Cert.AdamDown.gv A B U := by
  funext i
  unfold Cert.AdamDown.gv
  rw [← grad]
  rfl

theorem step : val_main_v28 (F := Ideal) A B W M U = Cert.AdamDown.gd A B W M U := by
  funext i
  unfold Cert.AdamDown.gd
  rw [← grad]
  rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = val_main_v9 (F := Ideal) (m ((c.tc : Thread nD τ).loc main_arg0)) (m ((c.tc : Thread nD τ).loc main_arg1)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m g) fun r hr c => ?_
  obtain ⟨h0, h1, h2, h3, ha⟩ := hr c
  exact ⟨h0.trans (val_main_v4_eq _ _), h1.trans (val_main_v28_eq _ _ _ _ _), h2.trans (val_main_v9_eq _ _ _), h3.trans (val_main_v15_eq _ _ _), ha⟩

end Cert.AdamDown.Ref

namespace Cert.Proof

open Idealize.ShloMosaic Idealize.ShloMosaic.TcCoe Idealize.SL.Sem

theorem frame_adam_down_ref : Cert.quiescent_Reference18Ideal := fun m g _ =>
  θ_run_mono (Cert.Reference18Ideal.Value.run m g) fun r hr => ⟨fun c => (hr c).2.2.2.2, sem_eq_zero_of_no_sems (by decide) r.2⟩

theorem algebraic_adam_down : Cert.algebraic_Kernel18Ideal_Reference18Ideal := by
  pair_intro
  · run_from Cert.Kernel18Ideal.Value.run_blocks m g
  · run_from Cert.AdamDown.Ref.run m' g'
    · exact (Cert.AdamDown.Ref.grad _ _).trans (Cert.AdamDown.final_g m c).symm
    · exact (Cert.AdamDown.Ref.step _ _ _ _ _).trans (Cert.AdamDown.final_d m c).symm
    · exact (Cert.AdamDown.Ref.mean _ _ _).trans (Cert.AdamDown.final_m m c).symm
    · exact (Cert.AdamDown.Ref.square _ _ _).trans (Cert.AdamDown.final_v m c).symm

end Cert.Proof

end
-- ==== Proof.AdamKv.lean ====
/-
  THE OPTIMISER for the memory's projection: the gradient is the sum of what the eight devices sent, and the update follows from it.
  The first half of the grid takes the first layer, the second half the second.
-/
module

public import proofs.«01_k».proof.Defs
public import proofs.«01_k».proof.Proof.Adam
public import proofs.«01_k».proof.Proof.Gen.Kernel19Ideal.Value
public import proofs.«01_k».proof.Proof.Gen.Reference19Ideal.Read

@[expose] public section

set_option maxRecDepth 16384

noncomputable section

namespace Cert.AdamKv

open Cert.Kernel19Ideal Cert.Kernel19Ideal.Gen Idealize.ShloMosaic Idealize.ShloMosaic.TcCoe Idealize.SL.Sem

/-- The gradient: the eight slots of its layer summed. -/
def gr (A B : S8x1024x256.Idx → EReal) (i : S2x1024x256.Idx) : EReal := ∑ k : Fin 8, (if (i 0 : ℕ) = 0 then A else B) (ix3 k (i 1) (i 2))

def gm (A B : S8x1024x256.Idx → EReal) (M : S2x1024x256.Idx → EReal) (i : S2x1024x256.Idx) : EReal := Adam.newM (M i) (gr A B i)
def gv (A B : S8x1024x256.Idx → EReal) (W : S2x1024x256.Idx → EReal) (i : S2x1024x256.Idx) : EReal := Adam.newV (W i) (gr A B i)
def gd (A B : S8x1024x256.Idx → EReal) (W M U : S2x1024x256.Idx → EReal) (i : S2x1024x256.Idx) : EReal := Adam.step (W i) (gr A B i) (M i) (U i)

section Payloads
variable (a b c d e f g h : Vec Ideal S1x128x256 .bf16) (r : Fin 128) (j : Fin 256)

theorem sum_A : (k0_pay4 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay4]

theorem sum_B : (k0_pay5 (F := Ideal) a b c d e f g h (ix2 r j) : EReal) = a (ix3 0 r j) + b (ix3 0 r j) + c (ix3 0 r j) + d (ix3 0 r j) + e (ix3 0 r j) + f (ix3 0 r j) + g (ix3 0 r j) + h (ix3 0 r j) := by
  pointwise [k0_pay5]

variable (G M U W : Vec Ideal S1x128x256 .f32)

theorem mean : (k0_pay10 (F := Ideal) G M (ix2 r j) : EReal) = Adam.newM (M (ix3 0 r j)) (G (ix3 0 r j)) := by
  pointwise [k0_pay10, k0_pay8, Adam.newM]

theorem square : (k0_pay11 (F := Ideal) G U (ix2 r j) : EReal) = Adam.newV (U (ix3 0 r j)) (G (ix3 0 r j)) := by
  pointwise [k0_pay11, k0_pay8, Adam.newV]

theorem step (z : Fin 1) : (k0_pay1 (F := Ideal) (k0_pay9 (F := Ideal) W) (k0_pay12 (F := Ideal) G M U) (ix3 z r j) : EReal) = Adam.step (W (ix3 0 r j)) (G (ix3 0 r j)) (M (ix3 0 r j)) (U (ix3 0 r j)) := by
  pointwise [k0_pay1, k0_pay9, k0_pay12, Adam.step, mean, square]

end Payloads

theorem idxA : ∀ t : Fin cfg0.N, t.val < 8 → win0_0.index t = ![0, t.val, 0] :=
  (by decide +kernel : ∀ t : Fin grid0.N, _)
theorem idxB : ∀ t : Fin cfg0.N, 8 ≤ t.val → win0_1.index t = ![0, t.val % 8, 0] :=
  (by decide +kernel : ∀ t : Fin grid0.N, _)
theorem idx : ∀ t : Fin cfg0.N, win0_2.index t = ![t.val / 8, t.val % 8, 0] ∧ win0_3.index t = ![t.val / 8, t.val % 8, 0] ∧ win0_4.index t = ![t.val / 8, t.val % 8, 0]
    ∧ win0_5.index t = ![t.val / 8, t.val % 8, 0] ∧ win0_6.index t = ![t.val / 8, t.val % 8, 0] ∧ win0_7.index t = ![t.val / 8, t.val % 8, 0] ∧ win0_8.index t = ![t.val / 8, t.val % 8, 0] :=
  (by decide +kernel : ∀ t : Fin grid0.N, _)

theorem lt (t : Fin cfg0.N) : t.val < 16 := lt_of_lt_of_eq t.isLt N_0

def layer (t : Fin cfg0.N) : Fin 2 := ⟨t.val / 8, by have := lt t; omega⟩
def row (t : Fin cfg0.N) (r : Fin 128) : Fin 1024 := ⟨t.val % 8 * 128 + r.val, by have := lt t; omega⟩

variable (m : (ℓ : Loc nD τ sig) → Buf (Elt Ideal) ℓ)

abbrev sA (c : Dev nD) : S8x1024x256.Idx → EReal := m ((c : Thread nD τ).loc main_arg0)
abbrev sB (c : Dev nD) : S8x1024x256.Idx → EReal := m ((c : Thread nD τ).loc main_arg1)
abbrev aW (c : Dev nD) : S2x1024x256.Idx → EReal := m ((c : Thread nD τ).loc main_arg2)
abbrev aM (c : Dev nD) : S2x1024x256.Idx → EReal := m ((c : Thread nD τ).loc main_arg3)
abbrev aU (c : Dev nD) : S2x1024x256.Idx → EReal := m ((c : Thread nD τ).loc main_arg4)

/-- The sum of a block's eight slots. -/
theorem slots_A (c : Dev nD) (t : Fin cfg0.N) (h : t.val < 8) (r : Fin 128) (j : Fin 256) (x : S8x128x256.Idx → EReal) (hx : x = iblk m c 0 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 8 = 0 then sA m c else sB m c) (ix3 k (row t r) j)
  rw [if_pos (show t.val / 8 = 0 by omega)]
  refine Eq.trans (Fin.sum_univ_eight fun k => x (ix3 k r j)).symm (Finset.sum_congr rfl fun k _ => ?_)
  subst hx
  unfold sA row
  blk_ext [iblk, V, idxA t h]

theorem slots_B (c : Dev nD) (t : Fin cfg0.N) (h : 8 ≤ t.val) (r : Fin 128) (j : Fin 256) (x : S8x128x256.Idx → EReal) (hx : x = iblk m c 1 t) :
    x (ix3 0 r j) + x (ix3 1 r j) + x (ix3 2 r j) + x (ix3 3 r j) + x (ix3 4 r j) + x (ix3 5 r j) + x (ix3 6 r j) + x (ix3 7 r j) = gr (sA m c) (sB m c) (ix3 (layer t) (row t r) j) := by
  show _ = ∑ k : Fin 8, (if t.val / 8 = 0 then sA m c else sB m c) (ix3 k (row t r) j)
  rw [if_neg (show ¬ t.val / 8 = 0 by omega)]
  refine Eq.trans (Fin.sum_univ_eight fun k => x (ix3 k r j)).symm (Finset.sum_congr rfl fun k _ => ?_)
  subst hx
  unfold sB row
  blk_ext [iblk, V, idxB t h]

theorem blkW (c : Dev nD) (t : Fin cfg0.N) (r : Fin 128) (j : Fin 256) : iblk m c 2 t (ix3 0 r j : S1x128x256.Idx) = aW m c (ix3 (layer t) (row t r) j) := by
  have := lt t
  unfold aW row layer
  blk_ext [iblk, V, idx t]

theorem blkM (c : Dev nD) (t : Fin cfg0.N) (r : Fin 128) (j : Fin 256) : iblk m c 3 t (ix3 0 r j : S1x128x256.Idx) = aM m c (ix3 (layer t) (row t r) j) := by
  have := lt t
  unfold aM row layer
  blk_ext [iblk, V, idx t]

theorem blkU (c : Dev nD) (t : Fin cfg0.N) (r : Fin 128) (j : Fin 256) : iblk m c 4 t (ix3 0 r j : S1x128x256.Idx) = aU m c (ix3 (layer t) (row t r) j) := by
  have := lt t
  unfold aU row layer
  blk_ext [iblk, V, idx t]

theorem out_g (c : Dev nD) (t : Fin cfg0.N) (z : Fin 1) (r : Fin 128) (j : Fin 256) :
    (outsAt0 m c t.val t.isLt).1 (ix3 z r j) = gr (sA m c) (sB m c) (ix3 (layer t) (row t r) j) := by
  rcases Nat.lt_or_ge t.val 8 with h | h
  · rw [outsAt0_A m c t h (by omega)]
    frame_out
    pointwise [k0_pay6, sum_A]
    exact slots_A m c t h r j _ rfl
  · rw [outsAt0_B m c t (by omega) h]
    frame_out
    pointwise [k0_pay7, sum_B]
    exact slots_B m c t h r j _ rfl

theorem out_d (c : Dev nD) (t : Fin cfg0.N) (z : Fin 1) (r : Fin 128) (j : Fin 256) :
    (outsAt0 m c t.val t.isLt).2.1 (ix3 z r j) = gd (sA m c) (sB m c) (aW m c) (aM m c) (aU m c) (ix3 (layer t) (row t r) j) := by
  rcases Nat.lt_or_ge t.val 8 with h | h
  · rw [outsAt0_A m c t h (by omega)]
    frame_out
    rw [step, blkW, blkM, blkU]
    refine congrArg (fun s => Adam.step _ s _ _) ?_
    pointwise [k0_pay6, sum_A]
    exact slots_A m c t h r j _ rfl
  · rw [outsAt0_B m c t (by omega) h]
    frame_out
    rw [step, blkW, blkM, blkU]
    refine congrArg (fun s => Adam.step _ s _ _) ?_
    pointwise [k0_pay7, sum_B]
    exact slots_B m c t h r j _ rfl

theorem out_m (c : Dev nD) (t : Fin cfg0.N) (z : Fin 1) (r : Fin 128) (j : Fin 256) :
    (outsAt0 m c t.val t.isLt).2.2.1 (ix3 z r j) = gm (sA m c) (sB m c) (aM m c) (ix3 (layer t) (row t r) j) := by
  rcases Nat.lt_or_ge t.val 8 with h | h
  · rw [outsAt0_A m c t h (by omega)]
    frame_out
    pointwise [k0_pay2, mean, k0_pay6, sum_A]
    rw [blkM, slots_A m c t h r j _ rfl]
    rfl
  · rw [outsAt0_B m c t (by omega) h]
    frame_out
    pointwise [k0_pay2, mean, k0_pay7, sum_B]
    rw [blkM, slots_B m c t h r j _ rfl]
    rfl

theorem out_v (c : Dev nD) (t : Fin cfg0.N) (z : Fin 1) (r : Fin 128) (j : Fin 256) :
    (outsAt0 m c t.val t.isLt).2.2.2 (ix3 z r j) = gv (sA m c) (sB m c) (aU m c) (ix3 (layer t) (row t r) j) := by
  rcases Nat.lt_or_ge t.val 8 with h | h
  · rw [outsAt0_A m c t h (by omega)]
    frame_out
    pointwise [k0_pay3, square, k0_pay6, sum_A]
    rw [blkU, slots_A m c t h r j _ rfl]
    rfl
  · rw [outsAt0_B m c t (by omega) h]
    frame_out
    pointwise [k0_pay3, square, k0_pay7, sum_B]
    rw [blkU, slots_B m c t h r j _ rfl]
    rfl

theorem final_g (c : Dev nD) : (dats m 0 c).arrAt 5 (cfgs 0).N = gr (sA m c) (sB m c) := by
  refine (dats m 0 c).arrAt_eq_of_covers 5 _ (by decide +kernel) fun t hf y => ?_
  blk_simp
  rw [after0_5]
  have ht := lt t
  idx_vars y
  refine (out_g m c t y0 y1 y2).trans (congrArg (gr (sA m c) (sB m c)) (?_ : ix3 (layer t) (row t y1) y2 = _))
  unfold layer row
  blk_ext [idx t]

theorem final_d (c : Dev nD) : (dats m 0 c).arrAt 6 (cfgs 0).N = gd (sA m c) (sB m c) (aW m c) (aM m c) (aU m c) := by
  refine (dats m 0 c).arrAt_eq_of_covers 6 _ (by decide +kernel) fun t hf y => ?_
  blk_simp
  rw [after0_6]
  have ht := lt t
  idx_vars y
  refine (out_d m c t y0 y1 y2).trans (congrArg (gd (sA m c) (sB m c) (aW m c) (aM m c) (aU m c)) (?_ : ix3 (layer t) (row t y1) y2 = _))
  unfold layer row
  blk_ext [idx t]

theorem final_m (c : Dev nD) : (dats m 0 c).arrAt 7 (cfgs 0).N = gm (sA m c) (sB m c) (aM m c) := by
  refine (dats m 0 c).arrAt_eq_of_covers 7 _ (by decide +kernel) fun t hf y => ?_
  blk_simp
  rw [after0_7]
  have ht := lt t
  idx_vars y
  refine (out_m m c t y0 y1 y2).trans (congrArg (gm (sA m c) (sB m c) (aM m c)) (?_ : ix3 (layer t) (row t y1) y2 = _))
  unfold layer row
  blk_ext [idx t]

theorem final_v (c : Dev nD) : (dats m 0 c).arrAt 8 (cfgs 0).N = gv (sA m c) (sB m c) (aU m c) := by
  refine (dats m 0 c).arrAt_eq_of_covers 8 _ (by decide +kernel) fun t hf y => ?_
  blk_simp
  rw [after0_8]
  have ht := lt t
  idx_vars y
  refine (out_v m c t y0 y1 y2).trans (congrArg (gv (sA m c) (sB m c) (aU m c)) (?_ : ix3 (layer t) (row t y1) y2 = _))
  unfold layer row
  blk_ext [idx t]

end Cert.AdamKv

namespace Cert.AdamKv.Ref

open Cert.Reference19Ideal Cert.Reference19Ideal.Gen Cert.Reference19Ideal.Read Idealize.ShloMosaic Idealize.ShloMosaic.TcCoe Idealize.SL.Sem Idealize.ShloMosaic.StableHlo

variable (A B : S8x1024x256.Idx → EReal) (W M U : S2x1024x256.Idx → EReal)

theorem both (l : Fin 2) (k : Fin 8) (r : Fin 1024) (j : Fin 256) : val_main_v2 (F := Ideal) A B (ix4 l k r j) = (if (l : ℕ) = 0 then A else B) (ix3 k r j) := by
  unfold val_main_v2
  concat_tiles i h
  case piece0 =>
    rw [val_main_v0_apply, if_pos (by simpa using h)]
    have e1 : (i 1 : ℕ) = k := h1
    have e2 : (i 2 : ℕ) = r := h2
    have e3 : (i 3 : ℕ) = j := h3
    exact congrArg A (by blk_ext)
  case piece1 =>
    rw [val_main_v1_apply, if_neg (by have e0 : (l : ℕ) = 1 := h; omega)]
    have e1 : (i 1 : ℕ) = k := h1
    have e2 : (i 2 : ℕ) = r := h2
    have e3 : (i 3 : ℕ) = j := h3
    exact congrArg B (by blk_ext)

theorem grad : val_main_v4 (F := Ideal) A B = Cert.AdamKv.gr A B := by
  funext i
  idx_vars i
  rw [val_main_v4_apply, val_main_cst_apply]
  refine (congrArg₂ (· + ·) Ideal.ofBits_zero_f32 (Finset.sum_congr rfl fun k _ => ?_)).trans (zero_add _)
  rw [val_main_v3_apply]
  exact (congrArg (val_main_v2 (F := Ideal) A B) (by blk_ext)).trans (both A B i0 k i1 i2)

theorem mean : val_main_v9 (F := Ideal) A B M = Cert.AdamKv.gm A B M := by
  funext i
  unfold Cert.AdamKv.gm
  rw [← grad]
  rfl

theorem square : val_main_v15 (F := Ideal) A B U = Cert.AdamKv.gv A B U := by
  funext i
  unfold Cert.AdamKv.gv
  rw [← grad]
  rfl

theorem step : val_main_v28 (F := Ideal) A B W M U = Cert.AdamKv.gd A B W M U := by
  funext i
  unfold Cert.AdamKv.gd
  rw [← grad]
  rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v4) = val_main_v4 (F := Ideal) (m ((c.tc : Thread nD τ).loc main_arg0)) (m ((c.tc : Thread nD τ).loc main_arg1))
      ∧ r.2.mem ((c.tc : Thread nD τ).loc main_v28) = val_main_v28 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v9) = val_main_v9 (F := Ideal) (m ((c.tc : Thread nD τ).loc main_arg0)) (m ((c.tc : Thread nD τ).loc main_arg1)) (m ((c.tc : Thread nD τ).loc main_arg3))
      ∧ r.2.mem ((c.tc : Thread nD τ).loc main_v15) = val_main_v15 (F := Ideal) (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (Value.run m g) fun r hr c => ?_
  obtain ⟨h0, h1, h2, h3, ha⟩ := hr c
  exact ⟨h0.trans (val_main_v4_eq _ _), h1.trans (val_main_v28_eq _ _ _ _ _), h2.trans (val_main_v9_eq _ _ _), h3.trans (val_main_v15_eq _ _ _), ha⟩

end Cert.AdamKv.Ref

namespace Cert.Proof

open Idealize.ShloMosaic Idealize.ShloMosaic.TcCoe Idealize.SL.Sem

theorem frame_adam_kv_ref : Cert.quiescent_Reference19Ideal := fun m g _ =>
  θ_run_mono (Cert.Reference19Ideal.Value.run m g) fun r hr => ⟨fun c => (hr c).2.2.2.2, sem_eq_zero_of_no_sems (by decide) r.2⟩

theorem algebraic_adam_kv : Cert.algebraic_Kernel19Ideal_Reference19Ideal := by
  pair_intro
  · run_from Cert.Kernel19Ideal.Value.run_blocks m g
  · run_from Cert.AdamKv.Ref.run m' g'
    · exact (Cert.AdamKv.Ref.grad _ _).trans (Cert.AdamKv.final_g m c).symm
    · exact (Cert.AdamKv.Ref.step _ _ _ _ _).trans (Cert.AdamKv.final_d m c).symm
    · exact (Cert.AdamKv.Ref.mean _ _ _).trans (Cert.AdamKv.final_m m c).symm
    · exact (Cert.AdamKv.Ref.square _ _ _).trans (Cert.AdamKv.final_v m c).symm

end Cert.Proof

end
-- ==== Proof.AdamSmall.lean ====
/-
  THE OPTIMISER for the packed small vectors, in one call over the whole array.
-/
module

public import proofs.«01_k».proof.Defs
public import proofs.«01_k».proof.Proof.Adam
public import proofs.«01_k».proof.Proof.Gen.Kernel20Ideal.Value
public import proofs.«01_k».proof.Proof.Gen.Reference20Ideal.Read

@[expose] public section

set_option maxRecDepth 16384

noncomputable section

namespace Cert.AdamSmall

open Cert.Kernel20Ideal Cert.Kernel20Ideal.Gen Idealize.ShloMosaic Idealize.ShloMosaic.TcCoe Idealize.SL.Sem

def gm (G M : S32x1024.Idx → EReal) (i : S32x1024.Idx) : EReal := Adam.newM (M i) (G i)
def gv (G U : S32x1024.Idx → EReal) (i : S32x1024.Idx) : EReal := Adam.newV (U i) (G i)
def gd (G W M U : S32x1024.Idx → EReal) (i : S32x1024.Idx) : EReal := Adam.step (W i) (G i) (M i) (U i)

section Payloads
variable (G W M U : Vec Ideal S32x1024 .f32) (r : Fin 32) (j : Fin 1024)

theorem mean : (k0_pay1 (F := Ideal) G M (ix2 r j) : EReal) = Adam.newM (M (ix2 r j)) (G (ix2 r j)) := by
  pointwise [k0_pay1, Adam.newM]

theorem square : (k0_pay2 (F := Ideal) G U (ix2 r j) : EReal) = Adam.newV (U (ix2 r j)) (G (ix2 r j)) := by
  pointwise [k0_pay2, Adam.newV]

theorem step : (k0_pay3 (F := Ideal) G W M U (ix2 r j) : EReal) = Adam.step (W (ix2 r j)) (G (ix2 r j)) (M (ix2 r j)) (U (ix2 r j)) := by
  pointwise [k0_pay3, Adam.step, mean, square]

end Payloads

variable (m : (ℓ : Loc nD τ sig) → Buf (Elt Ideal) ℓ)

abbrev aG (c : Dev nD) : S32x1024.Idx → EReal := m ((c : Thread nD τ).loc main_arg0)
abbrev aW (c : Dev nD) : S32x1024.Idx → EReal := m ((c : Thread nD τ).loc main_arg1)
abbrev aM (c : Dev nD) : S32x1024.Idx → EReal := m ((c : Thread nD τ).loc main_arg2)
abbrev aU (c : Dev nD) : S32x1024.Idx → EReal := m ((c : Thread nD τ).loc main_arg3)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

theorem blkG (c : Dev nD) (t : Fin cfg0.N) (r : Fin 32) (j : Fin 1024) : iblk m c 0 t (ix2 r j : S32x1024.Idx) = aG m c (ix2 r j) := by
  unfold aG
  blk_ext [iblk, V, idx t]

theorem blkW (c : Dev nD) (t : Fin cfg0.N) (r : Fin 32) (j : Fin 1024) : iblk m c 1 t (ix2 r j : S32x1024.Idx) = aW m c (ix2 r j) := by
  unfold aW
  blk_ext [iblk, V, idx t]

theorem blkM (c : Dev nD) (t : Fin cfg0.N) (r : Fin 32) (j : Fin 1024) : iblk m c 2 t (ix2 r j : S32x1024.Idx) = aM m c (ix2 r j) := by
  unfold aM
  blk_ext [iblk, V, idx t]

theorem blkU (c : Dev nD) (t : Fin cfg0.N) (r : Fin 32) (j : Fin 1024) : iblk m c 3 t (ix2 r j : S32x1024.Idx) = aU m c (ix2 r j) := by
  unfold aU
  blk_ext [iblk, V, idx t]

theorem final_d (c : Dev nD) : (dats m 0 c).arrAt 4 (cfgs 0).N = gd (aG m c) (aW m c) (aM m c) (aU m c) := by
  refine (dats m 0 c).arrAt_eq_of_covers 4 _ (by decide +kernel) fun t hf y => ?_
  blk_simp
  rw [after0_4]
  frame_out
  idx_vars y
  refine (step _ _ _ _ y0 y1).trans ?_
  rw [blkG, blkW, blkM, blkU]
  refine congrArg (gd (aG m c) (aW m c) (aM m c) (aU m c)) (?_ : ix2 y0 y1 = _)
  blk_ext [idx t]

theorem final_m (c : Dev nD) : (dats m 0 c).arrAt 5 (cfgs 0).N = gm (aG m c) (aM m c) := by
  refine (dats m 0 c).arrAt_eq_of_covers 5 _ (by decide +kernel) fun t hf y => ?_
  blk_simp
  rw [after0_5]
  frame_out
  idx_vars y
  refine (mean _ _ y0 y1).trans ?_
  rw [blkG, blkM]
  refine congrArg (gm (aG m c) (aM m c)) (?_ : ix2 y0 y1 = _)
  blk_ext [idx t]

theorem final_v (c : Dev nD) : (dats m 0 c).arrAt 6 (cfgs 0).N = gv (aG m c) (aU m c) := by
  refine (dats m 0 c).arrAt_eq_of_covers 6 _ (by decide +kernel) fun t hf y => ?_
  blk_simp
  rw [after0_6]
  frame_out
  idx_vars y
  refine (square _ _ y0 y1).trans ?_
  rw [blkG, blkU]
  refine congrArg (gv (aG m c) (aU m c)) (?_ : ix2 y0 y1 = _)
  blk_ext [idx t]

end Cert.AdamSmall

namespace Cert.AdamSmall.Ref

open Cert.Reference20Ideal Cert.Reference20Ideal.Gen Cert.Reference20Ideal.Read Idealize.ShloMosaic Idealize.ShloMosaic.TcCoe Idealize.SL.Sem Idealize.ShloMosaic.StableHlo

variable (G W M U : S32x1024.Idx → EReal)

theorem mean : val_main_v4 (F := Ideal) G M = Cert.AdamSmall.gm G M := rfl
theorem square : val_main_v10 (F := Ideal) G U = Cert.AdamSmall.gv G U := rfl
theorem step : val_main_v23 (F := Ideal) G W M U = Cert.AdamSmall.gd G W M U := rfl

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v23) = val_main_v23 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v4) = val_main_v4 (F := Ideal) (m ((c.tc : Thread nD τ).loc main_arg0)) (m ((c.tc : Thread nD τ).loc main_arg2))
      ∧ r.2.mem ((c.tc : Thread nD τ).loc main_v10) = val_main_v10 (F := Ideal) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (Value.run m g) fun r hr c => ?_
  obtain ⟨h0, h1, h2, ha⟩ := hr c
  exact ⟨h0.trans (val_main_v23_eq _ _ _ _), h1.trans (val_main_v4_eq _ _), h2.trans (val_main_v10_eq _ _), ha⟩

end Cert.AdamSmall.Ref

namespace Cert.Proof

open Idealize.ShloMosaic Idealize.ShloMosaic.TcCoe Idealize.SL.Sem

theorem frame_adam_small_ref : Cert.quiescent_Reference20Ideal := fun m g _ =>
  θ_run_mono (Cert.Reference20Ideal.Value.run m g) fun r hr => ⟨fun c => (hr c).2.2.2, sem_eq_zero_of_no_sems (by decide) r.2⟩

theorem algebraic_adam_small : Cert.algebraic_Kernel20Ideal_Reference20Ideal := by
  pair_intro
  · run_from Cert.Kernel20Ideal.Value.run_blocks m g
  · run_from Cert.AdamSmall.Ref.run m' g'
    · exact (Cert.AdamSmall.Ref.step _ _ _ _).trans (Cert.AdamSmall.final_d m c).symm
    · exact (Cert.AdamSmall.Ref.mean _ _).trans (Cert.AdamSmall.final_m m c).symm
    · exact (Cert.AdamSmall.Ref.square _ _).trans (Cert.AdamSmall.final_v m c).symm

end Cert.Proof

end
-- ==== Proof.Loss.lean ====
/-
  THE LOSS HEAD: half the mean square of the normalised row's distance from the target, its gradient in the row and in the gain. Each
  point of the grid takes 512 rows; the squares and the gain's gradient are accumulated over the points in the first and in the second of
  eight rows, and the lines after the kernel add the first of them up.
-/
module

public import proofs.«01_k».proof.Defs
public import proofs.«01_k».proof.Proof.Norm
public import proofs.«01_k».proof.Proof.Rows
public import Idealize.ShloMosaic.Lib.KernelVsHost
public import Idealize.ShloMosaic.Lib.Pipeline.ValueKit
public import Idealize.ShloMosaic.Lib.Pipeline.ReadBack
public import proofs.«01_k».proof.Proof.Gen.Kernel21Ideal.Frame
public import proofs.«01_k».proof.Proof.Gen.Reference21Ideal.Read

@[expose] public section

set_option maxRecDepth 16384

noncomputable section

namespace Cert.Loss

open Cert.Kernel21Ideal Cert.Kernel21Ideal.Gen Cert.Norm Cert.Grad Cert.Rows Idealize.ShloMosaic Idealize.ShloMosaic.TcCoe Idealize.SL.Sem

/-- The constants of the kernel. -/
def kd : EReal := Ideal.ofBits .f32 0x3A800000#32
def kl : EReal := Ideal.ofBits .f32 0x3A000000#32

theorem kd_eq : kd = ((1 / 1024 : ℝ) : EReal) := by
  unfold kd
  simp [Ideal.ofBits, Ideal.ieee]
  rw [← EReal.coe_mul]
  norm_num

theorem kl_eq : kl = ((1 / 2048 : ℝ) : EReal) := by
  unfold kl
  simp [Ideal.ofBits, Ideal.ieee]
  rw [← EReal.coe_mul]
  norm_num

section Results
variable (X T : S4096x1024.Idx → EReal) (g : S1x1024.Idx → EReal)

/-- The distance from the target. -/
def df (p : Fin 4096) (j : Fin 1024) : EReal := X (ix2 p j) * rr (fun k => X (ix2 p k)) * g (ix2 0 j) - T (ix2 p j)

/-- The gradient of the loss in the row's output. -/
def dd (p : Fin 4096) (j : Fin 1024) : EReal := df X T g p j * kd

/-- The gradient of the input. -/
def gX (i : S4096x1024.Idx) : EReal := nDx (fun k => X (ix2 (i 0) k)) (fun k => dd X T g (i 0) k * g (ix2 0 k)) 0 (i 1)

/-- Row `p`'s part of the two accumulated rows. -/
def tS (p : Fin 4096) (i : S8x1024.Idx) : EReal :=
  if (i 0).val = 1 then dd X T g p (i 1) * (X (ix2 p (i 1)) * rr (fun k => X (ix2 p k))) else if (i 0).val = 0 then df X T g p (i 1) * df X T g p (i 1) else 0

/-- The eight accumulated rows. -/
def gS (i : S8x1024.Idx) : EReal := ∑ p : Fin 4096, tS X T g p i

/-- The loss. -/
def gL (i : S_.Idx) : EReal := kl * ∑ j : Fin 1024, gS X T g (ix2 0 j)

/-- The gain's gradient. -/
def gG (i : S1x1024.Idx) : EReal := gS X T g (ix2 1 (i 1))

end Results

theorem idx : ∀ t : Fin cfg0.N, win0_0.index t = ![t.val, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

section Payloads
variable (x u : Vec Ideal S512x1024 .f32) (g : Vec Ideal S1x1024 .f32)

/-- The distance from the target, of a block. -/
def bdf (p : Fin 512) (j : Fin 1024) : EReal := x (ix2 p j) * rr (fun k => x (ix2 p k)) * g (ix2 0 j) - u (ix2 p j)

theorem pay4 (p : Fin 512) : (k0_pay4 (F := Ideal) x (ix2 p 0) : EReal) = rr (fun k => x (ix2 p k)) := by
  unfold rr ms c1024 eps
  pointwise [k0_pay4]

theorem pay5 (p : Fin 512) (j : Fin 1024) : (k0_pay5 (F := Ideal) x (ix2 p j) : EReal) = x (ix2 p j) * rr (fun k => x (ix2 p k)) := by
  rw [← pay4]
  unfold k0_pay5
  generalize k0_pay4 x = r
  pointwise

theorem pay6 (p : Fin 512) (j : Fin 1024) : (k0_pay6 (F := Ideal) x g u (ix2 p j) : EReal) = bdf x u g p j := by
  unfold bdf
  rw [← pay5]
  unfold k0_pay6
  generalize k0_pay5 x = r
  pointwise

theorem pay8 (p : Fin 512) (j : Fin 1024) : (k0_pay8 (F := Ideal) x g u (ix2 p j) : EReal) = bdf x u g p j * kd := by
  unfold kd
  rw [← pay6]
  unfold k0_pay8
  generalize k0_pay6 x g u = r
  pointwise

theorem pay7 (z : Vec Ideal S1x1024 .f32) (j : Fin 1024) : (k0_pay7 (F := Ideal) x g u z (ix2 0 j) : EReal)
    = z (ix2 0 j) + ∑ p : Fin 512, bdf x u g p j * bdf x u g p j := by
  have h := pay6 x u g
  unfold k0_pay7
  generalize k0_pay6 x g u = r at *
  pointwise
  simp only [h]

theorem pay9 (z : Vec Ideal S1x1024 .f32) (j : Fin 1024) : (k0_pay9 (F := Ideal) x g u z (ix2 0 j) : EReal)
    = z (ix2 0 j) + ∑ p : Fin 512, bdf x u g p j * kd * (x (ix2 p j) * rr (fun k => x (ix2 p k))) := by
  have h := pay8 x u g
  have h5 := pay5 x
  unfold k0_pay9
  generalize k0_pay8 x g u = r at *
  generalize k0_pay5 x = n at *
  pointwise
  simp only [h, h5]

theorem pay1 (p : Fin 512) (j : Fin 1024) : (k0_pay1 (F := Ideal) (k0_pay4 x) (k0_pay5 x) (k0_pay8 x g u) g (ix2 p j) : EReal)
    = nDx (fun k => x (ix2 p k)) (fun k => bdf x u g p k * kd * g (ix2 0 k)) 0 j := by
  have h4 := pay4 x p
  have h5 := pay5 x p
  have h8 := pay8 x u g p
  unfold nDx k0_pay1 c1024
  rw [zero_add]
  generalize k0_pay4 x = a at *
  generalize k0_pay5 x = n at *
  generalize k0_pay8 x g u = r at *
  pointwise
  simp only [h4, h5, h8]

theorem pay2 (p : Fin 512) (j : Fin 1024) : (k0_pay2 (F := Ideal) (k0_pay4 x) (k0_pay5 x) (k0_pay8 x g u) g (ix2 p j) : EReal)
    = nDx (fun k => x (ix2 p k)) (fun k => bdf x u g p k * kd * g (ix2 0 k)) 0 j := by
  rw [← pay1]
  rfl

end Payloads

variable (m : (ℓ : Loc nD τ sig) → Buf (Elt Ideal) ℓ)

abbrev aX (c : Dev nD) : S4096x1024.Idx → EReal := m ((c : Thread nD τ).loc main_arg0)
abbrev aT (c : Dev nD) : S4096x1024.Idx → EReal := m ((c : Thread nD τ).loc main_arg1)
abbrev aG (c : Dev nD) : S1x1024.Idx → EReal := m ((c : Thread nD τ).loc main_arg2)

/-- The staged blocks. -/
abbrev bX (c : Dev nD) (t : Fin cfg0.N) : S512x1024.Idx → EReal := iblk m c 0 t
abbrev bT (c : Dev nD) (t : Fin cfg0.N) : S512x1024.Idx → EReal := iblk m c 1 t
abbrev bG (c : Dev nD) (t : Fin cfg0.N) : S1x1024.Idx → EReal := iblk m c 2 t

theorem blkX (c : Dev nD) (t : Fin cfg0.N) (p : Fin 512) (k : Fin 1024) : bX m c t (ix2 p k) = aX m c (ix2 (row t p) k) := by
  have := lt t
  unfold bX aX row
  blk_ext [iblk, V, idx t]

theorem blkT (c : Dev nD) (t : Fin cfg0.N) (p : Fin 512) (k : Fin 1024) : bT m c t (ix2 p k) = aT m c (ix2 (row t p) k) := by
  have := lt t
  unfold bT aT row
  blk_ext [iblk, V, idx t]

theorem blkG (c : Dev nD) (t : Fin cfg0.N) (k : Fin 1024) : bG m c t (ix2 0 k) = aG m c (ix2 0 k) := by
  unfold bG aG
  blk_ext [iblk, V, idx t]

theorem blk_row (c : Dev nD) (t : Fin cfg0.N) (p : Fin 512) : (fun k : Fin 1024 => bX m c t (ix2 p k)) = fun k => aX m c (ix2 (row t p) k) :=
  funext fun k => blkX m c t p k

/-- The point's rows of the distance. -/
theorem blk_df (c : Dev nD) (t : Fin cfg0.N) (p : Fin 512) (j : Fin 1024) : bdf (bX m c t) (bT m c t) (bG m c t) p j = df (aX m c) (aT m c) (aG m c) (row t p) j := by
  unfold bdf df
  rw [blk_row, blkX, blkT, blkG]

/-- What a point leaves in its block of the input's gradient. -/
theorem leaves (c : Dev nD) (t : Fin cfg0.N) (p : Fin 512) (j : Fin 1024) :
    nDx (fun k => bX m c t (ix2 p k)) (fun k => bdf (bX m c t) (bT m c t) (bG m c t) p k * kd * bG m c t (ix2 0 k)) 0 j
      = gX (aX m c) (aT m c) (aG m c) (ix2 (row t p) j) := by
  show _ = nDx (fun k => aX m c (ix2 (row t p) k)) (fun k => dd (aX m c) (aT m c) (aG m c) (row t p) k * aG m c (ix2 0 k)) 0 j
  rw [blk_row]
  refine congrArg (fun d => nDx _ d _ _) (funext fun k => ?_)
  exact congrArg₂ (· * ·) (congrArg (· * kd) (blk_df m c t p k)) (blkG m c t k)

/-- What a point adds to the two rows, and to the others. -/
theorem adds0 (c : Dev nD) (t : Fin cfg0.N) (j : Fin 1024) :
    ∑ p : Fin 512, bdf (bX m c t) (bT m c t) (bG m c t) p j * bdf (bX m c t) (bT m c t) (bG m c t) p j
      = ∑ p : Fin 512, tS (aX m c) (aT m c) (aG m c) (row t p) (ix2 0 j) := by
  refine Finset.sum_congr rfl fun p _ => ?_
  rw [blk_df]
  exact ((if_neg (show ¬(0 : ℕ) = 1 by decide)).trans (if_pos rfl)).symm

theorem adds1 (c : Dev nD) (t : Fin cfg0.N) (j : Fin 1024) :
    ∑ p : Fin 512, bdf (bX m c t) (bT m c t) (bG m c t) p j * kd * (bX m c t (ix2 p j) * rr (fun k => bX m c t (ix2 p k)))
      = ∑ p : Fin 512, tS (aX m c) (aT m c) (aG m c) (row t p) (ix2 1 j) := by
  refine Finset.sum_congr rfl fun p _ => ?_
  rw [blk_df, blk_row, blkX]
  exact (if_pos rfl).symm

theorem adds_none (c : Dev nD) (t : Fin cfg0.N) (i : Fin 8) (j : Fin 1024) (h0 : ¬i.val = 0) (h1 : ¬i.val = 1) :
    ∑ p : Fin 512, tS (aX m c) (aT m c) (aG m c) (row t p) (ix2 i j) = 0 :=
  Finset.sum_eq_zero fun p _ => (if_neg h1).trans (if_neg h0)

theorem out3 (c : Dev nD) (t : Fin cfg0.N) (y : S512x1024.Idx) :
    ((outsAt0 m c t.val t.isLt).1 y : EReal) = gX (aX m c) (aT m c) (aG m c) (ix2 (row t (y 0)) (y 1)) := by
  idx_vars y
  by_cases h : t.val % 8 = 0
  · rw [outsAt0_A m c t h]
    frame_out
    exact (pay1 (bX m c t) (bT m c t) (bG m c t) y0 y1).trans (leaves m c t y0 y1)
  · rw [outsAt0_B m c t h]
    frame_out
    exact (pay1 (bX m c t) (bT m c t) (bG m c t) y0 y1).trans (leaves m c t y0 y1)

theorem out4 (c : Dev nD) (t : Fin cfg0.N) (y : S512x1024.Idx) :
    ((outsAt0 m c t.val t.isLt).2.1 y : EReal) = gX (aX m c) (aT m c) (aG m c) (ix2 (row t (y 0)) (y 1)) := by
  idx_vars y
  by_cases h : t.val % 8 = 0
  · rw [outsAt0_A m c t h]
    frame_out
    exact (pay2 (bX m c t) (bT m c t) (bG m c t) y0 y1).trans (leaves m c t y0 y1)
  · rw [outsAt0_B m c t h]
    frame_out
    exact (pay2 (bX m c t) (bT m c t) (bG m c t) y0 y1).trans (leaves m c t y0 y1)

/-- The second row, then whatever was stored before. -/
theorem canon_second {n : ℕ} {e : EltTy} {Val : EltTy → Type} [∀ e, Nonempty (Val e)] (inb : ∀ a, (![1, 0] : Fin 2 → ℕ) a + (![1, n] : Fin 2 → ℕ) a ≤ (S8 n).size a)
    (w : (Rect.unit (s := S8 n) ![1, 0] ![1, n] inb).shape.Idx → Val e) (L : List (View.Piece Val (S8 n) e)) (i : Fin 8) (j : Fin n) :
    View.canon (⟨Rect.unit (s := S8 n) ![1, 0] ![1, n] inb, w⟩ :: L) (ix2 i j) = if i.val = 1 then w (ix2 0 j) else View.canon L (ix2 i j) := by
  by_cases h : i.val = 1
  · rw [if_pos h]
    have hy : (ix2 i j : (S8 n).Idx) = (Rect.unit (s := S8 n) ![1, 0] ![1, n] inb).emb (ix2 0 j) := by
      funext a
      refine Fin.ext ?_
      match a with
      | ⟨0, _⟩ => show i.val = 1 + 1 * 0; omega
      | ⟨1, _⟩ => show j.val = 0 + 1 * j.val; omega
    exact (congrArg (View.canon _) hy).trans (View.canon_cons_emb _ w L _)
  · rw [if_neg h]
    refine View.canon_cons_of_not_mem _ L ?_
    rw [Rect.mem_set_unit]
    intro hall
    have h0 : i.val < 1 + 1 := (hall 0).2
    have h1 : 1 ≤ i.val := (hall 0).1
    omega

/-- The second row over what the block held. -/
theorem kept_second {n : ℕ} {sig : RefSig} {κ : Kind} {sp : Space} {e : EltTy} {Val : EltTy → Type} (v : View sig κ sp (S8 n) e) (f : v.ty.Contents Val)
    (inb : ∀ a, (![1, 0] : Fin 2 → ℕ) a + (![1, n] : Fin 2 → ℕ) a ≤ (S8 n).size a)
    (w : (Rect.unit (s := S8 n) ![1, 0] ![1, n] inb).shape.Idx → Val e) (L : List (View.Piece Val (S8 n) e)) (i : Fin 8) (j : Fin n) :
    v.read Val (v.writes Val f (⟨Rect.unit (s := S8 n) ![1, 0] ![1, n] inb, w⟩ :: L)) (ix2 i j) = if i.val = 1 then w (ix2 0 j) else v.read Val (v.writes Val f L) (ix2 i j) := by
  by_cases h : i.val = 1
  · rw [if_pos h]
    refine View.read_writes_cons_unit_of_mem v f inb w L _ (ix2 0 j) rfl fun a => ?_
    match a with
    | ⟨0, _⟩ => show i.val = 1 + 0; omega
    | ⟨1, _⟩ => show j.val = 0 + j.val; omega
  · rw [if_neg h]
    refine View.read_writes_cons_unit_of_not_mem v f inb w L _ rfl 0 ?_
    show i.val < 1 ∨ 1 + 1 ≤ i.val
    omega

theorem out5_A (c : Dev nD) (t : Fin cfg0.N) (h : t.val % 8 = 0) (y : S8x1024.Idx) :
    ((outsAt0 m c t.val t.isLt).2.2 y : EReal) = 0 + ∑ p : Fin 512, tS (aX m c) (aT m c) (aG m c) (row t p) y := by
  idx_vars y
  rw [outsAt0_A m c t h]
  frame_out
  simp (disch := first | rfl | decide) only [↓View.readCov_skip, ↓View.readCov_fill]
  refine (canon_second _ _ _ y0 y1).trans ?_
  by_cases h1 : y0.val = 1
  · rw [if_pos h1, show y0 = 1 from Fin.ext h1, ← adds1]
    refine (pay9 (bX m c t) (bT m c t) (bG m c t) _ y1).trans ?_
    refine congrArg₂ (· + ·) (by pointwise [k0_pay3]) rfl
  · rw [if_neg h1]
    refine (canon_row _ _ _ y0 y1).trans ?_
    by_cases h0 : y0.val = 0
    · rw [if_pos h0, show y0 = 0 from Fin.ext h0, ← adds0]
      refine (pay7 (bX m c t) (bT m c t) (bG m c t) _ y1).trans ?_
      refine congrArg₂ (· + ·) (by pointwise [k0_pay3]) rfl
    · rw [if_neg h0, adds_none m c t y0 y1 h0 h1]
      refine (congrFun (View.canon_cons_unit_lit _ _ _ (by decide)) _).trans ?_
      rw [add_zero]
      pointwise [k0_pay3]

theorem out5_B (c : Dev nD) (t : Fin cfg0.N) (h : ¬t.val % 8 = 0) (y : S8x1024.Idx) :
    ((outsAt0 m c t.val t.isLt).2.2 y : EReal) = (outsAt0 m c (t.val - 1) (Nat.lt_of_le_of_lt (Nat.sub_le _ _) t.isLt)).2.2 y + ∑ p : Fin 512, tS (aX m c) (aT m c) (aG m c) (row t p) y := by
  idx_vars y
  rw [outsAt0_B m c t h]
  frame_out
  generalize (outsAt0 m c (t.val - 1) (Nat.lt_of_le_of_lt (Nat.sub_le _ _) t.isLt)).2.2 = acc
  refine (kept_second _ _ _ _ _ y0 y1).trans ?_
  by_cases h1 : y0.val = 1
  · rw [if_pos h1, show y0 = 1 from Fin.ext h1, ← adds1]
    refine (pay9 (bX m c t) (bT m c t) (bG m c t) _ y1).trans ?_
    refine congrArg₂ (· + ·) (by pointwise) rfl
  · rw [if_neg h1]
    refine (kept_row _ _ _ _ y0 y1).trans ?_
    by_cases h0 : y0.val = 0
    · rw [if_pos h0, show y0 = 0 from Fin.ext h0, ← adds0]
      refine (pay7 (bX m c t) (bT m c t) (bG m c t) _ y1).trans ?_
      refine congrArg₂ (· + ·) (by pointwise) rfl
    · rw [if_neg h0, adds_none m c t y0 y1 h0 h1, add_zero, Memref.IsWhole.read_unread]

theorem final3 (c : Dev nD) : (dats m 0 c).arrAt 3 (cfgs 0).N = gX (aX m c) (aT m c) (aG m c) := by
  refine (dats m 0 c).arrAt_eq_of_covers 3 _ (by decide +kernel) fun t hf y => ?_
  blk_simp
  rw [after0_3]
  have ht := lt t
  refine (out3 m c t y).trans (congrArg (gX _ _ _) ?_)
  unfold row
  blk_ext [idx t]

theorem final4 (c : Dev nD) : (dats m 0 c).arrAt 4 (cfgs 0).N = gX (aX m c) (aT m c) (aG m c) := by
  refine (dats m 0 c).arrAt_eq_of_covers 4 _ (by decide +kernel) fun t hf y => ?_
  blk_simp
  rw [after0_4]
  have ht := lt t
  refine (out4 m c t y).trans (congrArg (gX _ _ _) ?_)
  unfold row
  blk_ext [idx t]

theorem final5 (c : Dev nD) : (dats m 0 c).arrAt 5 (cfgs 0).N = gS (aX m c) (aT m c) (aG m c) := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => (0 : EReal))
    (fun p j => ∑ i : Fin 512, tS (aX m c) (aT m c) (aG m c) (row p i) j)
    (fun t h j => out5_A m c t h j) (fun t h j => out5_B m c t h j) (le_of_eq N_0) t0_7 rfl j, zero_add]
  exact Fin.sum_mul_add_congr fun s k hl => rfl

/-- The lines after the kernel, of the accumulated rows. -/
def tail3 (x : (⟨S8x1024, .f32⟩ : BufTy).Contents (Elt Ideal)) : (⟨S_, .f32⟩ : BufTy).Contents (Elt Ideal) :=
  mulf (F := Ideal) (constant (F := Ideal) S_ .f32 0x3A000000#32) (Host.reduceAdd (F := Ideal) (extractStridedSlice S1x1024 ![0, 0] x slices_S8x1024_S1x1024_0_0) (constant (F := Ideal) S_ .f32 0x00000000#32) reducesTo_S1x1024_S_d0_1 h_S_)

def tail4 (x : (⟨S8x1024, .f32⟩ : BufTy).Contents (Elt Ideal)) : (⟨S1x1024, .f32⟩ : BufTy).Contents (Elt Ideal) :=
  extractStridedSlice S1x1024 ![1, 0] x slices_S8x1024_S1x1024_1_0

theorem slice0 (x : Vec Ideal S8x1024 .f32) (j : Fin 1024) : (extractStridedSlice S1x1024 ![0, 0] x slices_S8x1024_S1x1024_0_0 (ix2 0 j) : EReal) = x (ix2 0 j) := by
  pointwise

theorem slice1 (x : Vec Ideal S8x1024 .f32) (j : Fin 1024) : (extractStridedSlice S1x1024 ![1, 0] x slices_S8x1024_S1x1024_1_0 (ix2 0 j) : EReal) = x (ix2 1 j) := by
  pointwise

theorem total (x : Vec Ideal S1x1024 .f32) (i : S_.Idx) :
    (Host.reduceAdd (F := Ideal) x (constant (F := Ideal) S_ .f32 0x00000000#32) reducesTo_S1x1024_S_d0_1 h_S_ i : EReal) = ∑ j : Fin 1024, (x (ix2 0 j) : EReal) := by
  simp only [Host.reduceAdd, Ideal.hostReduceAdd_def]
  refine (Ideal.hostReduceAdd_total reducesTo_S1x1024_S_d0_1 (fun b => b.elim0) x _ i).trans ?_
  refine (congrArg₂ (· + ·) (?_ : _ = (0 : EReal)) ((sum_idx2 x).trans (Fin.sum_univ_one _))).trans (zero_add _)
  pointwise

theorem final_v3 (X T : S4096x1024.Idx → EReal) (g : S1x1024.Idx → EReal) : tail3 (gS X T g) = (gL X T g : S_.Idx → EReal) := by
  funext i
  unfold tail3 gL kl
  refine (congrArg₂ (· * ·) rfl ((total _ i).trans (Finset.sum_congr rfl fun j _ => slice0 (gS X T g) j)) : _)

theorem final_v4 (X T : S4096x1024.Idx → EReal) (g : S1x1024.Idx → EReal) : tail4 (gS X T g) = (gG X T g : S1x1024.Idx → EReal) := by
  funext i
  idx_vars i
  have e : i0 = 0 := Subsingleton.elim _ _
  subst e
  exact slice1 (gS X T g) i1

theorem tail3_eq (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v3) = tail3 ((dats m 0 c).arrAt 5 (cfgs 0).N : (⟨S8x1024, .f32⟩ : BufTy).Contents (Elt Ideal)) := by
  refine (h.rest_eq c main_v3 (by decide)).trans ?_
  unfold Pipeline.afterTail₀
  simp only [hostOps1, List.flatten_cons, List.flatten_nil, List.append_nil]
  after_results_simp
  exact congrArg tail3 (Pipeline.withArrays_arr (cfgs 0).spec (by decide) c (V0 m c) (fun w => (dats m 0 c).arrAt w (cfgs 0).N) 5)

theorem tail4_eq (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v4) = tail4 ((dats m 0 c).arrAt 5 (cfgs 0).N : (⟨S8x1024, .f32⟩ : BufTy).Contents (Elt Ideal)) := by
  refine (h.rest_eq c main_v4 (by decide)).trans ?_
  unfold Pipeline.afterTail₀
  simp only [hostOps1, List.flatten_cons, List.flatten_nil, List.append_nil]
  after_results_simp
  exact congrArg tail4 (Pipeline.withArrays_arr (cfgs 0).spec (by decide) c (V0 m c) (fun w => (dats m 0 c).arrAt w (cfgs 0).N) 5)

theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v3) = (gL (aX m c) (aT m c) (aG m c) : S_.Idx → EReal)
      ∧ r.2.mem ((c.tc : Thread nD τ).loc main_v0_0) = (gX (aX m c) (aT m c) (aG m c) : S4096x1024.Idx → EReal)
      ∧ r.2.mem ((c.tc : Thread nD τ).loc main_v0_1) = (gX (aX m c) (aT m c) (aG m c) : S4096x1024.Idx → EReal)
      ∧ r.2.mem ((c.tc : Thread nD τ).loc main_v4) = (gG (aX m c) (aT m c) (aG m c) : S1x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (θ_run_and (run_main m ρ) (unchanged m ρ)) fun r hr c => ?_
  obtain ⟨h, ha⟩ := hr
  exact ⟨(tail3_eq m r h c).trans ((congrArg tail3 (final5 m c)).trans (final_v3 _ _ _)), ((h c).1 3).trans (final3 m c), ((h c).1 4).trans (final4 m c),
    (tail4_eq m r h c).trans ((congrArg tail4 (final5 m c)).trans (final_v4 _ _ _)), ha c⟩

end Cert.Loss

namespace Cert.Loss.Ref

open Cert.Reference21Ideal Cert.Reference21Ideal.Gen Cert.Reference21Ideal.Read Cert.Norm Cert.Grad Idealize.ShloMosaic Idealize.ShloMosaic.TcCoe Idealize.SL.Sem

/-- The constants of the reference. -/
def half : EReal := Ideal.ofBits .f32 0x3F000000#32
def one : EReal := Ideal.ofBits .f32 0x3F800000#32
def two : EReal := Ideal.ofBits .f32 0x40000000#32

theorem half_eq : half = ((1 / 2 : ℝ) : EReal) := by
  unfold half
  simp [Ideal.ofBits, Ideal.ieee]
  rw [← EReal.coe_mul]
  norm_num

theorem one_eq : one = ((1 : ℝ) : EReal) := by
  unfold one
  simp [Ideal.ofBits, Ideal.ieee]
  rw [← EReal.coe_mul, ← EReal.coe_one]
  norm_num

theorem two_eq : two = ((2 : ℝ) : EReal) := by
  unfold two
  simp [Ideal.ofBits, Ideal.ieee]
  rw [← EReal.coe_mul]
  norm_num

/-- The gradient of the mean square's half, whose square is one factor twice. -/
theorem grad_const (y : EReal) : Ideal.div (half * one) c1024 * (two * y) = y * kd := by
  rw [half_eq, one_eq, two_eq, c1024_eq, kd_eq, Ideal.div_coe (by norm_num), ← mul_assoc, ← EReal.coe_mul, ← EReal.coe_mul, ← EReal.coe_mul, mul_comm]
  norm_num

variable (X T : S4096x1024.Idx → EReal) (g : S1x1024.Idx → EReal)

/-- The mean of each row's squares, added up and halved, is the constant times the squares added up column by column. -/
theorem loss_eq (i : S_.Idx) : half * ∑ p : Fin 4096, Ideal.div (∑ j : Fin 1024, df X T g p j * df X T g p j) c1024 = gL X T g i := by
  unfold gL gS
  have e : ∀ j : Fin 1024, ∑ p : Fin 4096, tS X T g p (ix2 0 j) = ∑ p : Fin 4096, df X T g p j * df X T g p j :=
    fun j => Finset.sum_congr rfl fun p _ => (if_neg (show ¬(0 : ℕ) = 1 by decide)).trans (if_pos rfl)
  simp only [e]
  rw [Finset.sum_comm, c1024_eq]
  simp only [Ideal.div_coe (show (1024 : ℝ) ≠ 0 by norm_num)]
  rw [← sum_mul_real _ _ (by norm_num), mul_comm half, mul_assoc, half_eq, kl_eq, ← EReal.coe_mul, mul_comm]
  norm_num

theorem r7 (p : Fin 4096) : (val_main_v7 (F := Ideal) X (ix2 p 0) : EReal) = ms (fun k => X (ix2 p k)) := by
  unfold ms c1024 eps
  pointwise [val_main_v7, val_main_v5, val_main_v3, val_main_v4, val_main_v6, val_main_v2, val_main_v1, val_main_cst, val_main_cst_0, val_main_cst_1]

theorem r8 (p : Fin 4096) : (val_main_v8 (F := Ideal) X (ix2 p 0) : EReal) = rr (fun k => X (ix2 p k)) := by
  unfold rr
  rw [← r7]
  rfl

theorem r13 (p : Fin 4096) (j : Fin 1024) : (val_main_v13 (F := Ideal) X (ix2 p j) : EReal) = X (ix2 p j) * rr (fun k => X (ix2 p k)) := by
  rw [← r8]
  unfold val_main_v13 val_main_v12
  generalize val_main_v8 (F := Ideal) X = r
  pointwise

theorem r17 (p : Fin 4096) (j : Fin 1024) : (val_main_v17 (F := Ideal) X T g (ix2 p j) : EReal) = df X T g p j := by
  unfold df
  rw [← r13]
  unfold val_main_v17 val_main_v16
  generalize val_main_v13 (F := Ideal) X = r
  pointwise [val_main_v15, val_main_v14, val_main_v0]

theorem r23 (p : Fin 4096) : (val_main_v23 (F := Ideal) X T g (ix1 p) : EReal) = Ideal.div (∑ j : Fin 1024, df X T g p j * df X T g p j) c1024 := by
  have h := r17 X T g p
  unfold c1024 val_main_v23 val_main_v21 val_main_v18
  generalize val_main_v17 (F := Ideal) X T g = r at *
  pointwise [val_main_v22, val_main_cst_4, val_main_cst_5]
  simp only [h]

theorem r24 (i : S_.Idx) : (val_main_v24 (F := Ideal) X T g i : EReal) = ∑ p : Fin 4096, Ideal.div (∑ j : Fin 1024, df X T g p j * df X T g p j) c1024 := by
  have h := r23 X T g
  refine (val_main_v24_apply X T g i).trans ?_
  generalize val_main_v23 (F := Ideal) X T g = r at *
  refine (congrArg₂ (· + ·) (?_ : _ = (0 : EReal)) ((sum_idx1 r).trans (Finset.sum_congr rfl fun p _ => h p))).trans (zero_add _)
  pointwise [val_main_cst_6]

theorem r25 (i : S_.Idx) : (val_main_v25 (F := Ideal) X T g i : EReal) = gL X T g i := by
  rw [← loss_eq, ← r24 X T g i]
  rfl

theorem r31 (p : Fin 4096) (j : Fin 1024) : (val_main_v31 (F := Ideal) X T g (ix2 p j) : EReal) = dd X T g p j := by
  unfold dd
  rw [← grad_const, ← r17]
  unfold val_main_v31 val_main_v20 half one two c1024
  generalize val_main_v17 (F := Ideal) X T g = r
  pointwise [val_main_v30, val_main_v29, val_main_v27, val_main_v28, val_main_v26, val_main_v19, val_main_cst_3, val_main_cst_8, val_main_cst_9, val_main_cst_10]

theorem r36 (p : Fin 4096) (j : Fin 1024) : (val_main_v36 (F := Ideal) X T g (ix2 p j) : EReal) = dd X T g p j * g (ix2 0 j) := by
  rw [← r31]
  unfold val_main_v36
  generalize val_main_v31 (F := Ideal) X T g = r
  pointwise [val_main_v35, val_main_v14, val_main_v0]

theorem r45 (p : Fin 4096) : (val_main_v45 (F := Ideal) X T g (ix2 p 0) : EReal) = cM (fun k => X (ix2 p k)) (fun k => dd X T g p k * g (ix2 0 k)) := by
  have h7 := r7 X p
  have h8 := r8 X p
  have h36 := r36 X T g p
  unfold cM c1024 mhalf val_main_v45 val_main_v43 val_main_v40 val_main_v39 val_main_v38 val_main_v11 val_main_v9
  generalize val_main_v7 (F := Ideal) X = a7 at *
  generalize val_main_v8 (F := Ideal) X = a8 at *
  generalize val_main_v36 (F := Ideal) X T g = a36 at *
  pointwise [val_main_v10, val_main_v44, val_main_cst_2, val_main_cst_13, val_main_cst_14]
  simp only [h7, h8, h36]

theorem r47 (p : Fin 4096) (j : Fin 1024) : (val_main_v47 (F := Ideal) X T g (ix2 p j) : EReal) = cM (fun k => X (ix2 p k)) (fun k => dd X T g p k * g (ix2 0 k)) := by
  rw [← r45]
  unfold val_main_v47 val_main_v46
  generalize val_main_v45 (F := Ideal) X T g = a
  pointwise [val_main_cst_15]
  exact Fin.sum_univ_one _

theorem r51 (i : S4096x1024.Idx) : (val_main_v51 (F := Ideal) X T g i : EReal) = gX X T g i := by
  idx_vars i
  refine Eq.trans ?_ (vDx_eq (fun k => X (ix2 i0 k)) (fun k => dd X T g i0 k * g (ix2 0 k)) 0 i1)
  have h8 := r8 X i0
  have h36 := r36 X T g i0
  have h47 := r47 X T g i0
  unfold vDx val_main_v51 val_main_v49 val_main_v50 val_main_v48 val_main_v42 val_main_v41
  rw [zero_add]
  generalize val_main_v8 (F := Ideal) X = a8 at *
  generalize val_main_v36 (F := Ideal) X T g = a36 at *
  generalize val_main_v47 (F := Ideal) X T g = a47 at *
  pointwise
  simp only [h8, h36, h47]

theorem r53 (i : S4096x1024.Idx) : (val_main_v53 (F := Ideal) X T g i : EReal) = gX X T g i := r51 X T g i

theorem r52 (i : S1x1024.Idx) : (val_main_v52 (F := Ideal) X T g i : EReal) = gG X T g i := by
  idx_vars i
  have h13 := r13 X
  have h31 := r31 X T g
  unfold val_main_v52 val_main_v37 val_main_v34 val_main_v33 val_main_v32
  generalize val_main_v13 (F := Ideal) X = a13 at *
  generalize val_main_v31 (F := Ideal) X T g = a31 at *
  pointwise [val_main_cst_11, val_main_cst_12]
  simp only [h13, h31]
  refine (Finset.sum_eq_single (0 : Fin 1) (fun b _ h => absurd (Subsingleton.elim b 0) h) (fun h => absurd (Finset.mem_univ _) h)).trans ?_
  refine (Finset.sum_congr rfl fun p _ => ?_ : ∑ p : Fin 4096, X (ix2 p i1) * rr (fun k => X (ix2 p k)) * dd X T g p i1 = ∑ p : Fin 4096, tS X T g p (ix2 1 i1))
  rw [mul_comm]
  exact (if_pos rfl).symm

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v25) = val_main_v25 (F := Ideal) (m ((c.tc : Thread nD τ).loc main_arg0)) (m ((c.tc : Thread nD τ).loc main_arg1)) (m ((c.tc : Thread nD τ).loc main_arg2))
      ∧ r.2.mem ((c.tc : Thread nD τ).loc main_v51) = val_main_v51 (F := Ideal) (m ((c.tc : Thread nD τ).loc main_arg0)) (m ((c.tc : Thread nD τ).loc main_arg1)) (m ((c.tc : Thread nD τ).loc main_arg2))
      ∧ r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_v52) = val_main_v52 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (Value.run m g) fun r hr c => ?_
  obtain ⟨h0, h1, h2, h3, ha⟩ := hr c
  exact ⟨h0.trans (val_main_v25_eq _ _ _), h1.trans (val_main_v51_eq m c), h2.trans (val_main_v53_eq m c), h3.trans (val_main_v52_eq _ _ _), ha⟩

end Cert.Loss.Ref

namespace Cert.Proof

open Idealize.ShloMosaic Idealize.ShloMosaic.TcCoe Idealize.SL.Sem

theorem frame_loss_ref : Cert.quiescent_Reference21Ideal := fun m g _ =>
  θ_run_mono (Cert.Reference21Ideal.Value.run m g) fun r hr => ⟨fun c => (hr c).2.2.2.2, sem_eq_zero_of_no_sems (by decide) r.2⟩

theorem algebraic_loss : Cert.algebraic_Kernel21Ideal_Reference21Ideal := by
  pair_intro
  · run_from Cert.Loss.run m g
  · run_from Cert.Loss.Ref.run m' g'
    · exact funext fun i => Cert.Loss.Ref.r25 _ _ _ i
    · exact funext fun i => Cert.Loss.Ref.r51 _ _ _ i
    · exact funext fun i => Cert.Loss.Ref.r53 _ _ _ i
    · exact funext fun i => Cert.Loss.Ref.r52 _ _ _ i

end Cert.Proof

end
-- ==== Proof.LnSilu.lean ====
/-
  THE LAYER NORM AND THE SILU AFTER IT, BACKWARD: the gradient of the input, and the gradients of the gain, of the shift and of the bias
  before the norm. Each point of the grid takes 512 rows; the three are accumulated over the points in the first three of eight rows.
-/
module

public import proofs.«01_k».proof.Defs
public import proofs.«01_k».proof.Pre_finite_ln
public import proofs.«01_k».proof.Proof.Norm
public import proofs.«01_k».proof.Proof.Rows
public import Idealize.ShloMosaic.Adequacy
public import Idealize.ShloMosaic.Init
public import Idealize.ShloMosaic.Lib.KernelVsHost
public import Idealize.ShloMosaic.Lib.Pipeline.ValueKit
public import Idealize.ShloMosaic.Lib.Pipeline.ReadBack
public import proofs.«01_k».proof.Proof.Gen.Kernel22Ideal.Value
public import proofs.«01_k».proof.Proof.Gen.Reference22Ideal.Read

@[expose] public section

set_option maxRecDepth 16384

noncomputable section

namespace Cert.LnSilu

open Cert.Norm Cert.Grad Idealize.ShloMosaic

/-- The constant of a square's derivative. -/
def two : EReal := Ideal.ofBits .f32 0x40000000#32

theorem two_eq : two = ((2 : ℝ) : EReal) := by
  unfold two
  simp [Ideal.ofBits, Ideal.ieee]
  rw [← EReal.coe_mul]
  norm_num

/-- The logistic function. -/
def sg (z : EReal) : EReal := Ideal.div 1 (1 + Ideal.exp (0 - z))

theorem sg_top : sg ⊤ = 1 := by
  unfold sg
  rw [zero_sub, EReal.neg_top, Ideal.exp_bot, add_zero, ← EReal.coe_one, Ideal.div_coe one_ne_zero, ← EReal.coe_mul]
  norm_num

theorem sg_bot : sg ⊥ = 0 := by
  unfold sg
  rw [zero_sub, EReal.neg_bot, Ideal.exp_top, ← EReal.coe_one, EReal.coe_add_top]
  simp [Ideal.div]

theorem sg_coe (a : ℝ) : ∃ s : ℝ, sg a = s := by
  unfold sg
  rw [zero_sub, ← EReal.coe_neg, Ideal.exp_coe, ← EReal.coe_one, ← EReal.coe_add, Ideal.div_coe (by positivity), ← EReal.coe_mul]
  exact ⟨_, rfl⟩

/-- The gradient through the SiLU at a real gradient: real, and the same in both forms. -/
theorem silu_eq (y : ℝ) (l : EReal) : (y : EReal) * sg l + (l * y) * (sg l * (1 - sg l)) = y * (sg l * (1 + l * (1 - sg l))) := by
  induction l with
  | bot => simp [sg_bot]
  | top =>
    have e : (1 : EReal) - 1 = 0 := by rw [← EReal.coe_one, ← EReal.coe_sub, sub_self, EReal.coe_zero]
    simp [sg_top, e]
  | coe a =>
    obtain ⟨s, hs⟩ := sg_coe a
    rw [hs, ← EReal.coe_one]
    simp only [← EReal.coe_mul, ← EReal.coe_add, ← EReal.coe_sub]
    congr 1
    ring

theorem silu_real (y : ℝ) (l : EReal) : ∃ a : ℝ, (y : EReal) * (sg l * (1 + l * (1 - sg l))) = a := by
  induction l with
  | bot => exact ⟨0, by simp [sg_bot]⟩
  | top =>
    have e : (1 : EReal) - 1 = 0 := by rw [← EReal.coe_one, ← EReal.coe_sub, sub_self, EReal.coe_zero]
    exact ⟨y, by simp [sg_top, e]⟩
  | coe a =>
    obtain ⟨s, hs⟩ := sg_coe a
    rw [hs, ← EReal.coe_one]
    simp only [← EReal.coe_mul, ← EReal.coe_add, ← EReal.coe_sub]
    exact ⟨_, rfl⟩

/-- The row less its mean. -/
def zc (z : Fin 1024 → EReal) (j : Fin 1024) : EReal := z j - Ideal.div (∑ k, z k) c1024

/-- The gradient of the row, as the kernel forms it. -/
def nZ (z d : Fin 1024 → EReal) (j : Fin 1024) : EReal :=
  rr (zc z) * (d j - Ideal.div (∑ k, d k) c1024 - zc z j * rr (zc z) * Ideal.div (∑ k, d k * (zc z k * rr (zc z))) c1024)

/-- The gradient of the row, as differentiating gives it. -/
def vZ (z d : Fin 1024 → EReal) (j : Fin 1024) : EReal :=
  d j * rr (zc z) + cM (zc z) d * (two * zc z j) + Ideal.div (∑ k, -(d k * rr (zc z)) + ∑ k, -(cM (zc z) d * (two * zc z k))) c1024

/-- Two numbers with a real difference are real. -/
theorem real_of_sub {x y : EReal} {a : ℝ} (h : x - y = a) : ∃ b e : ℝ, x = b ∧ y = e := by
  induction x with
  | bot => rw [EReal.bot_sub] at h; exact absurd h.symm (EReal.coe_ne_bot a)
  | top =>
    induction y with
    | bot => exact absurd (h.symm.trans rfl) (EReal.coe_ne_top a)
    | top => exact absurd (h.symm.trans rfl) (EReal.coe_ne_bot a)
    | coe y => exact absurd (h.symm.trans rfl) (EReal.coe_ne_top a)
  | coe x =>
    induction y with
    | bot => exact absurd (h.symm.trans rfl) (EReal.coe_ne_top a)
    | top => exact absurd (h.symm.trans rfl) (EReal.coe_ne_bot a)
    | coe y => exact ⟨x, y, rfl, rfl⟩

/-- The row less its mean adds up to zero, where it is real. -/
theorem sum_zc (z : Fin 1024 → EReal) (a : Fin 1024 → ℝ) (ha : ∀ k, zc z k = a k) : ∑ k, a k = 0 := by
  have h : ∀ k, ∃ b e : ℝ, z k = b ∧ Ideal.div (∑ k, z k) c1024 = e := fun k => real_of_sub (ha k)
  choose b e hb he using h
  have hm : ∀ k, a k = b k - e 0 := fun k => by
    have h1 := ha k
    unfold zc at h1
    rw [hb k, he 0, ← EReal.coe_sub] at h1
    exact (EReal.coe_injective h1).symm
  have hs : (∑ k, b k) * (1 / 1024) = e 0 := by
    have h1 := he 0
    rw [c1024_eq, Ideal.div_coe (by norm_num), Finset.sum_congr rfl fun k _ => hb k, ← coe_sum, ← EReal.coe_mul] at h1
    exact EReal.coe_injective h1
  rw [Finset.sum_congr rfl fun k _ => hm k, Finset.sum_sub_distrib, ← hs]
  simp
  ring

/-- THE GRADIENT: both forms agree at a real gradient of the norm's output, whatever the row is. -/
theorem vZ_eq (z d : Fin 1024 → EReal) (hd : ∀ k, ∃ a : ℝ, d k = a) (j : Fin 1024) : vZ z d j = nZ z d j := by
  unfold vZ nZ
  by_cases hfin : ∃ j, zc z j * zc z j = ⊤
  · obtain ⟨i, hi⟩ := hfin
    have hm := ms_top (zc z) i hi
    have hr : rr (zc z) = 0 := by unfold rr; rw [hm]; exact Ideal.rsqrt_top
    have hc : cM (zc z) d = 0 := by
      unfold cM
      rw [hr, hm, c1024_eq]
      simp [Ideal.div]
    rw [hr, hc, c1024_eq]
    simp [Ideal.div]
  · have hx : ∀ j, ∃ a : ℝ, zc z j = a := fun j => by
      have hj : ¬zc z j * zc z j = ⊤ := fun h => hfin ⟨j, h⟩
      revert hj
      generalize zc z j = y
      intro hj
      induction y with
      | bot => exact absurd rfl hj
      | top => exact absurd rfl hj
      | coe y => exact ⟨y, rfl⟩
    choose a ha using hx
    choose b hb using hd
    have h0 := sum_zc z a ha
    obtain ⟨ε, hε, he⟩ := eps_eq
    obtain ⟨s, hs, hms⟩ : ∃ s : ℝ, 0 < s ∧ ms (zc z) = s := by
      refine ⟨(∑ k, a k * a k) * (1 / 1024) + ε, ?_, ?_⟩
      · have : 0 ≤ ∑ k, a k * a k := Finset.sum_nonneg fun k _ => mul_self_nonneg (a k)
        positivity
      · unfold ms
        rw [c1024_eq, he, Ideal.div_coe (by norm_num), EReal.coe_add, EReal.coe_mul, coe_sum]
        simp only [ha, EReal.coe_mul]
    obtain ⟨r, hr0, hrr, hrs⟩ : ∃ r : ℝ, 0 < r ∧ rr (zc z) = r ∧ r * r = 1 / s := by
      refine ⟨(Real.sqrt s)⁻¹, by positivity, ?_, ?_⟩
      · unfold rr
        rw [hms, Ideal.rsqrt_coe, if_neg (not_lt.mpr hs.le), if_neg hs.ne']
      · rw [← mul_inv, Real.mul_self_sqrt hs.le, one_div]
    have hc : cM (zc z) d = (((∑ k, a k * b k) * (-(1 / 2) * (r * (1 / s))) * (1 / 1024) : ℝ) : EReal) := by
      unfold cM
      rw [hrr, hms, c1024_eq, Ideal.div_coe hs.ne', Ideal.div_coe (by norm_num), mhalf_eq]
      simp only [ha, hb, ← EReal.coe_mul, ← coe_sum]
    rw [hc, hrr, c1024_eq, Ideal.div_coe (by norm_num), Ideal.div_coe (by norm_num), Ideal.div_coe (by norm_num), two_eq]
    simp only [ha, hb, ← EReal.coe_mul, ← EReal.coe_neg, ← coe_sum, ← EReal.coe_add, ← EReal.coe_sub]
    congr 1
    have e1 : ∑ k, -(b k * r) = -((∑ k, b k) * r) := by rw [Finset.sum_neg_distrib, Finset.sum_mul]
    have e2 : ∀ c : ℝ, ∑ k, -(c * (2 * a k)) = 0 := fun c => by
      rw [Finset.sum_neg_distrib, ← Finset.mul_sum, ← Finset.mul_sum, h0, mul_zero, mul_zero, neg_zero]
    have e3 : ∑ k, b k * (a k * r) = (∑ k, a k * b k) * r := by
      rw [Finset.sum_mul]
      exact Finset.sum_congr rfl fun k _ => by ring
    rw [e1, e2, e3, ← hrs]
    ring

end Cert.LnSilu

namespace Cert.LnSilu

open Cert.Kernel22Ideal Cert.Kernel22Ideal.Gen Cert.Norm Cert.Grad Cert.Rows Idealize.ShloMosaic Idealize.ShloMosaic.TcCoe Idealize.SL.Sem

section Results
variable (Z Y : S4096x1024.Idx → EReal) (g b : S1x1024.Idx → EReal)

/-- The normalised row. -/
def lh (p : Fin 4096) (j : Fin 1024) : EReal := zc (fun k => Z (ix2 p k)) j * rr (zc fun k => Z (ix2 p k))

/-- The norm's output. -/
def ln (p : Fin 4096) (j : Fin 1024) : EReal := lh Z p j * g (ix2 0 j) + b (ix2 0 j)

/-- The gradient of the norm's output. -/
def dl (p : Fin 4096) (j : Fin 1024) : EReal := Y (ix2 p j) * (sg (ln Z g b p j) * (1 + ln Z g b p j * (1 - sg (ln Z g b p j))))

/-- The gradient of the input. -/
def gX (i : S4096x1024.Idx) : EReal := nZ (fun k => Z (ix2 (i 0) k)) (fun k => dl Z Y g b (i 0) k * g (ix2 0 k)) (i 1)

/-- Row `p`'s part of the accumulated rows. -/
def tS (p : Fin 4096) (i : S8x1024.Idx) : EReal :=
  if (i 0).val = 2 then gX Z Y g b (ix2 p (i 1)) else if (i 0).val = 1 then dl Z Y g b p (i 1) else if (i 0).val = 0 then dl Z Y g b p (i 1) * lh Z p (i 1) else 0

/-- The eight accumulated rows. -/
def gS (i : S8x1024.Idx) : EReal := ∑ p : Fin 4096, tS Z Y g b p i

end Results

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] :=
  (by decide +kernel : ∀ t : Fin grid0.N, _)

theorem lt (t : Fin cfg0.N) : t.val < 8 := lt_of_lt_of_eq t.isLt N_0

def row (t : Fin cfg0.N) (i : Fin 512) : Fin 4096 := ⟨t.val * 512 + i.val, by have := lt t; omega⟩

theorem one_bits : (Ideal.ofBits .f32 0x3F800000#32 : EReal) = 1 := by
  simp [Ideal.ofBits, Ideal.ieee]
  rw [← EReal.coe_mul, ← EReal.coe_one]
  norm_num

section Payloads
variable (x : Vec Ideal S512x1024 .bf16) (y : Vec Ideal S512x1024 .bf16) (g b : Vec Ideal S1x1024 .f32)

/-- The same of a block. -/
def blh (p : Fin 512) (j : Fin 1024) : EReal := zc (fun k => x (ix2 p k)) j * rr (zc fun k => x (ix2 p k))
def bln (p : Fin 512) (j : Fin 1024) : EReal := blh x p j * g (ix2 0 j) + b (ix2 0 j)
def bdl (p : Fin 512) (j : Fin 1024) : EReal := y (ix2 p j) * (sg (bln x g b p j) * (1 + bln x g b p j * (1 - sg (bln x g b p j))))
def bgX (p : Fin 512) (j : Fin 1024) : EReal := nZ (fun k => x (ix2 p k)) (fun k => bdl x y g b p k * g (ix2 0 k)) j

theorem pay4 (p : Fin 512) (j : Fin 1024) : (k0_pay4 (F := Ideal) x (ix2 p j) : EReal) = zc (fun k => x (ix2 p k)) j := by
  unfold zc c1024
  pointwise [k0_pay4]

theorem pay5 (p : Fin 512) : (k0_pay5 (F := Ideal) x (ix2 p 0) : EReal) = rr (zc fun k => x (ix2 p k)) := by
  have h := pay4 x p
  unfold rr ms c1024 eps k0_pay5
  generalize k0_pay4 x = r at *
  pointwise
  simp only [h]

theorem pay6 (p : Fin 512) (j : Fin 1024) : (k0_pay6 (F := Ideal) x (ix2 p j) : EReal) = blh x p j := by
  unfold blh
  rw [← pay4, ← pay5]
  unfold k0_pay6
  generalize k0_pay4 x = r
  generalize k0_pay5 x = s
  pointwise

theorem pay7 (p : Fin 512) (j : Fin 1024) : (k0_pay7 (F := Ideal) x g b (ix2 p j) : EReal) = bln x g b p j := by
  unfold bln
  rw [← pay6]
  unfold k0_pay7
  generalize k0_pay6 x = r
  pointwise

theorem pay8 (p : Fin 512) (j : Fin 1024) : (k0_pay8 (F := Ideal) x g b (ix2 p j) : EReal) = sg (bln x g b p j) := by
  unfold sg
  rw [← pay7, ← one_bits]
  unfold k0_pay8
  generalize k0_pay7 x g b = r
  pointwise

theorem pay10 (p : Fin 512) (j : Fin 1024) : (k0_pay10 (F := Ideal) x g b (ix2 p j) : EReal) = bln x g b p j * (1 - sg (bln x g b p j)) := by
  rw [← pay8, ← pay7, ← one_bits]
  unfold k0_pay10
  generalize k0_pay7 x g b = r
  generalize k0_pay8 x g b = s
  pointwise

theorem pay11 (p : Fin 512) (j : Fin 1024) : (k0_pay11 (F := Ideal) (k0_pay8 x g b) (k0_pay9 y) (k0_pay10 x g b) (ix2 p j) : EReal) = bdl x y g b p j := by
  unfold bdl
  rw [← pay10, ← pay8, ← one_bits]
  unfold k0_pay11 k0_pay9
  generalize k0_pay8 x g b = r
  generalize k0_pay10 x g b = s
  pointwise

theorem pay12 (z : Vec Ideal S1x1024 .f32) (j : Fin 1024) : (k0_pay12 (F := Ideal) (k0_pay6 x) (k0_pay8 x g b) (k0_pay9 y) (k0_pay10 x g b) z (ix2 0 j) : EReal)
    = z (ix2 0 j) + ∑ p : Fin 512, bdl x y g b p j * blh x p j := by
  have h6 := pay6 x
  have h := pay11 x y g b
  unfold k0_pay12
  generalize k0_pay11 (k0_pay8 x g b) (k0_pay9 y) (k0_pay10 x g b) = r at *
  generalize k0_pay6 x = n at *
  pointwise
  simp only [h, h6]

theorem pay13 (z : Vec Ideal S1x1024 .f32) (j : Fin 1024) : (k0_pay13 (F := Ideal) (k0_pay8 x g b) (k0_pay9 y) (k0_pay10 x g b) z (ix2 0 j) : EReal)
    = z (ix2 0 j) + ∑ p : Fin 512, bdl x y g b p j := by
  have h := pay11 x y g b
  unfold k0_pay13
  generalize k0_pay11 (k0_pay8 x g b) (k0_pay9 y) (k0_pay10 x g b) = r at *
  pointwise
  simp only [h]

theorem pay14 (p : Fin 512) (j : Fin 1024) : (k0_pay14 (F := Ideal) (k0_pay5 x) (k0_pay6 x) (k0_pay8 x g b) (k0_pay9 y) (k0_pay10 x g b) g (ix2 p j) : EReal)
    = bgX x y g b p j := by
  have h5 := pay5 x p
  have h6 := pay6 x p
  have h := pay11 x y g b p
  unfold bgX nZ k0_pay14 c1024
  unfold blh at h6
  generalize k0_pay11 (k0_pay8 x g b) (k0_pay9 y) (k0_pay10 x g b) = r at *
  generalize k0_pay5 x = s at *
  generalize k0_pay6 x = n at *
  pointwise
  simp only [h5, h6, h]

theorem pay2 (p : Fin 512) (j : Fin 1024) : (k0_pay2 (F := Ideal) (k0_pay14 (k0_pay5 x) (k0_pay6 x) (k0_pay8 x g b) (k0_pay9 y) (k0_pay10 x g b) g) (ix2 p j) : EReal)
    = bgX x y g b p j := by
  rw [← pay14]
  rfl

theorem pay1 (z : Vec Ideal S1x1024 .f32) (j : Fin 1024) : (k0_pay1 (F := Ideal) (k0_pay14 (k0_pay5 x) (k0_pay6 x) (k0_pay8 x g b) (k0_pay9 y) (k0_pay10 x g b) g) (k0_pay15 z) (ix2 0 j) : EReal)
    = z (ix2 0 j) + ∑ p : Fin 512, bgX x y g b p j := by
  have h := pay14 x y g b
  unfold k0_pay1 k0_pay15
  generalize k0_pay14 (k0_pay5 x) (k0_pay6 x) (k0_pay8 x g b) (k0_pay9 y) (k0_pay10 x g b) g = r at *
  pointwise
  simp only [h]

end Payloads

end Cert.LnSilu

namespace Cert.LnSilu

open Cert.Kernel22Ideal Cert.Kernel22Ideal.Gen Cert.Norm Cert.Grad Cert.Rows Idealize.ShloMosaic Idealize.ShloMosaic.TcCoe Idealize.SL.Sem

variable (m : (ℓ : Loc nD τ sig) → Buf (Elt Ideal) ℓ)

abbrev aZ (c : Dev nD) : S4096x1024.Idx → EReal := m ((c : Thread nD τ).loc main_arg0)
abbrev aY (c : Dev nD) : S4096x1024.Idx → EReal := m ((c : Thread nD τ).loc main_arg1)
abbrev aG (c : Dev nD) : S1x1024.Idx → EReal := m ((c : Thread nD τ).loc main_arg2)
abbrev aB (c : Dev nD) : S1x1024.Idx → EReal := m ((c : Thread nD τ).loc main_arg3)

/-- The staged blocks. -/
abbrev bZ (c : Dev nD) (t : Fin cfg0.N) : S512x1024.Idx → EReal := iblk m c 0 t
abbrev bY (c : Dev nD) (t : Fin cfg0.N) : S512x1024.Idx → EReal := iblk m c 1 t
abbrev bG (c : Dev nD) (t : Fin cfg0.N) : S1x1024.Idx → EReal := iblk m c 2 t
abbrev bB (c : Dev nD) (t : Fin cfg0.N) : S1x1024.Idx → EReal := iblk m c 3 t

theorem blkZ (c : Dev nD) (t : Fin cfg0.N) (p : Fin 512) (k : Fin 1024) : bZ m c t (ix2 p k) = aZ m c (ix2 (row t p) k) := by
  have := lt t
  unfold bZ aZ row
  blk_ext [iblk, V, idx t]

theorem blkY (c : Dev nD) (t : Fin cfg0.N) (p : Fin 512) (k : Fin 1024) : bY m c t (ix2 p k) = aY m c (ix2 (row t p) k) := by
  have := lt t
  unfold bY aY row
  blk_ext [iblk, V, idx t]

theorem blkG (c : Dev nD) (t : Fin cfg0.N) (k : Fin 1024) : bG m c t (ix2 0 k) = aG m c (ix2 0 k) := by
  unfold bG aG
  blk_ext [iblk, V, idx t]

theorem blkB (c : Dev nD) (t : Fin cfg0.N) (k : Fin 1024) : bB m c t (ix2 0 k) = aB m c (ix2 0 k) := by
  unfold bB aB
  blk_ext [iblk, V, idx t]

theorem blk_row (c : Dev nD) (t : Fin cfg0.N) (p : Fin 512) : (fun k : Fin 1024 => bZ m c t (ix2 p k)) = fun k => aZ m c (ix2 (row t p) k) :=
  funext fun k => blkZ m c t p k

/-- The point's rows. -/
theorem blk_lh (c : Dev nD) (t : Fin cfg0.N) (p : Fin 512) (j : Fin 1024) : blh (bZ m c t) p j = lh (aZ m c) (row t p) j := by
  unfold blh lh
  rw [blk_row]

theorem blk_dl (c : Dev nD) (t : Fin cfg0.N) (p : Fin 512) (j : Fin 1024) :
    bdl (bZ m c t) (bY m c t) (bG m c t) (bB m c t) p j = dl (aZ m c) (aY m c) (aG m c) (aB m c) (row t p) j := by
  unfold bdl dl bln ln
  rw [blk_lh, blkY, blkG, blkB]

theorem blk_gX (c : Dev nD) (t : Fin cfg0.N) (p : Fin 512) (j : Fin 1024) :
    bgX (bZ m c t) (bY m c t) (bG m c t) (bB m c t) p j = gX (aZ m c) (aY m c) (aG m c) (aB m c) (ix2 (row t p) j) := by
  show _ = nZ (fun k => aZ m c (ix2 (row t p) k)) (fun k => dl (aZ m c) (aY m c) (aG m c) (aB m c) (row t p) k * aG m c (ix2 0 k)) j
  unfold bgX
  rw [blk_row]
  refine congrArg (fun d => nZ _ d _) (funext fun k => ?_)
  exact congrArg₂ (· * ·) (blk_dl m c t p k) (blkG m c t k)

/-- What a point adds to the three rows, and to the others. -/
theorem adds0 (c : Dev nD) (t : Fin cfg0.N) (j : Fin 1024) :
    ∑ p : Fin 512, bdl (bZ m c t) (bY m c t) (bG m c t) (bB m c t) p j * blh (bZ m c t) p j
      = ∑ p : Fin 512, tS (aZ m c) (aY m c) (aG m c) (aB m c) (row t p) (ix2 0 j) := by
  refine Finset.sum_congr rfl fun p _ => ?_
  rw [blk_dl, blk_lh]
  exact ((if_neg (show ¬(0 : ℕ) = 2 by decide)).trans ((if_neg (show ¬(0 : ℕ) = 1 by decide)).trans (if_pos rfl))).symm

theorem adds1 (c : Dev nD) (t : Fin cfg0.N) (j : Fin 1024) :
    ∑ p : Fin 512, bdl (bZ m c t) (bY m c t) (bG m c t) (bB m c t) p j
      = ∑ p : Fin 512, tS (aZ m c) (aY m c) (aG m c) (aB m c) (row t p) (ix2 1 j) := by
  refine Finset.sum_congr rfl fun p _ => ?_
  rw [blk_dl]
  exact ((if_neg (show ¬(1 : ℕ) = 2 by decide)).trans (if_pos rfl)).symm

theorem adds2 (c : Dev nD) (t : Fin cfg0.N) (j : Fin 1024) :
    ∑ p : Fin 512, bgX (bZ m c t) (bY m c t) (bG m c t) (bB m c t) p j
      = ∑ p : Fin 512, tS (aZ m c) (aY m c) (aG m c) (aB m c) (row t p) (ix2 2 j) := by
  refine Finset.sum_congr rfl fun p _ => ?_
  rw [blk_gX]
  exact (if_pos rfl).symm

theorem adds_none (c : Dev nD) (t : Fin cfg0.N) (i : Fin 8) (j : Fin 1024) (h0 : ¬i.val = 0) (h1 : ¬i.val = 1) (h2 : ¬i.val = 2) :
    ∑ p : Fin 512, tS (aZ m c) (aY m c) (aG m c) (aB m c) (row t p) (ix2 i j) = 0 :=
  Finset.sum_eq_zero fun p _ => (if_neg h2).trans ((if_neg h1).trans (if_neg h0))

theorem out4 (c : Dev nD) (t : Fin cfg0.N) (y : S512x1024.Idx) :
    ((outsAt0 m c t.val t.isLt).1 y : EReal) = gX (aZ m c) (aY m c) (aG m c) (aB m c) (ix2 (row t (y 0)) (y 1)) := by
  idx_vars y
  by_cases h : t.val % 8 = 0
  · rw [outsAt0_A m c t h]
    frame_out
    exact (pay2 (bZ m c t) (bY m c t) (bG m c t) (bB m c t) y0 y1).trans (blk_gX m c t y0 y1)
  · rw [outsAt0_B m c t h]
    frame_out
    exact (pay2 (bZ m c t) (bY m c t) (bG m c t) (bB m c t) y0 y1).trans (blk_gX m c t y0 y1)

/-- Row `o`, then whatever was stored before. -/
theorem canon_at {n : ℕ} (o : ℕ) {e : EltTy} {Val : EltTy → Type} [∀ e, Nonempty (Val e)] (inb : ∀ a, (![o, 0] : Fin 2 → ℕ) a + (![1, n] : Fin 2 → ℕ) a ≤ (S8 n).size a)
    (w : (Rect.unit (s := S8 n) ![o, 0] ![1, n] inb).shape.Idx → Val e) (L : List (View.Piece Val (S8 n) e)) (i : Fin 8) (j : Fin n) :
    View.canon (⟨Rect.unit (s := S8 n) ![o, 0] ![1, n] inb, w⟩ :: L) (ix2 i j) = if i.val = o then w (ix2 0 j) else View.canon L (ix2 i j) := by
  by_cases h : i.val = o
  · rw [if_pos h]
    have hy : (ix2 i j : (S8 n).Idx) = (Rect.unit (s := S8 n) ![o, 0] ![1, n] inb).emb (ix2 0 j) := by
      funext a
      refine Fin.ext ?_
      match a with
      | ⟨0, _⟩ => show i.val = o + 1 * 0; omega
      | ⟨1, _⟩ => show j.val = 0 + 1 * j.val; omega
    exact (congrArg (View.canon _) hy).trans (View.canon_cons_emb _ w L _)
  · rw [if_neg h]
    refine View.canon_cons_of_not_mem _ L ?_
    rw [Rect.mem_set_unit]
    intro hall
    have h0 : i.val < o + 1 := (hall 0).2
    have h1 : o ≤ i.val := (hall 0).1
    omega

/-- Row `o` over what the block held. -/
theorem kept_at {n : ℕ} (o : ℕ) {sig : RefSig} {κ : Kind} {sp : Space} {e : EltTy} {Val : EltTy → Type} (v : View sig κ sp (S8 n) e) (f : v.ty.Contents Val)
    (inb : ∀ a, (![o, 0] : Fin 2 → ℕ) a + (![1, n] : Fin 2 → ℕ) a ≤ (S8 n).size a)
    (w : (Rect.unit (s := S8 n) ![o, 0] ![1, n] inb).shape.Idx → Val e) (L : List (View.Piece Val (S8 n) e)) (i : Fin 8) (j : Fin n) :
    v.read Val (v.writes Val f (⟨Rect.unit (s := S8 n) ![o, 0] ![1, n] inb, w⟩ :: L)) (ix2 i j) = if i.val = o then w (ix2 0 j) else v.read Val (v.writes Val f L) (ix2 i j) := by
  by_cases h : i.val = o
  · rw [if_pos h]
    refine View.read_writes_cons_unit_of_mem v f inb w L _ (ix2 0 j) rfl fun a => ?_
    match a with
    | ⟨0, _⟩ => show i.val = o + 0; omega
    | ⟨1, _⟩ => show j.val = 0 + j.val; omega
  · rw [if_neg h]
    refine View.read_writes_cons_unit_of_not_mem v f inb w L _ rfl 0 ?_
    show i.val < o ∨ o + 1 ≤ i.val
    omega

theorem out5_A (c : Dev nD) (t : Fin cfg0.N) (h : t.val % 8 = 0) (y : S8x1024.Idx) :
    ((outsAt0 m c t.val t.isLt).2 y : EReal) = 0 + ∑ p : Fin 512, tS (aZ m c) (aY m c) (aG m c) (aB m c) (row t p) y := by
  idx_vars y
  rw [outsAt0_A m c t h]
  frame_out
  simp (disch := first | rfl | decide) only [↓View.readCov_skip, ↓View.readCov_fill]
  refine (canon_at 2 _ _ _ y0 y1).trans ?_
  by_cases h2 : y0.val = 2
  · rw [if_pos h2, show y0 = 2 from Fin.ext h2, ← adds2]
    refine (pay1 (bZ m c t) (bY m c t) (bG m c t) (bB m c t) _ y1).trans ?_
    refine congrArg₂ (· + ·) (by pointwise [k0_pay3]) rfl
  · rw [if_neg h2]
    refine (canon_at 1 _ _ _ y0 y1).trans ?_
    by_cases h1 : y0.val = 1
    · rw [if_pos h1, show y0 = 1 from Fin.ext h1, ← adds1]
      refine (pay13 (bZ m c t) (bY m c t) (bG m c t) (bB m c t) _ y1).trans ?_
      refine congrArg₂ (· + ·) (by pointwise [k0_pay3]) rfl
    · rw [if_neg h1]
      refine (canon_at 0 _ _ _ y0 y1).trans ?_
      by_cases h0 : y0.val = 0
      · rw [if_pos h0, show y0 = 0 from Fin.ext h0, ← adds0]
        refine (pay12 (bZ m c t) (bY m c t) (bG m c t) (bB m c t) _ y1).trans ?_
        refine congrArg₂ (· + ·) (by pointwise [k0_pay3]) rfl
      · rw [if_neg h0, adds_none m c t y0 y1 h0 h1 h2]
        refine (congrFun (View.canon_cons_unit_lit _ _ _ (by decide)) _).trans ?_
        rw [add_zero]
        pointwise [k0_pay3]

theorem out5_B (c : Dev nD) (t : Fin cfg0.N) (h : ¬t.val % 8 = 0) (y : S8x1024.Idx) :
    ((outsAt0 m c t.val t.isLt).2 y : EReal) = (outsAt0 m c (t.val - 1) (Nat.lt_of_le_of_lt (Nat.sub_le _ _) t.isLt)).2 y + ∑ p : Fin 512, tS (aZ m c) (aY m c) (aG m c) (aB m c) (row t p) y := by
  idx_vars y
  rw [outsAt0_B m c t h]
  frame_out
  generalize (outsAt0 m c (t.val - 1) (Nat.lt_of_le_of_lt (Nat.sub_le _ _) t.isLt)).2 = acc
  refine (kept_at 2 _ _ _ _ _ y0 y1).trans ?_
  by_cases h2 : y0.val = 2
  · rw [if_pos h2, show y0 = 2 from Fin.ext h2, ← adds2]
    refine (pay1 (bZ m c t) (bY m c t) (bG m c t) (bB m c t) _ y1).trans ?_
    refine congrArg₂ (· + ·) (by pointwise) rfl
  · rw [if_neg h2]
    refine (kept_at 1 _ _ _ _ _ y0 y1).trans ?_
    by_cases h1 : y0.val = 1
    · rw [if_pos h1, show y0 = 1 from Fin.ext h1, ← adds1]
      refine (pay13 (bZ m c t) (bY m c t) (bG m c t) (bB m c t) _ y1).trans ?_
      refine congrArg₂ (· + ·) (by pointwise) rfl
    · rw [if_neg h1]
      refine (kept_at 0 _ _ _ _ _ y0 y1).trans ?_
      by_cases h0 : y0.val = 0
      · rw [if_pos h0, show y0 = 0 from Fin.ext h0, ← adds0]
        refine (pay12 (bZ m c t) (bY m c t) (bG m c t) (bB m c t) _ y1).trans ?_
        refine congrArg₂ (· + ·) (by pointwise) rfl
      · rw [if_neg h0, adds_none m c t y0 y1 h0 h1 h2, add_zero, View.writes_nil, Memref.IsWhole.read_unread]

theorem final4 (c : Dev nD) : (dats m 0 c).arrAt 4 (cfgs 0).N = gX (aZ m c) (aY m c) (aG m c) (aB m c) := by
  refine (dats m 0 c).arrAt_eq_of_covers 4 _ (by decide +kernel) fun t hf y => ?_
  blk_simp
  rw [after0_4]
  have ht := lt t
  refine (out4 m c t y).trans (congrArg (gX _ _ _ _) ?_)
  unfold row
  blk_ext [idx t]

theorem final5 (c : Dev nD) : (dats m 0 c).arrAt 5 (cfgs 0).N = gS (aZ m c) (aY m c) (aG m c) (aB m c) := by
  refine (dats m 0 c).arrAt_eq_of_after_last 5 t0_7 (by decide +kernel) _ fun j => ?_
  blk_simp
  rw [after0_5, Pipeline.eq_sum_fin_of_reset_step_apply_last (fun n h => (outsAt0 m c n h).2) 8 (fun _ => (0 : EReal))
    (fun p j => ∑ i : Fin 512, tS (aZ m c) (aY m c) (aG m c) (aB m c) (row p i) j)
    (fun t h j => out5_A m c t h j) (fun t h j => out5_B m c t h j) (le_of_eq N_0) t0_7 rfl j, zero_add]
  exact Fin.sum_mul_add_congr fun s k hl => rfl

end Cert.LnSilu

namespace Cert.LnSilu.Ref

open Cert.Reference22Ideal Cert.Reference22Ideal.Gen Cert.Reference22Ideal.Read Cert.Norm Cert.Grad Idealize.ShloMosaic Idealize.ShloMosaic.TcCoe Idealize.SL.Sem

variable (Z Y : S4096x1024.Idx → EReal) (g b : S1x1024.Idx → EReal)

theorem r8 (p : Fin 4096) (j : Fin 1024) : (val_main_v8 (F := Ideal) Z (ix2 p j) : EReal) = zc (fun k => Z (ix2 p k)) j := by
  unfold zc c1024
  pointwise [val_main_v8, val_main_v7, val_main_v6, val_main_v5, val_main_v4, val_main_v3, val_main_v0, val_main_cst, val_main_cst_0]

theorem r17 (p : Fin 4096) (j : Fin 1024) : (val_main_v17 (F := Ideal) Z (ix2 p j) : EReal) = zc (fun k => Z (ix2 p k)) j := r8 Z p j

theorem r19 (p : Fin 4096) : (val_main_v19 (F := Ideal) Z (ix2 p 0) : EReal) = ms (zc fun k => Z (ix2 p k)) := by
  have h := r8 Z p
  unfold ms c1024 eps val_main_v19 val_main_v15 val_main_v13 val_main_v12 val_main_v9
  generalize val_main_v8 (F := Ideal) Z = r at *
  pointwise [val_main_v18, val_main_v14, val_main_cst_2, val_main_cst_3, val_main_cst_4]
  simp only [h]

theorem r20 (p : Fin 4096) : (val_main_v20 (F := Ideal) Z (ix2 p 0) : EReal) = rr (zc fun k => Z (ix2 p k)) := by
  unfold rr
  rw [← r19]
  rfl

theorem r25 (p : Fin 4096) (j : Fin 1024) : (val_main_v25 (F := Ideal) Z (ix2 p j) : EReal) = lh Z p j := by
  unfold lh
  rw [← r17, ← r20]
  unfold val_main_v25 val_main_v24
  generalize val_main_v17 (F := Ideal) Z = r
  generalize val_main_v20 (F := Ideal) Z = s
  pointwise

theorem r31 (p : Fin 4096) (j : Fin 1024) : (val_main_v31 (F := Ideal) Z g b (ix2 p j) : EReal) = ln Z g b p j := by
  unfold ln
  rw [← r25]
  unfold val_main_v31 val_main_v28
  generalize val_main_v25 (F := Ideal) Z = r
  pointwise [val_main_v30, val_main_v29, val_main_v27, val_main_v26, val_main_v2, val_main_v1]

theorem r32 (p : Fin 4096) (j : Fin 1024) : (val_main_v32_2 (F := Ideal) Z g b (ix2 p j) : EReal) = sg (ln Z g b p j) := by
  unfold sg
  rw [← r31, ← one_bits, zero_sub]
  unfold val_main_v32_2 val_main_call0_v3 val_main_call0_v1 val_main_call0_v0
  generalize val_main_v31 (F := Ideal) Z g b = r
  pointwise [val_main_call0_v2, val_main_call0_v4, val_main_call0_cst, val_main_call0_cst_0]

theorem r34 (hY : ∀ i, ∃ a : ℝ, Y i = a) (p : Fin 4096) (j : Fin 1024) : (val_main_v34 (F := Ideal) Z Y g b (ix2 p j) : EReal) = dl Z Y g b p j := by
  unfold dl
  obtain ⟨y, hy⟩ := hY (ix2 p j)
  rw [hy, ← silu_eq, ← r32, ← r31, ← one_bits, ← hy]
  unfold val_main_v34 val_main_call1_v2 val_main_call1_v1 val_main_call1_v0 val_main_v32_1 val_main_call0_v7
  generalize val_main_v31 (F := Ideal) Z g b = r
  generalize val_main_v32_2 (F := Ideal) Z g b = s
  pointwise [val_main_v33, val_main_call0_v6, val_main_call0_cst_1]

theorem r42 (hY : ∀ i, ∃ a : ℝ, Y i = a) (p : Fin 4096) (j : Fin 1024) : (val_main_v42 (F := Ideal) Z Y g b (ix2 p j) : EReal) = dl Z Y g b p j * g (ix2 0 j) := by
  rw [← r34 Z Y g b hY]
  unfold val_main_v42
  generalize val_main_v34 (F := Ideal) Z Y g b = r
  pointwise [val_main_v41, val_main_v26, val_main_v1]

theorem r48 (hY : ∀ i, ∃ a : ℝ, Y i = a) (p : Fin 4096) (j : Fin 1024) : (val_main_v48 (F := Ideal) Z Y g b (ix2 p j) : EReal)
    = dl Z Y g b p j * g (ix2 0 j) * rr (zc fun k => Z (ix2 p k)) := by
  rw [← r42 Z Y g b hY, ← r20]
  unfold val_main_v48 val_main_v47
  generalize val_main_v42 (F := Ideal) Z Y g b = r
  generalize val_main_v20 (F := Ideal) Z = s
  pointwise

theorem r54 (hY : ∀ i, ∃ a : ℝ, Y i = a) (p : Fin 4096) : (val_main_v54 (F := Ideal) Z Y g b (ix2 p 0) : EReal)
    = cM (zc fun k => Z (ix2 p k)) (fun k => dl Z Y g b p k * g (ix2 0 k)) := by
  have h17 := r17 Z p
  have h19 := r19 Z p
  have h20 := r20 Z p
  have h42 := r42 Z Y g b hY p
  unfold cM c1024 mhalf val_main_v54 val_main_v49 val_main_v46 val_main_v45 val_main_v44 val_main_v23 val_main_v21
  generalize val_main_v17 (F := Ideal) Z = a17 at *
  generalize val_main_v19 (F := Ideal) Z = a19 at *
  generalize val_main_v20 (F := Ideal) Z = a20 at *
  generalize val_main_v42 (F := Ideal) Z Y g b = a42 at *
  pointwise [val_main_v22, val_main_v53, val_main_cst_5, val_main_cst_10, val_main_cst_12]
  simp only [h17, h19, h20, h42]

theorem r56 (hY : ∀ i, ∃ a : ℝ, Y i = a) (p : Fin 4096) (j : Fin 1024) : (val_main_v56 (F := Ideal) Z Y g b (ix2 p j) : EReal)
    = cM (zc fun k => Z (ix2 p k)) (fun k => dl Z Y g b p k * g (ix2 0 k)) := by
  rw [← r54 Z Y g b hY]
  unfold val_main_v56 val_main_v55
  generalize val_main_v54 (F := Ideal) Z Y g b = a
  pointwise [val_main_cst_13]
  exact Fin.sum_univ_one _

theorem r57 (hY : ∀ i, ∃ a : ℝ, Y i = a) (p : Fin 4096) (j : Fin 1024) : (val_main_v57 (F := Ideal) Z Y g b (ix2 p j) : EReal)
    = cM (zc fun k => Z (ix2 p k)) (fun k => dl Z Y g b p k * g (ix2 0 k)) * (two * zc (fun k => Z (ix2 p k)) j) := by
  rw [← r56 Z Y g b hY p j, ← r8]
  unfold two val_main_v57 val_main_v11
  generalize val_main_v56 (F := Ideal) Z Y g b = a
  generalize val_main_v8 (F := Ideal) Z = r
  pointwise [val_main_v10, val_main_cst_1]

theorem r64 (hY : ∀ i, ∃ a : ℝ, Y i = a) (p : Fin 4096) : (val_main_v64 (F := Ideal) Z Y g b (ix2 p 0) : EReal)
    = Ideal.div (∑ k, -(dl Z Y g b p k * g (ix2 0 k) * rr (zc fun k => Z (ix2 p k)))
      + ∑ k, -(cM (zc fun k => Z (ix2 p k)) (fun k => dl Z Y g b p k * g (ix2 0 k)) * (two * zc (fun k => Z (ix2 p k)) k))) c1024 := by
  have h48 := r48 Z Y g b hY p
  have h57 := r57 Z Y g b hY p
  unfold c1024 val_main_v64 val_main_v62 val_main_v60 val_main_v59 val_main_v58 val_main_v52 val_main_v51 val_main_v50
  generalize val_main_v48 (F := Ideal) Z Y g b = r at *
  generalize val_main_v57 (F := Ideal) Z Y g b = s at *
  pointwise [val_main_v63, val_main_cst_11, val_main_cst_14, val_main_cst_15]
  simp only [h48, h57]

theorem r66 (hY : ∀ i, ∃ a : ℝ, Y i = a) (p : Fin 4096) (j : Fin 1024) : (val_main_v66 (F := Ideal) Z Y g b (ix2 p j) : EReal)
    = val_main_v64 (F := Ideal) Z Y g b (ix2 p 0) := by
  unfold val_main_v66 val_main_v65
  generalize val_main_v64 (F := Ideal) Z Y g b = a
  pointwise [val_main_cst_16]
  exact Fin.sum_univ_one _

/-- The gradient of the norm's scaled output is real. -/
theorem real_d (hY : ∀ i, ∃ a : ℝ, Y i = a) (hg : ∀ i, ∃ a : ℝ, g i = a) (p : Fin 4096) (k : Fin 1024) : ∃ a : ℝ, dl Z Y g b p k * g (ix2 0 k) = a := by
  obtain ⟨y, hy⟩ := hY (ix2 p k)
  obtain ⟨e, he⟩ := hg (ix2 0 k)
  unfold dl
  rw [hy, he]
  obtain ⟨a, ha⟩ := silu_real y (ln Z g b p k)
  exact ⟨a * e, by rw [ha, EReal.coe_mul]⟩

theorem r67 (hY : ∀ i, ∃ a : ℝ, Y i = a) (hg : ∀ i, ∃ a : ℝ, g i = a) (p : Fin 4096) (j : Fin 1024) : (val_main_v67 (F := Ideal) Z Y g b (ix2 p j) : EReal)
    = gX Z Y g b (ix2 p j) := by
  refine Eq.trans ?_ (vZ_eq (fun k => Z (ix2 p k)) (fun k => dl Z Y g b p k * g (ix2 0 k)) (real_d Z Y g b hY hg p) j)
  unfold vZ
  rw [← r64 Z Y g b hY p, ← r66 Z Y g b hY p j, ← r48 Z Y g b hY p j, ← r57 Z Y g b hY p j]
  unfold val_main_v67 val_main_v61
  generalize val_main_v66 (F := Ideal) Z Y g b = u
  generalize val_main_v48 (F := Ideal) Z Y g b = r
  generalize val_main_v57 (F := Ideal) Z Y g b = s
  pointwise

theorem r70 (hY : ∀ i, ∃ a : ℝ, Y i = a) (hg : ∀ i, ∃ a : ℝ, g i = a) (i : S4096x1024.Idx) : (val_main_v70 (F := Ideal) Z Y g b i : EReal) = gX Z Y g b i := by
  idx_vars i
  exact r67 Z Y g b hY hg i0 i1

theorem r72 (hY : ∀ i, ∃ a : ℝ, Y i = a) (hg : ∀ i, ∃ a : ℝ, g i = a) (j : Fin 1024) : (val_main_v72 (F := Ideal) Z Y g b (ix2 0 j) : EReal) = gS Z Y g b (ix2 2 j) := by
  have h := r67 Z Y g b hY hg
  unfold val_main_v72 val_main_v71
  generalize val_main_v67 (F := Ideal) Z Y g b = r at *
  pointwise [val_main_cst_17]
  simp only [h]
  exact Finset.sum_congr rfl fun p _ => (if_pos rfl).symm

theorem r68 (hY : ∀ i, ∃ a : ℝ, Y i = a) (j : Fin 1024) : (val_main_v68 (F := Ideal) Z Y g b (ix2 0 j) : EReal) = gS Z Y g b (ix2 1 j) := by
  have h := r34 Z Y g b hY
  unfold val_main_v68 val_main_v37 val_main_v36 val_main_v35
  generalize val_main_v34 (F := Ideal) Z Y g b = r at *
  pointwise [val_main_cst_6, val_main_cst_7]
  simp only [h]
  refine (Fin.sum_univ_one _).trans ?_
  exact Finset.sum_congr rfl fun p _ => ((if_neg (show ¬(1 : ℕ) = 2 by decide)).trans (if_pos rfl)).symm

theorem r69 (hY : ∀ i, ∃ a : ℝ, Y i = a) (j : Fin 1024) : (val_main_v69 (F := Ideal) Z Y g b (ix2 0 j) : EReal) = gS Z Y g b (ix2 0 j) := by
  have h := r34 Z Y g b hY
  have h25 := r25 Z
  unfold val_main_v69 val_main_v43 val_main_v40 val_main_v39 val_main_v38
  generalize val_main_v34 (F := Ideal) Z Y g b = r at *
  generalize val_main_v25 (F := Ideal) Z = s at *
  pointwise [val_main_cst_8, val_main_cst_9]
  simp only [h, h25]
  refine (Fin.sum_univ_one _).trans ?_
  exact Finset.sum_congr rfl fun p _ => (mul_comm _ _).trans ((if_neg (show ¬(0 : ℕ) = 2 by decide)).trans ((if_neg (show ¬(0 : ℕ) = 1 by decide)).trans (if_pos rfl))).symm

theorem r74 (hY : ∀ i, ∃ a : ℝ, Y i = a) (hg : ∀ i, ∃ a : ℝ, g i = a) (i : S8x1024.Idx) : (val_main_v74 (F := Ideal) Z Y g b i : EReal) = gS Z Y g b i := by
  idx_vars i
  have h0 := r69 Z Y g b hY i1
  have h1 := r68 Z Y g b hY i1
  have h2 := r72 Z Y g b hY hg i1
  unfold val_main_v74
  generalize val_main_v69 (F := Ideal) Z Y g b = a at *
  generalize val_main_v68 (F := Ideal) Z Y g b = d at *
  generalize val_main_v72 (F := Ideal) Z Y g b = e at *
  by_cases c0 : i0.val = 0
  · obtain rfl : i0 = 0 := Fin.ext c0
    rw [← h0]
    pointwise
  · by_cases c1 : i0.val = 1
    · obtain rfl : i0 = 1 := Fin.ext c1
      rw [← h1]
      pointwise
    · by_cases c2 : i0.val = 2
      · obtain rfl : i0 = 2 := Fin.ext c2
        rw [← h2]
        pointwise
      · refine Eq.trans ?_ (Finset.sum_eq_zero fun p _ => (if_neg c2).trans ((if_neg c1).trans (if_neg c0)) : gS Z Y g b (ix2 i0 i1) = 0).symm
        pointwise [val_main_v73, val_main_cst_18]
        rw [dif_neg (by omega), dif_neg (by omega), dif_neg (by omega)]

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v70) = val_main_v70 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v74) = val_main_v74 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (Value.run m g) fun r hr c => ?_
  obtain ⟨h0, h1, ha⟩ := hr c
  exact ⟨h0.trans (val_main_v70_eq m c), h1.trans (val_main_v74_eq m c), ha⟩

end Cert.LnSilu.Ref

namespace Cert.LnSilu

open Idealize.ShloMosaic

section Finite

/-- An extended real that passes the test is a real number. -/
theorem real_of_test {x y : EReal} (e : BitVec.ofBool (decide (x < Ideal.ofBits .f32 0x7F800000#32)) = 1#1) (hx : x = max y (-y)) : ∃ a : ℝ, y = a := by
  have hb : Ideal.ofBits .f32 0x7F800000#32 = ⊤ := by simp [Ideal.ofBits, Ideal.ieee]
  rw [hb, hx] at e
  induction y with
  | bot => simp at e
  | top => simp at e
  | coe a => exact ⟨a, rfl⟩

variable [Cert.Pre_finite_ln.Facts]
variable (Z Y : Cert.Pre_finite_ln.S4096x1024.Idx → EReal) (g b : Cert.Pre_finite_ln.S1x1024.Idx → EReal)

theorem finite_y (hp : Cert.Pre_finite_ln.fn (F := Ideal) Z Y g b = fun _ => 1#1) (i : Cert.Pre_finite_ln.S4096x1024.Idx) : ∃ a : ℝ, Y i = a := by
  idx_vars i
  have e := congrFun hp (ix2 (⟨i0.val, by omega⟩ : Fin 4097) i1)
  revert e
  pointwise [Cert.Pre_finite_ln.fn]
  exact fun e => real_of_test e rfl

theorem finite_g (hp : Cert.Pre_finite_ln.fn (F := Ideal) Z Y g b = fun _ => 1#1) (i : Cert.Pre_finite_ln.S1x1024.Idx) : ∃ a : ℝ, g i = a := by
  idx_vars i
  obtain rfl : i0 = 0 := Subsingleton.elim _ _
  have e := congrFun hp (ix2 (⟨4096, by omega⟩ : Fin 4097) i1)
  revert e
  pointwise [Cert.Pre_finite_ln.fn]
  exact fun e => real_of_test e rfl

end Finite

end Cert.LnSilu

namespace Cert.Proof

open Idealize.ShloMosaic Idealize.ShloMosaic.TcCoe Idealize.SL.Sem

theorem frame_ln_silu_ref (m : (ℓ : Loc Cert.Reference22Ideal.nD Cert.Reference22Ideal.τ Cert.Reference22Ideal.sig) → Buf (Elt Ideal) ℓ) (g : Dev Cert.Reference22Ideal.nD → PrngReg) :
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0) :=
  θ_run_mono (Cert.Reference22Ideal.Value.run m g) fun r hr => ⟨fun c => (hr c).2.2, sem_eq_zero_of_no_sems (by decide) r.2⟩

theorem algebraic_ln_silu [Cert.Pre_finite_ln.Facts] : Cert.algebraic_Kernel22Ideal_Reference22Ideal_pre_finite_ln := by
  pair_intro
  · run_from Cert.Kernel22Ideal.Value.run_blocks m g
  · run_from Cert.LnSilu.Ref.run m' g'
    · exact (funext fun i => Cert.LnSilu.Ref.r70 _ _ _ _ (Cert.LnSilu.finite_y _ _ _ _ (hpre c)) (Cert.LnSilu.finite_g _ _ _ _ (hpre c)) i).trans (Cert.LnSilu.final4 m c).symm
    · exact (funext fun i => Cert.LnSilu.Ref.r74 _ _ _ _ (Cert.LnSilu.finite_y _ _ _ _ (hpre c)) (Cert.LnSilu.finite_g _ _ _ _ (hpre c)) i).trans (Cert.LnSilu.final5 m c).symm

end Cert.Proof

end
-- ==== Proof.SmallSum.lean ====
/-
  THE SUM OF THE PACKED SMALL GRADIENTS: eight slots, one for each device, added into one array.
-/
module

public import proofs.«01_k».proof.Defs
public import Idealize.ShloMosaic.Adequacy
public import Idealize.ShloMosaic.Init
public import Idealize.ShloMosaic.Lib.KernelVsHost
public import Idealize.ShloMosaic.Lib.Pipeline.ValueKit
public import Idealize.ShloMosaic.Lib.Pipeline.ReadBack
public import proofs.«01_k».proof.Proof.Gen.Kernel23Ideal.Value
public import proofs.«01_k».proof.Proof.Gen.Reference23Ideal.Read

@[expose] public section

set_option maxRecDepth 16384

noncomputable section

namespace Cert.SmallSum

open Idealize.ShloMosaic Idealize.ShloMosaic.TcCoe Idealize.SL.Sem

/-- The sum of the eight slots. -/
def total (A : Cert.Kernel23Ideal.S8x128x1024.Idx → EReal) (i : Cert.Kernel23Ideal.S128x1024.Idx) : EReal := ∑ k : Fin 8, A (ix3 k (i 0) (i 1))

section Kernel
open Cert.Kernel23Ideal Cert.Kernel23Ideal.Gen Cert.Kernel23Ideal.Value

theorem pay (P0 P1 P2 P3 P4 P5 P6 P7 : Vec Ideal S1x128x1024 .f32) (r : Fin 128) (j : Fin 1024) :
    (k0_pay1 (F := Ideal) P0 P1 P2 P3 P4 P5 P6 P7 (ix2 r j) : EReal) = P0 (ix3 0 r j) + P1 (ix3 0 r j) + P2 (ix3 0 r j) + P3 (ix3 0 r j) + P4 (ix3 0 r j) + P5 (ix3 0 r j) + P6 (ix3 0 r j) + P7 (ix3 0 r j) := by
  pointwise [k0_pay1]

theorem ld (A : Vec Ideal S8x128x1024 .f32) (r : Fin 128) (j : Fin 1024) :
    (G1 (F := Ideal) A (ix2 r j) : EReal) = total A (ix2 r j) := by
  refine (pay _ _ _ _ _ _ _ _ r j).trans ?_
  refine Eq.trans ?_ (Fin.sum_univ_eight fun k => A (ix3 k r j)).symm
  have e : ∀ {x y : S8x128x1024.Idx}, (∀ a, (x a).val = (y a).val) → (A x : EReal) = A y := fun h => congrArg A (funext fun a => Fin.ext (h a))
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  all_goals
    refine e fun a => ?_
    match a with
    | ⟨0, _⟩ => simp [View.ld]
    | ⟨1, _⟩ => simp [View.ld]
    | ⟨2, _⟩ => simp [View.ld]

theorem out (A : Vec Ideal S8x128x1024 .f32) : G1 (F := Ideal) A = total A := by
  funext i
  idx_vars i
  exact ld A i0 i1

end Kernel

section Reference
open Cert.Reference23Ideal Cert.Reference23Ideal.Gen Cert.Reference23Ideal.Read Idealize.ShloMosaic.StableHlo

theorem ref (A : S8x128x1024.Idx → EReal) : val_main_v0 (F := Ideal) A = total A := by
  funext i
  idx_vars i
  refine (val_main_v0_apply A _).trans ?_
  have z : (val_main_cst (F := Ideal) (Shape.Idx.first h_S_) : EReal) = 0 := by pointwise [val_main_cst]
  rw [z, zero_add]
  exact Finset.sum_congr rfl fun k _ => congrArg A (funext fun a => Fin.ext (by match a with | ⟨0, _⟩ => rfl | ⟨1, _⟩ => rfl | ⟨2, _⟩ => rfl))

theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = total (m ((c.tc : Thread nD τ).loc main_arg0))
      ∧ r.2.mem ((c.tc : Thread nD τ).loc main_arg0) = m ((c.tc : Thread nD τ).loc main_arg0)) := by
  refine θ_run_mono (Value.run m g) fun r hr c => ?_
  obtain ⟨h0, ha⟩ := hr c
  exact ⟨(h0.trans (val_main_v0_eq _)).trans (ref _), ha⟩

end Reference

end Cert.SmallSum

namespace Cert.Proof

open Idealize.ShloMosaic Idealize.ShloMosaic.TcCoe Idealize.SL.Sem

theorem frame_small_sum_ref : Cert.quiescent_Reference23Ideal := fun m g _ =>
  θ_run_mono (Cert.Reference23Ideal.Value.run m g) fun r hr => ⟨fun c => (hr c).2, sem_eq_zero_of_no_sems (by decide) r.2⟩

theorem algebraic_small_sum : Cert.algebraic_Kernel23Ideal_Reference23Ideal := by
  pair_intro
  · run_from Cert.Kernel23Ideal.Value.run m g
  · run_from Cert.SmallSum.run m' g'
    · exact (Cert.SmallSum.out _).symm

end Cert.Proof

end
-- ==== Proof.lean ====
/-
  THE CERTIFICATE: the frames, the idealizations, and the value claims.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Pre_finite_qk
public import proofs.«01_k».proof.Proof.Gen.Pre_finite_ln
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference21Ideal.Run
public import proofs.«01_k».proof.Proof.Gen.Reference21Ideal.Read
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23Ideal.Value
public import proofs.«01_k».proof.Proof.Gen.Reference23Ideal.Run
public import proofs.«01_k».proof.Proof.Gen.Reference23Ideal.Read
public import proofs.«01_k».proof.Proof.AttnClaim
public import proofs.«01_k».proof.Proof.DHRef
public import proofs.«01_k».proof.Proof.DwOut
public import proofs.«01_k».proof.Proof.DH2Ref
public import proofs.«01_k».proof.Proof.DwIn
public import proofs.«01_k».proof.Proof.DwUp
public import proofs.«01_k».proof.Proof.DwDown
public import proofs.«01_k».proof.Proof.DAct
public import proofs.«01_k».proof.Proof.MixRef
public import proofs.«01_k».proof.Proof.MixOut
public import proofs.«01_k».proof.Proof.Proj
public import proofs.«01_k».proof.Proof.Up
public import proofs.«01_k».proof.Proof.Down
public import proofs.«01_k».proof.Proof.AttnFwd
public import proofs.«01_k».proof.Proof.AdamIn
public import proofs.«01_k».proof.Proof.AdamOut
public import proofs.«01_k».proof.Proof.AdamUp
public import proofs.«01_k».proof.Proof.AdamDown
public import proofs.«01_k».proof.Proof.AdamKv
public import proofs.«01_k».proof.Proof.AdamSmall
public import proofs.«01_k».proof.Proof.Loss
public import proofs.«01_k».proof.Proof.LnSilu
public import proofs.«01_k».proof.Proof.SmallSum
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Pre_finite_qk.Gen.facts, Cert.Pre_finite_ln.Gen.facts,
  fun m g _ => Cert.Kernel.Gen.frame m g,
  fun m g _ => Cert.KernelIdeal.Gen.frame m g,
  fun m g _ => Cert.KernelIdeal.Gen.frame m g,
  fun m g _ => frame_attn_ref m g,
  fun m g _ => frame_attn_ref m g,
  fun m g _ => Cert.Kernel2.Gen.frame m g,
  fun m g _ => Cert.Kernel2Ideal.Gen.frame m g,
  frame_d_h_ref,
  fun m g _ => Cert.Kernel3.Gen.frame m g,
  fun m g _ => Cert.Kernel3Ideal.Gen.frame m g,
  frame_dw_out_ref,
  fun m g _ => Cert.Kernel4.Gen.frame m g,
  fun m g _ => Cert.Kernel4Ideal.Gen.frame m g,
  frame_d_h2_ref,
  fun m g _ => Cert.Kernel5.Gen.frame m g,
  fun m g _ => Cert.Kernel5Ideal.Gen.frame m g,
  frame_dw_in_ref,
  fun m g _ => Cert.Kernel6.Gen.frame m g,
  fun m g _ => Cert.Kernel6Ideal.Gen.frame m g,
  frame_dw_up_ref,
  fun m g _ => Cert.Kernel7.Gen.frame m g,
  fun m g _ => Cert.Kernel7Ideal.Gen.frame m g,
  frame_dw_down_ref,
  fun m g _ => Cert.Kernel8.Gen.frame m g,
  fun m g _ => Cert.Kernel8Ideal.Gen.frame m g,
  frame_d_act_ref,
  fun m g _ => Cert.Kernel9.Gen.frame m g,
  fun m g _ => Cert.Kernel9Ideal.Gen.frame m g,
  frame_mix_ref,
  fun m g _ => Cert.Kernel10.Gen.frame m g,
  fun m g _ => Cert.Kernel10Ideal.Gen.frame m g,
  frame_mix_out_ref,
  fun m g _ => Cert.Kernel11.Gen.frame m g,
  fun m g _ => Cert.Kernel11Ideal.Gen.frame m g,
  frame_proj_ref,
  fun m g _ => Cert.Kernel12.Gen.frame m g,
  fun m g _ => Cert.Kernel12Ideal.Gen.frame m g,
  frame_up_ref,
  fun m g _ => Cert.Kernel13.Gen.frame m g,
  fun m g _ => Cert.Kernel13Ideal.Gen.frame m g,
  frame_down_ref,
  fun m g _ => Cert.Kernel14.Gen.frame m g,
  fun m g _ => Cert.Kernel14Ideal.Gen.frame m g,
  frame_attn_fwd_ref,
  fun m g _ => Cert.Kernel15.Gen.frame m g,
  fun m g _ => Cert.Kernel15Ideal.Gen.frame m g,
  frame_adam_in_ref,
  fun m g _ => Cert.Kernel16.Gen.frame m g,
  fun m g _ => Cert.Kernel16Ideal.Gen.frame m g,
  frame_adam_out_ref,
  fun m g _ => Cert.Kernel17.Gen.frame m g,
  fun m g _ => Cert.Kernel17Ideal.Gen.frame m g,
  frame_adam_up_ref,
  fun m g _ => Cert.Kernel18.Gen.frame m g,
  fun m g _ => Cert.Kernel18Ideal.Gen.frame m g,
  frame_adam_down_ref,
  fun m g _ => Cert.Kernel19.Gen.frame m g,
  fun m g _ => Cert.Kernel19Ideal.Gen.frame m g,
  frame_adam_kv_ref,
  fun m g _ => Cert.Kernel20.Gen.frame m g,
  fun m g _ => Cert.Kernel20Ideal.Gen.frame m g,
  frame_adam_small_ref,
  fun m g _ => Cert.Kernel21.Gen.frame m g,
  fun m g _ => Cert.Kernel21Ideal.Gen.frame m g,
  frame_loss_ref,
  fun m g _ => Cert.Kernel22.Gen.frame m g,
  fun m g _ => Cert.Kernel22Ideal.Gen.frame m g,
  fun m g _ => Cert.Kernel22Ideal.Gen.frame m g,
  fun m g _ => frame_ln_silu_ref m g,
  fun m g _ => frame_ln_silu_ref m g,
  fun m g _ => Cert.Kernel23.Gen.frame m g,
  fun m g _ => Cert.Kernel23Ideal.Gen.frame m g,
  frame_small_sum_ref,
  trivial,
  algebraic_attn,
  trivial,
  algebraic_d_h,
  trivial,
  algebraic_dw_out,
  trivial,
  algebraic_d_h2,
  trivial,
  algebraic_dw_in,
  trivial,
  algebraic_dw_up,
  trivial,
  algebraic_dw_down,
  trivial,
  algebraic_d_act,
  trivial,
  algebraic_mix,
  trivial,
  algebraic_mix_out,
  trivial,
  algebraic_proj,
  trivial,
  algebraic_up,
  trivial,
  algebraic_down,
  trivial,
  algebraic_attn_fwd,
  trivial,
  algebraic_adam_in,
  trivial,
  algebraic_adam_out,
  trivial,
  algebraic_adam_up,
  trivial,
  algebraic_adam_down,
  trivial,
  algebraic_adam_kv,
  trivial,
  algebraic_adam_small,
  trivial,
  algebraic_loss,
  trivial,
  algebraic_ln_silu,
  trivial,
  algebraic_small_sum⟩

end Cert.Proof

end
